-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_qk4 [hPre_finite_qk4 : Cert.Pre_finite_qk4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_qk4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_qk4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_qk4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_qk4 [hPre_finite_qk4 : Cert.Pre_finite_qk4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_qk4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_qk4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_qk4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_qk12 [hPre_finite_qk12 : Cert.Pre_finite_qk12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_qk12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite_qk12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_qk12 [hPre_finite_qk12 : Cert.Pre_finite_qk12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_qk12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite_qk12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_qk13 [hPre_finite_qk13 : Cert.Pre_finite_qk13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_qk13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).1 = (fun _ => 1#1)
    ∧ (Cert.Pre_finite_qk13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_qk13 [hPre_finite_qk13 : Cert.Pre_finite_qk13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_qk13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).1 = (fun _ => 1#1)
    ∧ (Cert.Pre_finite_qk13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))).2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_qk4 [hKernel4Ideal : Cert.Kernel4Ideal.Facts] [hPre_finite_qk4 : Cert.Pre_finite_qk4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_qk4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_qk4 [hReference4Ideal : Cert.Reference4Ideal.Facts] [hPre_finite_qk4 : Cert.Pre_finite_qk4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_qk4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite_qk12 [hKernel12Ideal : Cert.Kernel12Ideal.Facts] [hPre_finite_qk12 : Cert.Pre_finite_qk12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_qk12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite_qk12 [hReference12Ideal : Cert.Reference12Ideal.Facts] [hPre_finite_qk12 : Cert.Pre_finite_qk12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_qk12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite_qk13 [hKernel13Ideal : Cert.Kernel13Ideal.Facts] [hPre_finite_qk13 : Cert.Pre_finite_qk13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_qk13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite_qk13 [hReference13Ideal : Cert.Reference13Ideal.Facts] [hPre_finite_qk13 : Cert.Pre_finite_qk13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_qk13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)) (v4 : (c : Dev Cert.Kernel3Ideal.nD) → Buf (Elt Ideal) ((c.tc : Thread Cert.Kernel3Ideal.nD Cert.Kernel3Ideal.τ).loc Cert.Kernel3Ideal.main_v8_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_v8_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_v26) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_qk4 [hKernel4Ideal : Cert.Kernel4Ideal.Facts] [hReference4Ideal : Cert.Reference4Ideal.Facts] [hPre_finite_qk4 : Cert.Pre_finite_qk4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_qk4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)) (v2 : (c : Dev Cert.Kernel8Ideal.nD) → Buf (Elt Ideal) ((c.tc : Thread Cert.Kernel8Ideal.nD Cert.Kernel8Ideal.τ).loc Cert.Kernel8Ideal.main_v10_2)) (v3 : (c : Dev Cert.Kernel8Ideal.nD) → Buf (Elt Ideal) ((c.tc : Thread Cert.Kernel8Ideal.nD Cert.Kernel8Ideal.τ).loc Cert.Kernel8Ideal.main_v10_3)) (v4 : (c : Dev Cert.Kernel8Ideal.nD) → Buf (Elt Ideal) ((c.tc : Thread Cert.Kernel8Ideal.nD Cert.Kernel8Ideal.τ).loc Cert.Kernel8Ideal.main_v10_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_v10_2) = v2 c
          ∧ r.2.mem ((c.tc : Thread Cert.Kernel8Ideal.nD Cert.Kernel8Ideal.τ).loc Cert.Kernel8Ideal.main_v10_3) = v3 c
          ∧ r.2.mem ((c.tc : Thread Cert.Kernel8Ideal.nD Cert.Kernel8Ideal.τ).loc Cert.Kernel8Ideal.main_v10_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v27) = v2 c
          ∧ r.2.mem ((c.tc : Thread Cert.Reference8Ideal.nD Cert.Reference8Ideal.τ).loc Cert.Reference8Ideal.main_v25) = v3 c
          ∧ r.2.mem ((c.tc : Thread Cert.Reference8Ideal.nD Cert.Reference8Ideal.τ).loc Cert.Reference8Ideal.main_v26) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v66_0)) (v1 : (c : Dev Cert.Kernel10Ideal.nD) → Buf (Elt Ideal) ((c.tc : Thread Cert.Kernel10Ideal.nD Cert.Kernel10Ideal.τ).loc Cert.Kernel10Ideal.main_v66_1)) (v2 : (c : Dev Cert.Kernel10Ideal.nD) → Buf (Elt Ideal) ((c.tc : Thread Cert.Kernel10Ideal.nD Cert.Kernel10Ideal.τ).loc Cert.Kernel10Ideal.main_v66_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v66_0) = v0 c
          ∧ r.2.mem ((c.tc : Thread Cert.Kernel10Ideal.nD Cert.Kernel10Ideal.τ).loc Cert.Kernel10Ideal.main_v66_1) = v1 c
          ∧ r.2.mem ((c.tc : Thread Cert.Kernel10Ideal.nD Cert.Kernel10Ideal.τ).loc Cert.Kernel10Ideal.main_v66_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v100) = v0 c
          ∧ r.2.mem ((c.tc : Thread Cert.Reference10Ideal.nD Cert.Reference10Ideal.τ).loc Cert.Reference10Ideal.main_v103) = v1 c
          ∧ r.2.mem ((c.tc : Thread Cert.Reference10Ideal.nD Cert.Reference10Ideal.τ).loc Cert.Reference10Ideal.main_v106) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v18_0)) (v1 : (c : Dev Cert.Kernel11Ideal.nD) → Buf (Elt Ideal) ((c.tc : Thread Cert.Kernel11Ideal.nD Cert.Kernel11Ideal.τ).loc Cert.Kernel11Ideal.main_v18_1)) (v2 : (c : Dev Cert.Kernel11Ideal.nD) → Buf (Elt Ideal) ((c.tc : Thread Cert.Kernel11Ideal.nD Cert.Kernel11Ideal.τ).loc Cert.Kernel11Ideal.main_v18_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18_0) = v0 c
          ∧ r.2.mem ((c.tc : Thread Cert.Kernel11Ideal.nD Cert.Kernel11Ideal.τ).loc Cert.Kernel11Ideal.main_v18_1) = v1 c
          ∧ r.2.mem ((c.tc : Thread Cert.Kernel11Ideal.nD Cert.Kernel11Ideal.τ).loc Cert.Kernel11Ideal.main_v18_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v42) = v1 c
          ∧ r.2.mem ((c.tc : Thread Cert.Reference11Ideal.nD Cert.Reference11Ideal.τ).loc Cert.Reference11Ideal.main_v45) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal_pre_finite_qk12 [hKernel12Ideal : Cert.Kernel12Ideal.Facts] [hReference12Ideal : Cert.Reference12Ideal.Facts] [hPre_finite_qk12 : Cert.Pre_finite_qk12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_qk12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_qk13 [hKernel13Ideal : Cert.Kernel13Ideal.Facts] [hReference13Ideal : Cert.Reference13Ideal.Facts] [hPre_finite_qk13 : Cert.Pre_finite_qk13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_qk13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v32) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v19) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)) →
    ∃ (v0 : (c : Dev Cert.Kernel15Ideal.nD) → Buf (Elt Ideal) ((c.tc : Thread Cert.Kernel15Ideal.nD Cert.Kernel15Ideal.τ).loc Cert.Kernel15Ideal.main_v6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v54) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)) →
    ∃ (v0 : (c : Dev Cert.Kernel16Ideal.nD) → Buf (Elt Ideal) ((c.tc : Thread Cert.Kernel16Ideal.nD Cert.Kernel16Ideal.τ).loc Cert.Kernel16Ideal.main_v6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v54) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_qk : Cert.Pre_finite_qk.Facts) (hPre_finite_qk4 : Cert.Pre_finite_qk4.Facts) (hPre_finite_qk12 : Cert.Pre_finite_qk12.Facts) (hPre_finite_qk13 : Cert.Pre_finite_qk13.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_qk4 (hKernel4Ideal := hKernel4Ideal) (hPre_finite_qk4 := hPre_finite_qk4)
    ∧ quiescent_Reference4Ideal (hReference4Ideal := hReference4Ideal)
    ∧ quiescent_Reference4Ideal_pre_finite_qk4 (hReference4Ideal := hReference4Ideal) (hPre_finite_qk4 := hPre_finite_qk4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_qk12 (hKernel12Ideal := hKernel12Ideal) (hPre_finite_qk12 := hPre_finite_qk12)
    ∧ quiescent_Reference12Ideal (hReference12Ideal := hReference12Ideal)
    ∧ quiescent_Reference12Ideal_pre_finite_qk12 (hReference12Ideal := hReference12Ideal) (hPre_finite_qk12 := hPre_finite_qk12)
    ∧ quiescent_Kernel13 (hKernel13 := hKernel13)
    ∧ quiescent_Kernel13Ideal (hKernel13Ideal := hKernel13Ideal)
    ∧ quiescent_Kernel13Ideal_pre_finite_qk13 (hKernel13Ideal := hKernel13Ideal) (hPre_finite_qk13 := hPre_finite_qk13)
    ∧ quiescent_Reference13Ideal (hReference13Ideal := hReference13Ideal)
    ∧ quiescent_Reference13Ideal_pre_finite_qk13 (hReference13Ideal := hReference13Ideal) (hPre_finite_qk13 := hPre_finite_qk13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_qk4 (hKernel4Ideal := hKernel4Ideal) (hReference4Ideal := hReference4Ideal) (hPre_finite_qk4 := hPre_finite_qk4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_qk12 (hKernel12Ideal := hKernel12Ideal) (hReference12Ideal := hReference12Ideal) (hPre_finite_qk12 := hPre_finite_qk12)
    ∧ preserves_Kernel13_Kernel13Ideal
    ∧ algebraic_Kernel13Ideal_Reference13Ideal_pre_finite_qk13 (hKernel13Ideal := hKernel13Ideal) (hReference13Ideal := hReference13Ideal) (hPre_finite_qk13 := hPre_finite_qk13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_qk.lean ====
abbrev S32x4x2048x128 : Shape := ⟨4, ![32, 4, 2048, 128]⟩
abbrev S32x4x256x128 : Shape := ⟨4, ![32, 4, 256, 128]⟩
abbrev S_ : Shape := ⟨0, ![]⟩

class Facts : Prop where
  bitsLt_bf16_f32 : FTy.bits .bf16 < FTy.bits .f32
  bcast_S_S32x4x2048x128 : S_.BroadcastsInDim S32x4x2048x128 (![] : Fin 0 → Fin S32x4x2048x128.rank)
  bcast_S_S32x4x256x128 : S_.BroadcastsInDim S32x4x256x128 (![] : Fin 0 → Fin S32x4x256x128.rank)

variable [Facts]

def fn {F : FTy → Type} [FloatOps F] (main_arg0 : FVec F S32x4x2048x128 .bf16) (main_arg1 : FVec F S32x4x256x128 .bf16) (main_arg2 : FVec F S32x4x256x128 .bf16) (main_arg3 : FVec F S32x4x2048x128 .bf16) (main_arg4 : FVec F S32x4x2048x128 .bf16) : IVec S32x4x2048x128 1 × IVec S32x4x256x128 1 × IVec S32x4x2048x128 1 :=
  let main_v0 : FVec F S32x4x2048x128 .f32 := (extf .f32 · bitsLt_bf16_f32) main_arg0
  let main_v1 : FVec F S32x4x2048x128 .f32 := Host.absf main_v0
  let main_cst : FVec F S_ .f32 := constant S_ .f32 0x7F800000#32
  let main_v2 : FVec F S32x4x2048x128 .f32 := broadcastInDim S32x4x2048x128 ![] bcast_S_S32x4x2048x128 main_cst
  let main_v3 : IVec S32x4x2048x128 1 := cmpf .olt main_v1 main_v2
  let main_v4 : FVec F S32x4x256x128 .f32 := (extf .f32 · bitsLt_bf16_f32) main_arg1
  let main_v5 : FVec F S32x4x256x128 .f32 := Host.absf main_v4
  let main_cst_0 : FVec F S_ .f32 := constant S_ .f32 0x7F800000#32
  let main_v6 : FVec F S32x4x256x128 .f32 := broadcastInDim S32x4x256x128 ![] bcast_S_S32x4x256x128 main_cst_0
  let main_v7 : IVec S32x4x256x128 1 := cmpf .olt main_v5 main_v6
  let main_v8 : FVec F S32x4x2048x128 .f32 := (extf .f32 · bitsLt_bf16_f32) main_arg3
  let main_v9 : FVec F S32x4x2048x128 .f32 := Host.absf main_v8
  let main_cst_1 : FVec F S_ .f32 := constant S_ .f32 0x7F800000#32
  let main_v10 : FVec F S32x4x2048x128 .f32 := broadcastInDim S32x4x2048x128 ![] bcast_S_S32x4x2048x128 main_cst_1
  let main_v11 : IVec S32x4x2048x128 1 := cmpf .olt main_v9 main_v10
  (main_v3, main_v7, main_v11)
-- ==== Pre_finite_qk12.lean ====
abbrev S32x4x256x128 : Shape := ⟨4, ![32, 4, 256, 128]⟩
abbrev S_ : Shape := ⟨0, ![]⟩

class Facts : Prop where
  bitsLt_bf16_f32 : FTy.bits .bf16 < FTy.bits .f32
  bcast_S_S32x4x256x128 : S_.BroadcastsInDim S32x4x256x128 (![] : Fin 0 → Fin S32x4x256x128.rank)

variable [Facts]

def fn {F : FTy → Type} [FloatOps F] (main_arg0 : FVec F S32x4x256x128 .bf16) (main_arg1 : FVec F S32x4x256x128 .bf16) (main_arg2 : FVec F S32x4x256x128 .bf16) : IVec S32x4x256x128 1 × IVec S32x4x256x128 1 :=
  let main_v0 : FVec F S32x4x256x128 .f32 := (extf .f32 · bitsLt_bf16_f32) main_arg0
  let main_v1 : FVec F S32x4x256x128 .f32 := Host.absf main_v0
  let main_cst : FVec F S_ .f32 := constant S_ .f32 0x7F800000#32
  let main_v2 : FVec F S32x4x256x128 .f32 := broadcastInDim S32x4x256x128 ![] bcast_S_S32x4x256x128 main_cst
  let main_v3 : IVec S32x4x256x128 1 := cmpf .olt main_v1 main_v2
  let main_v4 : FVec F S32x4x256x128 .f32 := (extf .f32 · bitsLt_bf16_f32) main_arg1
  let main_v5 : FVec F S32x4x256x128 .f32 := Host.absf main_v4
  let main_cst_0 : FVec F S_ .f32 := constant S_ .f32 0x7F800000#32
  let main_v6 : FVec F S32x4x256x128 .f32 := broadcastInDim S32x4x256x128 ![] bcast_S_S32x4x256x128 main_cst_0
  let main_v7 : IVec S32x4x256x128 1 := cmpf .olt main_v5 main_v6
  (main_v3, main_v7)
-- ==== Pre_finite_qk13.lean ====
abbrev S32x4x256x128 : Shape := ⟨4, ![32, 4, 256, 128]⟩
abbrev S32x2x256x128 : Shape := ⟨4, ![32, 2, 256, 128]⟩
abbrev S_ : Shape := ⟨0, ![]⟩

class Facts : Prop where
  bitsLt_bf16_f32 : FTy.bits .bf16 < FTy.bits .f32
  bcast_S_S32x4x256x128 : S_.BroadcastsInDim S32x4x256x128 (![] : Fin 0 → Fin S32x4x256x128.rank)
  bcast_S_S32x2x256x128 : S_.BroadcastsInDim S32x2x256x128 (![] : Fin 0 → Fin S32x2x256x128.rank)

variable [Facts]

def fn {F : FTy → Type} [FloatOps F] (main_arg0 : FVec F S32x4x256x128 .bf16) (main_arg1 : FVec F S32x2x256x128 .bf16) (main_arg2 : FVec F S32x2x256x128 .bf16) : IVec S32x4x256x128 1 × IVec S32x2x256x128 1 :=
  let main_v0 : FVec F S32x4x256x128 .f32 := (extf .f32 · bitsLt_bf16_f32) main_arg0
  let main_v1 : FVec F S32x4x256x128 .f32 := Host.absf main_v0
  let main_cst : FVec F S_ .f32 := constant S_ .f32 0x7F800000#32
  let main_v2 : FVec F S32x4x256x128 .f32 := broadcastInDim S32x4x256x128 ![] bcast_S_S32x4x256x128 main_cst
  let main_v3 : IVec S32x4x256x128 1 := cmpf .olt main_v1 main_v2
  let main_v4 : FVec F S32x2x256x128 .f32 := (extf .f32 · bitsLt_bf16_f32) main_arg1
  let main_v5 : FVec F S32x2x256x128 .f32 := Host.absf main_v4
  let main_cst_0 : FVec F S_ .f32 := constant S_ .f32 0x7F800000#32
  let main_v6 : FVec F S32x2x256x128 .f32 := broadcastInDim S32x2x256x128 ![] bcast_S_S32x2x256x128 main_cst_0
  let main_v7 : IVec S32x2x256x128 1 := cmpf .olt main_v5 main_v6
  (main_v3, main_v7)
-- ==== Pre_finite_qk4.lean ====
abbrev S32x4x2048x128 : Shape := ⟨4, ![32, 4, 2048, 128]⟩
abbrev S32x2x256x128 : Shape := ⟨4, ![32, 2, 256, 128]⟩
abbrev S32x2x2048x128 : Shape := ⟨4, ![32, 2, 2048, 128]⟩
abbrev S_ : Shape := ⟨0, ![]⟩

class Facts : Prop where
  bitsLt_bf16_f32 : FTy.bits .bf16 < FTy.bits .f32
  bcast_S_S32x4x2048x128 : S_.BroadcastsInDim S32x4x2048x128 (![] : Fin 0 → Fin S32x4x2048x128.rank)
  bcast_S_S32x2x256x128 : S_.BroadcastsInDim S32x2x256x128 (![] : Fin 0 → Fin S32x2x256x128.rank)
  bcast_S_S32x2x2048x128 : S_.BroadcastsInDim S32x2x2048x128 (![] : Fin 0 → Fin S32x2x2048x128.rank)

variable [Facts]

def fn {F : FTy → Type} [FloatOps F] (main_arg0 : FVec F S32x4x2048x128 .bf16) (main_arg1 : FVec F S32x2x256x128 .bf16) (main_arg2 : FVec F S32x2x256x128 .bf16) (main_arg3 : FVec F S32x2x2048x128 .bf16) (main_arg4 : FVec F S32x2x2048x128 .bf16) : IVec S32x4x2048x128 1 × IVec S32x2x256x128 1 × IVec S32x2x2048x128 1 :=
  let main_v0 : FVec F S32x4x2048x128 .f32 := (extf .f32 · bitsLt_bf16_f32) main_arg0
  let main_v1 : FVec F S32x4x2048x128 .f32 := Host.absf main_v0
  let main_cst : FVec F S_ .f32 := constant S_ .f32 0x7F800000#32
  let main_v2 : FVec F S32x4x2048x128 .f32 := broadcastInDim S32x4x2048x128 ![] bcast_S_S32x4x2048x128 main_cst
  let main_v3 : IVec S32x4x2048x128 1 := cmpf .olt main_v1 main_v2
  let main_v4 : FVec F S32x2x256x128 .f32 := (extf .f32 · bitsLt_bf16_f32) main_arg1
  let main_v5 : FVec F S32x2x256x128 .f32 := Host.absf main_v4
  let main_cst_0 : FVec F S_ .f32 := constant S_ .f32 0x7F800000#32
  let main_v6 : FVec F S32x2x256x128 .f32 := broadcastInDim S32x2x256x128 ![] bcast_S_S32x2x256x128 main_cst_0
  let main_v7 : IVec S32x2x256x128 1 := cmpf .olt main_v5 main_v6
  let main_v8 : FVec F S32x2x2048x128 .f32 := (extf .f32 · bitsLt_bf16_f32) main_arg3
  let main_v9 : FVec F S32x2x2048x128 .f32 := Host.absf main_v8
  let main_cst_1 : FVec F S_ .f32 := constant S_ .f32 0x7F800000#32
  let main_v10 : FVec F S32x2x2048x128 .f32 := broadcastInDim S32x2x2048x128 ![] bcast_S_S32x2x2048x128 main_cst_1
  let main_v11 : IVec S32x2x2048x128 1 := cmpf .olt main_v9 main_v10
  (main_v3, main_v7, main_v11)
-- ==== Kernel.lean ====
abbrev S32x4x2048x128 : Shape := ⟨4, ![32, 4, 2048, 128]⟩
abbrev S32x4x256x128 : Shape := ⟨4, ![32, 4, 256, 128]⟩
abbrev S32x2048x256 : Shape := ⟨3, ![32, 2048, 256]⟩
abbrev S1x4x256x128 : Shape := ⟨4, ![1, 4, 256, 128]⟩
abbrev S1x4x2048x128 : Shape := ⟨4, ![1, 4, 2048, 128]⟩
abbrev S1x256x256 : Shape := ⟨3, ![1, 256, 256]⟩
abbrev S256x128 : Shape := ⟨2, ![256, 128]⟩
abbrev S1x1x256x128 : Shape := ⟨4, ![1, 1, 256, 128]⟩
abbrev S256x256 : Shape := ⟨2, ![256, 256]⟩
abbrev S1x1x2048x128 : Shape := ⟨4, ![1, 1, 2048, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 12
  | .smem => 0
  | _ => 0

abbrev bufTy : (tb : Table) → Fin (tcTables nBuf tb) → BufTy
  | .hbm, ⟨0, _⟩ => ⟨S32x4x2048x128, .bf16⟩
  | .hbm, ⟨1, _⟩ => ⟨S32x4x256x128, .bf16⟩
  | .hbm, ⟨2, _⟩ => ⟨S32x4x256x128, .bf16⟩
  | .hbm, ⟨3, _⟩ => ⟨S32x4x2048x128, .bf16⟩
  | .hbm, ⟨4, _⟩ => ⟨S32x4x2048x128, .bf16⟩
  | .hbm, ⟨5, _⟩ => ⟨S32x2048x256, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x4x256x128, .bf16⟩
  | .local _ .vmem, ⟨3, _⟩ => ⟨S1x4x256x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x4x2048x128, .bf16⟩
  | .local _ .vmem, ⟨7, _⟩ => ⟨S1x4x2048x128, .bf16⟩
  | .local _ .vmem, ⟨8, _⟩ => ⟨S1x4x2048x128, .bf16⟩
  | .local _ .vmem, ⟨9, _⟩ => ⟨S1x4x2048x128, .bf16⟩
  | .local _ .vmem, ⟨10, _⟩ => ⟨S1x256x256, .f32⟩
  | .local _ .vmem, ⟨11, _⟩ => ⟨S1x256x256, .f32⟩
  | _, _ => ⟨S32x4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S32x4x2048x128 : Shape := ⟨4, ![32, 4, 2048, 128]⟩
abbrev S32x4x256x128 : Shape := ⟨4, ![32, 4, 256, 128]⟩
abbrev S32x4x2304x128 : Shape := ⟨4, ![32, 4, 2304, 128]⟩
abbrev S32x1x2304x64 : Shape := ⟨4, ![32, 1, 2304, 64]⟩
abbrev S32x2304x64 : Shape := ⟨3, ![32, 2304, 64]⟩
abbrev S32x4x2304x64 : Shape := ⟨4, ![32, 4, 2304, 64]⟩
abbrev S32x4x2048x2304 : Shape := ⟨4, ![32, 4, 2048, 2304]⟩
abbrev S_ : Shape := ⟨0, ![]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩
abbrev S32x2048x4x64 : Shape := ⟨4, ![32, 2048, 4, 64]⟩
abbrev S32x2048x256 : Shape := ⟨3, ![32, 2048, 256]⟩

abbrev nBuf : Space → Nat
  | .hbm => 41
  | .vmem => 0
  | .smem => 0
  | _ => 0

abbrev bufTy : (tb : Table) → Fin (tcTables nBuf tb) → BufTy
  | .hbm, ⟨0, _⟩ => ⟨S32x4x2048x128, .bf16⟩
  | .hbm, ⟨1, _⟩ => ⟨S32x4x256x128, .bf16⟩
  | .hbm, ⟨2, _⟩ => ⟨S32x4x256x128, .bf16⟩
  | .hbm, ⟨3, _⟩ => ⟨S32x4x2048x128, .bf16⟩
  | .hbm, ⟨4, _⟩ => ⟨S32x4x2048x128, .bf16⟩
  | .hbm, ⟨5, _⟩ => ⟨S32x4x2048x128, .f32⟩
  | .hbm, ⟨6, _⟩ => ⟨S32x4x2304x128, .bf16⟩
  | .hbm, ⟨7, _⟩ => ⟨S32x4x2304x128, .f32⟩
  | .hbm, ⟨8, _⟩ => ⟨S32x4x2304x128, .bf16⟩
  | .hbm, ⟨9, _⟩ => ⟨S32x4x2304x128, .f32⟩
  | .hbm, ⟨10, _⟩ => ⟨S32x1x2304x64, .f32⟩
  | .hbm, ⟨11, _⟩ => ⟨S32x2304x64, .f32⟩
  | .hbm, ⟨12, _⟩ => ⟨S32x1x2304x64, .f32⟩
  | .hbm, ⟨13, _⟩ => ⟨S32x2304x64, .f32⟩
  | .hbm, ⟨14, _⟩ => ⟨S32x1x2304x64, .f32⟩
  | .hbm, ⟨15, _⟩ => ⟨S32x2304x64, .f32⟩
  | .hbm, ⟨16, _⟩ => ⟨S32x1x2304x64, .f32⟩
  | .hbm, ⟨17, _⟩ => ⟨S32x2304x64, .f32⟩
  | .hbm, ⟨18, _⟩ => ⟨S32x1x2304x64, .f32⟩
  | .hbm, ⟨19, _⟩ => ⟨S32x1x2304x64, .f32⟩
  | .hbm, ⟨20, _⟩ => ⟨S32x1x2304x64, .f32⟩
  | .hbm, ⟨21, _⟩ => ⟨S32x1x2304x64, .f32⟩
  | .hbm, ⟨22, _⟩ => ⟨S32x4x2304x64, .f32⟩
  | .hbm, ⟨23, _⟩ => ⟨S32x4x2048x2304, .f32⟩
  | .hbm, ⟨24, _⟩ => ⟨S_, .f32⟩
  | .hbm, ⟨25, _⟩ => ⟨S32x4x2048, .f32⟩
  | .hbm, ⟨26, _⟩ => ⟨S_, .f32⟩
  | .hbm, ⟨27, _⟩ => ⟨S32x4x2048, .f32⟩
  | .hbm, ⟨28, _⟩ => ⟨S32x4x2048, .f32⟩
  | .hbm, ⟨29, _⟩ => ⟨S32x4x2048x1, .f32⟩
  | .hbm, ⟨30, _⟩ => ⟨S32x4x2048x2304, .f32⟩
  | .hbm, ⟨31, _⟩ => ⟨S32x4x2048x2304, .f32⟩
  | .hbm, ⟨32, _⟩ => ⟨S32x4x2048x2304, .f32⟩
  | .hbm, ⟨33, _⟩ => ⟨S_, .f32⟩
  | .hbm, ⟨34, _⟩ => ⟨S32x4x2048, .f32⟩
  | .hbm, ⟨35, _⟩ => ⟨S32x4x2048x1, .f32⟩
  | .hbm, ⟨36, _⟩ => ⟨S32x4x2048x2304, .f32⟩
  | .hbm, ⟨37, _⟩ => ⟨S32x4x2048x2304, .f32⟩
  | .hbm, ⟨38, _⟩ => ⟨S32x4x64x2048, .f32⟩
  | .hbm, ⟨39, _⟩ => ⟨S32x2048x4x64, .f32⟩
  | .hbm, ⟨40, _⟩ => ⟨S32x2048x256, .f32⟩
  | _, _ => ⟨S32x4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S32x1024 : Shape := ⟨2, ![32, 1024]⟩
abbrev S1024x5632 : Shape := ⟨2, ![1024, 5632]⟩
abbrev S2816x1024 : Shape := ⟨2, ![2816, 1024]⟩
abbrev S1x1024 : Shape := ⟨2, ![1, 1024]⟩
abbrev S32x1x1024 : Shape := ⟨3, ![32, 1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 16
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![32, 2, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S32x2048x1024 : Shape := ⟨3, ![32, 2048, 1024]⟩
abbrev S1024 : Shape := ⟨1, ![1024]⟩
abbrev S32x1024 : Shape := ⟨2, ![32, 1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x5632 : Shape := ⟨3, ![32, 2048, 5632]⟩
abbrev S32x2048x2816 : Shape := ⟨3, ![32, 2048, 2816]⟩

abbrev nBuf : Space → Nat
  | .hbm => 67
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x1x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x1x1024, .f32⟩
  | .hbm, ⟨31, _⟩ => ⟨S32x2048x1024, .f32⟩
  | .hbm, ⟨32, _⟩ => ⟨S32x2048x1024, .f32⟩
  | .hbm, ⟨33, _⟩ => ⟨S32x2048x5632, .f32⟩
  | .hbm, ⟨34, _⟩ => ⟨S32x2048x2816, .f32⟩
  | .hbm, ⟨35, _⟩ => ⟨S32x2048x2816, .f32⟩
  | .hbm, ⟨36, _⟩ => ⟨S32x1x1024, .f32⟩
  | .hbm, ⟨37, _⟩ => ⟨S32x2048x2816, .f32⟩
  | .hbm, ⟨38, _⟩ => ⟨S32x2048x2816, .f32⟩
  | .hbm, ⟨39, _⟩ => ⟨S_, .f32⟩
  | .hbm, ⟨40, _⟩ => ⟨S32x2048x2816, .f32⟩
  | .hbm, ⟨41, _⟩ => ⟨S32x2048x2816, .f32⟩
  | .hbm, ⟨42, _⟩ => ⟨S_, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S32x2048x2816, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S32x1024 : Shape := ⟨2, ![32, 1024]⟩
abbrev S1024x2720 : Shape := ⟨2, ![1024, 2720]⟩
abbrev S1x1024 : Shape := ⟨2, ![1, 1024]⟩
abbrev S32x1x1024 : Shape := ⟨3, ![32, 1, 1024]⟩
abbrev S_ : Shape := ⟨0, ![]⟩
abbrev S1024x96 : Shape := ⟨2, ![1024, 96]⟩
abbrev S1024x1184 : Shape := ⟨2, ![1024, 1184]⟩
abbrev S1024x1536 : Shape := ⟨2, ![1024, 1536]⟩
abbrev S1024x2816 : Shape := ⟨2, ![1024, 2816]⟩
abbrev S32x2048x768 : Shape := ⟨3, ![32, 2048, 768]⟩
abbrev S32x2048x256 : Shape := ⟨3, ![32, 2048, 256]⟩
abbrev S32x2048x512 : Shape := ⟨3, ![32, 2048, 512]⟩
abbrev S1x512x1024 : Shape := ⟨3, ![1, 512, 1024]⟩
abbrev S1x1x1024 : Shape := ⟨3, ![1, 1, 1024]⟩
abbrev S1x512x768 : Shape := ⟨3, ![1, 512, 768]⟩
abbrev S1x512x256 : Shape := ⟨3, ![1, 512, 256]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1024x256 : Shape := ⟨2, ![1024, 256]⟩
abbrev S512x256 : Shape := ⟨2, ![512, 256]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 19
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x2720, .f32⟩
  | .hbm, ⟨5, _⟩ => ⟨S1x1024, .f32⟩
  | .hbm, ⟨6, _⟩ => ⟨S32x1x1024, .f32⟩
  | .hbm, ⟨7, _⟩ => ⟨S32x1x1024, .f32⟩
  | .hbm, ⟨8, _⟩ => ⟨S_, .f32⟩
  | .hbm, ⟨9, _⟩ => ⟨S1024x96, .f32⟩
  | .hbm, ⟨10, _⟩ => ⟨S1024x1184, .f32⟩
  | .hbm, ⟨11, _⟩ => ⟨S1024x1536, .f32⟩
  | .hbm, ⟨12, _⟩ => ⟨S1024x2816, .f32⟩
  | .hbm, ⟨13, _⟩ => ⟨S1024x2816, .bf16⟩
  | .hbm, ⟨14, _⟩ => ⟨S32x2048x768, .f32⟩
  | .hbm, ⟨15, _⟩ => ⟨S32x2048x256, .f32⟩
  | .hbm, ⟨16, _⟩ => ⟨S32x2048x256, .f32⟩
  | .hbm, ⟨17, _⟩ => ⟨S32x2048x1024, .f32⟩
  | .hbm, ⟨18, _⟩ => ⟨S32x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S1x512x768, .f32⟩
  | .local _ .vmem, ⟨9, _⟩ => ⟨S1x512x768, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x1024, .f32⟩
  | .local _ .vmem, ⟨15, _⟩ => ⟨S1x512x1024, .f32⟩
  | .local _ .vmem, ⟨16, _⟩ => ⟨S1x512x512, .f32⟩
  | .local _ .vmem, ⟨17, _⟩ => ⟨S1x512x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S32x2048x1024 : Shape := ⟨3, ![32, 2048, 1024]⟩
abbrev S1024 : Shape := ⟨1, ![1024]⟩
abbrev S32x1024 : Shape := ⟨2, ![32, 1024]⟩
abbrev S1024x2720 : Shape := ⟨2, ![1024, 2720]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x2720 : Shape := ⟨3, ![32, 2048, 2720]⟩
abbrev S32x2048x768 : Shape := ⟨3, ![32, 2048, 768]⟩
abbrev S32x2048x256 : Shape := ⟨3, ![32, 2048, 256]⟩
abbrev S32x2048x160 : Shape := ⟨3, ![32, 2048, 160]⟩
abbrev S32x2048x512 : Shape := ⟨3, ![32, 2048, 512]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S1024x2720, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x1x1024, .f32⟩
  | .hbm, ⟨22, _⟩ => ⟨S_, .f32⟩
  | .hbm, ⟨23, _⟩ => ⟨S32x1x1024, .f32⟩
  | .hbm, ⟨24, _⟩ => ⟨S32x1x1024, .f32⟩
  | .hbm, ⟨25, _⟩ => ⟨S32x2048x1024, .f32⟩
  | .hbm, ⟨26, _⟩ => ⟨S32x2048x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x2048x2720, .f32⟩
  | .hbm, ⟨31, _⟩ => ⟨S32x2048x768, .f32⟩
  | .hbm, ⟨32, _⟩ => ⟨S32x2048x256, .f32⟩
  | .hbm, ⟨33, _⟩ => ⟨S32x2048x160, .f32⟩
  | .hbm, ⟨34, _⟩ => ⟨S32x2048x1024, .f32⟩
  | .hbm, ⟨35, _⟩ => ⟨S32x2048x512, .f32⟩
  | .hbm, ⟨36, _⟩ => ⟨S_, .i32⟩
  | .hbm, ⟨37, _⟩ => ⟨S_, .f32⟩
  | .hbm, ⟨38, _⟩ => ⟨S32x2048x256, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S32x4x2048x128 : Shape := ⟨4, ![32, 4, 2048, 128]⟩
abbrev S32x2x256x128 : Shape := ⟨4, ![32, 2, 256, 128]⟩
abbrev S32x2x2048x128 : Shape := ⟨4, ![32, 2, 2048, 128]⟩
abbrev S32x2048x256 : Shape := ⟨3, ![32, 2048, 256]⟩
abbrev S1x4x256x128 : Shape := ⟨4, ![1, 4, 256, 128]⟩
abbrev S1x2x256x128 : Shape := ⟨4, ![1, 2, 256, 128]⟩
abbrev S1x2x2048x128 : Shape := ⟨4, ![1, 2, 2048, 128]⟩
abbrev S1x256x256 : Shape := ⟨3, ![1, 256, 256]⟩
abbrev S256x128 : Shape := ⟨2, ![256, 128]⟩
abbrev S1x1x256x128 : Shape := ⟨4, ![1, 1, 256, 128]⟩
abbrev S256x256 : Shape := ⟨2, ![256, 256]⟩
abbrev S1x1x2048x128 : Shape := ⟨4, ![1, 1, 2048, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩

abbrev nBuf : Space → Nat
  | .hbm => 6
  | .vmem => 12
  | .smem => 0
  | _ => 0

abbrev bufTy : (tb : Table) → Fin (tcTables nBuf tb) → BufTy
  | .hbm, ⟨0, _⟩ => ⟨S32x4x2048x128, .bf16⟩
  | .hbm, ⟨1, _⟩ => ⟨S32x2x256x128, .bf16⟩
  | .hbm, ⟨2, _⟩ => ⟨S32x2x256x128, .bf16⟩
  | .hbm, ⟨3, _⟩ => ⟨S32x2x2048x128, .bf16⟩
  | .hbm, ⟨4, _⟩ => ⟨S32x2x2048x128, .bf16⟩
  | .hbm, ⟨5, _⟩ => ⟨S32x2048x256, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x2x2048x128, .bf16⟩
  | .local _ .vmem, ⟨7, _⟩ => ⟨S1x2x2048x128, .bf16⟩
  | .local _ .vmem, ⟨8, _⟩ => ⟨S1x2x2048x128, .bf16⟩
  | .local _ .vmem, ⟨9, _⟩ => ⟨S1x2x2048x128, .bf16⟩
  | .local _ .vmem, ⟨10, _⟩ => ⟨S1x256x256, .f32⟩
  | .local _ .vmem, ⟨11, _⟩ => ⟨S1x256x256, .f32⟩
  | _, _ => ⟨S32x4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32x4x2048x128 : Shape := ⟨4, ![32, 4, 2048, 128]⟩
abbrev S32x2x256x128 : Shape := ⟨4, ![32, 2, 256, 128]⟩
abbrev S32x2x2048x128 : Shape := ⟨4, ![32, 2, 2048, 128]⟩
abbrev S32x2x2304x128 : Shape := ⟨4, ![32, 2, 2304, 128]⟩
abbrev S32x2x2x2304x128 : Shape := ⟨5, ![32, 2, 2, 2304, 128]⟩
abbrev S32x4x2304x128 : Shape := ⟨4, ![32, 4, 2304, 128]⟩
abbrev S32x1x2304x64 : Shape := ⟨4, ![32, 1, 2304, 64]⟩
abbrev S32x2304x64 : Shape := ⟨3, ![32, 2304, 64]⟩
abbrev S32x4x2304x64 : Shape := ⟨4, ![32, 4, 2304, 64]⟩
abbrev S32x4x2048x2304 : Shape := ⟨4, ![32, 4, 2048, 2304]⟩
abbrev S_ : Shape := ⟨0, ![]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩
abbrev S32x2048x4x64 : Shape := ⟨4, ![32, 2048, 4, 64]⟩
abbrev S32x2048x256 : Shape := ⟨3, ![32, 2048, 256]⟩

abbrev nBuf : Space → Nat
  | .hbm => 43
  | .vmem => 0
  | .smem => 0
  | _ => 0

abbrev bufTy : (tb : Table) → Fin (tcTables nBuf tb) → BufTy
  | .hbm, ⟨0, _⟩ => ⟨S32x4x2048x128, .bf16⟩
  | .hbm, ⟨1, _⟩ => ⟨S32x2x256x128, .bf16⟩
  | .hbm, ⟨2, _⟩ => ⟨S32x2x256x128, .bf16⟩
  | .hbm, ⟨3, _⟩ => ⟨S32x2x2048x128, .bf16⟩
  | .hbm, ⟨4, _⟩ => ⟨S32x2x2048x128, .bf16⟩
  | .hbm, ⟨5, _⟩ => ⟨S32x4x2048x128, .f32⟩
  | .hbm, ⟨6, _⟩ => ⟨S32x2x2304x128, .bf16⟩
  | .hbm, ⟨7, _⟩ => ⟨S32x2x2304x128, .f32⟩
  | .hbm, ⟨8, _⟩ => ⟨S32x2x2304x128, .bf16⟩
  | .hbm, ⟨9, _⟩ => ⟨S32x2x2304x128, .f32⟩
  | .hbm, ⟨10, _⟩ => ⟨S32x2x2x2304x128, .f32⟩
  | .hbm, ⟨11, _⟩ => ⟨S32x4x2304x128, .f32⟩
  | .hbm, ⟨12, _⟩ => ⟨S32x1x2304x64, .f32⟩
  | .hbm, ⟨13, _⟩ => ⟨S32x2304x64, .f32⟩
  | .hbm, ⟨14, _⟩ => ⟨S32x1x2304x64, .f32⟩
  | .hbm, ⟨15, _⟩ => ⟨S32x2304x64, .f32⟩
  | .hbm, ⟨16, _⟩ => ⟨S32x1x2304x64, .f32⟩
  | .hbm, ⟨17, _⟩ => ⟨S32x2304x64, .f32⟩
  | .hbm, ⟨18, _⟩ => ⟨S32x1x2304x64, .f32⟩
  | .hbm, ⟨19, _⟩ => ⟨S32x2304x64, .f32⟩
  | .hbm, ⟨20, _⟩ => ⟨S32x1x2304x64, .f32⟩
  | .hbm, ⟨21, _⟩ => ⟨S32x1x2304x64, .f32⟩
  | .hbm, ⟨22, _⟩ => ⟨S32x1x2304x64, .f32⟩
  | .hbm, ⟨23, _⟩ => ⟨S32x1x2304x64, .f32⟩
  | .hbm, ⟨24, _⟩ => ⟨S32x4x2304x64, .f32⟩
  | .hbm, ⟨25, _⟩ => ⟨S32x4x2048x2304, .f32⟩
  | .hbm, ⟨26, _⟩ => ⟨S_, .f32⟩
  | .hbm, ⟨27, _⟩ => ⟨S32x4x2048, .f32⟩
  | .hbm, ⟨28, _⟩ => ⟨S_, .f32⟩
  | .hbm, ⟨29, _⟩ => ⟨S32x4x2048, .f32⟩
  | .hbm, ⟨30, _⟩ => ⟨S32x4x2048, .f32⟩
  | .hbm, ⟨31, _⟩ => ⟨S32x4x2048x1, .f32⟩
  | .hbm, ⟨32, _⟩ => ⟨S32x4x2048x2304, .f32⟩
  | .hbm, ⟨33, _⟩ => ⟨S32x4x2048x2304, .f32⟩
  | .hbm, ⟨34, _⟩ => ⟨S32x4x2048x2304, .f32⟩
  | .hbm, ⟨35, _⟩ => ⟨S_, .f32⟩
  | .hbm, ⟨36, _⟩ => ⟨S32x4x2048, .f32⟩
  | .hbm, ⟨37, _⟩ => ⟨S32x4x2048x1, .f32⟩
  | .hbm, ⟨38, _⟩ => ⟨S32x4x2048x2304, .f32⟩
  | .hbm, ⟨39, _⟩ => ⟨S32x4x2048x2304, .f32⟩
  | .hbm, ⟨40, _⟩ => ⟨S32x4x64x2048, .f32⟩
  | .hbm, ⟨41, _⟩ => ⟨S32x2048x4x64, .f32⟩
  | .hbm, ⟨42, _⟩ => ⟨S32x2048x256, .f32⟩
  | _, _ => ⟨S32x4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel5.lean ====
abbrev S32x2048x1024 : Shape := ⟨3, ![32, 2048, 1024]⟩
abbrev S32x2048x256 : Shape := ⟨3, ![32, 2048, 256]⟩
abbrev S1024 : Shape := ⟨1, ![1024]⟩
abbrev S32x1024 : Shape := ⟨2, ![32, 1024]⟩
abbrev S1024x1024 : Shape := ⟨2, ![1024, 1024]⟩
abbrev S1x1024 : Shape := ⟨2, ![1, 1024]⟩
abbrev S32x1x1024 : Shape := ⟨3, ![32, 1, 1024]⟩
abbrev S1x512x1024 : Shape := ⟨3, ![1, 512, 1024]⟩
abbrev S1x512x256 : Shape := ⟨3, ![1, 512, 256]⟩
abbrev S1x1x1024 : Shape := ⟨3, ![1, 1, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x256, .f32⟩
  | .hbm, ⟨3, _⟩ => ⟨S32x2048x256, .f32⟩
  | .hbm, ⟨4, _⟩ => ⟨S32x2048x256, .f32⟩
  | .hbm, ⟨5, _⟩ => ⟨S1024, .f32⟩
  | .hbm, ⟨6, _⟩ => ⟨S32x1024, .f32⟩
  | .hbm, ⟨7, _⟩ => ⟨S1024x1024, .f32⟩
  | .hbm, ⟨8, _⟩ => ⟨S1x1024, .f32⟩
  | .hbm, ⟨9, _⟩ => ⟨S32x1x1024, .f32⟩
  | .hbm, ⟨10, _⟩ => ⟨S1024x1024, .bf16⟩
  | .hbm, ⟨11, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S32x2048x1024 : Shape := ⟨3, ![32, 2048, 1024]⟩
abbrev S32x2048x256 : Shape := ⟨3, ![32, 2048, 256]⟩
abbrev S1024 : Shape := ⟨1, ![1024]⟩
abbrev S32x1024 : Shape := ⟨2, ![32, 1024]⟩
abbrev S1024x1024 : Shape := ⟨2, ![1024, 1024]⟩
abbrev S32x2048x1x256 : Shape := ⟨4, ![32, 2048, 1, 256]⟩
abbrev S32x2048x4x256 : Shape := ⟨4, ![32, 2048, 4, 256]⟩
abbrev S4x256 : Shape := ⟨2, ![4, 256]⟩
abbrev S_ : Shape := ⟨0, ![]⟩
abbrev S32x2048x4 : Shape := ⟨3, ![32, 2048, 4]⟩
abbrev S32x2048x4x1 : Shape := ⟨4, ![32, 2048, 4, 1]⟩
abbrev S1x1x4x256 : Shape := ⟨4, ![1, 1, 4, 256]⟩
abbrev S32x1x1024 : Shape := ⟨3, ![32, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x256, .f32⟩
  | .hbm, ⟨3, _⟩ => ⟨S32x2048x256, .f32⟩
  | .hbm, ⟨4, _⟩ => ⟨S32x2048x256, .f32⟩
  | .hbm, ⟨5, _⟩ => ⟨S1024, .f32⟩
  | .hbm, ⟨6, _⟩ => ⟨S32x1024, .f32⟩
  | .hbm, ⟨7, _⟩ => ⟨S1024x1024, .f32⟩
  | .hbm, ⟨8, _⟩ => ⟨S32x2048x1x256, .f32⟩
  | .hbm, ⟨9, _⟩ => ⟨S32x2048x1x256, .f32⟩
  | .hbm, ⟨10, _⟩ => ⟨S32x2048x1x256, .f32⟩
  | .hbm, ⟨11, _⟩ => ⟨S32x2048x1x256, .f32⟩
  | .hbm, ⟨12, _⟩ => ⟨S32x2048x4x256, .f32⟩
  | .hbm, ⟨13, _⟩ => ⟨S4x256, .f32⟩
  | .hbm, ⟨14, _⟩ => ⟨S32x2048x4x256, .f32⟩
  | .hbm, ⟨15, _⟩ => ⟨S_, .f32⟩
  | .hbm, ⟨16, _⟩ => ⟨S32x2048x4, .f32⟩
  | .hbm, ⟨17, _⟩ => ⟨S32x2048x4x1, .f32⟩
  | .hbm, ⟨18, _⟩ => ⟨S_, .f32⟩
  | .hbm, ⟨19, _⟩ => ⟨S32x2048x4x1, .f32⟩
  | .hbm, ⟨20, _⟩ => ⟨S32x2048x4x1, .f32⟩
  | .hbm, ⟨21, _⟩ => ⟨S_, .f32⟩
  | .hbm, ⟨22, _⟩ => ⟨S32x2048x4x1, .f32⟩
  | .hbm, ⟨23, _⟩ => ⟨S32x2048x4x1, .f32⟩
  | .hbm, ⟨24, _⟩ => ⟨S32x2048x4x1, .f32⟩
  | .hbm, ⟨25, _⟩ => ⟨S32x2048x4x256, .f32⟩
  | .hbm, ⟨26, _⟩ => ⟨S32x2048x4x256, .f32⟩
  | .hbm, ⟨27, _⟩ => ⟨S1x1x4x256, .f32⟩
  | .hbm, ⟨28, _⟩ => ⟨S32x2048x4x256, .f32⟩
  | .hbm, ⟨29, _⟩ => ⟨S32x2048x4x256, .f32⟩
  | .hbm, ⟨30, _⟩ => ⟨S32x1x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel6.lean ====
abbrev S32x2048x1024 : Shape := ⟨3, ![32, 2048, 1024]⟩
abbrev S1024 : Shape := ⟨1, ![1024]⟩
abbrev S32x1024 : Shape := ⟨2, ![32, 1024]⟩
abbrev S1024x5632 : Shape := ⟨2, ![1024, 5632]⟩
abbrev S2816x1024 : Shape := ⟨2, ![2816, 1024]⟩
abbrev S1x1024 : Shape := ⟨2, ![1, 1024]⟩
abbrev S32x1x1024 : Shape := ⟨3, ![32, 1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 16
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![32, 2, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference6Ideal.lean ====
abbrev S32x2048x1024 : Shape := ⟨3, ![32, 2048, 1024]⟩
abbrev S1024 : Shape := ⟨1, ![1024]⟩
abbrev S32x1024 : Shape := ⟨2, ![32, 1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x2048x5632 : Shape := ⟨3, ![32, 2048, 5632]⟩
abbrev S32x2048x2816 : Shape := ⟨3, ![32, 2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x1x1024, .f32⟩
  | .hbm, ⟨25, _⟩ => ⟨S_, .f32⟩
  | .hbm, ⟨26, _⟩ => ⟨S32x1x1024, .f32⟩
  | .hbm, ⟨27, _⟩ => ⟨S32x1x1024, .f32⟩
  | .hbm, ⟨28, _⟩ => ⟨S32x2048x1024, .f32⟩
  | .hbm, ⟨29, _⟩ => ⟨S32x2048x1024, .f32⟩
  | .hbm, ⟨30, _⟩ => ⟨S32x1x1024, .f32⟩
  | .hbm, ⟨31, _⟩ => ⟨S32x2048x1024, .f32⟩
  | .hbm, ⟨32, _⟩ => ⟨S32x2048x1024, .f32⟩
  | .hbm, ⟨33, _⟩ => ⟨S32x2048x5632, .f32⟩
  | .hbm, ⟨34, _⟩ => ⟨S32x2048x2816, .f32⟩
  | .hbm, ⟨35, _⟩ => ⟨S32x2048x2816, .f32⟩
  | .hbm, ⟨36, _⟩ => ⟨S32x1x1024, .f32⟩
  | .hbm, ⟨37, _⟩ => ⟨S32x2048x2816, .f32⟩
  | .hbm, ⟨38, _⟩ => ⟨S32x2048x2816, .f32⟩
  | .hbm, ⟨39, _⟩ => ⟨S_, .f32⟩
  | .hbm, ⟨40, _⟩ => ⟨S32x2048x2816, .f32⟩
  | .hbm, ⟨41, _⟩ => ⟨S32x2048x2816, .f32⟩
  | .hbm, ⟨42, _⟩ => ⟨S_, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S32x2048x2816, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Kernel7.lean ====
abbrev S32x256x1024 : Shape := ⟨3, ![32, 256, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1x1024 : Shape := ⟨3, ![1, 1, 1024]⟩
abbrev S32x1x1024 : Shape := ⟨3, ![32, 1, 1024]⟩
abbrev S1x256x1024 : Shape := ⟨3, ![1, 256, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 19
  | .vmem => 20
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1x1x1024, .f32⟩
  | .hbm, ⟨10, _⟩ => ⟨S32x1x1024, .f32⟩
  | .hbm, ⟨11, _⟩ => ⟨S1x1x1024, .f32⟩
  | .hbm, ⟨12, _⟩ => ⟨S32x1x1024, .f32⟩
  | .hbm, ⟨13, _⟩ => ⟨S1x1x1024, .f32⟩
  | .hbm, ⟨14, _⟩ => ⟨S32x1x1024, .f32⟩
  | .hbm, ⟨15, _⟩ => ⟨S1024x5632, .bf16⟩
  | .hbm, ⟨16, _⟩ => ⟨S2816x1024, .bf16⟩
  | .hbm, ⟨17, _⟩ => ⟨S1x1024, .f32⟩
  | .hbm, ⟨18, _⟩ => ⟨S32x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | .local _ .vmem, ⟨18, _⟩ => ⟨S256x1024, .bf16⟩
  | .local _ .vmem, ⟨19, _⟩ => ⟨S256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![32, 1, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference7Ideal.lean ====
abbrev S32x256x1024 : Shape := ⟨3, ![32, 256, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x5632 : Shape := ⟨3, ![32, 256, 5632]⟩
abbrev S32x256x2816 : Shape := ⟨3, ![32, 256, 2816]⟩

abbrev nBuf : Space → Nat
  | .hbm => 51
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S32x256x1024, .f32⟩
  | .hbm, ⟨9, _⟩ => ⟨S_, .f32⟩
  | .hbm, ⟨10, _⟩ => ⟨S32x256, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S_, .f32⟩
  | .hbm, ⟨16, _⟩ => ⟨S32x256x1, .f32⟩
  | .hbm, ⟨17, _⟩ => ⟨S32x256x1, .f32⟩
  | .hbm, ⟨18, _⟩ => ⟨S32x256x1, .f32⟩
  | .hbm, ⟨19, _⟩ => ⟨S32x256x1024, .f32⟩
  | .hbm, ⟨20, _⟩ => ⟨S32x256x1024, .f32⟩
  | .hbm, ⟨21, _⟩ => ⟨S1x1x1024, .f32⟩
  | .hbm, ⟨22, _⟩ => ⟨S32x256x1024, .f32⟩
  | .hbm, ⟨23, _⟩ => ⟨S32x256x1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S1x1x1024, .f32⟩
  | .hbm, ⟨31, _⟩ => ⟨S32x256x1024, .f32⟩
  | .hbm, ⟨32, _⟩ => ⟨S32x256x1024, .f32⟩
  | .hbm, ⟨33, _⟩ => ⟨S32x256x5632, .f32⟩
  | .hbm, ⟨34, _⟩ => ⟨S32x256x2816, .f32⟩
  | .hbm, ⟨35, _⟩ => ⟨S32x256x2816, .f32⟩
  | .hbm, ⟨36, _⟩ => ⟨S32x256x2816, .f32⟩
  | .hbm, ⟨37, _⟩ => ⟨S32x256x2816, .f32⟩
  | .hbm, ⟨38, _⟩ => ⟨S_, .f32⟩
  | .hbm, ⟨39, _⟩ => ⟨S32x256x2816, .f32⟩
  | .hbm, ⟨40, _⟩ => ⟨S32x256x2816, .f32⟩
  | .hbm, ⟨41, _⟩ => ⟨S_, .f32⟩
  | .hbm, ⟨42, _⟩ => ⟨S32x256x2816, .f32⟩
  | .hbm, ⟨43, _⟩ => ⟨S32x256x2816, .f32⟩
  | .hbm, ⟨44, _⟩ => ⟨S32x256x2816, .f32⟩
  | .hbm, ⟨45, _⟩ => ⟨S32x256x2816, .f32⟩
  | .hbm, ⟨46, _⟩ => ⟨S32x256x1024, .f32⟩
  | .hbm, ⟨47, _⟩ => ⟨S1x1x1024, .f32⟩
  | .hbm, ⟨48, _⟩ => ⟨S32x256x1024, .f32⟩
  | .hbm, ⟨49, _⟩ => ⟨S32x256x1024, .f32⟩
  | .hbm, ⟨50, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Kernel8.lean ====
abbrev S32x256x1024 : Shape := ⟨3, ![32, 256, 1024]⟩
abbrev S1024 : Shape := ⟨1, ![1024]⟩
abbrev S1024x2720 : Shape := ⟨2, ![1024, 2720]⟩
abbrev S1x1024 : Shape := ⟨2, ![1, 1024]⟩
abbrev S1x1x1024 : Shape := ⟨3, ![1, 1, 1024]⟩
abbrev S32x1x1024 : Shape := ⟨3, ![32, 1, 1024]⟩
abbrev S_ : Shape := ⟨0, ![]⟩
abbrev S1024x96 : Shape := ⟨2, ![1024, 96]⟩
abbrev S1024x1184 : Shape := ⟨2, ![1024, 1184]⟩
abbrev S1024x1536 : Shape := ⟨2, ![1024, 1536]⟩
abbrev S1024x2816 : Shape := ⟨2, ![1024, 2816]⟩
abbrev S32x256x768 : Shape := ⟨3, ![32, 256, 768]⟩
abbrev S32x256x256 : Shape := ⟨3, ![32, 256, 256]⟩
abbrev S32x256x512 : Shape := ⟨3, ![32, 256, 512]⟩
abbrev S1x256x1024 : Shape := ⟨3, ![1, 256, 1024]⟩
abbrev S1x256x768 : Shape := ⟨3, ![1, 256, 768]⟩
abbrev S1x256x256 : Shape := ⟨3, ![1, 256, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S1024x256 : Shape := ⟨2, ![1024, 256]⟩
abbrev S256x256 : Shape := ⟨2, ![256, 256]⟩
abbrev S1024x1024 : Shape := ⟨2, ![1024, 1024]⟩
abbrev S1024x512 : Shape := ⟨2, ![1024, 512]⟩
abbrev S256x512 : Shape := ⟨2, ![256, 512]⟩

abbrev nBuf : Space → Nat
  | .hbm => 21
  | .vmem => 18
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2720, .f32⟩
  | .hbm, ⟨5, _⟩ => ⟨S1x1024, .f32⟩
  | .hbm, ⟨6, _⟩ => ⟨S1x1x1024, .f32⟩
  | .hbm, ⟨7, _⟩ => ⟨S32x1x1024, .f32⟩
  | .hbm, ⟨8, _⟩ => ⟨S1x1x1024, .f32⟩
  | .hbm, ⟨9, _⟩ => ⟨S32x1x1024, .f32⟩
  | .hbm, ⟨10, _⟩ => ⟨S_, .f32⟩
  | .hbm, ⟨11, _⟩ => ⟨S1024x96, .f32⟩
  | .hbm, ⟨12, _⟩ => ⟨S1024x1184, .f32⟩
  | .hbm, ⟨13, _⟩ => ⟨S1024x1536, .f32⟩
  | .hbm, ⟨14, _⟩ => ⟨S1024x2816, .f32⟩
  | .hbm, ⟨15, _⟩ => ⟨S1024x2816, .bf16⟩
  | .hbm, ⟨16, _⟩ => ⟨S32x256x768, .f32⟩
  | .hbm, ⟨17, _⟩ => ⟨S32x256x256, .f32⟩
  | .hbm, ⟨18, _⟩ => ⟨S32x256x256, .f32⟩
  | .hbm, ⟨19, _⟩ => ⟨S32x256x1024, .f32⟩
  | .hbm, ⟨20, _⟩ => ⟨S32x256x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S1x256x768, .f32⟩
  | .local _ .vmem, ⟨9, _⟩ => ⟨S1x256x768, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x1024, .f32⟩
  | .local _ .vmem, ⟨15, _⟩ => ⟨S1x256x1024, .f32⟩
  | .local _ .vmem, ⟨16, _⟩ => ⟨S1x256x512, .f32⟩
  | .local _ .vmem, ⟨17, _⟩ => ⟨S1x256x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S32x256x1024 : Shape := ⟨3, ![32, 256, 1024]⟩
abbrev S1024 : Shape := ⟨1, ![1024]⟩
abbrev S1024x2720 : Shape := ⟨2, ![1024, 2720]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x2720 : Shape := ⟨3, ![32, 256, 2720]⟩
abbrev S32x256x768 : Shape := ⟨3, ![32, 256, 768]⟩
abbrev S32x256x256 : Shape := ⟨3, ![32, 256, 256]⟩
abbrev S32x256x160 : Shape := ⟨3, ![32, 256, 160]⟩
abbrev S32x256x512 : Shape := ⟨3, ![32, 256, 512]⟩

abbrev nBuf : Space → Nat
  | .hbm => 39
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2720, .f32⟩
  | .hbm, ⟨5, _⟩ => ⟨S32x256x1024, .f32⟩
  | .hbm, ⟨6, _⟩ => ⟨S_, .f32⟩
  | .hbm, ⟨7, _⟩ => ⟨S32x256, .f32⟩
  | .hbm, ⟨8, _⟩ => ⟨S32x256x1, .f32⟩
  | .hbm, ⟨9, _⟩ => ⟨S_, .f32⟩
  | .hbm, ⟨10, _⟩ => ⟨S32x256x1, .f32⟩
  | .hbm, ⟨11, _⟩ => ⟨S32x256x1, .f32⟩
  | .hbm, ⟨12, _⟩ => ⟨S_, .f32⟩
  | .hbm, ⟨13, _⟩ => ⟨S32x256x1, .f32⟩
  | .hbm, ⟨14, _⟩ => ⟨S32x256x1, .f32⟩
  | .hbm, ⟨15, _⟩ => ⟨S32x256x1, .f32⟩
  | .hbm, ⟨16, _⟩ => ⟨S32x256x1024, .f32⟩
  | .hbm, ⟨17, _⟩ => ⟨S32x256x1024, .f32⟩
  | .hbm, ⟨18, _⟩ => ⟨S1x1x1024, .f32⟩
  | .hbm, ⟨19, _⟩ => ⟨S32x256x1024, .f32⟩
  | .hbm, ⟨20, _⟩ => ⟨S32x256x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1x1024, .f32⟩
  | .hbm, ⟨25, _⟩ => ⟨S32x256x1024, .f32⟩
  | .hbm, ⟨26, _⟩ => ⟨S32x256x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S32x256x2720, .f32⟩
  | .hbm, ⟨31, _⟩ => ⟨S32x256x768, .f32⟩
  | .hbm, ⟨32, _⟩ => ⟨S32x256x256, .f32⟩
  | .hbm, ⟨33, _⟩ => ⟨S32x256x160, .f32⟩
  | .hbm, ⟨34, _⟩ => ⟨S32x256x1024, .f32⟩
  | .hbm, ⟨35, _⟩ => ⟨S32x256x512, .f32⟩
  | .hbm, ⟨36, _⟩ => ⟨S_, .i32⟩
  | .hbm, ⟨37, _⟩ => ⟨S_, .f32⟩
  | .hbm, ⟨38, _⟩ => ⟨S32x256x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel9.lean ====
abbrev S32x256x1024 : Shape := ⟨3, ![32, 256, 1024]⟩
abbrev S32x256x256 : Shape := ⟨3, ![32, 256, 256]⟩
abbrev S1024 : Shape := ⟨1, ![1024]⟩
abbrev S1024x1024 : Shape := ⟨2, ![1024, 1024]⟩
abbrev S1x1024 : Shape := ⟨2, ![1, 1024]⟩
abbrev S1x1x1024 : Shape := ⟨3, ![1, 1, 1024]⟩
abbrev S32x1x1024 : Shape := ⟨3, ![32, 1, 1024]⟩
abbrev S1x256x1024 : Shape := ⟨3, ![1, 256, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S256x1024 : Shape := ⟨2, ![256, 1024]⟩

abbrev nBuf : Space → Nat
  | .hbm => 13
  | .vmem => 16
  | .smem => 0
  | _ => 0

abbrev bufTy : (tb : Table) → Fin (tcTables nBuf tb) → BufTy
  | .hbm, ⟨0, _⟩ => ⟨S32x256x1024, .f32⟩
  | .hbm, ⟨1, _⟩ => ⟨S32x256x256, .f32⟩
  | .hbm, ⟨2, _⟩ => ⟨S32x256x256, .f32⟩
  | .hbm, ⟨3, _⟩ => ⟨S32x256x256, .f32⟩
  | .hbm, ⟨4, _⟩ => ⟨S32x256x256, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1x1024, .f32⟩
  | .hbm, ⟨9, _⟩ => ⟨S1x1x1024, .f32⟩
  | .hbm, ⟨10, _⟩ => ⟨S32x1x1024, .f32⟩
  | .hbm, ⟨11, _⟩ => ⟨S1024x1024, .bf16⟩
  | .hbm, ⟨12, _⟩ => ⟨S32x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S32x256x1024 : Shape := ⟨3, ![32, 256, 1024]⟩
abbrev S32x256x256 : Shape := ⟨3, ![32, 256, 256]⟩
abbrev S1024 : Shape := ⟨1, ![1024]⟩
abbrev S1024x1024 : Shape := ⟨2, ![1024, 1024]⟩
abbrev S32x256x1x256 : Shape := ⟨4, ![32, 256, 1, 256]⟩
abbrev S32x256x4x256 : Shape := ⟨4, ![32, 256, 4, 256]⟩
abbrev S4x256 : Shape := ⟨2, ![4, 256]⟩
abbrev S_ : Shape := ⟨0, ![]⟩
abbrev S32x256x4 : Shape := ⟨3, ![32, 256, 4]⟩
abbrev S32x256x4x1 : Shape := ⟨4, ![32, 256, 4, 1]⟩
abbrev S1x1x4x256 : Shape := ⟨4, ![1, 1, 4, 256]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x256, .f32⟩
  | .hbm, ⟨2, _⟩ => ⟨S32x256x256, .f32⟩
  | .hbm, ⟨3, _⟩ => ⟨S32x256x256, .f32⟩
  | .hbm, ⟨4, _⟩ => ⟨S32x256x256, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S32x256x1x256, .f32⟩
  | .hbm, ⟨9, _⟩ => ⟨S32x256x1x256, .f32⟩
  | .hbm, ⟨10, _⟩ => ⟨S32x256x1x256, .f32⟩
  | .hbm, ⟨11, _⟩ => ⟨S32x256x1x256, .f32⟩
  | .hbm, ⟨12, _⟩ => ⟨S32x256x4x256, .f32⟩
  | .hbm, ⟨13, _⟩ => ⟨S4x256, .f32⟩
  | .hbm, ⟨14, _⟩ => ⟨S32x256x4x256, .f32⟩
  | .hbm, ⟨15, _⟩ => ⟨S_, .f32⟩
  | .hbm, ⟨16, _⟩ => ⟨S32x256x4, .f32⟩
  | .hbm, ⟨17, _⟩ => ⟨S32x256x4x1, .f32⟩
  | .hbm, ⟨18, _⟩ => ⟨S_, .f32⟩
  | .hbm, ⟨19, _⟩ => ⟨S32x256x4x1, .f32⟩
  | .hbm, ⟨20, _⟩ => ⟨S32x256x4x1, .f32⟩
  | .hbm, ⟨21, _⟩ => ⟨S_, .f32⟩
  | .hbm, ⟨22, _⟩ => ⟨S32x256x4x1, .f32⟩
  | .hbm, ⟨23, _⟩ => ⟨S32x256x4x1, .f32⟩
  | .hbm, ⟨24, _⟩ => ⟨S32x256x4x1, .f32⟩
  | .hbm, ⟨25, _⟩ => ⟨S32x256x4x256, .f32⟩
  | .hbm, ⟨26, _⟩ => ⟨S32x256x4x256, .f32⟩
  | .hbm, ⟨27, _⟩ => ⟨S1x1x4x256, .f32⟩
  | .hbm, ⟨28, _⟩ => ⟨S32x256x4x256, .f32⟩
  | .hbm, ⟨29, _⟩ => ⟨S32x256x4x256, .f32⟩
  | .hbm, ⟨30, _⟩ => ⟨S32x256x1024, .f32⟩
  | .hbm, ⟨31, _⟩ => ⟨S32x256x1024, .f32⟩
  | .hbm, ⟨32, _⟩ => ⟨S1x1x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel10.lean ====
abbrev S32x2048x256 : Shape := ⟨3, ![32, 2048, 256]⟩
abbrev S32x2048x128 : Shape := ⟨3, ![32, 2048, 128]⟩
abbrev S32x2048x32 : Shape := ⟨3, ![32, 2048, 32]⟩
abbrev S256 : Shape := ⟨1, ![256]⟩
abbrev S128 : Shape := ⟨1, ![128]⟩
abbrev S256x384 : Shape := ⟨2, ![256, 384]⟩
abbrev S128x512 : Shape := ⟨2, ![128, 512]⟩
abbrev S32x2048x160 : Shape := ⟨3, ![32, 2048, 160]⟩
abbrev S_ : Shape := ⟨0, ![]⟩
abbrev S1x256 : Shape := ⟨2, ![1, 256]⟩
abbrev S1x128 : Shape := ⟨2, ![1, 128]⟩
abbrev S256x4x96 : Shape := ⟨3, ![256, 4, 96]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S2048x128 : Shape := ⟨2, ![2048, 128]⟩
abbrev S2048x32 : Shape := ⟨2, ![2048, 32]⟩
abbrev S1 : Shape := ⟨1, ![1]⟩
abbrev S1x2048x1x128 : Shape := ⟨4, ![1, 2048, 1, 128]⟩
abbrev S32x4x2048x128 : Shape := ⟨4, ![32, 4, 2048, 128]⟩
abbrev S1x512x256 : Shape := ⟨3, ![1, 512, 256]⟩
abbrev S512x128 : Shape := ⟨2, ![512, 128]⟩
abbrev S1x4x512x128 : Shape := ⟨4, ![1, 4, 512, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S1x1x512x128 : Shape := ⟨4, ![1, 1, 512, 128]⟩

abbrev nBuf : Space → Nat
  | .hbm => 90
  | .vmem => 21
  | .smem => 0
  | _ => 0

abbrev bufTy : (tb : Table) → Fin (tcTables nBuf tb) → BufTy
  | .hbm, ⟨0, _⟩ => ⟨S32x2048x256, .f32⟩
  | .hbm, ⟨1, _⟩ => ⟨S32x2048x128, .f32⟩
  | .hbm, ⟨2, _⟩ => ⟨S32x2048x32, .f32⟩
  | .hbm, ⟨3, _⟩ => ⟨S256, .f32⟩
  | .hbm, ⟨4, _⟩ => ⟨S128, .f32⟩
  | .hbm, ⟨5, _⟩ => ⟨S256x384, .f32⟩
  | .hbm, ⟨6, _⟩ => ⟨S128x512, .f32⟩
  | .hbm, ⟨7, _⟩ => ⟨S32x2048x160, .f32⟩
  | .hbm, ⟨8, _⟩ => ⟨S_, .i32⟩
  | .hbm, ⟨9, _⟩ => ⟨S_, .f32⟩
  | .hbm, ⟨10, _⟩ => ⟨S32x2048x256, .f32⟩
  | .hbm, ⟨11, _⟩ => ⟨S1x256, .f32⟩
  | .hbm, ⟨12, _⟩ => ⟨S1x128, .f32⟩
  | .hbm, ⟨13, _⟩ => ⟨S256x4x96, .f32⟩
  | .hbm, ⟨14, _⟩ => ⟨S_, .i32⟩
  | .hbm, ⟨15, _⟩ => ⟨S_, .f32⟩
  | .hbm, ⟨16, _⟩ => ⟨S256x4x128, .f32⟩
  | .hbm, ⟨17, _⟩ => ⟨S256x512, .f32⟩
  | .hbm, ⟨18, _⟩ => ⟨S128x4x128, .f32⟩
  | .hbm, ⟨19, _⟩ => ⟨S128x4x64, .f32⟩
  | .hbm, ⟨20, _⟩ => ⟨S_, .i32⟩
  | .hbm, ⟨21, _⟩ => ⟨S_, .f32⟩
  | .hbm, ⟨22, _⟩ => ⟨S128x4x128, .f32⟩
  | .hbm, ⟨23, _⟩ => ⟨S128x512, .f32⟩
  | .hbm, ⟨24, _⟩ => ⟨S128x4x64, .f32⟩
  | .hbm, ⟨25, _⟩ => ⟨S128x4x64, .f32⟩
  | .hbm, ⟨26, _⟩ => ⟨S128x4x128, .f32⟩
  | .hbm, ⟨27, _⟩ => ⟨S128x512, .f32⟩
  | .hbm, ⟨28, _⟩ => ⟨S256x512, .bf16⟩
  | .hbm, ⟨29, _⟩ => ⟨S128x512, .bf16⟩
  | .hbm, ⟨30, _⟩ => ⟨S128x512, .bf16⟩
  | .hbm, ⟨31, _⟩ => ⟨S32, .i32⟩
  | .hbm, ⟨32, _⟩ => ⟨S32x64, .i32⟩
  | .hbm, ⟨33, _⟩ => ⟨S2048, .i32⟩
  | .hbm, ⟨34, _⟩ => ⟨S2048, .f32⟩
  | .hbm, ⟨35, _⟩ => ⟨S64, .i32⟩
  | .hbm, ⟨36, _⟩ => ⟨S1x64, .i32⟩
  | .hbm, ⟨37, _⟩ => ⟨S32x64, .i32⟩
  | .hbm, ⟨38, _⟩ => ⟨S2048, .i32⟩
  | .hbm, ⟨39, _⟩ => ⟨S2048, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S2048x1, .f32⟩
  | .hbm, ⟨49, _⟩ => ⟨S1x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S2048x1, .f32⟩
  | .hbm, ⟨54, _⟩ => ⟨S1x8, .f32⟩
  | .hbm, ⟨55, _⟩ => ⟨S2048x8, .f32⟩
  | .hbm, ⟨56, _⟩ => ⟨S2048x8, .f32⟩
  | .hbm, ⟨57, _⟩ => ⟨S2048x8, .f32⟩
  | .hbm, ⟨58, _⟩ => ⟨S2048x16, .f32⟩
  | .hbm, ⟨59, _⟩ => ⟨S2048x16, .f32⟩
  | .hbm, ⟨60, _⟩ => ⟨S2048x16, .f32⟩
  | .hbm, ⟨61, _⟩ => ⟨S_, .f32⟩
  | .hbm, ⟨62, _⟩ => ⟨S2048x128, .f32⟩
  | .hbm, ⟨63, _⟩ => ⟨S2048x32, .f32⟩
  | .hbm, ⟨64, _⟩ => ⟨S_, .i32⟩
  | .hbm, ⟨65, _⟩ => ⟨S1, .i32⟩
  | .hbm, ⟨66, _⟩ => ⟨S2048x128, .f32⟩
  | .hbm, ⟨67, _⟩ => ⟨S_, .f32⟩
  | .hbm, ⟨68, _⟩ => ⟨S2048x128, .f32⟩
  | .hbm, ⟨69, _⟩ => ⟨S2048x16, .f32⟩
  | .hbm, ⟨70, _⟩ => ⟨S_, .i32⟩
  | .hbm, ⟨71, _⟩ => ⟨S1, .i32⟩
  | .hbm, ⟨72, _⟩ => ⟨S2048x128, .f32⟩
  | .hbm, ⟨73, _⟩ => ⟨S_, .f32⟩
  | .hbm, ⟨74, _⟩ => ⟨S2048x128, .f32⟩
  | .hbm, ⟨75, _⟩ => ⟨S_, .i32⟩
  | .hbm, ⟨76, _⟩ => ⟨S1, .i32⟩
  | .hbm, ⟨77, _⟩ => ⟨S2048x128, .f32⟩
  | .hbm, ⟨78, _⟩ => ⟨S1x2048x1x128, .f32⟩
  | .hbm, ⟨79, _⟩ => ⟨S1x2048x1x128, .f32⟩
  | .hbm, ⟨80, _⟩ => ⟨S2048x128, .f32⟩
  | .hbm, ⟨81, _⟩ => ⟨S1x2048x1x128, .f32⟩
  | .hbm, ⟨82, _⟩ => ⟨S1x2048x1x128, .f32⟩
  | .hbm, ⟨83, _⟩ => ⟨S2048x128, .f32⟩
  | .hbm, ⟨84, _⟩ => ⟨S1x2048x1x128, .f32⟩
  | .hbm, ⟨85, _⟩ => ⟨S1x2048x1x128, .f32⟩
  | .hbm, ⟨86, _⟩ => ⟨S2048x128, .f32⟩
  | .hbm, ⟨87, _⟩ => ⟨S32x4x2048x128, .bf16⟩
  | .hbm, ⟨88, _⟩ => ⟨S32x4x2048x128, .bf16⟩
  | .hbm, ⟨89, _⟩ => ⟨S32x4x2048x128, .bf16⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x256, .f32⟩
  | .local _ .vmem, ⟨5, _⟩ => ⟨S1x128, .f32⟩
  | .local _ .vmem, ⟨6, _⟩ => ⟨S256x512, .bf16⟩
  | .local _ .vmem, ⟨7, _⟩ => ⟨S128x512, .bf16⟩
  | .local _ .vmem, ⟨8, _⟩ => ⟨S128x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x4x512x128, .bf16⟩
  | .local _ .vmem, ⟨16, _⟩ => ⟨S1x4x512x128, .bf16⟩
  | .local _ .vmem, ⟨17, _⟩ => ⟨S1x4x512x128, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S1x4x512x128, .bf16⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_c_4 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_c_6 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66_0 : Ref sig .tc := ⟨.hbm, 87, rfl⟩
abbrev main_v66_1 : Ref sig .tc := ⟨.hbm, 88, rfl⟩
abbrev main_v66_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference10Ideal.lean ====
abbrev S32x2048x256 : Shape := ⟨3, ![32, 2048, 256]⟩
abbrev S32x2048x128 : Shape := ⟨3, ![32, 2048, 128]⟩
abbrev S32x2048x32 : Shape := ⟨3, ![32, 2048, 32]⟩
abbrev S256 : Shape := ⟨1, ![256]⟩
abbrev S128 : Shape := ⟨1, ![128]⟩
abbrev S256x384 : Shape := ⟨2, ![256, 384]⟩
abbrev S128x512 : Shape := ⟨2, ![128, 512]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x16 : Shape := ⟨2, ![2048, 16]⟩
abbrev S32x2048 : Shape := ⟨2, ![32, 2048]⟩
abbrev S32x2048x1 : Shape := ⟨3, ![32, 2048, 1]⟩
abbrev S1x1x256 : Shape := ⟨3, ![1, 1, 256]⟩
abbrev S32x2048x384 : Shape := ⟨3, ![32, 2048, 384]⟩
abbrev S32x2048x4x96 : Shape := ⟨4, ![32, 2048, 4, 96]⟩
abbrev S1x1x128 : Shape := ⟨3, ![1, 1, 128]⟩
abbrev S32x2048x512 : Shape := ⟨3, ![32, 2048, 512]⟩
abbrev S32x2048x4x128 : Shape := ⟨4, ![32, 2048, 4, 128]⟩
abbrev S32x2048x4x64 : Shape := ⟨4, ![32, 2048, 4, 64]⟩
abbrev S32x2048x4x32 : Shape := ⟨4, ![32, 2048, 4, 32]⟩
abbrev S32x2048x4x16 : Shape := ⟨4, ![32, 2048, 4, 16]⟩
abbrev S1x2048x1x16 : Shape := ⟨4, ![1, 2048, 1, 16]⟩
abbrev S32x2048x1x32 : Shape := ⟨4, ![32, 2048, 1, 32]⟩
abbrev S32x2048x1x16 : Shape := ⟨4, ![32, 2048, 1, 16]⟩
abbrev S32x4x2048x128 : Shape := ⟨4, ![32, 4, 2048, 128]⟩

abbrev nBuf : Space → Nat
  | .hbm => 127
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x128, .f32⟩
  | .hbm, ⟨2, _⟩ => ⟨S32x2048x32, .f32⟩
  | .hbm, ⟨3, _⟩ => ⟨S256, .f32⟩
  | .hbm, ⟨4, _⟩ => ⟨S128, .f32⟩
  | .hbm, ⟨5, _⟩ => ⟨S256x384, .f32⟩
  | .hbm, ⟨6, _⟩ => ⟨S128x512, .f32⟩
  | .hbm, ⟨7, _⟩ => ⟨S32, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S64, .i32⟩
  | .hbm, ⟨12, _⟩ => ⟨S1x64, .i32⟩
  | .hbm, ⟨13, _⟩ => ⟨S32x64, .i32⟩
  | .hbm, ⟨14, _⟩ => ⟨S2048, .i32⟩
  | .hbm, ⟨15, _⟩ => ⟨S2048, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S2048x1, .f32⟩
  | .hbm, ⟨25, _⟩ => ⟨S1x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x1, .f32⟩
  | .hbm, ⟨30, _⟩ => ⟨S1x8, .f32⟩
  | .hbm, ⟨31, _⟩ => ⟨S2048x8, .f32⟩
  | .hbm, ⟨32, _⟩ => ⟨S2048x8, .f32⟩
  | .hbm, ⟨33, _⟩ => ⟨S2048x8, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S32x2048x256, .f32⟩
  | .hbm, ⟨38, _⟩ => ⟨S_, .f32⟩
  | .hbm, ⟨39, _⟩ => ⟨S32x2048, .f32⟩
  | .hbm, ⟨40, _⟩ => ⟨S32x2048x1, .f32⟩
  | .hbm, ⟨41, _⟩ => ⟨S_, .f32⟩
  | .hbm, ⟨42, _⟩ => ⟨S32x2048x1, .f32⟩
  | .hbm, ⟨43, _⟩ => ⟨S32x2048x1, .f32⟩
  | .hbm, ⟨44, _⟩ => ⟨S_, .f32⟩
  | .hbm, ⟨45, _⟩ => ⟨S32x2048x1, .f32⟩
  | .hbm, ⟨46, _⟩ => ⟨S32x2048x1, .f32⟩
  | .hbm, ⟨47, _⟩ => ⟨S32x2048x1, .f32⟩
  | .hbm, ⟨48, _⟩ => ⟨S32x2048x256, .f32⟩
  | .hbm, ⟨49, _⟩ => ⟨S32x2048x256, .f32⟩
  | .hbm, ⟨50, _⟩ => ⟨S1x1x256, .f32⟩
  | .hbm, ⟨51, _⟩ => ⟨S32x2048x256, .f32⟩
  | .hbm, ⟨52, _⟩ => ⟨S32x2048x256, .f32⟩
  | .hbm, ⟨53, _⟩ => ⟨S32x2048x384, .f32⟩
  | .hbm, ⟨54, _⟩ => ⟨S32x2048x4x96, .f32⟩
  | .hbm, ⟨55, _⟩ => ⟨S32x2048x128, .f32⟩
  | .hbm, ⟨56, _⟩ => ⟨S_, .f32⟩
  | .hbm, ⟨57, _⟩ => ⟨S32x2048, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S_, .f32⟩
  | .hbm, ⟨63, _⟩ => ⟨S32x2048x1, .f32⟩
  | .hbm, ⟨64, _⟩ => ⟨S32x2048x1, .f32⟩
  | .hbm, ⟨65, _⟩ => ⟨S32x2048x1, .f32⟩
  | .hbm, ⟨66, _⟩ => ⟨S32x2048x128, .f32⟩
  | .hbm, ⟨67, _⟩ => ⟨S32x2048x128, .f32⟩
  | .hbm, ⟨68, _⟩ => ⟨S1x1x128, .f32⟩
  | .hbm, ⟨69, _⟩ => ⟨S32x2048x128, .f32⟩
  | .hbm, ⟨70, _⟩ => ⟨S32x2048x128, .f32⟩
  | .hbm, ⟨71, _⟩ => ⟨S32x2048x512, .f32⟩
  | .hbm, ⟨72, _⟩ => ⟨S32x2048x4x128, .f32⟩
  | .hbm, ⟨73, _⟩ => ⟨S32x2048x4x64, .f32⟩
  | .hbm, ⟨74, _⟩ => ⟨S32x2048x4x32, .f32⟩
  | .hbm, ⟨75, _⟩ => ⟨S32x2048x4x16, .f32⟩
  | .hbm, ⟨76, _⟩ => ⟨S32x2048x4x16, .f32⟩
  | .hbm, ⟨77, _⟩ => ⟨S1x2048x1x16, .f32⟩
  | .hbm, ⟨78, _⟩ => ⟨S1x2048x1x16, .f32⟩
  | .hbm, ⟨79, _⟩ => ⟨S32x2048x4x16, .f32⟩
  | .hbm, ⟨80, _⟩ => ⟨S32x2048x4x16, .f32⟩
  | .hbm, ⟨81, _⟩ => ⟨S32x2048x4x16, .f32⟩
  | .hbm, ⟨82, _⟩ => ⟨S32x2048x4x16, .f32⟩
  | .hbm, ⟨83, _⟩ => ⟨S32x2048x4x16, .f32⟩
  | .hbm, ⟨84, _⟩ => ⟨S32x2048x4x16, .f32⟩
  | .hbm, ⟨85, _⟩ => ⟨S32x2048x4x16, .f32⟩
  | .hbm, ⟨86, _⟩ => ⟨S32x2048x4x16, .f32⟩
  | .hbm, ⟨87, _⟩ => ⟨S32x2048x4x16, .f32⟩
  | .hbm, ⟨88, _⟩ => ⟨S32x2048x4x16, .f32⟩
  | .hbm, ⟨89, _⟩ => ⟨S32x2048x4x32, .f32⟩
  | .hbm, ⟨90, _⟩ => ⟨S32x2048x4x96, .f32⟩
  | .hbm, ⟨91, _⟩ => ⟨S32x2048x4x64, .f32⟩
  | .hbm, ⟨92, _⟩ => ⟨S32x2048x1x32, .f32⟩
  | .hbm, ⟨93, _⟩ => ⟨S32x2048x1x16, .f32⟩
  | .hbm, ⟨94, _⟩ => ⟨S32x2048x1x16, .f32⟩
  | .hbm, ⟨95, _⟩ => ⟨S1x2048x1x16, .f32⟩
  | .hbm, ⟨96, _⟩ => ⟨S1x2048x1x16, .f32⟩
  | .hbm, ⟨97, _⟩ => ⟨S32x2048x1x16, .f32⟩
  | .hbm, ⟨98, _⟩ => ⟨S32x2048x1x16, .f32⟩
  | .hbm, ⟨99, _⟩ => ⟨S32x2048x1x16, .f32⟩
  | .hbm, ⟨100, _⟩ => ⟨S32x2048x1x16, .f32⟩
  | .hbm, ⟨101, _⟩ => ⟨S32x2048x1x16, .f32⟩
  | .hbm, ⟨102, _⟩ => ⟨S32x2048x1x16, .f32⟩
  | .hbm, ⟨103, _⟩ => ⟨S32x2048x1x16, .f32⟩
  | .hbm, ⟨104, _⟩ => ⟨S32x2048x1x16, .f32⟩
  | .hbm, ⟨105, _⟩ => ⟨S32x2048x1x16, .f32⟩
  | .hbm, ⟨106, _⟩ => ⟨S32x2048x1x16, .f32⟩
  | .hbm, ⟨107, _⟩ => ⟨S32x2048x1x32, .f32⟩
  | .hbm, ⟨108, _⟩ => ⟨S32x2048x4x32, .f32⟩
  | .hbm, ⟨109, _⟩ => ⟨S32x2048x4x96, .f32⟩
  | .hbm, ⟨110, _⟩ => ⟨S32x2048x4x64, .f32⟩
  | .hbm, ⟨111, _⟩ => ⟨S_, .f32⟩
  | .hbm, ⟨112, _⟩ => ⟨S32x2048x4x96, .f32⟩
  | .hbm, ⟨113, _⟩ => ⟨S32x2048x4x96, .f32⟩
  | .hbm, ⟨114, _⟩ => ⟨S_, .i32⟩
  | .hbm, ⟨115, _⟩ => ⟨S_, .f32⟩
  | .hbm, ⟨116, _⟩ => ⟨S32x2048x4x128, .f32⟩
  | .hbm, ⟨117, _⟩ => ⟨S32x4x2048x128, .f32⟩
  | .hbm, ⟨118, _⟩ => ⟨S32x4x2048x128, .bf16⟩
  | .hbm, ⟨119, _⟩ => ⟨S_, .i32⟩
  | .hbm, ⟨120, _⟩ => ⟨S_, .f32⟩
  | .hbm, ⟨121, _⟩ => ⟨S32x2048x4x128, .f32⟩
  | .hbm, ⟨122, _⟩ => ⟨S32x4x2048x128, .f32⟩
  | .hbm, ⟨123, _⟩ => ⟨S32x4x2048x128, .bf16⟩
  | .hbm, ⟨124, _⟩ => ⟨S32x2048x4x128, .f32⟩
  | .hbm, ⟨125, _⟩ => ⟨S32x4x2048x128, .f32⟩
  | .hbm, ⟨126, _⟩ => ⟨S32x4x2048x128, .bf16⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_7 : Ref sig .tc := ⟨.hbm, 111, rfl⟩
abbrev main_v96 : Ref sig .tc := ⟨.hbm, 112, rfl⟩
abbrev main_v97 : Ref sig .tc := ⟨.hbm, 113, rfl⟩
abbrev main_c : Ref sig .tc := ⟨.hbm, 114, rfl⟩
abbrev main_call0_v0 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_c_8 : Ref sig .tc := ⟨.hbm, 119, rfl⟩
abbrev main_call1_v0 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩

abbrev nD : Nat := 1
abbrev τ : Topo := Topo.v7x

variable {F : FTy → Type} [FloatOps F]
-- ==== Kernel11.lean ====
abbrev S32x256x256 : Shape := ⟨3, ![32, 256, 256]⟩
abbrev S32x256x128 : Shape := ⟨3, ![32, 256, 128]⟩
abbrev S32x256x32 : Shape := ⟨3, ![32, 256, 32]⟩
abbrev S256 : Shape := ⟨1, ![256]⟩
abbrev S128 : Shape := ⟨1, ![128]⟩
abbrev S256x384 : Shape := ⟨2, ![256, 384]⟩
abbrev S128x512 : Shape := ⟨2, ![128, 512]⟩
abbrev S32x256x160 : Shape := ⟨3, ![32, 256, 160]⟩
abbrev S_ : Shape := ⟨0, ![]⟩
abbrev S1x256 : Shape := ⟨2, ![1, 256]⟩
abbrev S1x128 : Shape := ⟨2, ![1, 128]⟩
abbrev S256x4x96 : Shape := ⟨3, ![256, 4, 96]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S32x4x256x128 : Shape := ⟨4, ![32, 4, 256, 128]⟩
abbrev S1x256x256 : Shape := ⟨3, ![1, 256, 256]⟩
abbrev S1x4x256x128 : Shape := ⟨4, ![1, 4, 256, 128]⟩
abbrev S256x256 : Shape := ⟨2, ![256, 256]⟩
abbrev S256x1 : Shape := ⟨2, ![256, 1]⟩
abbrev S256x128 : Shape := ⟨2, ![256, 128]⟩
abbrev S1x1x256x128 : Shape := ⟨4, ![1, 1, 256, 128]⟩

abbrev nBuf : Space → Nat
  | .hbm => 34
  | .vmem => 15
  | .smem => 0
  | _ => 0

abbrev bufTy : (tb : Table) → Fin (tcTables nBuf tb) → BufTy
  | .hbm, ⟨0, _⟩ => ⟨S32x256x256, .f32⟩
  | .hbm, ⟨1, _⟩ => ⟨S32x256x128, .f32⟩
  | .hbm, ⟨2, _⟩ => ⟨S32x256x32, .f32⟩
  | .hbm, ⟨3, _⟩ => ⟨S256, .f32⟩
  | .hbm, ⟨4, _⟩ => ⟨S128, .f32⟩
  | .hbm, ⟨5, _⟩ => ⟨S256x384, .f32⟩
  | .hbm, ⟨6, _⟩ => ⟨S128x512, .f32⟩
  | .hbm, ⟨7, _⟩ => ⟨S32x256x160, .f32⟩
  | .hbm, ⟨8, _⟩ => ⟨S_, .i32⟩
  | .hbm, ⟨9, _⟩ => ⟨S_, .f32⟩
  | .hbm, ⟨10, _⟩ => ⟨S32x256x256, .f32⟩
  | .hbm, ⟨11, _⟩ => ⟨S1x256, .f32⟩
  | .hbm, ⟨12, _⟩ => ⟨S1x128, .f32⟩
  | .hbm, ⟨13, _⟩ => ⟨S256x4x96, .f32⟩
  | .hbm, ⟨14, _⟩ => ⟨S_, .i32⟩
  | .hbm, ⟨15, _⟩ => ⟨S_, .f32⟩
  | .hbm, ⟨16, _⟩ => ⟨S256x4x128, .f32⟩
  | .hbm, ⟨17, _⟩ => ⟨S256x512, .f32⟩
  | .hbm, ⟨18, _⟩ => ⟨S128x4x128, .f32⟩
  | .hbm, ⟨19, _⟩ => ⟨S128x4x64, .f32⟩
  | .hbm, ⟨20, _⟩ => ⟨S_, .i32⟩
  | .hbm, ⟨21, _⟩ => ⟨S_, .f32⟩
  | .hbm, ⟨22, _⟩ => ⟨S128x4x128, .f32⟩
  | .hbm, ⟨23, _⟩ => ⟨S128x512, .f32⟩
  | .hbm, ⟨24, _⟩ => ⟨S128x4x64, .f32⟩
  | .hbm, ⟨25, _⟩ => ⟨S128x4x64, .f32⟩
  | .hbm, ⟨26, _⟩ => ⟨S128x4x128, .f32⟩
  | .hbm, ⟨27, _⟩ => ⟨S128x512, .f32⟩
  | .hbm, ⟨28, _⟩ => ⟨S256x512, .bf16⟩
  | .hbm, ⟨29, _⟩ => ⟨S128x512, .bf16⟩
  | .hbm, ⟨30, _⟩ => ⟨S128x512, .bf16⟩
  | .hbm, ⟨31, _⟩ => ⟨S32x4x256x128, .bf16⟩
  | .hbm, ⟨32, _⟩ => ⟨S32x4x256x128, .bf16⟩
  | .hbm, ⟨33, _⟩ => ⟨S32x4x256x128, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256, .f32⟩
  | .local _ .vmem, ⟨5, _⟩ => ⟨S1x128, .f32⟩
  | .local _ .vmem, ⟨6, _⟩ => ⟨S256x512, .bf16⟩
  | .local _ .vmem, ⟨7, _⟩ => ⟨S128x512, .bf16⟩
  | .local _ .vmem, ⟨8, _⟩ => ⟨S128x512, .bf16⟩
  | .local _ .vmem, ⟨9, _⟩ => ⟨S1x4x256x128, .bf16⟩
  | .local _ .vmem, ⟨10, _⟩ => ⟨S1x4x256x128, .bf16⟩
  | .local _ .vmem, ⟨11, _⟩ => ⟨S1x4x256x128, .bf16⟩
  | .local _ .vmem, ⟨12, _⟩ => ⟨S1x4x256x128, .bf16⟩
  | .local _ .vmem, ⟨13, _⟩ => ⟨S1x4x256x128, .bf16⟩
  | .local _ .vmem, ⟨14, _⟩ => ⟨S1x4x256x128, .bf16⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference11Ideal.lean ====
abbrev S32x256x256 : Shape := ⟨3, ![32, 256, 256]⟩
abbrev S32x256x128 : Shape := ⟨3, ![32, 256, 128]⟩
abbrev S32x256x32 : Shape := ⟨3, ![32, 256, 32]⟩
abbrev S256 : Shape := ⟨1, ![256]⟩
abbrev S128 : Shape := ⟨1, ![128]⟩
abbrev S256x384 : Shape := ⟨2, ![256, 384]⟩
abbrev S128x512 : Shape := ⟨2, ![128, 512]⟩
abbrev S_ : Shape := ⟨0, ![]⟩
abbrev S32x256 : Shape := ⟨2, ![32, 256]⟩
abbrev S32x256x1 : Shape := ⟨3, ![32, 256, 1]⟩
abbrev S1x1x256 : Shape := ⟨3, ![1, 1, 256]⟩
abbrev S32x256x384 : Shape := ⟨3, ![32, 256, 384]⟩
abbrev S32x256x4x96 : Shape := ⟨4, ![32, 256, 4, 96]⟩
abbrev S1x1x128 : Shape := ⟨3, ![1, 1, 128]⟩
abbrev S32x256x512 : Shape := ⟨3, ![32, 256, 512]⟩
abbrev S32x256x4x128 : Shape := ⟨4, ![32, 256, 4, 128]⟩
abbrev S32x256x4x64 : Shape := ⟨4, ![32, 256, 4, 64]⟩
abbrev S32x256x1x32 : Shape := ⟨4, ![32, 256, 1, 32]⟩
abbrev S32x256x4x32 : Shape := ⟨4, ![32, 256, 4, 32]⟩
abbrev S32x4x256x128 : Shape := ⟨4, ![32, 4, 256, 128]⟩

abbrev nBuf : Space → Nat
  | .hbm => 64
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S32x256x128, .f32⟩
  | .hbm, ⟨2, _⟩ => ⟨S32x256x32, .f32⟩
  | .hbm, ⟨3, _⟩ => ⟨S256, .f32⟩
  | .hbm, ⟨4, _⟩ => ⟨S128, .f32⟩
  | .hbm, ⟨5, _⟩ => ⟨S256x384, .f32⟩
  | .hbm, ⟨6, _⟩ => ⟨S128x512, .f32⟩
  | .hbm, ⟨7, _⟩ => ⟨S32x256x256, .f32⟩
  | .hbm, ⟨8, _⟩ => ⟨S_, .f32⟩
  | .hbm, ⟨9, _⟩ => ⟨S32x256, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S32x256x1, .f32⟩
  | .hbm, ⟨18, _⟩ => ⟨S32x256x256, .f32⟩
  | .hbm, ⟨19, _⟩ => ⟨S32x256x256, .f32⟩
  | .hbm, ⟨20, _⟩ => ⟨S1x1x256, .f32⟩
  | .hbm, ⟨21, _⟩ => ⟨S32x256x256, .f32⟩
  | .hbm, ⟨22, _⟩ => ⟨S32x256x256, .f32⟩
  | .hbm, ⟨23, _⟩ => ⟨S32x256x384, .f32⟩
  | .hbm, ⟨24, _⟩ => ⟨S32x256x4x96, .f32⟩
  | .hbm, ⟨25, _⟩ => ⟨S32x256x128, .f32⟩
  | .hbm, ⟨26, _⟩ => ⟨S_, .f32⟩
  | .hbm, ⟨27, _⟩ => ⟨S32x256, .f32⟩
  | .hbm, ⟨28, _⟩ => ⟨S32x256x1, .f32⟩
  | .hbm, ⟨29, _⟩ => ⟨S_, .f32⟩
  | .hbm, ⟨30, _⟩ => ⟨S32x256x1, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S32x256x1, .f32⟩
  | .hbm, ⟨36, _⟩ => ⟨S32x256x128, .f32⟩
  | .hbm, ⟨37, _⟩ => ⟨S32x256x128, .f32⟩
  | .hbm, ⟨38, _⟩ => ⟨S1x1x128, .f32⟩
  | .hbm, ⟨39, _⟩ => ⟨S32x256x128, .f32⟩
  | .hbm, ⟨40, _⟩ => ⟨S32x256x128, .f32⟩
  | .hbm, ⟨41, _⟩ => ⟨S32x256x512, .f32⟩
  | .hbm, ⟨42, _⟩ => ⟨S32x256x4x128, .f32⟩
  | .hbm, ⟨43, _⟩ => ⟨S32x256x4x64, .f32⟩
  | .hbm, ⟨44, _⟩ => ⟨S32x256x1x32, .f32⟩
  | .hbm, ⟨45, _⟩ => ⟨S32x256x4x32, .f32⟩
  | .hbm, ⟨46, _⟩ => ⟨S32x256x4x96, .f32⟩
  | .hbm, ⟨47, _⟩ => ⟨S32x256x4x64, .f32⟩
  | .hbm, ⟨48, _⟩ => ⟨S_, .f32⟩
  | .hbm, ⟨49, _⟩ => ⟨S32x256x4x96, .f32⟩
  | .hbm, ⟨50, _⟩ => ⟨S32x256x4x96, .f32⟩
  | .hbm, ⟨51, _⟩ => ⟨S_, .i32⟩
  | .hbm, ⟨52, _⟩ => ⟨S_, .f32⟩
  | .hbm, ⟨53, _⟩ => ⟨S32x256x4x128, .f32⟩
  | .hbm, ⟨54, _⟩ => ⟨S32x4x256x128, .f32⟩
  | .hbm, ⟨55, _⟩ => ⟨S32x4x256x128, .bf16⟩
  | .hbm, ⟨56, _⟩ => ⟨S_, .i32⟩
  | .hbm, ⟨57, _⟩ => ⟨S_, .f32⟩
  | .hbm, ⟨58, _⟩ => ⟨S32x256x4x128, .f32⟩
  | .hbm, ⟨59, _⟩ => ⟨S32x4x256x128, .f32⟩
  | .hbm, ⟨60, _⟩ => ⟨S32x4x256x128, .bf16⟩
  | .hbm, ⟨61, _⟩ => ⟨S32x256x4x128, .f32⟩
  | .hbm, ⟨62, _⟩ => ⟨S32x4x256x128, .f32⟩
  | .hbm, ⟨63, _⟩ => ⟨S32x4x256x128, .bf16⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_c : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_call1_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel12.lean ====
abbrev S32x4x256x128 : Shape := ⟨4, ![32, 4, 256, 128]⟩
abbrev S32x256x256 : Shape := ⟨3, ![32, 256, 256]⟩
abbrev S1x4x256x128 : Shape := ⟨4, ![1, 4, 256, 128]⟩
abbrev S1x256x256 : Shape := ⟨3, ![1, 256, 256]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 4
  | .vmem => 8
  | .smem => 0
  | _ => 0

abbrev bufTy : (tb : Table) → Fin (tcTables nBuf tb) → BufTy
  | .hbm, ⟨0, _⟩ => ⟨S32x4x256x128, .bf16⟩
  | .hbm, ⟨1, _⟩ => ⟨S32x4x256x128, .bf16⟩
  | .hbm, ⟨2, _⟩ => ⟨S32x4x256x128, .bf16⟩
  | .hbm, ⟨3, _⟩ => ⟨S32x256x256, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x4x256x128, .bf16⟩
  | .local _ .vmem, ⟨3, _⟩ => ⟨S1x4x256x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x256x256, .f32⟩
  | .local _ .vmem, ⟨7, _⟩ => ⟨S1x256x256, .f32⟩
  | _, _ => ⟨S32x4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S32x4x256x128 : Shape := ⟨4, ![32, 4, 256, 128]⟩
abbrev S32x1x256x64 : Shape := ⟨4, ![32, 1, 256, 64]⟩
abbrev S32x256x64 : Shape := ⟨3, ![32, 256, 64]⟩
abbrev S32x4x256x64 : Shape := ⟨4, ![32, 4, 256, 64]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S32x4x64x256 : Shape := ⟨4, ![32, 4, 64, 256]⟩
abbrev S32x256x4x64 : Shape := ⟨4, ![32, 256, 4, 64]⟩
abbrev S32x256x256 : Shape := ⟨3, ![32, 256, 256]⟩

abbrev nBuf : Space → Nat
  | .hbm => 37
  | .vmem => 0
  | .smem => 0
  | _ => 0

abbrev bufTy : (tb : Table) → Fin (tcTables nBuf tb) → BufTy
  | .hbm, ⟨0, _⟩ => ⟨S32x4x256x128, .bf16⟩
  | .hbm, ⟨1, _⟩ => ⟨S32x4x256x128, .bf16⟩
  | .hbm, ⟨2, _⟩ => ⟨S32x4x256x128, .bf16⟩
  | .hbm, ⟨3, _⟩ => ⟨S32x4x256x128, .f32⟩
  | .hbm, ⟨4, _⟩ => ⟨S32x4x256x128, .f32⟩
  | .hbm, ⟨5, _⟩ => ⟨S32x4x256x128, .f32⟩
  | .hbm, ⟨6, _⟩ => ⟨S32x1x256x64, .f32⟩
  | .hbm, ⟨7, _⟩ => ⟨S32x256x64, .f32⟩
  | .hbm, ⟨8, _⟩ => ⟨S32x1x256x64, .f32⟩
  | .hbm, ⟨9, _⟩ => ⟨S32x256x64, .f32⟩
  | .hbm, ⟨10, _⟩ => ⟨S32x1x256x64, .f32⟩
  | .hbm, ⟨11, _⟩ => ⟨S32x256x64, .f32⟩
  | .hbm, ⟨12, _⟩ => ⟨S32x1x256x64, .f32⟩
  | .hbm, ⟨13, _⟩ => ⟨S32x256x64, .f32⟩
  | .hbm, ⟨14, _⟩ => ⟨S32x1x256x64, .f32⟩
  | .hbm, ⟨15, _⟩ => ⟨S32x1x256x64, .f32⟩
  | .hbm, ⟨16, _⟩ => ⟨S32x1x256x64, .f32⟩
  | .hbm, ⟨17, _⟩ => ⟨S32x1x256x64, .f32⟩
  | .hbm, ⟨18, _⟩ => ⟨S32x4x256x64, .f32⟩
  | .hbm, ⟨19, _⟩ => ⟨S32x4x256x256, .f32⟩
  | .hbm, ⟨20, _⟩ => ⟨S_, .f32⟩
  | .hbm, ⟨21, _⟩ => ⟨S32x4x256, .f32⟩
  | .hbm, ⟨22, _⟩ => ⟨S_, .f32⟩
  | .hbm, ⟨23, _⟩ => ⟨S32x4x256, .f32⟩
  | .hbm, ⟨24, _⟩ => ⟨S32x4x256, .f32⟩
  | .hbm, ⟨25, _⟩ => ⟨S32x4x256x1, .f32⟩
  | .hbm, ⟨26, _⟩ => ⟨S32x4x256x256, .f32⟩
  | .hbm, ⟨27, _⟩ => ⟨S32x4x256x256, .f32⟩
  | .hbm, ⟨28, _⟩ => ⟨S32x4x256x256, .f32⟩
  | .hbm, ⟨29, _⟩ => ⟨S_, .f32⟩
  | .hbm, ⟨30, _⟩ => ⟨S32x4x256, .f32⟩
  | .hbm, ⟨31, _⟩ => ⟨S32x4x256x1, .f32⟩
  | .hbm, ⟨32, _⟩ => ⟨S32x4x256x256, .f32⟩
  | .hbm, ⟨33, _⟩ => ⟨S32x4x256x256, .f32⟩
  | .hbm, ⟨34, _⟩ => ⟨S32x4x64x256, .f32⟩
  | .hbm, ⟨35, _⟩ => ⟨S32x256x4x64, .f32⟩
  | .hbm, ⟨36, _⟩ => ⟨S32x256x256, .f32⟩
  | _, _ => ⟨S32x4x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Kernel13.lean ====
abbrev S32x4x256x128 : Shape := ⟨4, ![32, 4, 256, 128]⟩
abbrev S32x2x256x128 : Shape := ⟨4, ![32, 2, 256, 128]⟩
abbrev S32x256x256 : Shape := ⟨3, ![32, 256, 256]⟩
abbrev S1x4x256x128 : Shape := ⟨4, ![1, 4, 256, 128]⟩
abbrev S1x2x256x128 : Shape := ⟨4, ![1, 2, 256, 128]⟩
abbrev S1x256x256 : Shape := ⟨3, ![1, 256, 256]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩

abbrev nBuf : Space → Nat
  | .hbm => 4
  | .vmem => 8
  | .smem => 0
  | _ => 0

abbrev bufTy : (tb : Table) → Fin (tcTables nBuf tb) → BufTy
  | .hbm, ⟨0, _⟩ => ⟨S32x4x256x128, .bf16⟩
  | .hbm, ⟨1, _⟩ => ⟨S32x2x256x128, .bf16⟩
  | .hbm, ⟨2, _⟩ => ⟨S32x2x256x128, .bf16⟩
  | .hbm, ⟨3, _⟩ => ⟨S32x256x256, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x256x256, .f32⟩
  | .local _ .vmem, ⟨7, _⟩ => ⟨S1x256x256, .f32⟩
  | _, _ => ⟨S32x4x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S32x4x256x128 : Shape := ⟨4, ![32, 4, 256, 128]⟩
abbrev S32x2x256x128 : Shape := ⟨4, ![32, 2, 256, 128]⟩
abbrev S32x2x2x256x128 : Shape := ⟨5, ![32, 2, 2, 256, 128]⟩
abbrev S32x1x256x64 : Shape := ⟨4, ![32, 1, 256, 64]⟩
abbrev S32x256x64 : Shape := ⟨3, ![32, 256, 64]⟩
abbrev S32x4x256x64 : Shape := ⟨4, ![32, 4, 256, 64]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S32x4x64x256 : Shape := ⟨4, ![32, 4, 64, 256]⟩
abbrev S32x256x4x64 : Shape := ⟨4, ![32, 256, 4, 64]⟩
abbrev S32x256x256 : Shape := ⟨3, ![32, 256, 256]⟩

abbrev nBuf : Space → Nat
  | .hbm => 39
  | .vmem => 0
  | .smem => 0
  | _ => 0

abbrev bufTy : (tb : Table) → Fin (tcTables nBuf tb) → BufTy
  | .hbm, ⟨0, _⟩ => ⟨S32x4x256x128, .bf16⟩
  | .hbm, ⟨1, _⟩ => ⟨S32x2x256x128, .bf16⟩
  | .hbm, ⟨2, _⟩ => ⟨S32x2x256x128, .bf16⟩
  | .hbm, ⟨3, _⟩ => ⟨S32x4x256x128, .f32⟩
  | .hbm, ⟨4, _⟩ => ⟨S32x2x256x128, .f32⟩
  | .hbm, ⟨5, _⟩ => ⟨S32x2x256x128, .f32⟩
  | .hbm, ⟨6, _⟩ => ⟨S32x2x2x256x128, .f32⟩
  | .hbm, ⟨7, _⟩ => ⟨S32x4x256x128, .f32⟩
  | .hbm, ⟨8, _⟩ => ⟨S32x1x256x64, .f32⟩
  | .hbm, ⟨9, _⟩ => ⟨S32x256x64, .f32⟩
  | .hbm, ⟨10, _⟩ => ⟨S32x1x256x64, .f32⟩
  | .hbm, ⟨11, _⟩ => ⟨S32x256x64, .f32⟩
  | .hbm, ⟨12, _⟩ => ⟨S32x1x256x64, .f32⟩
  | .hbm, ⟨13, _⟩ => ⟨S32x256x64, .f32⟩
  | .hbm, ⟨14, _⟩ => ⟨S32x1x256x64, .f32⟩
  | .hbm, ⟨15, _⟩ => ⟨S32x256x64, .f32⟩
  | .hbm, ⟨16, _⟩ => ⟨S32x1x256x64, .f32⟩
  | .hbm, ⟨17, _⟩ => ⟨S32x1x256x64, .f32⟩
  | .hbm, ⟨18, _⟩ => ⟨S32x1x256x64, .f32⟩
  | .hbm, ⟨19, _⟩ => ⟨S32x1x256x64, .f32⟩
  | .hbm, ⟨20, _⟩ => ⟨S32x4x256x64, .f32⟩
  | .hbm, ⟨21, _⟩ => ⟨S32x4x256x256, .f32⟩
  | .hbm, ⟨22, _⟩ => ⟨S_, .f32⟩
  | .hbm, ⟨23, _⟩ => ⟨S32x4x256, .f32⟩
  | .hbm, ⟨24, _⟩ => ⟨S_, .f32⟩
  | .hbm, ⟨25, _⟩ => ⟨S32x4x256, .f32⟩
  | .hbm, ⟨26, _⟩ => ⟨S32x4x256, .f32⟩
  | .hbm, ⟨27, _⟩ => ⟨S32x4x256x1, .f32⟩
  | .hbm, ⟨28, _⟩ => ⟨S32x4x256x256, .f32⟩
  | .hbm, ⟨29, _⟩ => ⟨S32x4x256x256, .f32⟩
  | .hbm, ⟨30, _⟩ => ⟨S32x4x256x256, .f32⟩
  | .hbm, ⟨31, _⟩ => ⟨S_, .f32⟩
  | .hbm, ⟨32, _⟩ => ⟨S32x4x256, .f32⟩
  | .hbm, ⟨33, _⟩ => ⟨S32x4x256x1, .f32⟩
  | .hbm, ⟨34, _⟩ => ⟨S32x4x256x256, .f32⟩
  | .hbm, ⟨35, _⟩ => ⟨S32x4x256x256, .f32⟩
  | .hbm, ⟨36, _⟩ => ⟨S32x4x64x256, .f32⟩
  | .hbm, ⟨37, _⟩ => ⟨S32x256x4x64, .f32⟩
  | .hbm, ⟨38, _⟩ => ⟨S32x256x256, .f32⟩
  | _, _ => ⟨S32x4x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel14.lean ====
abbrev S40x1024 : Shape := ⟨2, ![40, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x40x6144 : Shape := ⟨3, ![2, 40, 6144]⟩
abbrev S1x1024x1024 : Shape := ⟨3, ![1, 1024, 1024]⟩
abbrev S1x1x1024 : Shape := ⟨3, ![1, 1, 1024]⟩
abbrev S1x40x1024 : Shape := ⟨3, ![1, 40, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x40x6144, .f32⟩
  | .local _ .vmem, ⟨0, _⟩ => ⟨S40x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S40x1024 : Shape := ⟨2, ![40, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S40x6144 : Shape := ⟨2, ![40, 6144]⟩
abbrev S1x6144 : Shape := ⟨2, ![1, 6144]⟩
abbrev S6144 : Shape := ⟨1, ![6144]⟩
abbrev S1x40x6144 : Shape := ⟨3, ![1, 40, 6144]⟩
abbrev S2x40x6144 : Shape := ⟨3, ![2, 40, 6144]⟩

abbrev nBuf : Space → Nat
  | .hbm => 31
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S2x1024x6144, .f32⟩
  | .hbm, ⟨2, _⟩ => ⟨S2x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S1x1024x6144, .f32⟩
  | .hbm, ⟨13, _⟩ => ⟨S1024x6144, .f32⟩
  | .hbm, ⟨14, _⟩ => ⟨S40x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S40x6144, .f32⟩
  | .hbm, ⟨19, _⟩ => ⟨S40x6144, .f32⟩
  | .hbm, ⟨20, _⟩ => ⟨S1x1024x6144, .f32⟩
  | .hbm, ⟨21, _⟩ => ⟨S1024x6144, .f32⟩
  | .hbm, ⟨22, _⟩ => ⟨S40x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S40x6144, .f32⟩
  | .hbm, ⟨27, _⟩ => ⟨S40x6144, .f32⟩
  | .hbm, ⟨28, _⟩ => ⟨S1x40x6144, .f32⟩
  | .hbm, ⟨29, _⟩ => ⟨S1x40x6144, .f32⟩
  | .hbm, ⟨30, _⟩ => ⟨S2x40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel15.lean ====
abbrev S2048x33 : Shape := ⟨2, ![2048, 33]⟩
abbrev S2048x1 : Shape := ⟨2, ![2048, 1]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1x1024 : Shape := ⟨2, ![1, 1024]⟩
abbrev S_ : Shape := ⟨0, ![]⟩
abbrev S2048x64 : Shape := ⟨2, ![2048, 64]⟩
abbrev S1x64 : Shape := ⟨2, ![1, 64]⟩
abbrev S2048x1024 : Shape := ⟨2, ![2048, 1024]⟩
abbrev S64x512 : Shape := ⟨2, ![64, 512]⟩
abbrev S1x512 : Shape := ⟨2, ![1, 512]⟩
abbrev S2048x512 : Shape := ⟨2, ![2048, 512]⟩
abbrev S2048x256 : Shape := ⟨2, ![2048, 256]⟩
abbrev S256 : Shape := ⟨1, ![256]⟩
abbrev S1x256 : Shape := ⟨2, ![1, 256]⟩

abbrev nBuf : Space → Nat
  | .hbm => 22
  | .vmem => 15
  | .smem => 0
  | _ => 0

abbrev bufTy : (tb : Table) → Fin (tcTables nBuf tb) → BufTy
  | .hbm, ⟨0, _⟩ => ⟨S2048x33, .f32⟩
  | .hbm, ⟨1, _⟩ => ⟨S2048x1, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x1024, .f32⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S2048x64, .f32⟩
  | .hbm, ⟨14, _⟩ => ⟨S_, .i32⟩
  | .hbm, ⟨15, _⟩ => ⟨S_, .f32⟩
  | .hbm, ⟨16, _⟩ => ⟨S64x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S2048x1024, .f32⟩
  | .local _ .vmem, ⟨0, _⟩ => ⟨S2048x64, .f32⟩
  | .local _ .vmem, ⟨1, _⟩ => ⟨S2048x1, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S64x512, .f32⟩
  | .local _ .vmem, ⟨10, _⟩ => ⟨S64x512, .f32⟩
  | .local _ .vmem, ⟨11, _⟩ => ⟨S1x512, .f32⟩
  | .local _ .vmem, ⟨12, _⟩ => ⟨S1x512, .f32⟩
  | .local _ .vmem, ⟨13, _⟩ => ⟨S2048x512, .f32⟩
  | .local _ .vmem, ⟨14, _⟩ => ⟨S2048x512, .f32⟩
  | _, _ => ⟨S2048x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference15Ideal.lean ====
abbrev S2048x33 : Shape := ⟨2, ![2048, 33]⟩
abbrev S2048x1 : Shape := ⟨2, ![2048, 1]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1x1024 : Shape := ⟨2, ![1, 1024]⟩
abbrev S2048x64 : Shape := ⟨2, ![2048, 64]⟩
abbrev S1x64 : Shape := ⟨2, ![1, 64]⟩
abbrev S2048x1024 : Shape := ⟨2, ![2048, 1024]⟩
abbrev S_ : Shape := ⟨0, ![]⟩
abbrev S2048x2x2x256 : Shape := ⟨4, ![2048, 2, 2, 256]⟩
abbrev S2048x2x1x256 : Shape := ⟨4, ![2048, 2, 1, 256]⟩
abbrev S2048x2x256 : Shape := ⟨3, ![2048, 2, 256]⟩
abbrev S1x2x256 : Shape := ⟨3, ![1, 2, 256]⟩
abbrev S2047x2x1x256 : Shape := ⟨4, ![2047, 2, 1, 256]⟩
abbrev S2047x2x256 : Shape := ⟨3, ![2047, 2, 256]⟩
abbrev S2x256 : Shape := ⟨2, ![2, 256]⟩

abbrev nBuf : Space → Nat
  | .hbm => 70
  | .vmem => 0
  | .smem => 0
  | _ => 0

abbrev bufTy : (tb : Table) → Fin (tcTables nBuf tb) → BufTy
  | .hbm, ⟨0, _⟩ => ⟨S2048x33, .f32⟩
  | .hbm, ⟨1, _⟩ => ⟨S2048x1, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x1024, .f32⟩
  | .hbm, ⟨10, _⟩ => ⟨S1x1024, .f32⟩
  | .hbm, ⟨11, _⟩ => ⟨S2048x64, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S1x64, .f32⟩
  | .hbm, ⟨21, _⟩ => ⟨S2048x64, .f32⟩
  | .hbm, ⟨22, _⟩ => ⟨S2048x64, .f32⟩
  | .hbm, ⟨23, _⟩ => ⟨S1x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x64, .f32⟩
  | .hbm, ⟨28, _⟩ => ⟨S1x64, .f32⟩
  | .hbm, ⟨29, _⟩ => ⟨S2048x64, .f32⟩
  | .hbm, ⟨30, _⟩ => ⟨S2048x64, .f32⟩
  | .hbm, ⟨31, _⟩ => ⟨S1x64, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S2048x1024, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x2x2x256, .f32⟩
  | .hbm, ⟨46, _⟩ => ⟨S2048x2x1x256, .f32⟩
  | .hbm, ⟨47, _⟩ => ⟨S2048x2x256, .f32⟩
  | .hbm, ⟨48, _⟩ => ⟨S_, .f32⟩
  | .hbm, ⟨49, _⟩ => ⟨S1x2x256, .f32⟩
  | .hbm, ⟨50, _⟩ => ⟨S2047x2x1x256, .f32⟩
  | .hbm, ⟨51, _⟩ => ⟨S2047x2x256, .f32⟩
  | .hbm, ⟨52, _⟩ => ⟨S2048x2x256, .f32⟩
  | .hbm, ⟨53, _⟩ => ⟨S2048x2x256, .f32⟩
  | .hbm, ⟨54, _⟩ => ⟨S_, .f32⟩
  | .hbm, ⟨55, _⟩ => ⟨S2x256, .f32⟩
  | .hbm, ⟨56, _⟩ => ⟨S1x2x256, .f32⟩
  | .hbm, ⟨57, _⟩ => ⟨S2048x2x256, .f32⟩
  | .hbm, ⟨58, _⟩ => ⟨S_, .f32⟩
  | .hbm, ⟨59, _⟩ => ⟨S2x256, .f32⟩
  | .hbm, ⟨60, _⟩ => ⟨S1x2x256, .f32⟩
  | .hbm, ⟨61, _⟩ => ⟨S1x2x256, .f32⟩
  | .hbm, ⟨62, _⟩ => ⟨S2048x2x256, .f32⟩
  | .hbm, ⟨63, _⟩ => ⟨S2048x2x256, .f32⟩
  | .hbm, ⟨64, _⟩ => ⟨S2048x2x256, .f32⟩
  | .hbm, ⟨65, _⟩ => ⟨S2048x2x256, .f32⟩
  | .hbm, ⟨66, _⟩ => ⟨S2048x2x1x256, .f32⟩
  | .hbm, ⟨67, _⟩ => ⟨S2048x2x1x256, .f32⟩
  | .hbm, ⟨68, _⟩ => ⟨S2048x2x2x256, .f32⟩
  | .hbm, ⟨69, _⟩ => ⟨S2048x1024, .f32⟩
  | _, _ => ⟨S2048x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_1 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel16.lean ====
abbrev S256x33 : Shape := ⟨2, ![256, 33]⟩
abbrev S256x1 : Shape := ⟨2, ![256, 1]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1x1024 : Shape := ⟨2, ![1, 1024]⟩
abbrev S_ : Shape := ⟨0, ![]⟩
abbrev S256x64 : Shape := ⟨2, ![256, 64]⟩
abbrev S1x64 : Shape := ⟨2, ![1, 64]⟩
abbrev S256x1024 : Shape := ⟨2, ![256, 1024]⟩
abbrev S64x512 : Shape := ⟨2, ![64, 512]⟩
abbrev S1x512 : Shape := ⟨2, ![1, 512]⟩
abbrev S256x512 : Shape := ⟨2, ![256, 512]⟩
abbrev S256x256 : Shape := ⟨2, ![256, 256]⟩
abbrev S256 : Shape := ⟨1, ![256]⟩
abbrev S1x256 : Shape := ⟨2, ![1, 256]⟩

abbrev nBuf : Space → Nat
  | .hbm => 22
  | .vmem => 15
  | .smem => 0
  | _ => 0

abbrev bufTy : (tb : Table) → Fin (tcTables nBuf tb) → BufTy
  | .hbm, ⟨0, _⟩ => ⟨S256x33, .f32⟩
  | .hbm, ⟨1, _⟩ => ⟨S256x1, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x1024, .f32⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S256x64, .f32⟩
  | .hbm, ⟨14, _⟩ => ⟨S_, .i32⟩
  | .hbm, ⟨15, _⟩ => ⟨S_, .f32⟩
  | .hbm, ⟨16, _⟩ => ⟨S64x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S256x1024, .f32⟩
  | .local _ .vmem, ⟨0, _⟩ => ⟨S256x64, .f32⟩
  | .local _ .vmem, ⟨1, _⟩ => ⟨S256x1, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S64x512, .f32⟩
  | .local _ .vmem, ⟨10, _⟩ => ⟨S64x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | _, _ => ⟨S256x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference16Ideal.lean ====
abbrev S256x33 : Shape := ⟨2, ![256, 33]⟩
abbrev S256x1 : Shape := ⟨2, ![256, 1]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1x1024 : Shape := ⟨2, ![1, 1024]⟩
abbrev S256x64 : Shape := ⟨2, ![256, 64]⟩
abbrev S1x64 : Shape := ⟨2, ![1, 64]⟩
abbrev S256x1024 : Shape := ⟨2, ![256, 1024]⟩
abbrev S_ : Shape := ⟨0, ![]⟩
abbrev S256x2x2x256 : Shape := ⟨4, ![256, 2, 2, 256]⟩
abbrev S256x2x1x256 : Shape := ⟨4, ![256, 2, 1, 256]⟩
abbrev S256x2x256 : Shape := ⟨3, ![256, 2, 256]⟩
abbrev S1x2x256 : Shape := ⟨3, ![1, 2, 256]⟩
abbrev S255x2x1x256 : Shape := ⟨4, ![255, 2, 1, 256]⟩
abbrev S255x2x256 : Shape := ⟨3, ![255, 2, 256]⟩
abbrev S2x256 : Shape := ⟨2, ![2, 256]⟩

abbrev nBuf : Space → Nat
  | .hbm => 70
  | .vmem => 0
  | .smem => 0
  | _ => 0

abbrev bufTy : (tb : Table) → Fin (tcTables nBuf tb) → BufTy
  | .hbm, ⟨0, _⟩ => ⟨S256x33, .f32⟩
  | .hbm, ⟨1, _⟩ => ⟨S256x1, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x1024, .f32⟩
  | .hbm, ⟨10, _⟩ => ⟨S1x1024, .f32⟩
  | .hbm, ⟨11, _⟩ => ⟨S256x64, .f32⟩
  | .hbm, ⟨12, _⟩ => ⟨S1x64, .f32⟩
  | .hbm, ⟨13, _⟩ => ⟨S256x64, .f32⟩
  | .hbm, ⟨14, _⟩ => ⟨S256x64, .f32⟩
  | .hbm, ⟨15, _⟩ => ⟨S1x64, .f32⟩
  | .hbm, ⟨16, _⟩ => ⟨S256x64, .f32⟩
  | .hbm, ⟨17, _⟩ => ⟨S256x64, .f32⟩
  | .hbm, ⟨18, _⟩ => ⟨S256x64, .f32⟩
  | .hbm, ⟨19, _⟩ => ⟨S256x64, .f32⟩
  | .hbm, ⟨20, _⟩ => ⟨S1x64, .f32⟩
  | .hbm, ⟨21, _⟩ => ⟨S256x64, .f32⟩
  | .hbm, ⟨22, _⟩ => ⟨S256x64, .f32⟩
  | .hbm, ⟨23, _⟩ => ⟨S1x64, .f32⟩
  | .hbm, ⟨24, _⟩ => ⟨S256x64, .f32⟩
  | .hbm, ⟨25, _⟩ => ⟨S256x64, .f32⟩
  | .hbm, ⟨26, _⟩ => ⟨S256x64, .f32⟩
  | .hbm, ⟨27, _⟩ => ⟨S256x64, .f32⟩
  | .hbm, ⟨28, _⟩ => ⟨S1x64, .f32⟩
  | .hbm, ⟨29, _⟩ => ⟨S256x64, .f32⟩
  | .hbm, ⟨30, _⟩ => ⟨S256x64, .f32⟩
  | .hbm, ⟨31, _⟩ => ⟨S1x64, .f32⟩
  | .hbm, ⟨32, _⟩ => ⟨S256x64, .f32⟩
  | .hbm, ⟨33, _⟩ => ⟨S256x64, .f32⟩
  | .hbm, ⟨34, _⟩ => ⟨S256x64, .f32⟩
  | .hbm, ⟨35, _⟩ => ⟨S256x1024, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x2x2x256, .f32⟩
  | .hbm, ⟨46, _⟩ => ⟨S256x2x1x256, .f32⟩
  | .hbm, ⟨47, _⟩ => ⟨S256x2x256, .f32⟩
  | .hbm, ⟨48, _⟩ => ⟨S_, .f32⟩
  | .hbm, ⟨49, _⟩ => ⟨S1x2x256, .f32⟩
  | .hbm, ⟨50, _⟩ => ⟨S255x2x1x256, .f32⟩
  | .hbm, ⟨51, _⟩ => ⟨S255x2x256, .f32⟩
  | .hbm, ⟨52, _⟩ => ⟨S256x2x256, .f32⟩
  | .hbm, ⟨53, _⟩ => ⟨S256x2x256, .f32⟩
  | .hbm, ⟨54, _⟩ => ⟨S_, .f32⟩
  | .hbm, ⟨55, _⟩ => ⟨S2x256, .f32⟩
  | .hbm, ⟨56, _⟩ => ⟨S1x2x256, .f32⟩
  | .hbm, ⟨57, _⟩ => ⟨S256x2x256, .f32⟩
  | .hbm, ⟨58, _⟩ => ⟨S_, .f32⟩
  | .hbm, ⟨59, _⟩ => ⟨S2x256, .f32⟩
  | .hbm, ⟨60, _⟩ => ⟨S1x2x256, .f32⟩
  | .hbm, ⟨61, _⟩ => ⟨S1x2x256, .f32⟩
  | .hbm, ⟨62, _⟩ => ⟨S256x2x256, .f32⟩
  | .hbm, ⟨63, _⟩ => ⟨S256x2x256, .f32⟩
  | .hbm, ⟨64, _⟩ => ⟨S256x2x256, .f32⟩
  | .hbm, ⟨65, _⟩ => ⟨S256x2x256, .f32⟩
  | .hbm, ⟨66, _⟩ => ⟨S256x2x1x256, .f32⟩
  | .hbm, ⟨67, _⟩ => ⟨S256x2x1x256, .f32⟩
  | .hbm, ⟨68, _⟩ => ⟨S256x2x2x256, .f32⟩
  | .hbm, ⟨69, _⟩ => ⟨S256x1024, .f32⟩
  | _, _ => ⟨S256x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_1 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Proof.Softmax.lean ====
module
public import Idealize.ShloMosaic.Lib.Pointwise
public import Idealize.ShloMosaic.PureOps

/-! The softmax-weighted sum over the extended reals, once over all the keys and once over the keys cut in
two blocks with the division at the end. The two agree when every score is a finite number. -/

@[expose] public section

noncomputable section

open Idealize.ShloMosaic

namespace Cert.Softmax

/-- The largest of finitely many numbers (`⊥` of none). -/
def top {n : ℕ} (s : Fin n → EReal) : EReal := Finset.univ.fold max ⊥ s

/-- Softmax of the scores, weighting the values: each weight is divided by the sum before it is used. -/
def attend {n : ℕ} (s v : Fin n → EReal) : EReal :=
  ∑ k, Ideal.div (Ideal.exp (s k - max ⊥ (top s))) (∑ j, Ideal.exp (s j - max ⊥ (top s))) * v k

/-- The same over two blocks of keys: one common maximum, both sums accumulated, one division at the end. -/
def attendTwo {a b : ℕ} (s : Fin a → EReal) (s' : Fin b → EReal) (v : Fin a → EReal) (v' : Fin b → EReal) : EReal :=
  Ideal.div ((∑ k, Ideal.exp (s k - max (top s) (top s')) * v k) + ∑ k, Ideal.exp (s' k - max (top s) (top s')) * v' k)
    ((∑ k, Ideal.exp (s k - max (top s) (top s'))) + ∑ k, Ideal.exp (s' k - max (top s) (top s')))

theorem attendTwo_congr {a b : ℕ} {s t : Fin a → EReal} {s' t' : Fin b → EReal} {v w : Fin a → EReal} {v' w' : Fin b → EReal}
    (h1 : ∀ k, s k = t k) (h2 : ∀ k, s' k = t' k) (h3 : ∀ k, v k = w k) (h4 : ∀ k, v' k = w' k) :
    attendTwo s s' v v' = attendTwo t t' w w' := by
  rw [funext h1, funext h2, funext h3, funext h4]

theorem attend_congr {n : ℕ} {s t v w : Fin n → EReal} (h1 : ∀ k, s k = t k) (h2 : ∀ k, v k = w k) :
    attend s v = attend t w := by
  rw [funext h1, funext h2]

/-- Being a real number, neither infinity. -/
def IsReal (x : EReal) : Prop := ∃ r : ℝ, x = (r : EReal)

/-- The test "the magnitude is below infinity" holds of real numbers only. -/
theorem isReal_of_test (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have h' : max x (-x) < ⊤ := by
    by_contra hn
    simp [Ideal.cmp, hn] at h
  induction x using EReal.rec with
  | bot => simp at h'
  | top => simp at h'
  | coe r => exact ⟨r, rfl⟩

theorem IsReal.add {x y : EReal} (hx : IsReal x) (hy : IsReal y) : IsReal (x + y) := by
  obtain ⟨a, rfl⟩ := hx; obtain ⟨b, rfl⟩ := hy; exact ⟨a + b, rfl⟩

theorem IsReal.mul {x y : EReal} (hx : IsReal x) (hy : IsReal y) : IsReal (x * y) := by
  obtain ⟨a, rfl⟩ := hx; obtain ⟨b, rfl⟩ := hy; exact ⟨a * b, rfl⟩

theorem IsReal.sum {ι : Type*} (S : Finset ι) (f : ι → EReal) (h : ∀ i, IsReal (f i)) : IsReal (∑ i ∈ S, f i) := by
  choose g hg using h
  refine ⟨∑ i ∈ S, g i, ?_⟩
  simp only [hg]
  exact (map_sum (⟨⟨fun r : ℝ => (r : EReal), rfl⟩, EReal.coe_add⟩ : ℝ →+ EReal) g S).symm

theorem top_eq_sup {n : ℕ} (s : Fin n → EReal) : top s = Finset.univ.sup s := rfl

/-- The maximum over a split range is the larger of the two maxima. -/
theorem top_split {a b n : ℕ} (hn : a + b = n) (s : Fin n → EReal) :
    top s = max (top fun k : Fin a => s ⟨k, by omega⟩) (top fun k : Fin b => s ⟨a + k, by omega⟩) := by
  simp only [top_eq_sup]
  apply le_antisymm
  · refine Finset.sup_le fun k _ => ?_
    by_cases h : k.val < a
    · exact le_max_of_le_left (Finset.le_sup (f := fun k : Fin a => s ⟨k, by omega⟩) (Finset.mem_univ (⟨k.val, h⟩ : Fin a)))
    · have e : s k = (fun k : Fin b => s ⟨a + k, by omega⟩) ⟨k.val - a, by omega⟩ := by
        congr 1; apply Fin.ext; simp only; omega
      rw [e]
      exact le_max_of_le_right (Finset.le_sup (f := fun k : Fin b => s ⟨a + k, by omega⟩) (Finset.mem_univ _))
  · refine max_le (Finset.sup_le fun k _ => ?_) (Finset.sup_le fun k _ => ?_)
    · exact Finset.le_sup (f := s) (Finset.mem_univ _)
    · exact Finset.le_sup (f := s) (Finset.mem_univ _)

/-- The maximum of a nonempty family of real numbers is a real number. -/
theorem top_fin {n : ℕ} (hn : 0 < n) (s : Fin n → EReal) (hs : ∀ k, IsReal (s k)) : IsReal (top s) := by
  haveI : Nonempty (Fin n) := ⟨⟨0, hn⟩⟩
  obtain ⟨k, _, hk⟩ := Finset.exists_mem_eq_sup Finset.univ Finset.univ_nonempty s
  rw [top_eq_sup, hk]; exact hs k

/-- A nonnegative real factor distributes over a finite sum of extended reals. -/
theorem mul_sum_of_nonneg {ι : Type*} (S : Finset ι) (c : ℝ) (hc : 0 ≤ c) (f : ι → EReal) :
    (∑ i ∈ S, f i) * (c : EReal) = ∑ i ∈ S, f i * (c : EReal) := by
  classical
  induction S using Finset.induction_on with
  | empty => simp
  | insert i S hi ih =>
    rw [Finset.sum_insert hi, Finset.sum_insert hi, ← ih]
    exact EReal.right_distrib_of_nonneg_of_ne_top (by exact_mod_cast hc) (EReal.coe_ne_top c) _ _

/-- Dividing every weight by the sum, or the weighted sum once: the same, when every score is finite. -/
theorem attend_eq_div {n : ℕ} (hn : 0 < n) (s v : Fin n → EReal) (hs : ∀ k, IsReal (s k)) :
    attend s v = Ideal.div (∑ k, Ideal.exp (s k - top s) * v k) (∑ k, Ideal.exp (s k - top s)) := by
  obtain ⟨M, hM⟩ := top_fin hn s hs
  choose r hr using hs
  have he : ∀ k, Ideal.exp (s k - top s) = ((Real.exp (r k - M) : ℝ) : EReal) := fun k => by
    rw [hM, hr k, ← EReal.coe_sub]; rfl
  have hden : (∑ k, Ideal.exp (s k - top s)) = ((∑ k, Real.exp (r k - M) : ℝ) : EReal) := by
    simp only [he]
    exact (map_sum (⟨⟨fun r : ℝ => (r : EReal), rfl⟩, EReal.coe_add⟩ : ℝ →+ EReal) _ _).symm
  have hpos : 0 < ∑ k, Real.exp (r k - M) :=
    Finset.sum_pos (fun k _ => Real.exp_pos _) ⟨⟨0, hn⟩, Finset.mem_univ _⟩
  unfold attend
  rw [max_eq_right bot_le, hden, Ideal.div_coe hpos.ne', mul_sum_of_nonneg _ _ (by positivity)]
  refine Finset.sum_congr rfl fun k _ => ?_
  rw [Ideal.div_coe hpos.ne', mul_right_comm]

/-- The cut softmax is the whole one, when every score is finite. -/
theorem attendTwo_eq {a b n : ℕ} (hn : a + b = n) (h0 : 0 < n) (s v : Fin n → EReal) (hs : ∀ k, IsReal (s k)) :
    attendTwo (fun k : Fin a => s ⟨k, by omega⟩) (fun k : Fin b => s ⟨a + k, by omega⟩)
      (fun k : Fin a => v ⟨k, by omega⟩) (fun k : Fin b => v ⟨a + k, by omega⟩) = attend s v := by
  rw [attend_eq_div h0 s v hs, Fin.sum_univ_two_halves a b hn, Fin.sum_univ_two_halves a b hn, top_split hn s]
  rfl

end Cert.Softmax
-- ==== Proof.AttnKernel.lean ====
module
public import proofs.«01_k».proof.Proof.Gen.KernelIdeal.Frame
public import proofs.«01_k».proof.Proof.Softmax
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen Cert.Softmax

/-- One entry of a block: the row's query of head `h` against the two blocks of keys, the values read at lane `e`. -/
def blockAt (x0 x1 x2 : FVec Ideal S1x4x256x128 .bf16) (x3 x4 : FVec Ideal S1x4x2048x128 .bf16)
    (h : Fin 4) (r : Fin 256) (e : Fin 128) : EReal :=
  attendTwo (fun k : Fin 256 => ∑ d : Fin 128, x0 (ix4 0 h r d) * x1 (ix4 0 h k d))
    (fun k : Fin 2048 => ∑ d : Fin 128, x0 (ix4 0 h r d) * x3 (ix4 0 h k d))
    (fun k => x2 (ix4 0 h k e)) (fun k => x4 (ix4 0 h k e))

theorem neg_inf : Ideal.ofBits .f32 (4286578688#32) = ⊥ := by
  simp [Ideal.ofBits, Ideal.ieee]

/-- The lane mask picks the first of two values on the lower 64 lanes and the second on the upper ones. -/
theorem select_lane {α : Type} (n : ℕ) (hn : n < 128) (a b : α) :
    Scalar.select (IntOp.cmpi .slt (BitVec.ofNat 32 n) 64#32) a b = if n < 64 then a else b := by
  have key : ∀ k : Fin 128, IntOp.cmpi .slt (BitVec.ofNat 32 k.val) 64#32 = if k.val < 64 then 1#1 else 0#1 := by
    decide +kernel
  rw [key ⟨n, hn⟩]
  by_cases hk : n < 64 <;> simp [hk, Scalar.select]

theorem block_eq (x0 x1 x2 : FVec Ideal S1x4x256x128 .bf16) (x3 x4 : FVec Ideal S1x4x2048x128 .bf16) (y : S1x256x256.Idx)
    (g : Fin 4) (e : Fin 128) (r : Fin 256) (hg : (g : ℕ) = (y 2 : ℕ) / 64) (he : (e : ℕ) = (y 2 : ℕ) % 128) (hr : (r : ℕ) = y 1) :
    out0_5 (F := Ideal) x0 x1 x2 x3 x4 y = blockAt x0 x1 x2 x3 x4 g r e := by
  unfold_out out0_5
  canon_tiles x h
  case piece0 =>
    open_payloads
    pointwise [k0_pay29]
    obtain rfl : e = x 2 := Fin.ext (by omega)
    obtain rfl : r = x 1 := Fin.ext (by omega)
    rw [select_lane _ x2_lt, neg_inf]
    split_ifs with hx
    · obtain rfl : g = 2 := Fin.ext (by omega)
      rfl
    · obtain rfl : g = 3 := Fin.ext (by omega)
      rfl
  case piece1 =>
    open_payloads
    pointwise [k0_pay20]
    obtain rfl : e = x 2 := Fin.ext (by omega)
    obtain rfl : r = x 1 := Fin.ext (by omega)
    rw [select_lane _ x2_lt, neg_inf]
    split_ifs with hx
    · obtain rfl : g = 0 := Fin.ext (by omega)
      rfl
    · obtain rfl : g = 1 := Fin.ext (by omega)
      rfl

variable (m : (ℓ : Loc nD τ sig) → Buf (Elt Ideal) ℓ)

theorem idx : ∀ t : Fin cfg0.N, win0_0.index t = ![t.val / 8, 0, t.val % 8, 0] ∧ win0_1.index t = ![t.val / 8, 0, 0, 0]
    ∧ win0_2.index t = ![t.val / 8, 0, 0, 0] ∧ win0_3.index t = ![t.val / 8, 0, 0, 0]
    ∧ win0_4.index t = ![t.val / 8, 0, 0, 0] ∧ win0_5.index t = ![t.val / 8, t.val % 8, 0] ∧ t.val < 256 :=
  (by decide +kernel : ∀ t : Fin grid0.N, _)

/-- The whole array's entry at batch `b`, row `l`, output lane `j`: head `j / 64`, value lane `j % 128`. -/
def arrayAt (Q KL VL : FVec Ideal S32x4x2048x128 .bf16) (KC VC : FVec Ideal S32x4x256x128 .bf16)
    (b : Fin 32) (g : Fin 4) (l : Fin 2048) (e : Fin 128) : EReal :=
  attendTwo (fun k : Fin 256 => ∑ d : Fin 128, Q (ix4 b g l d) * KC (ix4 b g k d))
    (fun k : Fin 2048 => ∑ d : Fin 128, Q (ix4 b g l d) * KL (ix4 b g k d))
    (fun k => VC (ix4 b g k e)) (fun k => VL (ix4 b g k e))

def array (Q KL VL : FVec Ideal S32x4x2048x128 .bf16) (KC VC : FVec Ideal S32x4x256x128 .bf16) :
    FVec Ideal S32x2048x256 .f32 := fun j =>
  arrayAt Q KL VL KC VC (j 0) ⟨(j 2 : ℕ) / 64, by idx_bounds; omega⟩ (j 1) ⟨(j 2 : ℕ) % 128, by omega⟩

theorem final (c : Dev nD) : (dats m 0 c).arrAt 5 (cfgs 0).N
    = array (m ((c : Thread nD τ).loc main_arg0)) (m ((c : Thread nD τ).loc main_arg3)) (m ((c : Thread nD τ).loc main_arg4))
        (m ((c : Thread nD τ).loc main_arg1)) (m ((c : Thread nD τ).loc main_arg2)) := by
  refine (dats m 0 c).arrAt_eq_of_covers 5 _ (by decide +kernel) fun t _ y => ?_
  blk_simp
  rw [after0_5]
  refine (block_eq _ _ _ _ _ y ⟨(y 2 : ℕ) / 64, by idx_bounds; omega⟩ ⟨(y 2 : ℕ) % 128, by omega⟩ (y 1) rfl rfl rfl).trans ?_
  refine attendTwo_congr ?_ ?_ ?_ ?_ <;> intro k
  all_goals blk_point [iblk, V, idx t]
end Cert.KernelIdeal.Attn
-- ==== Proof.AttnReference.lean ====
module
public import proofs.«01_k».proof.Proof.Gen.ReferenceIdeal.Run
public import proofs.«01_k».proof.Proof.Softmax
public import Idealize.ShloMosaic.Lib.Pipeline.ValueKit
public import Idealize.ShloMosaic.Lib.Pointwise

/-! The plain attention of the reference, read at one entry: softmax of one row of scores over all the keys,
weighting the values of the head. The term is cut into scores, weights, values and the final product. -/

@[expose] public section
set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Value Cert.Softmax

/-- All the keys (or values): the context's rows, then the latents'. -/
def joined (A : FVec Ideal S32x4x256x128 .bf16) (B : FVec Ideal S32x4x2048x128 .bf16) : FVec Ideal S32x4x2304x128 .f32 :=
  extf .f32 (concatenate S32x4x2304x128 2 [⟨S32x4x256x128, A⟩, ⟨S32x4x2048x128, B⟩] concatenates_S32x4x256x128_S32x4x2048x128_S32x4x2304x128_d2) bitsLt_bf16_f32

def scores (Q : FVec Ideal S32x4x2048x128 .bf16) (K : FVec Ideal S32x4x2304x128 .f32) : FVec Ideal S32x4x2048x2304 .f32 :=
  Host.dotGeneral dot_S32x4x2048x128_S32x4x2304x128_S32x4x2048x2304_3_3_2_2_01_01 none (extf .f32 Q bitsLt_bf16_f32) K

def rowMax (S : FVec Ideal S32x4x2048x2304 .f32) : FVec Ideal S32x4x2048 .f32 :=
  Host.reduce FloatOps.maximumf S (constant S_ .f32 0xFF800000#32) reducesTo_S32x4x2048x2304_S32x4x2048_d3 h_S_

def floor : FVec Ideal S32x4x2048 .f32 := broadcastInDim S32x4x2048 ![] bcast_S_S32x4x2048 (constant S_ .f32 0xFF800000#32)

def expo (S : FVec Ideal S32x4x2048x2304 .f32) (N M : FVec Ideal S32x4x2048 .f32) : FVec Ideal S32x4x2048x2304 .f32 :=
  Host.exp (subf S (broadcastInDim S32x4x2048x2304 ![0, 1, 2, 3] bcast_S32x4x2048x1_S32x4x2048x2304_0_1_2_3 (broadcastInDim S32x4x2048x1 ![0, 1, 2] bcast_S32x4x2048_S32x4x2048x1_0_1_2 (maximumf N M))))

def weights (E : FVec Ideal S32x4x2048x2304 .f32) : FVec Ideal S32x4x2048x2304 .f32 :=
  Host.divf E (broadcastInDim S32x4x2048x2304 ![0, 1, 2, 3] bcast_S32x4x2048x1_S32x4x2048x2304_0_1_2_3 (broadcastInDim S32x4x2048x1 ![0, 1, 2] bcast_S32x4x2048_S32x4x2048x1_0_1_2 (Host.reduceAdd E (constant S_ .f32 0x00000000#32) reducesTo_S32x4x2048x2304_S32x4x2048_d3 h_S_)))

def values (V : FVec Ideal S32x4x2304x128 .f32) : FVec Ideal S32x4x2304x64 .f32 :=
  concatenate S32x4x2304x64 1
    [⟨S32x1x2304x64, broadcastInDim S32x1x2304x64 ![0, 2, 3] bcast_S32x2304x64_S32x1x2304x64_0_2_3 (shapeCast S32x2304x64 (extractStridedSlice S32x1x2304x64 ![0, 0, 0, 0] V slices_S32x4x2304x128_S32x1x2304x64_0_0_0_0) shapeCasts_S32x1x2304x64_S32x2304x64)⟩,
     ⟨S32x1x2304x64, broadcastInDim S32x1x2304x64 ![0, 2, 3] bcast_S32x2304x64_S32x1x2304x64_0_2_3 (shapeCast S32x2304x64 (extractStridedSlice S32x1x2304x64 ![0, 1, 0, 64] V slices_S32x4x2304x128_S32x1x2304x64_0_1_0_64) shapeCasts_S32x1x2304x64_S32x2304x64)⟩,
     ⟨S32x1x2304x64, broadcastInDim S32x1x2304x64 ![0, 2, 3] bcast_S32x2304x64_S32x1x2304x64_0_2_3 (shapeCast S32x2304x64 (extractStridedSlice S32x1x2304x64 ![0, 2, 0, 0] V slices_S32x4x2304x128_S32x1x2304x64_0_2_0_0) shapeCasts_S32x1x2304x64_S32x2304x64)⟩,
     ⟨S32x1x2304x64, broadcastInDim S32x1x2304x64 ![0, 2, 3] bcast_S32x2304x64_S32x1x2304x64_0_2_3 (shapeCast S32x2304x64 (extractStridedSlice S32x1x2304x64 ![0, 3, 0, 64] V slices_S32x4x2304x128_S32x1x2304x64_0_3_0_64) shapeCasts_S32x1x2304x64_S32x2304x64)⟩]
    concatenates_S32x1x2304x64_S32x1x2304x64_S32x1x2304x64_S32x1x2304x64_S32x4x2304x64_d1

def product (V : FVec Ideal S32x4x2304x64 .f32) (W : FVec Ideal S32x4x2048x2304 .f32) : FVec Ideal S32x2048x256 .f32 :=
  shapeCast S32x2048x256 (transpose S32x2048x4x64 [0, 3, 1, 2] (Host.dotGeneral dot_S32x4x2304x64_S32x4x2048x2304_S32x4x64x2048_2_3_3_2_01_01 none V W) transposes_S32x4x64x2048_S32x2048x4x64_0_3_1_2) shapeCasts_S32x2048x4x64_S32x2048x256

theorem joined_low (A : FVec Ideal S32x4x256x128 .bf16) (B : FVec Ideal S32x4x2048x128 .bf16) (b : Fin 32) (h : Fin 4) (k : Fin 256) (e : Fin 128) :
    joined A B (ix4 b h ⟨k, by omega⟩ e) = A (ix4 b h k e) := by
  pointwise [joined]

theorem joined_high (A : FVec Ideal S32x4x256x128 .bf16) (B : FVec Ideal S32x4x2048x128 .bf16) (b : Fin 32) (h : Fin 4) (k : Fin 2048) (e : Fin 128) :
    joined A B (ix4 b h ⟨256 + k, by omega⟩ e) = B (ix4 b h k e) := by
  pointwise [joined]

theorem scores_at (Q : FVec Ideal S32x4x2048x128 .bf16) (K : FVec Ideal S32x4x2304x128 .f32) (b : Fin 32) (h : Fin 4) (l : Fin 2048) (k : Fin 2304) :
    scores Q K (ix4 b h l k) = ∑ d : Fin 128, Q (ix4 b h l d) * K (ix4 b h k d) := by
  pointwise [scores]

theorem neg_inf : Ideal.ofBits .f32 (4286578688#32) = ⊥ := by
  simp [Ideal.ofBits, Ideal.ieee]

theorem floor_at (i : S32x4x2048.Idx) : floor i = Ideal.ofBits .f32 (4286578688#32) := rfl

theorem rowMax_at (S : FVec Ideal S32x4x2048x2304 .f32) (b : Fin 32) (h : Fin 4) (l : Fin 2048) :
    rowMax S (ix3 b h l) = Finset.univ.fold max (Ideal.ofBits .f32 (4286578688#32)) fun k : Fin 2304 => S (ix4 b h l k) := by
  pointwise [rowMax]

theorem expo_at' (S : FVec Ideal S32x4x2048x2304 .f32) (N M : FVec Ideal S32x4x2048 .f32) (b : Fin 32) (h : Fin 4) (l : Fin 2048) (k : Fin 2304) :
    expo S N M (ix4 b h l k) = Ideal.exp (S (ix4 b h l k) - max (N (ix3 b h l)) (M (ix3 b h l))) := by
  pointwise [expo]

theorem expo_at (S : FVec Ideal S32x4x2048x2304 .f32) (b : Fin 32) (h : Fin 4) (l : Fin 2048) (k : Fin 2304) :
    expo S floor (rowMax S) (ix4 b h l k) = Ideal.exp (S (ix4 b h l k) - max ⊥ (top fun k : Fin 2304 => S (ix4 b h l k))) := by
  rw [expo_at', floor_at, rowMax_at, neg_inf, top]

theorem weights_at (E : FVec Ideal S32x4x2048x2304 .f32) (b : Fin 32) (h : Fin 4) (l : Fin 2048) (k : Fin 2304) :
    weights E (ix4 b h l k) = Ideal.div (E (ix4 b h l k)) (∑ k : Fin 2304, E (ix4 b h l k)) := by
  pointwise [weights]

theorem values_at (V : FVec Ideal S32x4x2304x128 .f32) (b : Fin 32) (h : Fin 4) (k : Fin 2304) (e : Fin 64) :
    values V (ix4 b h k e) = V (ix4 b h k ⟨(h : ℕ) % 2 * 64 + e, by omega⟩) := by
  pointwise [values]
  fin_cases h <;> simp <;> rfl

theorem product_at (V : FVec Ideal S32x4x2304x64 .f32) (W : FVec Ideal S32x4x2048x2304 .f32) (b : Fin 32) (l : Fin 2048) (n : Fin 256) :
    product V W (ix3 b l n) = ∑ k : Fin 2304, W (ix4 b ⟨(n : ℕ) / 64, by omega⟩ l k)
      * V (ix4 b ⟨(n : ℕ) / 64, by omega⟩ k ⟨(n : ℕ) % 64, by omega⟩) := by
  pointwise [product]
  exact Finset.sum_congr rfl fun k _ => mul_comm _ _

variable (m : (ℓ : Loc nD τ sig) → Buf (Elt Ideal) ℓ)

/-- The scores of the memory's arguments. -/
def memScores (c : Dev nD) : FVec Ideal S32x4x2048x2304 .f32 :=
  scores (m ((c : Thread nD τ).loc main_arg0)) (joined (m ((c : Thread nD τ).loc main_arg1)) (m ((c : Thread nD τ).loc main_arg3)))

/-- The reference's result is the cut term. -/
theorem res_eq (c : Dev nD) : res_main_v32 m c
    = product (values (joined (m ((c : Thread nD τ).loc main_arg2)) (m ((c : Thread nD τ).loc main_arg4))))
        (weights (expo (memScores m c) floor (rowMax (memScores m c)))) := rfl

/-- Entry `j` of the attention: the softmax of its row of scores against the values of its head and lane. -/
theorem product_attend (S : FVec Ideal S32x4x2048x2304 .f32) (V : FVec Ideal S32x4x2304x128 .f32) (b : Fin 32) (l : Fin 2048) (n : Fin 256) :
    product (values V) (weights (expo S floor (rowMax S))) (ix3 b l n)
      = attend (fun k : Fin 2304 => S (ix4 b ⟨(n : ℕ) / 64, by omega⟩ l k))
          (fun k => V (ix4 b ⟨(n : ℕ) / 64, by omega⟩ k ⟨(n : ℕ) % 128, by omega⟩)) := by
  rw [product_at, attend]
  refine Finset.sum_congr rfl fun k _ => ?_
  rw [weights_at, values_at]
  simp only [expo_at]
  congr 3
  apply Fin.ext
  simp only; omega

end Cert.ReferenceIdeal.Attn
-- ==== Proof.Attn.lean ====
module
public import proofs.«01_k».proof.Defs
public import proofs.«01_k».proof.Proof.Gen.Pre_finite_qk
public import proofs.«01_k».proof.Proof.AttnKernel
public import proofs.«01_k».proof.Proof.AttnReference

/-! The kernel's attention is the reference's, when the queries and the keys are finite. -/

@[expose] public section
set_option maxRecDepth 16384
noncomputable section
open Idealize.ShloMosaic Idealize.ShloMosaic.TcCoe Idealize.SL.Sem
namespace Cert.Attn
open Cert.Softmax

/-- A sum of products of real numbers is a real number. -/
theorem isReal_dot {n : ℕ} (f g : Fin n → EReal) (hf : ∀ i, IsReal (f i)) (hg : ∀ i, IsReal (g i)) :
    IsReal (∑ i, f i * g i) := IsReal.sum _ _ fun i => (hf i).mul (hg i)

open Cert.ReferenceIdeal Cert.ReferenceIdeal.Attn in
/-- Kernel's array = reference's term, over variables. -/
theorem array_eq (Q KL VL : FVec Ideal S32x4x2048x128 .bf16) (KC VC : FVec Ideal S32x4x256x128 .bf16)
    (hQ : ∀ i, IsReal (Q i)) (hC : ∀ i, IsReal (KC i)) (hL : ∀ i, IsReal (KL i)) :
    product (values (joined VC VL)) (weights (expo (scores Q (joined KC KL)) floor (rowMax (scores Q (joined KC KL)))))
      = Cert.KernelIdeal.Attn.array Q KL VL KC VC := by
  funext j
  obtain ⟨b, l, n, rfl⟩ : ∃ (b : Fin 32) (l : Fin 2048) (n : Fin 256), j = ix3 b l n := ⟨j 0, j 1, j 2, by idx_vars j⟩
  rw [product_attend]
  have hK : ∀ k h e, IsReal (joined KC KL (ix4 b h k e)) := fun k h e => by
    by_cases hk : (k : ℕ) < 256
    · exact joined_low KC KL b h ⟨k, hk⟩ e ▸ hC _
    · have := joined_high KC KL b h ⟨(k : ℕ) - 256, by omega⟩ e
      have ek : (⟨256 + ((⟨(k : ℕ) - 256, by omega⟩ : Fin 2048) : ℕ), by simp only; omega⟩ : Fin 2304) = k := Fin.ext (by simp only; omega)
      rw [ek] at this
      exact this ▸ hL _
  have hs : ∀ k : Fin 2304, IsReal (scores Q (joined KC KL) (ix4 b ⟨(n : ℕ) / 64, by omega⟩ l k)) := fun k => by
    rw [scores_at]; exact isReal_dot _ _ (fun d => hQ _) (fun d => hK _ _ _)
  rw [← attendTwo_eq (a := 256) (b := 2048) rfl (by omega) _ _ hs]
  refine attendTwo_congr ?_ ?_ ?_ ?_ <;> intro k
  · rw [scores_at]; exact Finset.sum_congr rfl fun d _ => by rw [joined_low]; rfl
  · rw [scores_at]; exact Finset.sum_congr rfl fun d _ => by rw [joined_high]; rfl
  · exact joined_low ..
  · exact joined_high ..

open Cert.KernelIdeal in
/-- The precondition says that the queries and both blocks of keys are real numbers. -/
theorem real_of_pre (m : (ℓ : Loc nD τ sig) → Buf (Elt Ideal) ℓ) (h : Cert.Pre_KernelIdeal_finite_qk m) (c : Dev nD) :
    (∀ i, IsReal ((m ((c : Thread nD τ).loc main_arg0) : FVec Ideal S32x4x2048x128 .bf16) i))
    ∧ (∀ i, IsReal ((m ((c : Thread nD τ).loc main_arg1) : FVec Ideal S32x4x256x128 .bf16) i))
    ∧ (∀ i, IsReal ((m ((c : Thread nD τ).loc main_arg3) : FVec Ideal S32x4x2048x128 .bf16) i)) :=
  ⟨fun i => isReal_of_test _ (congrFun (h c).1 i), fun i => isReal_of_test _ (congrFun (h c).2.1 i),
    fun i => isReal_of_test _ (congrFun (h c).2.2 i)⟩

theorem algebraic : Cert.algebraic_KernelIdeal_ReferenceIdeal_pre_finite_qk := by
  pair_intro
  · run_from Cert.KernelIdeal.Gen.run_main m g
  · run_from Cert.ReferenceIdeal.Value.run m' g'
    obtain ⟨e0, e1, e2, e3, e4⟩ := hagree c
    obtain ⟨hQ, hC, hL⟩ := real_of_pre m hpre c
    refine (Cert.ReferenceIdeal.Attn.res_eq m' c).trans ?_
    unfold Cert.ReferenceIdeal.Attn.memScores
    rw [e0, e1, e2, e3, e4]
    exact (array_eq _ _ _ _ _ hQ hC hL).trans (Cert.KernelIdeal.Attn.final m c).symm

end Cert.Attn
-- ==== Proof.Layer.lean ====
module
public import Idealize.ShloMosaic.Lib.Pipeline.ValueKit
public import Idealize.ShloMosaic.Lib.Pointwise

/-! The row functions of the layer, on plain families of extended reals: the root-mean-square norm, its modulated
form, and the gated feed-forward. The kernels and the references are both brought to these. -/

@[expose] public section
noncomputable section
open Idealize.ShloMosaic
namespace Cert.Layer

/-- The number `n` the mean divides by, as the programs print it. -/
abbrev count1024 : EReal := Ideal.ofBits .f32 1149239296#32
abbrev count256 : EReal := Ideal.ofBits .f32 1132462080#32

/-- The reciprocal root of a row's mean square; `c` is the row's length. -/
def invRms {n : ℕ} (c : EReal) (x : Fin n → EReal) : EReal :=
  Ideal.rsqrt (Ideal.div (∑ k, x k * x k) c + Ideal.ofBits .f32 897988541#32)

/-- A row divided by its root mean square and scaled by the gain. -/
def normRow {n : ℕ} (c : EReal) (x g : Fin n → EReal) (k : Fin n) : EReal := x k * invRms c x * g k

/-- The modulated norm of a row. -/
def modRow (x g sc sh : Fin 1024 → EReal) (k : Fin 1024) : EReal := normRow count1024 x g k * (1 + sc k) + sh k

/-- One hidden unit of the gated feed-forward: the first projection through `a * logistic a`, times the second. -/
def unit (h wa wu : Fin 1024 → EReal) : EReal :=
  (∑ k, h k * wa k) * Ideal.logistic (∑ k, h k * wa k) * ∑ k, h k * wu k

/-- The feed-forward's output row, added to the row it started from. -/
def ffnRow (x gate h : Fin 1024 → EReal) (wa wu : Fin 2816 → Fin 1024 → EReal) (wo : Fin 1024 → Fin 2816 → EReal) (n : Fin 1024) : EReal :=
  x n + gate n * ∑ f, unit h (wa f) (wu f) * wo n f

/-- The modulated rows of a batch of token rows; `g`, `sc` and `sh` are the gain and the modulation's scale and shift. -/
def modAt (x : FVec Ideal (⟨3, ![32, 2048, 1024]⟩ : Shape) .f32) (g : FVec Ideal (⟨1, ![1024]⟩ : Shape) .f32)
    (sc sh : FVec Ideal (⟨2, ![32, 1024]⟩ : Shape) .f32) (b : Fin 32) (l : Fin 2048) : Fin 1024 → EReal :=
  modRow (fun k => x (ix3 b l k)) (fun k => g (ix1 k)) (fun k => sc (ix2 b k)) (fun k => sh (ix2 b k))

/-- The feed-forward with its residual, at a token row, before the last norm. -/
def ffnAt (x : FVec Ideal (⟨3, ![32, 2048, 1024]⟩ : Shape) .f32) (g : FVec Ideal (⟨1, ![1024]⟩ : Shape) .f32)
    (sh sc gate : FVec Ideal (⟨2, ![32, 1024]⟩ : Shape) .f32) (wi : FVec Ideal (⟨2, ![1024, 5632]⟩ : Shape) .f32)
    (wo : FVec Ideal (⟨2, ![2816, 1024]⟩ : Shape) .f32) (b : Fin 32) (l : Fin 2048) : Fin 1024 → EReal :=
  ffnRow (fun n => x (ix3 b l n)) (fun n => gate (ix2 b n)) (modAt x g sc sh b l)
    (fun f k => wi (ix2 k ⟨f, by omega⟩)) (fun f k => wi (ix2 k ⟨2816 + f, by omega⟩)) (fun n f => wo (ix2 f n))

/-- The last feed-forward's result: normed rows. -/
def ffn (x : FVec Ideal (⟨3, ![32, 2048, 1024]⟩ : Shape) .f32) (g : FVec Ideal (⟨1, ![1024]⟩ : Shape) .f32)
    (sh sc gate : FVec Ideal (⟨2, ![32, 1024]⟩ : Shape) .f32) (wi : FVec Ideal (⟨2, ![1024, 5632]⟩ : Shape) .f32)
    (wo : FVec Ideal (⟨2, ![2816, 1024]⟩ : Shape) .f32) (fg : FVec Ideal (⟨1, ![1024]⟩ : Shape) .f32) :
    FVec Ideal (⟨3, ![32, 2048, 1024]⟩ : Shape) .f32 := fun j =>
  normRow count1024 (ffnAt x g sh sc gate wi wo (j 0) (j 1)) (fun n => fg (ix1 n)) (j 2)

/-- The merged groups through the output projection, with the gated residual. -/
def merge (x : FVec Ideal (⟨3, ![32, 2048, 1024]⟩ : Shape) .f32) (y : Fin 4 → FVec Ideal (⟨3, ![32, 2048, 256]⟩ : Shape) .f32)
    (g : FVec Ideal (⟨1, ![1024]⟩ : Shape) .f32) (gate : FVec Ideal (⟨2, ![32, 1024]⟩ : Shape) .f32)
    (w : FVec Ideal (⟨2, ![1024, 1024]⟩ : Shape) .f32) : FVec Ideal (⟨3, ![32, 2048, 1024]⟩ : Shape) .f32 := fun j =>
  x j + gate (ix2 (j 0) (j 2)) * ∑ i : Fin 4, ∑ k : Fin 256,
    normRow count256 (fun k => y i (ix3 (j 0) (j 1) k)) (fun k => g (ix1 ⟨i.val * 256 + k.val, by omega⟩)) k
      * w (ix2 ⟨i.val * 256 + k.val, by omega⟩ (j 2))

/-- One column of the input projection at a token row. -/
def projAt (x : FVec Ideal (⟨3, ![32, 2048, 1024]⟩ : Shape) .f32) (g : FVec Ideal (⟨1, ![1024]⟩ : Shape) .f32)
    (sh sc : FVec Ideal (⟨2, ![32, 1024]⟩ : Shape) .f32) (w : FVec Ideal (⟨2, ![1024, 2720]⟩ : Shape) .f32)
    (b : Fin 32) (l : Fin 2048) (n : Fin 2720) : EReal :=
  ∑ k, modAt x g sc sh b l k * w (ix2 k n)

/-- `N` columns of the input projection, from column `o` on. -/
def projCols (N o : ℕ) (ho : o + N ≤ 2720) (x : FVec Ideal (⟨3, ![32, 2048, 1024]⟩ : Shape) .f32) (g : FVec Ideal (⟨1, ![1024]⟩ : Shape) .f32)
    (sh sc : FVec Ideal (⟨2, ![32, 1024]⟩ : Shape) .f32) (w : FVec Ideal (⟨2, ![1024, 2720]⟩ : Shape) .f32) :
    FVec Ideal (⟨3, ![32, 2048, N]⟩ : Shape) .f32 := fun j =>
  projAt x g sh sc w (j 0) (j 1) ⟨o + (j 2).val, lt_of_lt_of_le (Nat.add_lt_add_left (j 2).isLt o) ho⟩

/-- The latent columns: the 160 columns from column 1024 on, followed by zero columns. -/
def projLatent (x : FVec Ideal (⟨3, ![32, 2048, 1024]⟩ : Shape) .f32) (g : FVec Ideal (⟨1, ![1024]⟩ : Shape) .f32)
    (sh sc : FVec Ideal (⟨2, ![32, 1024]⟩ : Shape) .f32) (w : FVec Ideal (⟨2, ![1024, 2720]⟩ : Shape) .f32) :
    FVec Ideal (⟨3, ![32, 2048, 256]⟩ : Shape) .f32 := fun j =>
  if h : (j 2).val < 160 then projAt x g sh sc w (j 0) (j 1) ⟨1024 + (j 2).val, by omega⟩ else 0

theorem projLatent_low (x : FVec Ideal (⟨3, ![32, 2048, 1024]⟩ : Shape) .f32) (g : FVec Ideal (⟨1, ![1024]⟩ : Shape) .f32)
    (sh sc : FVec Ideal (⟨2, ![32, 1024]⟩ : Shape) .f32) (w : FVec Ideal (⟨2, ![1024, 2720]⟩ : Shape) .f32) (b : Fin 32) (l : Fin 2048) (n : Fin 256) (h : n.val < 160) :
    projLatent x g sh sc w (ix3 b l n) = projAt x g sh sc w b l ⟨1024 + n.val, by omega⟩ := by
  unfold projLatent
  exact dif_pos h

theorem projLatent_high (x : FVec Ideal (⟨3, ![32, 2048, 1024]⟩ : Shape) .f32) (g : FVec Ideal (⟨1, ![1024]⟩ : Shape) .f32)
    (sh sc : FVec Ideal (⟨2, ![32, 1024]⟩ : Shape) .f32) (w : FVec Ideal (⟨2, ![1024, 2720]⟩ : Shape) .f32) (b : Fin 32) (l : Fin 2048) (n : Fin 256) (h : ¬ n.val < 160) :
    projLatent x g sh sc w (ix3 b l n) = 0 := by
  unfold projLatent
  exact dif_neg h

/-- The feed-forward of the layers before the last: no norm after the residual. -/
def ffnPlain (x : FVec Ideal (⟨3, ![32, 2048, 1024]⟩ : Shape) .f32) (g : FVec Ideal (⟨1, ![1024]⟩ : Shape) .f32)
    (sh sc gate : FVec Ideal (⟨2, ![32, 1024]⟩ : Shape) .f32) (wi : FVec Ideal (⟨2, ![1024, 5632]⟩ : Shape) .f32) (wo : FVec Ideal (⟨2, ![2816, 1024]⟩ : Shape) .f32) :
    FVec Ideal (⟨3, ![32, 2048, 1024]⟩ : Shape) .f32 := fun j => ffnAt x g sh sc gate wi wo (j 0) (j 1) (j 2)

/-! The same over the context's rows, whose modulation is one vector for every batch. -/

def modCtx (x : FVec Ideal (⟨3, ![32, 256, 1024]⟩ : Shape) .f32) (g : FVec Ideal (⟨1, ![1024]⟩ : Shape) .f32) (sc sh : FVec Ideal (⟨1, ![1024]⟩ : Shape) .f32) (b : Fin 32) (l : Fin 256) : Fin 1024 → EReal :=
  modRow (fun k => x (ix3 b l k)) (fun k => g (ix1 k)) (fun k => sc (ix1 k)) (fun k => sh (ix1 k))

def ffnCtxAt (x : FVec Ideal (⟨3, ![32, 256, 1024]⟩ : Shape) .f32) (g : FVec Ideal (⟨1, ![1024]⟩ : Shape) .f32) (sh sc gate : FVec Ideal (⟨1, ![1024]⟩ : Shape) .f32) (wi : FVec Ideal (⟨2, ![1024, 5632]⟩ : Shape) .f32) (wo : FVec Ideal (⟨2, ![2816, 1024]⟩ : Shape) .f32) (b : Fin 32) (l : Fin 256) : Fin 1024 → EReal :=
  ffnRow (fun n => x (ix3 b l n)) (fun n => gate (ix1 n)) (modCtx x g sc sh b l)
    (fun f k => wi (ix2 k ⟨f, by omega⟩)) (fun f k => wi (ix2 k ⟨2816 + f, by omega⟩)) (fun n f => wo (ix2 f n))

def ffnCtx (x : FVec Ideal (⟨3, ![32, 256, 1024]⟩ : Shape) .f32) (g : FVec Ideal (⟨1, ![1024]⟩ : Shape) .f32) (sh sc gate : FVec Ideal (⟨1, ![1024]⟩ : Shape) .f32) (wi : FVec Ideal (⟨2, ![1024, 5632]⟩ : Shape) .f32) (wo : FVec Ideal (⟨2, ![2816, 1024]⟩ : Shape) .f32) : FVec Ideal (⟨3, ![32, 256, 1024]⟩ : Shape) .f32 := fun j =>
  ffnCtxAt x g sh sc gate wi wo (j 0) (j 1) (j 2)

def mergeCtx (x : FVec Ideal (⟨3, ![32, 256, 1024]⟩ : Shape) .f32) (y : Fin 4 → FVec Ideal (⟨3, ![32, 256, 256]⟩ : Shape) .f32)
    (g gate : FVec Ideal (⟨1, ![1024]⟩ : Shape) .f32)
    (w : FVec Ideal (⟨2, ![1024, 1024]⟩ : Shape) .f32) : FVec Ideal (⟨3, ![32, 256, 1024]⟩ : Shape) .f32 := fun j =>
  x j + gate (ix1 (j 2)) * ∑ i : Fin 4, ∑ k : Fin 256,
    normRow count256 (fun k => y i (ix3 (j 0) (j 1) k)) (fun k => g (ix1 ⟨i.val * 256 + k.val, by omega⟩)) k
      * w (ix2 ⟨i.val * 256 + k.val, by omega⟩ (j 2))

/-- One column of the input projection at a token row. -/
def projCtxAt (x : FVec Ideal (⟨3, ![32, 256, 1024]⟩ : Shape) .f32) (g : FVec Ideal (⟨1, ![1024]⟩ : Shape) .f32)
    (sh sc : FVec Ideal (⟨1, ![1024]⟩ : Shape) .f32) (w : FVec Ideal (⟨2, ![1024, 2720]⟩ : Shape) .f32)
    (b : Fin 32) (l : Fin 256) (n : Fin 2720) : EReal :=
  ∑ k, modCtx x g sc sh b l k * w (ix2 k n)

/-- `N` columns of the input projection, from column `o` on. -/
def projCtxCols (N o : ℕ) (ho : o + N ≤ 2720) (x : FVec Ideal (⟨3, ![32, 256, 1024]⟩ : Shape) .f32) (g : FVec Ideal (⟨1, ![1024]⟩ : Shape) .f32)
    (sh sc : FVec Ideal (⟨1, ![1024]⟩ : Shape) .f32) (w : FVec Ideal (⟨2, ![1024, 2720]⟩ : Shape) .f32) :
    FVec Ideal (⟨3, ![32, 256, N]⟩ : Shape) .f32 := fun j =>
  projCtxAt x g sh sc w (j 0) (j 1) ⟨o + (j 2).val, lt_of_lt_of_le (Nat.add_lt_add_left (j 2).isLt o) ho⟩

/-- The latent columns: the 160 columns from column 1024 on, followed by zero columns. -/
def projCtxLatent (x : FVec Ideal (⟨3, ![32, 256, 1024]⟩ : Shape) .f32) (g : FVec Ideal (⟨1, ![1024]⟩ : Shape) .f32)
    (sh sc : FVec Ideal (⟨1, ![1024]⟩ : Shape) .f32) (w : FVec Ideal (⟨2, ![1024, 2720]⟩ : Shape) .f32) :
    FVec Ideal (⟨3, ![32, 256, 256]⟩ : Shape) .f32 := fun j =>
  if h : (j 2).val < 160 then projCtxAt x g sh sc w (j 0) (j 1) ⟨1024 + (j 2).val, by omega⟩ else 0

theorem projCtxLatent_low (x : FVec Ideal (⟨3, ![32, 256, 1024]⟩ : Shape) .f32) (g : FVec Ideal (⟨1, ![1024]⟩ : Shape) .f32)
    (sh sc : FVec Ideal (⟨1, ![1024]⟩ : Shape) .f32) (w : FVec Ideal (⟨2, ![1024, 2720]⟩ : Shape) .f32) (b : Fin 32) (l : Fin 256) (n : Fin 256) (h : n.val < 160) :
    projCtxLatent x g sh sc w (ix3 b l n) = projCtxAt x g sh sc w b l ⟨1024 + n.val, by omega⟩ := by
  unfold projCtxLatent
  exact dif_pos h

theorem projCtxLatent_high (x : FVec Ideal (⟨3, ![32, 256, 1024]⟩ : Shape) .f32) (g : FVec Ideal (⟨1, ![1024]⟩ : Shape) .f32)
    (sh sc : FVec Ideal (⟨1, ![1024]⟩ : Shape) .f32) (w : FVec Ideal (⟨2, ![1024, 2720]⟩ : Shape) .f32) (b : Fin 32) (l : Fin 256) (n : Fin 256) (h : ¬ n.val < 160) :
    projCtxLatent x g sh sc w (ix3 b l n) = 0 := by
  unfold projCtxLatent
  exact dif_neg h

end Cert.Layer
-- ==== Proof.FfnKernel.lean ====
module
public import proofs.«01_k».proof.Proof.Gen.Kernel2Ideal.Frame
public import proofs.«01_k».proof.Proof.Layer

/-! The feed-forward kernel's result as a function of its arguments. The grid walks batch, row block and 256 hidden
units at a time; the modulated rows stay in scratch over the eleven steps of a block, the output is summed in scratch and
written at the last step. -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Layer

theorem pay1_at (x : FVec Ideal S1x1024x1024 .f32) (g : FVec Ideal S1x1024 .f32) (sc sh : FVec Ideal S1x1x1024 .f32) (r k : Fin 1024) :
    k0_pay1 (F := Ideal) x g sc sh (ix2 r k) = modRow (fun k => x (ix3 0 r k)) (fun k => g (ix2 0 k)) (fun k => sc (ix3 0 0 k)) (fun k => sh (ix3 0 0 k)) k := by
  pointwise [k0_pay1]
  rfl

theorem pay2_at (r k : Fin 1024) : k0_pay2 (F := Ideal) (ix2 r k) = 0 := by pointwise [k0_pay2]

/-- What one step adds: 256 hidden units through the second projection. -/
def part (h : FVec Ideal S1024x1024 .bf16) (wa wg : FVec Ideal S1024x256 .bf16) (wo : FVec Ideal S256x1024 .bf16) (j : S1024x1024.Idx) : EReal :=
  ∑ f : Fin 256, unit (fun k => h (ix2 (j 0) k)) (fun k => wa (ix2 k f)) (fun k => wg (ix2 k f)) * wo (ix2 f (j 1))

theorem pay3_at (h : FVec Ideal S1024x1024 .bf16) (wa wg : FVec Ideal S1024x256 .bf16) (acc : FVec Ideal S1024x1024 .f32) (wo : FVec Ideal S256x1024 .bf16) (j : S1024x1024.Idx) :
    k0_pay3 (F := Ideal) h wa wg acc wo j = acc j + part h wa wg wo j := by
  obtain ⟨r, n, rfl⟩ : ∃ r n, j = ix2 r n := ⟨j 0, j 1, by idx_vars j⟩
  pointwise [k0_pay3]
  rfl

theorem pay4_at (x : FVec Ideal S1x1024x1024 .f32) (fg : FVec Ideal S1x1024 .f32) (gate : FVec Ideal S1x1x1024 .f32) (acc : FVec Ideal S1024x1024 .f32) (r k : Fin 1024) :
    k0_pay4 (F := Ideal) x gate acc fg (ix3 0 r k)
      = normRow count1024 (fun n => x (ix3 0 r n) + gate (ix3 0 0 n) * acc (ix2 r n)) (fun n => fg (ix2 0 n)) k := by
  pointwise [k0_pay4]
  rfl

variable (m : (ℓ : Loc nD τ sig) → Buf (Elt Ideal) ℓ)

theorem idx : ∀ t : Fin cfg0.N, win0_0.index t = ![t.val / 22, t.val / 11 % 2, 0] ∧ win0_1.index t = ![0, 0]
    ∧ win0_2.index t = ![t.val / 22, 0, 0] ∧ win0_3.index t = ![t.val / 22, 0, 0] ∧ win0_4.index t = ![t.val / 22, 0, 0]
    ∧ win0_5.index t = ![0, t.val % 11] ∧ win0_6.index t = ![0, t.val % 11 + 11] ∧ win0_7.index t = ![t.val % 11, 0]
    ∧ win0_8.index t = ![0, 0] ∧ win0_9.index t = ![t.val / 22, t.val / 11 % 2, 0] ∧ t.val < 704 :=
  (by decide +kernel : ∀ t : Fin grid0.N, _)

/-! The windows of a step, read at an entry. -/

theorem x_at (c : Dev nD) (t : Fin cfg0.N) (r k : Fin 1024) (b : Fin 32) (l : Fin 2048) (hb : (b : ℕ) = t.val / 22)
    (hl : (l : ℕ) = t.val / 11 % 2 * 1024 + r) :
    (iblk m c 0 t : Vec Ideal S1x1024x1024 .f32) (ix3 0 r k) = m ((c : Thread nD τ).loc main_arg0) (ix3 b l k) := by
  blk_point [iblk, V, idx t]

theorem g_at (c : Dev nD) (t : Fin cfg0.N) (k : Fin 1024) :
    (iblk m c 1 t : Vec Ideal S1x1024 .f32) (ix2 0 k) = m ((c : Thread nD τ).loc main_arg1) (ix1 k) := by
  blk_point [iblk, V, idx t]

theorem sh_at (c : Dev nD) (t : Fin cfg0.N) (k : Fin 1024) (b : Fin 32) (hb : (b : ℕ) = t.val / 22) :
    (iblk m c 2 t : Vec Ideal S1x1x1024 .f32) (ix3 0 0 k) = m ((c : Thread nD τ).loc main_arg2) (ix2 b k) := by
  blk_point [iblk, V, idx t]

theorem sc_at (c : Dev nD) (t : Fin cfg0.N) (k : Fin 1024) (b : Fin 32) (hb : (b : ℕ) = t.val / 22) :
    (iblk m c 3 t : Vec Ideal S1x1x1024 .f32) (ix3 0 0 k) = m ((c : Thread nD τ).loc main_arg3) (ix2 b k) := by
  blk_point [iblk, V, idx t]

theorem gate_at (c : Dev nD) (t : Fin cfg0.N) (k : Fin 1024) (b : Fin 32) (hb : (b : ℕ) = t.val / 22) :
    (iblk m c 4 t : Vec Ideal S1x1x1024 .f32) (ix3 0 0 k) = m ((c : Thread nD τ).loc main_arg4) (ix2 b k) := by
  blk_point [iblk, V, idx t]

theorem wa_at (c : Dev nD) (t : Fin cfg0.N) (k : Fin 1024) (f : Fin 256) (n : Fin 5632) (hn : (n : ℕ) = t.val % 11 * 256 + f) :
    (iblk m c 5 t : Vec Ideal S1024x256 .bf16) (ix2 k f) = m ((c : Thread nD τ).loc main_arg5) (ix2 k n) := by
  blk_point [iblk, V, idx t]

theorem wu_at (c : Dev nD) (t : Fin cfg0.N) (k : Fin 1024) (f : Fin 256) (n : Fin 5632) (hn : (n : ℕ) = 2816 + (t.val % 11 * 256 + f)) :
    (iblk m c 6 t : Vec Ideal S1024x256 .bf16) (ix2 k f) = m ((c : Thread nD τ).loc main_arg5) (ix2 k n) := by
  blk_point [iblk, V, idx t]

theorem wo_at (c : Dev nD) (t : Fin cfg0.N) (f : Fin 256) (k : Fin 1024) (n : Fin 2816) (hn : (n : ℕ) = t.val % 11 * 256 + f) :
    (iblk m c 7 t : Vec Ideal S256x1024 .bf16) (ix2 f k) = m ((c : Thread nD τ).loc main_arg6) (ix2 n k) := by
  blk_point [iblk, V, idx t]

theorem fg_at (c : Dev nD) (t : Fin cfg0.N) (k : Fin 1024) :
    (iblk m c 8 t : Vec Ideal S1x1024 .f32) (ix2 0 k) = m ((c : Thread nD τ).loc main_arg7) (ix1 k) := by
  blk_point [iblk, V, idx t]

end Cert.Kernel2Ideal.Ffn
-- ==== Proof.FfnArray.lean ====
module
public import proofs.«01_k».proof.Proof.FfnKernel
public import Idealize.ShloMosaic.Lib.Pipeline.ReadBack

/-! The feed-forward kernel's result array: the scratch over a block's eleven steps, and the block written at the last. -/

@[expose] public section
set_option maxRecDepth 16384
noncomputable section
open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Layer

variable (m : (ℓ : Loc nD τ sig) → Buf (Elt Ideal) ℓ)

/-- The modulated row the arguments in memory `m` give. -/
abbrev hidden (c : Dev nD) (b : Fin 32) (l : Fin 2048) : Fin 1024 → EReal :=
  modAt (m ((c : Thread nD τ).loc main_arg0)) (m ((c : Thread nD τ).loc main_arg1)) (m ((c : Thread nD τ).loc main_arg3))
    (m ((c : Thread nD τ).loc main_arg2)) b l

/-- After any step the first scratch holds the modulated rows of the block. -/
theorem carried (c : Dev nD) : ∀ (n : ℕ) (hn : n < cfg0.N) (r : Fin 1024) (b : Fin 32) (l : Fin 2048) (hb : (b : ℕ) = n / 22)
    (hl : (l : ℕ) = n / 11 % 2 * 1024 + r), (fun k => (outsAt0 m c n hn).2.1 (ix2 r k)) = hidden m c b l := by
  have first : ∀ t : Fin cfg0.N, t.val % 11 = 0 → ∀ (r : Fin 1024) (b : Fin 32) (l : Fin 2048) (hb : (b : ℕ) = t.val / 22)
      (hl : (l : ℕ) = t.val / 11 % 2 * 1024 + r), (fun k => (outsAt0 m c t.val t.isLt).2.1 (ix2 r k)) = hidden m c b l := by
    intro t h r b l hb hl
    funext k
    rw [outsAt0_A m c t h (by omega)]
    frame_out
    refine (pay1_at _ _ _ _ r k).trans ?_
    simp only [x_at m c t r _ b l hb hl, g_at, sc_at m c t _ b hb, sh_at m c t _ b hb]
    rfl
  intro n
  induction n with
  | zero => intro hn; exact first ⟨0, hn⟩ rfl
  | succ n ih =>
    intro hn r b l hb hl
    by_cases h : (n + 1) % 11 = 0
    · exact first ⟨n + 1, hn⟩ h r b l hb hl
    · have same : (outsAt0 m c (n + 1) hn).2.1 = (outsAt0 m c n (by omega)).2.1 := by
        by_cases h' : (n + 1) % 11 = 10
        · exact congrArg (fun p => p.2.1) (outsAt0_C m c ⟨n + 1, hn⟩ h h')
        · exact congrArg (fun p => p.2.1) (outsAt0_B m c ⟨n + 1, hn⟩ h h')
      rw [same]
      exact ih (by omega) r b l (by omega) (by omega)

/-- What step `t` adds to the second scratch. -/
def term (c : Dev nD) (t : Fin cfg0.N) : S1024x1024.Idx → EReal :=
  part (outsAt0 m c t.val t.isLt).2.1 (iblk m c 5 t) (iblk m c 6 t) (iblk m c 7 t)

theorem sum_first (c : Dev nD) (t : Fin cfg0.N) (h : t.val % 11 = 0) (j : S1024x1024.Idx) :
    (outsAt0 m c t.val t.isLt).2.2 j = 0 + term m c t j := by
  unfold term
  rw [outsAt0_A m c t h (by omega)]
  frame_out
  refine (pay3_at _ _ _ _ _ j).trans ?_
  obtain ⟨r, n, rfl⟩ : ∃ r n, j = ix2 r n := ⟨j 0, j 1, by idx_vars j⟩
  rw [pay2_at]

theorem sum_next (c : Dev nD) (t : Fin cfg0.N) (h : ¬t.val % 11 = 0) (j : S1024x1024.Idx) :
    (outsAt0 m c t.val t.isLt).2.2 j
      = (outsAt0 m c (t.val - 1) (Nat.lt_of_le_of_lt (Nat.sub_le _ _) t.isLt)).2.2 j + term m c t j := by
  unfold term
  by_cases h' : t.val % 11 = 10
  · rw [outsAt0_C m c t h h']
    frame_out
    refine (pay3_at _ _ _ _ _ j).trans ?_
    simp only [read_unread_whole]
    rfl
  · rw [outsAt0_B m c t h h']
    frame_out
    refine (pay3_at _ _ _ _ _ j).trans ?_
    simp only [read_unread_whole]
    rfl

/-- At a block's last step the second scratch holds the whole second projection. -/
theorem summed (c : Dev nD) (t : Fin cfg0.N) (ht : t.val % 11 = 10) (r n : Fin 1024) (b : Fin 32) (l : Fin 2048)
    (hb : (b : ℕ) = t.val / 22) (hl : (l : ℕ) = t.val / 11 % 2 * 1024 + r) :
    (outsAt0 m c t.val t.isLt).2.2 (ix2 r n)
      = ∑ f : Fin 2816, unit (hidden m c b l) (fun k => m ((c : Thread nD τ).loc main_arg5) (ix2 k ⟨f, by omega⟩))
          (fun k => m ((c : Thread nD τ).loc main_arg5) (ix2 k ⟨2816 + f, by omega⟩)) * m ((c : Thread nD τ).loc main_arg6) (ix2 f n) := by
  refine (Pipeline.eq_sum_fin_of_reset_step_apply_of_flush (fun n h => (outsAt0 m c n h).2.2) 11 (fun _ => 0) (term m c)
    (sum_first m c) (sum_next m c) t ht _).trans ?_
  rw [zero_add]
  refine Fin.sum_mul_add_congr fun s f hf => ?_
  have hlt := Pipeline.run_point_lt_of_flush (J := 11) t ht s
  have hs := s.isLt
  show unit (fun k => (outsAt0 m c _ _).2.1 (ix2 r k)) _ _ * _ = _
  rw [carried m c (11 * (t.val / 11) + s.val) hlt r b l (by omega) (by omega)]
  congr 1
  · congr 1
    · funext k; exact wa_at m c ⟨_, hlt⟩ k f _ (by show s.val * 256 + f.val = (11 * (t.val / 11) + s.val) % 11 * 256 + f.val; omega)
    · funext k; exact wu_at m c ⟨_, hlt⟩ k f _ (by show 2816 + (s.val * 256 + f.val) = 2816 + ((11 * (t.val / 11) + s.val) % 11 * 256 + f.val); omega)
  · exact wo_at m c ⟨_, hlt⟩ f n _ (by show s.val * 256 + f.val = (11 * (t.val / 11) + s.val) % 11 * 256 + f.val; omega)

theorem written (c : Dev nD) (t : Fin cfg0.N) (ht : t.val % 11 = 10) (r n : Fin 1024) (b : Fin 32) (l : Fin 2048)
    (hb : (b : ℕ) = t.val / 22) (hl : (l : ℕ) = t.val / 11 % 2 * 1024 + r) :
    (outsAt0 m c t.val t.isLt).1 (ix3 0 r n)
      = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (ix3 b l n) := by
  have acc := fun n => summed m c t ht r n b l hb hl
  rw [outsAt0_C m c t (by omega) ht] at acc ⊢
  frame_out at acc ⊢
  refine (pay4_at _ _ _ _ r n).trans ?_
  simp only [acc, x_at m c t r _ b l hb hl, gate_at m c t _ b hb, fg_at]
  rfl

theorem final (c : Dev nD) : (dats m 0 c).arrAt 9 (cfgs 0).N
    = ffn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 9 _ (by decide +kernel) fun t hf y => ?_
  have ht := (flush0_9 t).mp hf
  have hN := (idx t).2.2.2.2.2.2.2.2.2.2
  blk_simp
  rw [after0_9]
  obtain ⟨r, n, rfl⟩ : ∃ r n : Fin 1024, y = (ix3 0 r n : S1x1024x1024.Idx) := ⟨y 1, y 2, by idx_vars y; rw [Fin.eq_zero y0]⟩
  refine (written m c t ht r n ⟨t.val / 22, by omega⟩ ⟨t.val / 11 % 2 * 1024 + r.val, by omega⟩ rfl rfl).trans ?_
  congr 1
  blk_ext [idx t]

end Cert.Kernel2Ideal.Ffn
-- ==== Proof.FfnReference.lean ====
module
public import proofs.«01_k».proof.Proof.Gen.Reference2Ideal.Run
public import proofs.«01_k».proof.Proof.Layer

/-! The plain feed-forward of the reference, read at one entry. The term is cut into the norm, the modulation, the first
projection, the gate and the second projection. -/

@[expose] public section
set_option maxRecDepth 16384
noncomputable section
open Idealize.ShloMosaic Idealize.ShloMosaic.TcCoe Idealize.SL.Sem
namespace Cert.Reference2Ideal.Ffn
open Cert.Reference2Ideal Cert.Reference2Ideal.Gen Cert.Reference2Ideal.Value Cert.Layer

def normed (X : FVec Ideal S32x2048x1024 .f32) (G : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))

theorem normed_at (X : FVec Ideal S32x2048x1024 .f32) (G : FVec Ideal S1024 .f32) (b : Fin 32) (l : Fin 2048) (k : Fin 1024) :
    normed X G (ix3 b l k) = normRow count1024 (fun k => X (ix3 b l k)) (fun k => G (ix1 k)) k := by
  pointwise [normed]
  rfl

/-- A row per batch, spread over the tokens. -/
def spread (A : FVec Ideal S32x1x1024 .f32) : FVec Ideal S32x2048x1024 .f32 :=
  broadcastInDim S32x2048x1024 ![0, 1, 2] bcast_S32x1x1024_S32x2048x1024_0_1_2 A

def modulated (N : FVec Ideal S32x2048x1024 .f32) (SC SH : FVec Ideal S32x1024 .f32) : FVec Ideal S32x2048x1024 .f32 :=
  addf (mulf N (spread (addf (broadcastInDim S32x1x1024 ![] bcast_S_S32x1x1024 (constant S_ .f32 0x3F800000#32)) (broadcastInDim S32x1x1024 ![0, 2] bcast_S32x1024_S32x1x1024_0_2 SC)))) (spread (broadcastInDim S32x1x1024 ![0, 2] bcast_S32x1024_S32x1x1024_0_2 SH))

theorem modulated_at (N : FVec Ideal S32x2048x1024 .f32) (SC SH : FVec Ideal S32x1024 .f32) (b : Fin 32) (l : Fin 2048) (k : Fin 1024) :
    modulated N SC SH (ix3 b l k) = N (ix3 b l k) * (1 + SC (ix2 b k)) + SH (ix2 b k) := by
  pointwise [modulated, spread]

def projected (H : FVec Ideal S32x2048x1024 .f32) (W : FVec Ideal S1024x5632 .f32) : FVec Ideal S32x2048x5632 .f32 :=
  Host.dotGeneral dot_S32x2048x1024_S1024x5632_S32x2048x5632_2_0_01_1_n_n none H W

theorem projected_at (H : FVec Ideal S32x2048x1024 .f32) (W : FVec Ideal S1024x5632 .f32) (b : Fin 32) (l : Fin 2048) (f : Fin 5632) :
    projected H W (ix3 b l f) = ∑ k : Fin 1024, H (ix3 b l k) * W (ix2 k f) := by
  pointwise [projected]

def first (P : FVec Ideal S32x2048x5632 .f32) : FVec Ideal S32x2048x2816 .f32 := extractStridedSlice S32x2048x2816 ![0, 0, 0] P slices_S32x2048x5632_S32x2048x2816_0_0_0

def second (P : FVec Ideal S32x2048x5632 .f32) : FVec Ideal S32x2048x2816 .f32 := extractStridedSlice S32x2048x2816 ![0, 0, 2816] P slices_S32x2048x5632_S32x2048x2816_0_0_2816

theorem first_at (P : FVec Ideal S32x2048x5632 .f32) (b : Fin 32) (l : Fin 2048) (f : Fin 2816) : first P (ix3 b l f) = P (ix3 b l ⟨f, by omega⟩) := by
  pointwise [first]

theorem second_at (P : FVec Ideal S32x2048x5632 .f32) (b : Fin 32) (l : Fin 2048) (f : Fin 2816) : second P (ix3 b l f) = P (ix3 b l ⟨2816 + f, by omega⟩) := by
  pointwise [second]

def gated (A U : FVec Ideal S32x2048x2816 .f32) : FVec Ideal S32x2048x2816 .f32 :=
  mulf (mulf A (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf A))))) U

theorem gated_at (A U : FVec Ideal S32x2048x2816 .f32) (b : Fin 32) (l : Fin 2048) (f : Fin 2816) :
    gated A U (ix3 b l f) = A (ix3 b l f) * Ideal.logistic (A (ix3 b l f)) * U (ix3 b l f) := by
  pointwise [gated]
  rfl

def residual (X : FVec Ideal S32x2048x1024 .f32) (GATE : FVec Ideal S32x1024 .f32) (Y : FVec Ideal S32x2048x2816 .f32) (WO : FVec Ideal S2816x1024 .f32) : FVec Ideal S32x2048x1024 .f32 :=
  addf X (mulf (spread (broadcastInDim S32x1x1024 ![0, 2] bcast_S32x1024_S32x1x1024_0_2 GATE)) (Host.dotGeneral dot_S32x2048x2816_S2816x1024_S32x2048x1024_2_0_01_1_n_n none Y WO))

theorem residual_at (X : FVec Ideal S32x2048x1024 .f32) (GATE : FVec Ideal S32x1024 .f32) (Y : FVec Ideal S32x2048x2816 .f32) (WO : FVec Ideal S2816x1024 .f32) (b : Fin 32) (l : Fin 2048) (n : Fin 1024) :
    residual X GATE Y WO (ix3 b l n) = X (ix3 b l n) + GATE (ix2 b n) * ∑ f : Fin 2816, Y (ix3 b l f) * WO (ix2 f n) := by
  pointwise [residual, spread]

/-- The reference's result, of its eight arguments. -/
def whole (X : FVec Ideal S32x2048x1024 .f32) (G : FVec Ideal S1024 .f32) (SH SC GATE : FVec Ideal S32x1024 .f32) (WI : FVec Ideal S1024x5632 .f32)
    (WO : FVec Ideal S2816x1024 .f32) (FG : FVec Ideal S1024 .f32) : FVec Ideal S32x2048x1024 .f32 :=
  normed (residual X GATE (gated (first (projected (modulated (normed X G) SC SH) WI)) (second (projected (modulated (normed X G) SC SH) WI))) WO) FG

theorem whole_eq (X : FVec Ideal S32x2048x1024 .f32) (G : FVec Ideal S1024 .f32) (SH SC GATE : FVec Ideal S32x1024 .f32) (WI : FVec Ideal S1024x5632 .f32)
    (WO : FVec Ideal S2816x1024 .f32) (FG : FVec Ideal S1024 .f32) : whole X G SH SC GATE WI WO FG = ffn X G SH SC GATE WI WO FG := by
  funext j
  obtain ⟨b, l, n, rfl⟩ : ∃ b l n, j = ix3 b l n := ⟨j 0, j 1, j 2, by idx_vars j⟩
  unfold whole
  rw [normed_at]
  simp only [residual_at, gated_at, first_at, second_at, projected_at, modulated_at, normed_at]
  rfl

theorem res_eq (m : (ℓ : Loc nD τ sig) → Buf (Elt Ideal) ℓ) (c : Dev nD) : res_main_v43 m c
    = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end Cert.Reference2Ideal.Ffn
-- ==== Proof.Ffn.lean ====
module
public import proofs.«01_k».proof.Defs
public import proofs.«01_k».proof.Proof.FfnArray
public import proofs.«01_k».proof.Proof.FfnReference

/-! The feed-forward's value claim: from equal arguments both programs end with the same result. -/

@[expose] public section
noncomputable section
open Idealize.ShloMosaic Idealize.ShloMosaic.TcCoe Idealize.SL.Sem
namespace Cert.Ffn

theorem algebraic : Cert.algebraic_Kernel2Ideal_Reference2Ideal := by
  pair_intro
  · run_from Cert.Kernel2Ideal.Gen.run_main m g
  · run_from Cert.Reference2Ideal.Value.run m' g'
    obtain ⟨e0, e1, e2, e3, e4, e5, e6, e7⟩ := hagree c
    refine (Cert.Reference2Ideal.Ffn.res_eq m' c).trans ?_
    rw [e0, e1, e2, e3, e4, e5, e6, e7]
    exact (Cert.Reference2Ideal.Ffn.whole_eq _ _ _ _ _ _ _ _).trans (Cert.Kernel2Ideal.Ffn.final m c).symm

end Cert.Ffn
-- ==== Proof.ProjKernel.lean ====
module
public import proofs.«01_k».proof.Proof.Gen.Kernel3Ideal.Frame
public import proofs.«01_k».proof.Proof.Layer

/-! The input projection kernel's five results as functions of its arguments: the modulated rows times the widened
weights, whose 96 columns after the latent ones are zero. -/

@[expose] public section
set_option maxRecDepth 16384
noncomputable section
open Idealize.ShloMosaic Idealize.ShloMosaic.TcCoe Idealize.SL.Sem
open Idealize.ShloMosaic.Pipeline (Dat)
namespace Cert.Kernel3Ideal.Proj
open Cert.Kernel3Ideal Cert.Kernel3Ideal.Gen Cert.Layer

/-- The kernel's row at a column of the widened weights. -/
def col (x0 : FVec Ideal S1x512x1024 .f32) (x1 : FVec Ideal S1x1024 .f32) (x2 x3 : FVec Ideal S1x1x1024 .f32) (x4 : FVec Ideal S1024x2816 .bf16)
    (r : Fin 512) (f : Fin 2816) : EReal :=
  ∑ k, modRow (fun k => x0 (ix3 0 r k)) (fun k => x1 (ix2 0 k)) (fun k => x3 (ix3 0 0 k)) (fun k => x2 (ix3 0 0 k)) k * x4 (ix2 k f)

/-- The modulated rows the five products share. -/
theorem rows_at (x0 : FVec Ideal S1x512x1024 .f32) (x1 : FVec Ideal S1x1024 .f32) (x2 x3 : FVec Ideal S1x1x1024 .f32) (r : Fin 512) (k : Fin 1024) :
    k0_pay5 (F := Ideal) x0 x1 x3 x2 (ix2 r k)
      = modRow (fun k => x0 (ix3 0 r k)) (fun k => x1 (ix2 0 k)) (fun k => x3 (ix3 0 0 k)) (fun k => x2 (ix3 0 0 k)) k := by
  pointwise [k0_pay5]
  rfl

theorem block5_eq (x0 : FVec Ideal S1x512x1024 .f32) (x1 : FVec Ideal S1x1024 .f32) (x2 x3 : FVec Ideal S1x1x1024 .f32) (x4 : FVec Ideal S1024x2816 .bf16)
    (r : Fin 512) (n : Fin 768) : out0_5 (F := Ideal) x0 x1 x2 x3 x4 (ix3 0 r n) = col x0 x1 x2 x3 x4 r ⟨0 + n, by omega⟩ := by
  unfold_out out0_5
  canon_tiles x h
  open_payloads
  pointwise [k0_pay6]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm
  simp only [col, zero_add]
  rfl

theorem block6_eq (x0 : FVec Ideal S1x512x1024 .f32) (x1 : FVec Ideal S1x1024 .f32) (x2 x3 : FVec Ideal S1x1x1024 .f32) (x4 : FVec Ideal S1024x2816 .bf16)
    (r : Fin 512) (n : Fin 256) : out0_6 (F := Ideal) x0 x1 x2 x3 x4 (ix3 0 r n) = col x0 x1 x2 x3 x4 r ⟨768 + n, by omega⟩ := by
  unfold_out out0_6
  canon_tiles x h
  open_payloads
  pointwise [k0_pay1, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

theorem block7_eq (x0 : FVec Ideal S1x512x1024 .f32) (x1 : FVec Ideal S1x1024 .f32) (x2 x3 : FVec Ideal S1x1x1024 .f32) (x4 : FVec Ideal S1024x2816 .bf16)
    (r : Fin 512) (n : Fin 256) : out0_7 (F := Ideal) x0 x1 x2 x3 x4 (ix3 0 r n) = col x0 x1 x2 x3 x4 r ⟨1024 + n, by omega⟩ := by
  unfold_out out0_7
  canon_tiles x h
  open_payloads
  pointwise [k0_pay2, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

theorem block8_eq (x0 : FVec Ideal S1x512x1024 .f32) (x1 : FVec Ideal S1x1024 .f32) (x2 x3 : FVec Ideal S1x1x1024 .f32) (x4 : FVec Ideal S1024x2816 .bf16)
    (r : Fin 512) (n : Fin 1024) : out0_8 (F := Ideal) x0 x1 x2 x3 x4 (ix3 0 r n) = col x0 x1 x2 x3 x4 r ⟨1280 + n, by omega⟩ := by
  unfold_out out0_8
  canon_tiles x h
  open_payloads
  pointwise [k0_pay3, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

theorem block9_eq (x0 : FVec Ideal S1x512x1024 .f32) (x1 : FVec Ideal S1x1024 .f32) (x2 x3 : FVec Ideal S1x1x1024 .f32) (x4 : FVec Ideal S1024x2816 .bf16)
    (r : Fin 512) (n : Fin 512) : out0_9 (F := Ideal) x0 x1 x2 x3 x4 (ix3 0 r n) = col x0 x1 x2 x3 x4 r ⟨2304 + n, by omega⟩ := by
  unfold_out out0_9
  canon_tiles x h
  open_payloads
  pointwise [k0_pay4, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, 0, 0] ∧ win0_3.index t = ![t.val / 4, 0, 0] ∧ win0_4.index t = ![0, 0]
    ∧ win0_5.index t = ![t.val / 4, t.val % 4, 0] ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0] ∧ t.val < 128 :=
  (by decide +kernel : ∀ t : Fin grid0.N, _)

theorem x_at (c : Dev nD) (t : Fin cfg0.N) (r : Fin 512) (n : Fin 1024) (b : Fin 32) (l : Fin 2048) (hb : (b : ℕ) = t.val / 4)
    (hl : (l : ℕ) = t.val % 4 * 512 + r) :
    (iblk m c 0 t : Vec Ideal S1x512x1024 .f32) (ix3 0 r n) = m ((c : Thread nD τ).loc main_arg0) (ix3 b l n) := by
  blk_point [iblk, V, idx t]

theorem g_at (c : Dev nD) (t : Fin cfg0.N) (k : Fin 1024) :
    (iblk m c 1 t : Vec Ideal S1x1024 .f32) (ix2 0 k) = m ((c : Thread nD τ).loc main_arg1) (ix1 k) := by
  blk_point [iblk, V, idx t]

theorem sh_at (c : Dev nD) (t : Fin cfg0.N) (k : Fin 1024) (b : Fin 32) (hb : (b : ℕ) = t.val / 4) :
    (iblk m c 2 t : Vec Ideal S1x1x1024 .f32) (ix3 0 0 k) = m ((c : Thread nD τ).loc main_arg2) (ix2 b k) := by
  blk_point [iblk, V, idx t]

theorem sc_at (c : Dev nD) (t : Fin cfg0.N) (k : Fin 1024) (b : Fin 32) (hb : (b : ℕ) = t.val / 4) :
    (iblk m c 3 t : Vec Ideal S1x1x1024 .f32) (ix3 0 0 k) = m ((c : Thread nD τ).loc main_arg3) (ix2 b k) := by
  blk_point [iblk, V, idx t]

/-- The weights with 96 zero columns put in after column 1183. -/
def wide (W : FVec Ideal S1024x2720 .f32) : FVec Ideal S1024x2816 .f32 :=
  concatenate S1024x2816 1 [⟨S1024x1184, extractStridedSlice S1024x1184 ![0, 0] W slices_S1024x2720_S1024x1184_0_0⟩,
    ⟨S1024x96, broadcastInDim S1024x96 ![] bcast_S_S1024x96 (constant S_ .f32 0x00000000#32)⟩,
    ⟨S1024x1536, extractStridedSlice S1024x1536 ![0, 1184] W slices_S1024x2720_S1024x1536_0_1184⟩] concatenates_S1024x1184_S1024x96_S1024x1536_S1024x2816_d1

theorem wide_low (W : FVec Ideal S1024x2720 .f32) (k : Fin 1024) (f : Fin 2816) (n : Fin 2720) (hf : (f : ℕ) < 1184) (hn : (n : ℕ) = f) :
    wide W (ix2 k f) = W (ix2 k n) := by
  obtain ⟨f, hF⟩ := f
  obtain ⟨n, hN⟩ := n
  dsimp only at hf hn
  subst hn
  pointwise [wide]
  exact dif_pos hf

theorem wide_mid (W : FVec Ideal S1024x2720 .f32) (k : Fin 1024) (f : Fin 2816) (hf : 1184 ≤ (f : ℕ)) (hf' : (f : ℕ) < 1280) :
    wide W (ix2 k f) = 0 := by
  pointwise [wide]
  rw [dif_neg (by omega), dif_pos (by omega)]

theorem wide_high (W : FVec Ideal S1024x2720 .f32) (k : Fin 1024) (f : Fin 2816) (n : Fin 2720) (hf : 1280 ≤ (f : ℕ)) (hn : (n : ℕ) + 96 = f) :
    wide W (ix2 k f) = W (ix2 k n) := by
  pointwise [wide]
  rw [dif_neg (by omega), dif_neg (by omega)]
  exact congrArg (fun j => W (ix2 k j)) (Fin.ext (by dsimp only; omega))

theorem v_wide (c : Dev nD) : V m c main_v7 = truncf (F := Ideal) .bf16 (wide (m ((c : Thread nD τ).loc main_arg4))) bitsLt_bf16_f32 := by
  unfold V wide
  after_results_simp
  rfl

theorem w_at (c : Dev nD) (t : Fin cfg0.N) (k : Fin 1024) (f : Fin 2816) :
    (iblk m c 4 t : Vec Ideal S1024x2816 .bf16) (ix2 k f) = wide (m ((c : Thread nD τ).loc main_arg4)) (ix2 k f) := by
  refine Eq.trans (b := (V m c main_v7 : Vec Ideal S1024x2816 .bf16) (ix2 k f)) ?_ ?_
  · blk_point [iblk, idx t]
  · rw [v_wide]; rfl

/-- The first columns of the widened weights are the weights' own. -/
theorem col_low (c : Dev nD) (t : Fin cfg0.N) (r : Fin 512) (b : Fin 32) (l : Fin 2048) (hb : (b : ℕ) = t.val / 4)
    (hl : (l : ℕ) = t.val % 4 * 512 + r) (f : Fin 2816) (n : Fin 2720) (hf : (f : ℕ) < 1184) (hn : (n : ℕ) = f) :
    col (iblk m c 0 t) (iblk m c 1 t) (iblk m c 2 t) (iblk m c 3 t) (iblk m c 4 t) r f
      = projAt (m ((c : Thread nD τ).loc main_arg0)) (m ((c : Thread nD τ).loc main_arg1)) (m ((c : Thread nD τ).loc main_arg2))
        (m ((c : Thread nD τ).loc main_arg3)) (m ((c : Thread nD τ).loc main_arg4)) b l n := by
  unfold col projAt modAt
  simp only [x_at m c t r _ b l hb hl, g_at, sh_at m c t _ b hb, sc_at m c t _ b hb, w_at, wide_low _ _ f n hf hn]

/-- Its last columns are the weights' own, 96 columns further. -/
theorem col_high (c : Dev nD) (t : Fin cfg0.N) (r : Fin 512) (b : Fin 32) (l : Fin 2048) (hb : (b : ℕ) = t.val / 4)
    (hl : (l : ℕ) = t.val % 4 * 512 + r) (f : Fin 2816) (n : Fin 2720) (hf : 1280 ≤ (f : ℕ)) (hn : (n : ℕ) + 96 = f) :
    col (iblk m c 0 t) (iblk m c 1 t) (iblk m c 2 t) (iblk m c 3 t) (iblk m c 4 t) r f
      = projAt (m ((c : Thread nD τ).loc main_arg0)) (m ((c : Thread nD τ).loc main_arg1)) (m ((c : Thread nD τ).loc main_arg2))
        (m ((c : Thread nD τ).loc main_arg3)) (m ((c : Thread nD τ).loc main_arg4)) b l n := by
  unfold col projAt modAt
  simp only [x_at m c t r _ b l hb hl, g_at, sh_at m c t _ b hb, sc_at m c t _ b hb, w_at, wide_high _ _ f n hf hn]

/-- Between them it is zero: whatever the rows hold, a product with zero is zero. -/
theorem col_mid (c : Dev nD) (t : Fin cfg0.N) (r : Fin 512) (f : Fin 2816) (hf : 1184 ≤ (f : ℕ)) (hf' : (f : ℕ) < 1280) :
    col (iblk m c 0 t) (iblk m c 1 t) (iblk m c 2 t) (iblk m c 3 t) (iblk m c 4 t) r f = 0 := by
  unfold col
  simp only [w_at, wide_mid _ _ f hf hf', mul_zero, Finset.sum_const_zero]

theorem final5 (c : Dev nD) : (dats m 0 c).arrAt 5 (cfgs 0).N
    = projCols 768 0 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have hN := (idx t).2.2.2.2.2.2.2.2.2.2
  blk_simp
  rw [after0_5]
  obtain ⟨r, n, rfl⟩ : ∃ (r : Fin 512) (n : Fin 768), y = (ix3 0 r n : S1x512x768.Idx) := ⟨y 1, y 2, by idx_vars y; rw [Fin.eq_zero y0]⟩
  refine (block5_eq _ _ _ _ _ r n).trans (Eq.trans (b := (projCols 768 0 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val / 4, by omega⟩ ⟨t.val % 4 * 512 + r.val, by omega⟩ n)) ?_ ?_)
  · exact col_low m c t r ⟨t.val / 4, by omega⟩ ⟨t.val % 4 * 512 + r.val, by omega⟩ rfl rfl ⟨0 + n.val, by omega⟩ ⟨0 + n.val, by omega⟩ (by dsimp only; omega) rfl
  · congr 1
    blk_ext [idx t]

theorem final6 (c : Dev nD) : (dats m 0 c).arrAt 6 (cfgs 0).N
    = projCols 256 768 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have hN := (idx t).2.2.2.2.2.2.2.2.2.2
  blk_simp
  rw [after0_6]
  obtain ⟨r, n, rfl⟩ : ∃ (r : Fin 512) (n : Fin 256), y = (ix3 0 r n : S1x512x256.Idx) := ⟨y 1, y 2, by idx_vars y; rw [Fin.eq_zero y0]⟩
  refine (block6_eq _ _ _ _ _ r n).trans (Eq.trans (b := (projCols 256 768 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val / 4, by omega⟩ ⟨t.val % 4 * 512 + r.val, by omega⟩ n)) ?_ ?_)
  · exact col_low m c t r ⟨t.val / 4, by omega⟩ ⟨t.val % 4 * 512 + r.val, by omega⟩ rfl rfl ⟨768 + n.val, by omega⟩ ⟨768 + n.val, by omega⟩ (by dsimp only; omega) rfl
  · congr 1
    blk_ext [idx t]

theorem final7 (c : Dev nD) : (dats m 0 c).arrAt 7 (cfgs 0).N
    = projLatent (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have hN := (idx t).2.2.2.2.2.2.2.2.2.2
  blk_simp
  rw [after0_7]
  obtain ⟨r, n, rfl⟩ : ∃ (r : Fin 512) (n : Fin 256), y = (ix3 0 r n : S1x512x256.Idx) := ⟨y 1, y 2, by idx_vars y; rw [Fin.eq_zero y0]⟩
  refine (block7_eq _ _ _ _ _ r n).trans (Eq.trans (b := (projLatent (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val / 4, by omega⟩ ⟨t.val % 4 * 512 + r.val, by omega⟩ n)) ?_ ?_)
  · by_cases hn : n.val < 160
    · refine (col_low m c t r ⟨t.val / 4, by omega⟩ ⟨t.val % 4 * 512 + r.val, by omega⟩ rfl rfl ⟨1024 + n.val, by omega⟩ ⟨1024 + n.val, by omega⟩ (by dsimp only; omega) rfl).trans ?_
      exact (projLatent_low _ _ _ _ _ _ _ n hn).symm
    · refine (col_mid m c t r ⟨1024 + n.val, by omega⟩ (by dsimp only; omega) (by dsimp only; omega)).trans ?_
      exact (projLatent_high _ _ _ _ _ _ _ n hn).symm
  · congr 1
    blk_ext [idx t]

theorem final8 (c : Dev nD) : (dats m 0 c).arrAt 8 (cfgs 0).N
    = projCols 1024 1184 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have hN := (idx t).2.2.2.2.2.2.2.2.2.2
  blk_simp
  rw [after0_8]
  obtain ⟨r, n, rfl⟩ : ∃ (r : Fin 512) (n : Fin 1024), y = (ix3 0 r n : S1x512x1024.Idx) := ⟨y 1, y 2, by idx_vars y; rw [Fin.eq_zero y0]⟩
  refine (block8_eq _ _ _ _ _ r n).trans (Eq.trans (b := (projCols 1024 1184 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val / 4, by omega⟩ ⟨t.val % 4 * 512 + r.val, by omega⟩ n)) ?_ ?_)
  · exact col_high m c t r ⟨t.val / 4, by omega⟩ ⟨t.val % 4 * 512 + r.val, by omega⟩ rfl rfl ⟨1280 + n.val, by omega⟩ ⟨1184 + n.val, by omega⟩ (by dsimp only; omega) (by dsimp only; omega)
  · congr 1
    blk_ext [idx t]

theorem final9 (c : Dev nD) : (dats m 0 c).arrAt 9 (cfgs 0).N
    = projCols 512 2208 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  have hN := (idx t).2.2.2.2.2.2.2.2.2.2
  blk_simp
  rw [after0_9]
  obtain ⟨r, n, rfl⟩ : ∃ (r : Fin 512) (n : Fin 512), y = (ix3 0 r n : S1x512x512.Idx) := ⟨y 1, y 2, by idx_vars y; rw [Fin.eq_zero y0]⟩
  refine (block9_eq _ _ _ _ _ r n).trans (Eq.trans (b := (projCols 512 2208 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val / 4, by omega⟩ ⟨t.val % 4 * 512 + r.val, by omega⟩ n)) ?_ ?_)
  · exact col_high m c t r ⟨t.val / 4, by omega⟩ ⟨t.val % 4 * 512 + r.val, by omega⟩ rfl rfl ⟨2304 + n.val, by omega⟩ ⟨2208 + n.val, by omega⟩ (by dsimp only; omega) (by dsimp only; omega)
  · congr 1
    blk_ext [idx t]

end Cert.Kernel3Ideal.Proj
-- ==== Proof.ProjReference.lean ====
module
public import proofs.«01_k».proof.Proof.Gen.Reference3Ideal.Run
public import proofs.«01_k».proof.Proof.Layer

/-! The plain input projection of the reference, read at one entry: the norm, the modulation, the projection, and the five
slices of its columns. -/

@[expose] public section
set_option maxRecDepth 16384
noncomputable section
open Idealize.ShloMosaic Idealize.ShloMosaic.TcCoe Idealize.SL.Sem
namespace Cert.Reference3Ideal.Proj
open Cert.Reference3Ideal Cert.Reference3Ideal.Gen Cert.Reference3Ideal.Value Cert.Layer

def normed (X : FVec Ideal S32x2048x1024 .f32) (G : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))

theorem normed_at (X : FVec Ideal S32x2048x1024 .f32) (G : FVec Ideal S1024 .f32) (b : Fin 32) (l : Fin 2048) (k : Fin 1024) :
    normed X G (ix3 b l k) = normRow count1024 (fun k => X (ix3 b l k)) (fun k => G (ix1 k)) k := by
  pointwise [normed]
  rfl

/-- A row per batch, spread over the tokens. -/
def spread (A : FVec Ideal S32x1x1024 .f32) : FVec Ideal S32x2048x1024 .f32 :=
  broadcastInDim S32x2048x1024 ![0, 1, 2] bcast_S32x1x1024_S32x2048x1024_0_1_2 A

def modulated (N : FVec Ideal S32x2048x1024 .f32) (SC SH : FVec Ideal S32x1024 .f32) : FVec Ideal S32x2048x1024 .f32 :=
  addf (mulf N (spread (addf (broadcastInDim S32x1x1024 ![] bcast_S_S32x1x1024 (constant S_ .f32 0x3F800000#32)) (broadcastInDim S32x1x1024 ![0, 2] bcast_S32x1024_S32x1x1024_0_2 SC)))) (spread (broadcastInDim S32x1x1024 ![0, 2] bcast_S32x1024_S32x1x1024_0_2 SH))

theorem modulated_at (N : FVec Ideal S32x2048x1024 .f32) (SC SH : FVec Ideal S32x1024 .f32) (b : Fin 32) (l : Fin 2048) (k : Fin 1024) :
    modulated N SC SH (ix3 b l k) = N (ix3 b l k) * (1 + SC (ix2 b k)) + SH (ix2 b k) := by
  pointwise [modulated, spread]

def projected (X : FVec Ideal S32x2048x1024 .f32) (G : FVec Ideal S1024 .f32) (SH SC : FVec Ideal S32x1024 .f32) (W : FVec Ideal S1024x2720 .f32) : FVec Ideal S32x2048x2720 .f32 :=
  Host.dotGeneral dot_S32x2048x1024_S1024x2720_S32x2048x2720_2_0_01_1_n_n none (modulated (normed X G) SC SH) W

theorem projected_at (X : FVec Ideal S32x2048x1024 .f32) (G : FVec Ideal S1024 .f32) (SH SC : FVec Ideal S32x1024 .f32) (W : FVec Ideal S1024x2720 .f32) (b : Fin 32) (l : Fin 2048) (n : Fin 2720) :
    projected X G SH SC W (ix3 b l n) = projAt X G SH SC W b l n := by
  pointwise [projected]
  simp only [modulated_at, normed_at]
  rfl

def hyena (P : FVec Ideal S32x2048x2720 .f32) : FVec Ideal S32x2048x768 .f32 := extractStridedSlice S32x2048x768 ![0, 0, 0] P slices_S32x2048x2720_S32x2048x768_0_0_0

theorem hyena_eq (X : FVec Ideal S32x2048x1024 .f32) (G : FVec Ideal S1024 .f32) (SH SC : FVec Ideal S32x1024 .f32) (W : FVec Ideal S1024x2720 .f32) :
    hyena (projected X G SH SC W) = projCols 768 0 (by omega) X G SH SC W := by
  funext j
  obtain ⟨b, l, n, rfl⟩ : ∃ b l n, j = ix3 b l n := ⟨j 0, j 1, j 2, by idx_vars j⟩
  have e : ∀ P : FVec Ideal S32x2048x2720 .f32, hyena P (ix3 b l n) = P (ix3 b l ⟨0 + n.val, by omega⟩) := fun P => by
    pointwise [hyena]
  rw [e, projected_at]
  rfl

def query (P : FVec Ideal S32x2048x2720 .f32) : FVec Ideal S32x2048x256 .f32 := extractStridedSlice S32x2048x256 ![0, 0, 768] P slices_S32x2048x2720_S32x2048x256_0_0_768

theorem query_eq (X : FVec Ideal S32x2048x1024 .f32) (G : FVec Ideal S1024 .f32) (SH SC : FVec Ideal S32x1024 .f32) (W : FVec Ideal S1024x2720 .f32) :
    query (projected X G SH SC W) = projCols 256 768 (by omega) X G SH SC W := by
  funext j
  obtain ⟨b, l, n, rfl⟩ : ∃ b l n, j = ix3 b l n := ⟨j 0, j 1, j 2, by idx_vars j⟩
  have e : ∀ P : FVec Ideal S32x2048x2720 .f32, query P (ix3 b l n) = P (ix3 b l ⟨768 + n.val, by omega⟩) := fun P => by
    pointwise [query]
  rw [e, projected_at]
  rfl

def retention (P : FVec Ideal S32x2048x2720 .f32) : FVec Ideal S32x2048x1024 .f32 := extractStridedSlice S32x2048x1024 ![0, 0, 1184] P slices_S32x2048x2720_S32x2048x1024_0_0_1184

theorem retention_eq (X : FVec Ideal S32x2048x1024 .f32) (G : FVec Ideal S1024 .f32) (SH SC : FVec Ideal S32x1024 .f32) (W : FVec Ideal S1024x2720 .f32) :
    retention (projected X G SH SC W) = projCols 1024 1184 (by omega) X G SH SC W := by
  funext j
  obtain ⟨b, l, n, rfl⟩ : ∃ b l n, j = ix3 b l n := ⟨j 0, j 1, j 2, by idx_vars j⟩
  have e : ∀ P : FVec Ideal S32x2048x2720 .f32, retention P (ix3 b l n) = P (ix3 b l ⟨1184 + n.val, by omega⟩) := fun P => by
    pointwise [retention]
  rw [e, projected_at]
  rfl

def grouped (P : FVec Ideal S32x2048x2720 .f32) : FVec Ideal S32x2048x512 .f32 := extractStridedSlice S32x2048x512 ![0, 0, 2208] P slices_S32x2048x2720_S32x2048x512_0_0_2208

theorem grouped_eq (X : FVec Ideal S32x2048x1024 .f32) (G : FVec Ideal S1024 .f32) (SH SC : FVec Ideal S32x1024 .f32) (W : FVec Ideal S1024x2720 .f32) :
    grouped (projected X G SH SC W) = projCols 512 2208 (by omega) X G SH SC W := by
  funext j
  obtain ⟨b, l, n, rfl⟩ : ∃ b l n, j = ix3 b l n := ⟨j 0, j 1, j 2, by idx_vars j⟩
  have e : ∀ P : FVec Ideal S32x2048x2720 .f32, grouped P (ix3 b l n) = P (ix3 b l ⟨2208 + n.val, by omega⟩) := fun P => by
    pointwise [grouped]
  rw [e, projected_at]
  rfl

def latent (P : FVec Ideal S32x2048x2720 .f32) : FVec Ideal S32x2048x160 .f32 := extractStridedSlice S32x2048x160 ![0, 0, 1024] P slices_S32x2048x2720_S32x2048x160_0_0_1024

theorem latent_at (P : FVec Ideal S32x2048x2720 .f32) (b : Fin 32) (l : Fin 2048) (n : Fin 160) : latent P (ix3 b l n) = P (ix3 b l ⟨1024 + n.val, by omega⟩) := by
  pointwise [latent]

def widened (Q : FVec Ideal S32x2048x160 .f32) : FVec Ideal S32x2048x256 .f32 :=
  pad S32x2048x256 ![0, 0, 0] ![0, 0, 96] ![0, 0, 0] Q (sitofp .f32 (constantI S_ 32 0#32)) pads_S32x2048x160_S32x2048x256_000_000_0960 h_S_

theorem zero_word : (FloatOps.sitofp (F := Ideal) .f32 0#32 : EReal) = 0 := by
  simp [FloatOps.sitofp]

theorem widened_low (Q : FVec Ideal S32x2048x160 .f32) (b : Fin 32) (l : Fin 2048) (n : Fin 256) (hn : n.val < 160) : widened Q (ix3 b l n) = Q (ix3 b l ⟨n.val, hn⟩) := by
  pointwise [widened]
  exact dif_pos hn

theorem widened_high (Q : FVec Ideal S32x2048x160 .f32) (b : Fin 32) (l : Fin 2048) (n : Fin 256) (hn : ¬ n.val < 160) : widened Q (ix3 b l n) = 0 := by
  pointwise [widened]
  rw [dif_neg hn]
  exact zero_word

theorem latent_eq (X : FVec Ideal S32x2048x1024 .f32) (G : FVec Ideal S1024 .f32) (SH SC : FVec Ideal S32x1024 .f32) (W : FVec Ideal S1024x2720 .f32) :
    widened (latent (projected X G SH SC W)) = projLatent X G SH SC W := by
  funext j
  obtain ⟨b, l, n, rfl⟩ : ∃ b l n, j = ix3 b l n := ⟨j 0, j 1, j 2, by idx_vars j⟩
  by_cases hn : n.val < 160
  · rw [widened_low _ b l n hn, latent_at, projected_at]
    exact (projLatent_low _ _ _ _ _ _ _ n hn).symm
  · rw [widened_high _ b l n hn]
    exact (projLatent_high _ _ _ _ _ _ _ n hn).symm

end Cert.Reference3Ideal.Proj
-- ==== Proof.Proj.lean ====
module
public import proofs.«01_k».proof.Defs
public import proofs.«01_k».proof.Proof.ProjKernel
public import proofs.«01_k».proof.Proof.ProjReference

/-! The input projection's value claim: from equal arguments both programs end with the same five results. -/

@[expose] public section
noncomputable section
open Idealize.ShloMosaic Idealize.ShloMosaic.TcCoe Idealize.SL.Sem
namespace Cert.Proj
open Cert.Kernel3Ideal.Proj Cert.Reference3Ideal.Proj

theorem algebraic : Cert.algebraic_Kernel3Ideal_Reference3Ideal := by
  pair_intro
  · run_from Cert.Kernel3Ideal.Gen.run_main m g
  · run_from Cert.Reference3Ideal.Value.run m' g'
    · exact (hyena_eq _ _ _ _ _).trans (final5 m c).symm
    · exact (query_eq _ _ _ _ _).trans (final6 m c).symm
    · exact (latent_eq _ _ _ _ _).trans (final7 m c).symm
    · exact (retention_eq _ _ _ _ _).trans (final8 m c).symm
    · exact (grouped_eq _ _ _ _ _).trans (final9 m c).symm

end Cert.Proj
-- ==== Proof.GqaKernel.lean ====
module
public import proofs.«01_k».proof.Proof.Gen.Kernel4Ideal.Frame
public import proofs.«01_k».proof.Proof.Softmax
public import Idealize.ShloMosaic.Lib.Pipeline.ValueKit
public import Idealize.ShloMosaic.Lib.Pointwise
/-! The grouped-query kernel's result as a function of its arguments: two heads of queries to each head of keys. -/

@[expose] public section
set_option maxRecDepth 16384
noncomputable section
open Idealize.ShloMosaic Idealize.ShloMosaic.TcCoe Idealize.SL.Sem
open Idealize.ShloMosaic.Pipeline (Dat)
namespace Cert.Kernel4Ideal.Gqa
open Cert.Kernel4Ideal Cert.Kernel4Ideal.Gen Cert.Softmax

/-- One entry of a block: the row's query of head `h` against the two blocks of keys, the values read at lane `e`. -/
def blockAt (x0 : FVec Ideal S1x4x256x128 .bf16) (x1 x2 : FVec Ideal S1x2x256x128 .bf16) (x3 x4 : FVec Ideal S1x2x2048x128 .bf16)
    (h : Fin 4) (r : Fin 256) (e : Fin 128) : EReal :=
  attendTwo (fun k : Fin 256 => ∑ d : Fin 128, x0 (ix4 0 h r d) * x1 (ix4 0 ⟨h.val / 2, by omega⟩ k d))
    (fun k : Fin 2048 => ∑ d : Fin 128, x0 (ix4 0 h r d) * x3 (ix4 0 ⟨h.val / 2, by omega⟩ k d))
    (fun k => x2 (ix4 0 ⟨h.val / 2, by omega⟩ k e)) (fun k => x4 (ix4 0 ⟨h.val / 2, by omega⟩ k e))

theorem neg_inf : Ideal.ofBits .f32 (4286578688#32) = ⊥ := by
  simp [Ideal.ofBits, Ideal.ieee]

/-- The lane mask picks the first of two values on the lower 64 lanes and the second on the upper ones. -/
theorem select_lane {α : Type} (n : ℕ) (hn : n < 128) (a b : α) :
    Scalar.select (IntOp.cmpi .slt (BitVec.ofNat 32 n) 64#32) a b = if n < 64 then a else b := by
  have key : ∀ k : Fin 128, IntOp.cmpi .slt (BitVec.ofNat 32 k.val) 64#32 = if k.val < 64 then 1#1 else 0#1 := by
    decide +kernel
  rw [key ⟨n, hn⟩]
  by_cases hk : n < 64 <;> simp [hk, Scalar.select]

theorem block_eq (x0 : FVec Ideal S1x4x256x128 .bf16) (x1 x2 : FVec Ideal S1x2x256x128 .bf16) (x3 x4 : FVec Ideal S1x2x2048x128 .bf16) (y : S1x256x256.Idx)
    (g : Fin 4) (e : Fin 128) (r : Fin 256) (hg : (g : ℕ) = (y 2 : ℕ) / 64) (he : (e : ℕ) = (y 2 : ℕ) % 128) (hr : (r : ℕ) = y 1) :
    out0_5 (F := Ideal) x0 x1 x2 x3 x4 y = blockAt x0 x1 x2 x3 x4 g r e := by
  unfold_out out0_5
  canon_tiles x h
  case piece0 =>
    open_payloads
    pointwise [k0_pay29]
    obtain rfl : e = x 2 := Fin.ext (by omega)
    obtain rfl : r = x 1 := Fin.ext (by omega)
    rw [select_lane _ x2_lt, neg_inf]
    split_ifs with hx
    · obtain rfl : g = 2 := Fin.ext (by omega)
      rfl
    · obtain rfl : g = 3 := Fin.ext (by omega)
      rfl
  case piece1 =>
    open_payloads
    pointwise [k0_pay20]
    obtain rfl : e = x 2 := Fin.ext (by omega)
    obtain rfl : r = x 1 := Fin.ext (by omega)
    rw [select_lane _ x2_lt, neg_inf]
    split_ifs with hx
    · obtain rfl : g = 0 := Fin.ext (by omega)
      rfl
    · obtain rfl : g = 1 := Fin.ext (by omega)
      rfl

variable (m : (ℓ : Loc nD τ sig) → Buf (Elt Ideal) ℓ)

theorem idx : ∀ t : Fin cfg0.N, win0_0.index t = ![t.val / 8, 0, t.val % 8, 0] ∧ win0_1.index t = ![t.val / 8, 0, 0, 0]
    ∧ win0_2.index t = ![t.val / 8, 0, 0, 0] ∧ win0_3.index t = ![t.val / 8, 0, 0, 0]
    ∧ win0_4.index t = ![t.val / 8, 0, 0, 0] ∧ win0_5.index t = ![t.val / 8, t.val % 8, 0] ∧ t.val < 256 :=
  (by decide +kernel : ∀ t : Fin grid0.N, _)

/-- The whole array's entry at batch `b`, row `l`, output lane `j`: head `j / 64`, value lane `j % 128`. -/
def arrayAt (Q : FVec Ideal S32x4x2048x128 .bf16) (KL VL : FVec Ideal S32x2x2048x128 .bf16) (KC VC : FVec Ideal S32x2x256x128 .bf16)
    (b : Fin 32) (g : Fin 4) (l : Fin 2048) (e : Fin 128) : EReal :=
  attendTwo (fun k : Fin 256 => ∑ d : Fin 128, Q (ix4 b g l d) * KC (ix4 b ⟨g.val / 2, by omega⟩ k d))
    (fun k : Fin 2048 => ∑ d : Fin 128, Q (ix4 b g l d) * KL (ix4 b ⟨g.val / 2, by omega⟩ k d))
    (fun k => VC (ix4 b ⟨g.val / 2, by omega⟩ k e)) (fun k => VL (ix4 b ⟨g.val / 2, by omega⟩ k e))

def array (Q : FVec Ideal S32x4x2048x128 .bf16) (KL VL : FVec Ideal S32x2x2048x128 .bf16) (KC VC : FVec Ideal S32x2x256x128 .bf16) :
    FVec Ideal S32x2048x256 .f32 := fun j =>
  arrayAt Q KL VL KC VC (j 0) ⟨(j 2 : ℕ) / 64, by idx_bounds; omega⟩ (j 1) ⟨(j 2 : ℕ) % 128, by omega⟩

theorem final (c : Dev nD) : (dats m 0 c).arrAt 5 (cfgs 0).N
    = array (m ((c : Thread nD τ).loc main_arg0)) (m ((c : Thread nD τ).loc main_arg3)) (m ((c : Thread nD τ).loc main_arg4))
        (m ((c : Thread nD τ).loc main_arg1)) (m ((c : Thread nD τ).loc main_arg2)) := by
  refine (dats m 0 c).arrAt_eq_of_covers 5 _ (by decide +kernel) fun t _ y => ?_
  blk_simp
  rw [after0_5]
  refine (block_eq _ _ _ _ _ y ⟨(y 2 : ℕ) / 64, by idx_bounds; omega⟩ ⟨(y 2 : ℕ) % 128, by omega⟩ (y 1) rfl rfl rfl).trans ?_
  refine attendTwo_congr ?_ ?_ ?_ ?_ <;> intro k
  all_goals blk_point [iblk, V, idx t]
end Cert.Kernel4Ideal.Gqa
-- ==== Proof.GqaReference.lean ====
module
public import proofs.«01_k».proof.Proof.Gen.Reference4Ideal.Run
public import proofs.«01_k».proof.Proof.Softmax
public import Idealize.ShloMosaic.Lib.Pipeline.ValueKit
public import Idealize.ShloMosaic.Lib.Pointwise

/-! The plain grouped-query attention of the reference, read at one entry: softmax of one row of scores over all the keys,
weighting the values of the head. The term is cut into scores, weights, values and the final product. -/

@[expose] public section
set_option maxRecDepth 16384
noncomputable section
open Idealize.ShloMosaic Idealize.ShloMosaic.TcCoe Idealize.SL.Sem
namespace Cert.Reference4Ideal.Gqa
open Cert.Reference4Ideal Cert.Reference4Ideal.Gen Cert.Reference4Ideal.Value Cert.Softmax

/-- All the keys (or values): the context's rows, then the latents'. -/
def joined (A : FVec Ideal S32x2x256x128 .bf16) (B : FVec Ideal S32x2x2048x128 .bf16) : FVec Ideal S32x2x2304x128 .f32 :=
  extf .f32 (concatenate S32x2x2304x128 2 [⟨S32x2x256x128, A⟩, ⟨S32x2x2048x128, B⟩] concatenates_S32x2x256x128_S32x2x2048x128_S32x2x2304x128_d2) bitsLt_bf16_f32

/-- Each head of keys, twice. -/
def repeated (K : FVec Ideal S32x2x2304x128 .f32) : FVec Ideal S32x4x2304x128 .f32 :=
  shapeCast _ (broadcastInDim S32x2x2x2304x128 ![0, 1, 3, 4] bcast_S32x2x2304x128_S32x2x2x2304x128_0_1_3_4 K) shapeCasts_S32x2x2x2304x128_S32x4x2304x128

theorem repeated_at (K : FVec Ideal S32x2x2304x128 .f32) (b : Fin 32) (h : Fin 4) (k : Fin 2304) (d : Fin 128) :
    repeated K (ix4 b h k d) = K (ix4 b ⟨(h : ℕ) / 2, by omega⟩ k d) := by
  pointwise [repeated]
  all_goals trace_state

def scores (Q : FVec Ideal S32x4x2048x128 .bf16) (K : FVec Ideal S32x4x2304x128 .f32) : FVec Ideal S32x4x2048x2304 .f32 :=
  Host.dotGeneral dot_S32x4x2048x128_S32x4x2304x128_S32x4x2048x2304_3_3_2_2_01_01 none (extf .f32 Q bitsLt_bf16_f32) K

def rowMax (S : FVec Ideal S32x4x2048x2304 .f32) : FVec Ideal S32x4x2048 .f32 :=
  Host.reduce FloatOps.maximumf S (constant S_ .f32 0xFF800000#32) reducesTo_S32x4x2048x2304_S32x4x2048_d3 h_S_

def floor : FVec Ideal S32x4x2048 .f32 := broadcastInDim S32x4x2048 ![] bcast_S_S32x4x2048 (constant S_ .f32 0xFF800000#32)

def expo (S : FVec Ideal S32x4x2048x2304 .f32) (N M : FVec Ideal S32x4x2048 .f32) : FVec Ideal S32x4x2048x2304 .f32 :=
  Host.exp (subf S (broadcastInDim S32x4x2048x2304 ![0, 1, 2, 3] bcast_S32x4x2048x1_S32x4x2048x2304_0_1_2_3 (broadcastInDim S32x4x2048x1 ![0, 1, 2] bcast_S32x4x2048_S32x4x2048x1_0_1_2 (maximumf N M))))

def weights (E : FVec Ideal S32x4x2048x2304 .f32) : FVec Ideal S32x4x2048x2304 .f32 :=
  Host.divf E (broadcastInDim S32x4x2048x2304 ![0, 1, 2, 3] bcast_S32x4x2048x1_S32x4x2048x2304_0_1_2_3 (broadcastInDim S32x4x2048x1 ![0, 1, 2] bcast_S32x4x2048_S32x4x2048x1_0_1_2 (Host.reduceAdd E (constant S_ .f32 0x00000000#32) reducesTo_S32x4x2048x2304_S32x4x2048_d3 h_S_)))

def values (V : FVec Ideal S32x2x2304x128 .f32) : FVec Ideal S32x4x2304x64 .f32 :=
  concatenate S32x4x2304x64 1
    [⟨S32x1x2304x64, broadcastInDim S32x1x2304x64 ![0, 2, 3] bcast_S32x2304x64_S32x1x2304x64_0_2_3 (shapeCast S32x2304x64 (extractStridedSlice S32x1x2304x64 ![0, 0, 0, 0] V slices_S32x2x2304x128_S32x1x2304x64_0_0_0_0) shapeCasts_S32x1x2304x64_S32x2304x64)⟩,
     ⟨S32x1x2304x64, broadcastInDim S32x1x2304x64 ![0, 2, 3] bcast_S32x2304x64_S32x1x2304x64_0_2_3 (shapeCast S32x2304x64 (extractStridedSlice S32x1x2304x64 ![0, 0, 0, 64] V slices_S32x2x2304x128_S32x1x2304x64_0_0_0_64) shapeCasts_S32x1x2304x64_S32x2304x64)⟩,
     ⟨S32x1x2304x64, broadcastInDim S32x1x2304x64 ![0, 2, 3] bcast_S32x2304x64_S32x1x2304x64_0_2_3 (shapeCast S32x2304x64 (extractStridedSlice S32x1x2304x64 ![0, 1, 0, 0] V slices_S32x2x2304x128_S32x1x2304x64_0_1_0_0) shapeCasts_S32x1x2304x64_S32x2304x64)⟩,
     ⟨S32x1x2304x64, broadcastInDim S32x1x2304x64 ![0, 2, 3] bcast_S32x2304x64_S32x1x2304x64_0_2_3 (shapeCast S32x2304x64 (extractStridedSlice S32x1x2304x64 ![0, 1, 0, 64] V slices_S32x2x2304x128_S32x1x2304x64_0_1_0_64) shapeCasts_S32x1x2304x64_S32x2304x64)⟩]
    concatenates_S32x1x2304x64_S32x1x2304x64_S32x1x2304x64_S32x1x2304x64_S32x4x2304x64_d1

def product (V : FVec Ideal S32x4x2304x64 .f32) (W : FVec Ideal S32x4x2048x2304 .f32) : FVec Ideal S32x2048x256 .f32 :=
  shapeCast S32x2048x256 (transpose S32x2048x4x64 [0, 3, 1, 2] (Host.dotGeneral dot_S32x4x2304x64_S32x4x2048x2304_S32x4x64x2048_2_3_3_2_01_01 none V W) transposes_S32x4x64x2048_S32x2048x4x64_0_3_1_2) shapeCasts_S32x2048x4x64_S32x2048x256

theorem joined_low (A : FVec Ideal S32x2x256x128 .bf16) (B : FVec Ideal S32x2x2048x128 .bf16) (b : Fin 32) (h : Fin 2) (k : Fin 256) (e : Fin 128) :
    joined A B (ix4 b h ⟨k, by omega⟩ e) = A (ix4 b h k e) := by
  pointwise [joined]

theorem joined_high (A : FVec Ideal S32x2x256x128 .bf16) (B : FVec Ideal S32x2x2048x128 .bf16) (b : Fin 32) (h : Fin 2) (k : Fin 2048) (e : Fin 128) :
    joined A B (ix4 b h ⟨256 + k, by omega⟩ e) = B (ix4 b h k e) := by
  pointwise [joined]

theorem scores_at (Q : FVec Ideal S32x4x2048x128 .bf16) (K : FVec Ideal S32x4x2304x128 .f32) (b : Fin 32) (h : Fin 4) (l : Fin 2048) (k : Fin 2304) :
    scores Q K (ix4 b h l k) = ∑ d : Fin 128, Q (ix4 b h l d) * K (ix4 b h k d) := by
  pointwise [scores]

theorem neg_inf : Ideal.ofBits .f32 (4286578688#32) = ⊥ := by
  simp [Ideal.ofBits, Ideal.ieee]

theorem floor_at (i : S32x4x2048.Idx) : floor i = Ideal.ofBits .f32 (4286578688#32) := rfl

theorem rowMax_at (S : FVec Ideal S32x4x2048x2304 .f32) (b : Fin 32) (h : Fin 4) (l : Fin 2048) :
    rowMax S (ix3 b h l) = Finset.univ.fold max (Ideal.ofBits .f32 (4286578688#32)) fun k : Fin 2304 => S (ix4 b h l k) := by
  pointwise [rowMax]

theorem expo_at' (S : FVec Ideal S32x4x2048x2304 .f32) (N M : FVec Ideal S32x4x2048 .f32) (b : Fin 32) (h : Fin 4) (l : Fin 2048) (k : Fin 2304) :
    expo S N M (ix4 b h l k) = Ideal.exp (S (ix4 b h l k) - max (N (ix3 b h l)) (M (ix3 b h l))) := by
  pointwise [expo]

theorem expo_at (S : FVec Ideal S32x4x2048x2304 .f32) (b : Fin 32) (h : Fin 4) (l : Fin 2048) (k : Fin 2304) :
    expo S floor (rowMax S) (ix4 b h l k) = Ideal.exp (S (ix4 b h l k) - max ⊥ (top fun k : Fin 2304 => S (ix4 b h l k))) := by
  rw [expo_at', floor_at, rowMax_at, neg_inf, top]

theorem weights_at (E : FVec Ideal S32x4x2048x2304 .f32) (b : Fin 32) (h : Fin 4) (l : Fin 2048) (k : Fin 2304) :
    weights E (ix4 b h l k) = Ideal.div (E (ix4 b h l k)) (∑ k : Fin 2304, E (ix4 b h l k)) := by
  pointwise [weights]

theorem values_at (V : FVec Ideal S32x2x2304x128 .f32) (b : Fin 32) (h : Fin 4) (k : Fin 2304) (e : Fin 64) :
    values V (ix4 b h k e) = V (ix4 b ⟨(h : ℕ) / 2, by omega⟩ k ⟨(h : ℕ) % 2 * 64 + e, by omega⟩) := by
  pointwise [values]
  fin_cases h <;> simp <;> rfl

theorem product_at (V : FVec Ideal S32x4x2304x64 .f32) (W : FVec Ideal S32x4x2048x2304 .f32) (b : Fin 32) (l : Fin 2048) (n : Fin 256) :
    product V W (ix3 b l n) = ∑ k : Fin 2304, W (ix4 b ⟨(n : ℕ) / 64, by omega⟩ l k)
      * V (ix4 b ⟨(n : ℕ) / 64, by omega⟩ k ⟨(n : ℕ) % 64, by omega⟩) := by
  pointwise [product]
  exact Finset.sum_congr rfl fun k _ => mul_comm _ _

variable (m : (ℓ : Loc nD τ sig) → Buf (Elt Ideal) ℓ)

/-- The scores of the memory's arguments. -/
def memScores (c : Dev nD) : FVec Ideal S32x4x2048x2304 .f32 :=
  scores (m ((c : Thread nD τ).loc main_arg0)) (repeated (joined (m ((c : Thread nD τ).loc main_arg1)) (m ((c : Thread nD τ).loc main_arg3))))

/-- The reference's result is the cut term. -/
theorem res_eq (c : Dev nD) : res_main_v34 m c
    = product (values (joined (m ((c : Thread nD τ).loc main_arg2)) (m ((c : Thread nD τ).loc main_arg4))))
        (weights (expo (memScores m c) floor (rowMax (memScores m c)))) := rfl

/-- Entry `j` of the attention: the softmax of its row of scores against the values of its head and lane. -/
theorem product_attend (S : FVec Ideal S32x4x2048x2304 .f32) (V : FVec Ideal S32x2x2304x128 .f32) (b : Fin 32) (l : Fin 2048) (n : Fin 256) :
    product (values V) (weights (expo S floor (rowMax S))) (ix3 b l n)
      = attend (fun k : Fin 2304 => S (ix4 b ⟨(n : ℕ) / 64, by omega⟩ l k))
          (fun k => V (ix4 b ⟨(n : ℕ) / 64 / 2, by omega⟩ k ⟨(n : ℕ) % 128, by omega⟩)) := by
  rw [product_at, attend]
  refine Finset.sum_congr rfl fun k _ => ?_
  rw [weights_at, values_at]
  simp only [expo_at]
  congr 3
  apply Fin.ext
  simp only; omega

end Cert.Reference4Ideal.Gqa
-- ==== Proof.Gqa.lean ====
module
public import proofs.«01_k».proof.Defs
public import proofs.«01_k».proof.Proof.Gen.Pre_finite_qk4
public import proofs.«01_k».proof.Proof.Attn
public import proofs.«01_k».proof.Proof.GqaKernel
public import proofs.«01_k».proof.Proof.GqaReference

/-! The grouped-query kernel's attention is the reference's, when the queries and the keys are finite. -/

@[expose] public section
set_option maxRecDepth 16384
noncomputable section
open Idealize.ShloMosaic Idealize.ShloMosaic.TcCoe Idealize.SL.Sem
namespace Cert.Gqa
open Cert.Softmax Cert.Attn

open Cert.Reference4Ideal Cert.Reference4Ideal.Gqa in
/-- Kernel's array = reference's term, over variables. -/
theorem array_eq (Q : FVec Ideal S32x4x2048x128 .bf16) (KL VL : FVec Ideal S32x2x2048x128 .bf16) (KC VC : FVec Ideal S32x2x256x128 .bf16)
    (hQ : ∀ i, IsReal (Q i)) (hC : ∀ i, IsReal (KC i)) (hL : ∀ i, IsReal (KL i)) :
    product (values (joined VC VL)) (weights (expo (scores Q (repeated (joined KC KL))) floor (rowMax (scores Q (repeated (joined KC KL))))))
      = Cert.Kernel4Ideal.Gqa.array Q KL VL KC VC := by
  funext j
  obtain ⟨b, l, n, rfl⟩ : ∃ (b : Fin 32) (l : Fin 2048) (n : Fin 256), j = ix3 b l n := ⟨j 0, j 1, j 2, by idx_vars j⟩
  rw [product_attend]
  have hK : ∀ k h e, IsReal (joined KC KL (ix4 b h k e)) := fun k h e => by
    by_cases hk : (k : ℕ) < 256
    · exact joined_low KC KL b h ⟨k, hk⟩ e ▸ hC _
    · have := joined_high KC KL b h ⟨(k : ℕ) - 256, by omega⟩ e
      have ek : (⟨256 + ((⟨(k : ℕ) - 256, by omega⟩ : Fin 2048) : ℕ), by simp only; omega⟩ : Fin 2304) = k := Fin.ext (by simp only; omega)
      rw [ek] at this
      exact this ▸ hL _
  have hs : ∀ k : Fin 2304, IsReal (scores Q (repeated (joined KC KL)) (ix4 b ⟨(n : ℕ) / 64, by omega⟩ l k)) := fun k => by
    rw [scores_at]; exact isReal_dot _ _ (fun d => hQ _) (fun d => by rw [repeated_at]; exact hK _ _ _)
  rw [← attendTwo_eq (a := 256) (b := 2048) rfl (by omega) _ _ hs]
  refine attendTwo_congr ?_ ?_ ?_ ?_ <;> intro k
  · rw [scores_at]; exact Finset.sum_congr rfl fun d _ => by rw [repeated_at, joined_low]; rfl
  · rw [scores_at]; exact Finset.sum_congr rfl fun d _ => by rw [repeated_at, joined_high]; rfl
  · exact joined_low ..
  · exact joined_high ..

open Cert.Kernel4Ideal in
/-- The precondition says that the queries and both blocks of keys are real numbers. -/
theorem real_of_pre (m : (ℓ : Loc nD τ sig) → Buf (Elt Ideal) ℓ) (h : Cert.Pre_Kernel4Ideal_finite_qk4 m) (c : Dev nD) :
    (∀ i, IsReal ((m ((c : Thread nD τ).loc main_arg0) : FVec Ideal S32x4x2048x128 .bf16) i))
    ∧ (∀ i, IsReal ((m ((c : Thread nD τ).loc main_arg1) : FVec Ideal S32x2x256x128 .bf16) i))
    ∧ (∀ i, IsReal ((m ((c : Thread nD τ).loc main_arg3) : FVec Ideal S32x2x2048x128 .bf16) i)) :=
  ⟨fun i => isReal_of_test _ (congrFun (h c).1 i), fun i => isReal_of_test _ (congrFun (h c).2.1 i),
    fun i => isReal_of_test _ (congrFun (h c).2.2 i)⟩

theorem algebraic : Cert.algebraic_Kernel4Ideal_Reference4Ideal_pre_finite_qk4 := by
  pair_intro
  · run_from Cert.Kernel4Ideal.Gen.run_main m g
  · run_from Cert.Reference4Ideal.Value.run m' g'
    obtain ⟨e0, e1, e2, e3, e4⟩ := hagree c
    obtain ⟨hQ, hC, hL⟩ := real_of_pre m hpre c
    refine (Cert.Reference4Ideal.Gqa.res_eq m' c).trans ?_
    unfold Cert.Reference4Ideal.Gqa.memScores
    rw [e0, e1, e2, e3, e4]
    exact (array_eq _ _ _ _ _ hQ hC hL).trans (Cert.Kernel4Ideal.Gqa.final m c).symm

end Cert.Gqa
-- ==== Proof.MergeKernel.lean ====
module
public import proofs.«01_k».proof.Proof.Gen.Kernel5Ideal.Frame
public import proofs.«01_k».proof.Proof.Layer

/-! The merge kernel's result as a function of its arguments: each of the four groups is normed and goes through its own
256 rows of the output projection, and the four products are added. -/

@[expose] public section
set_option maxRecDepth 16384
noncomputable section
open Idealize.ShloMosaic Idealize.ShloMosaic.TcCoe Idealize.SL.Sem
open Idealize.ShloMosaic.Pipeline (Dat)
namespace Cert.Kernel5Ideal.Merge
open Cert.Kernel5Ideal Cert.Kernel5Ideal.Gen Cert.Layer

/-- One group's share of the output projection at a row and a column. -/
def share (y : FVec Ideal S1x512x256 .f32) (g : FVec Ideal S1x1024 .f32) (w : FVec Ideal S1024x1024 .bf16) (r : Fin 512) (n : Fin 1024) (i : Fin 4) : EReal :=
  ∑ k : Fin 256, normRow count256 (fun k => y (ix3 0 r k)) (fun k => g (ix2 0 ⟨i.val * 256 + k.val, by omega⟩)) k * w (ix2 ⟨i.val * 256 + k.val, by omega⟩ n)

theorem share_zero (y : FVec Ideal S1x512x256 .f32) (g : FVec Ideal S1x1024 .f32) (w : FVec Ideal S1024x1024 .bf16) (r : Fin 512) (n : Fin 1024) :
    share y g w r n 0 = ∑ k : Fin 256, normRow count256 (fun k => y (ix3 0 r k)) (fun k => g (ix2 0 ⟨k.val, by omega⟩)) k * w (ix2 ⟨k.val, by omega⟩ n) := by
  unfold share
  simp only [Fin.val_zero, zero_mul, zero_add]

theorem block_eq (x0 : FVec Ideal S1x512x1024 .f32) (x1 x2 x3 x4 : FVec Ideal S1x512x256 .f32) (x5 : FVec Ideal S1x1024 .f32)
    (x6 : FVec Ideal S1x1x1024 .f32) (x7 : FVec Ideal S1024x1024 .bf16) (r : Fin 512) (n : Fin 1024) :
    out0_8 (F := Ideal) x0 x1 x2 x3 x4 x5 x6 x7 (ix3 0 r n)
      = x0 (ix3 0 r n) + x6 (ix3 0 0 n) * (share x1 x5 x7 r n 0 + share x2 x5 x7 r n 1 + share x3 x5 x7 r n 2 + share x4 x5 x7 r n 3) := by
  unfold out0_8
  canon_tiles x h
  open_payloads
  pointwise [k0_pay1, k0_pay2, k0_pay3, k0_pay4, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm
  rw [share_zero]
  rfl

variable (m : (ℓ : Loc nD τ sig) → Buf (Elt Ideal) ℓ)

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![0, 0] ∧ win0_6.index t = ![t.val / 4, 0, 0] ∧ win0_7.index t = ![0, 0]
    ∧ win0_8.index t = ![t.val / 4, t.val % 4, 0] ∧ t.val < 128 :=
  (by decide +kernel : ∀ t : Fin grid0.N, _)

theorem x_at (c : Dev nD) (t : Fin cfg0.N) (r : Fin 512) (n : Fin 1024) (b : Fin 32) (l : Fin 2048) (hb : (b : ℕ) = t.val / 4)
    (hl : (l : ℕ) = t.val % 4 * 512 + r) :
    (iblk m c 0 t : Vec Ideal S1x512x1024 .f32) (ix3 0 r n) = m ((c : Thread nD τ).loc main_arg0) (ix3 b l n) := by
  blk_point [iblk, V, idx t]

theorem a_at (c : Dev nD) (t : Fin cfg0.N) (r : Fin 512) (k : Fin 256) (b : Fin 32) (l : Fin 2048) (hb : (b : ℕ) = t.val / 4)
    (hl : (l : ℕ) = t.val % 4 * 512 + r) :
    (iblk m c 1 t : Vec Ideal S1x512x256 .f32) (ix3 0 r k) = m ((c : Thread nD τ).loc main_arg1) (ix3 b l k) := by
  blk_point [iblk, V, idx t]

theorem b_at (c : Dev nD) (t : Fin cfg0.N) (r : Fin 512) (k : Fin 256) (b : Fin 32) (l : Fin 2048) (hb : (b : ℕ) = t.val / 4)
    (hl : (l : ℕ) = t.val % 4 * 512 + r) :
    (iblk m c 2 t : Vec Ideal S1x512x256 .f32) (ix3 0 r k) = m ((c : Thread nD τ).loc main_arg2) (ix3 b l k) := by
  blk_point [iblk, V, idx t]

theorem c_at (c : Dev nD) (t : Fin cfg0.N) (r : Fin 512) (k : Fin 256) (b : Fin 32) (l : Fin 2048) (hb : (b : ℕ) = t.val / 4)
    (hl : (l : ℕ) = t.val % 4 * 512 + r) :
    (iblk m c 3 t : Vec Ideal S1x512x256 .f32) (ix3 0 r k) = m ((c : Thread nD τ).loc main_arg3) (ix3 b l k) := by
  blk_point [iblk, V, idx t]

theorem d_at (c : Dev nD) (t : Fin cfg0.N) (r : Fin 512) (k : Fin 256) (b : Fin 32) (l : Fin 2048) (hb : (b : ℕ) = t.val / 4)
    (hl : (l : ℕ) = t.val % 4 * 512 + r) :
    (iblk m c 4 t : Vec Ideal S1x512x256 .f32) (ix3 0 r k) = m ((c : Thread nD τ).loc main_arg4) (ix3 b l k) := by
  blk_point [iblk, V, idx t]

theorem g_at (c : Dev nD) (t : Fin cfg0.N) (k : Fin 1024) :
    (iblk m c 5 t : Vec Ideal S1x1024 .f32) (ix2 0 k) = m ((c : Thread nD τ).loc main_arg5) (ix1 k) := by
  blk_point [iblk, V, idx t]

theorem gate_at (c : Dev nD) (t : Fin cfg0.N) (k : Fin 1024) (b : Fin 32) (hb : (b : ℕ) = t.val / 4) :
    (iblk m c 6 t : Vec Ideal S1x1x1024 .f32) (ix3 0 0 k) = m ((c : Thread nD τ).loc main_arg6) (ix2 b k) := by
  blk_point [iblk, V, idx t]

theorem w_at (c : Dev nD) (t : Fin cfg0.N) (k n : Fin 1024) :
    (iblk m c 7 t : Vec Ideal S1024x1024 .bf16) (ix2 k n) = m ((c : Thread nD τ).loc main_arg7) (ix2 k n) := by
  blk_point [iblk, V, idx t]

/-- The four groups in memory. -/
abbrev groups (c : Dev nD) : Fin 4 → FVec Ideal (⟨3, ![32, 2048, 256]⟩ : Shape) .f32 :=
  ![m ((c : Thread nD τ).loc main_arg1), m ((c : Thread nD τ).loc main_arg2), m ((c : Thread nD τ).loc main_arg3), m ((c : Thread nD τ).loc main_arg4)]

theorem final (c : Dev nD) : (dats m 0 c).arrAt 8 (cfgs 0).N
    = merge (m ((c : Thread nD τ).loc main_arg0)) (groups m c) (m ((c : Thread nD τ).loc main_arg5))
        (m ((c : Thread nD τ).loc main_arg6)) (m ((c : Thread nD τ).loc main_arg7)) := by
  refine (dats m 0 c).arrAt_eq_of_covers 8 _ (by decide +kernel) fun t hf y => ?_
  have hN := (idx t).2.2.2.2.2.2.2.2.2
  blk_simp
  rw [after0_8]
  obtain ⟨r, n, rfl⟩ : ∃ (r : Fin 512) (n : Fin 1024), y = (ix3 0 r n : S1x512x1024.Idx) := ⟨y 1, y 2, by idx_vars y; rw [Fin.eq_zero y0]⟩
  have hb : ((⟨t.val / 4, by omega⟩ : Fin 32) : ℕ) = t.val / 4 := rfl
  have hl : ((⟨t.val % 4 * 512 + r.val, by omega⟩ : Fin 2048) : ℕ) = t.val % 4 * 512 + r := rfl
  refine (block_eq _ _ _ _ _ _ _ _ r n).trans (Eq.trans (b := merge (m ((c : Thread nD τ).loc main_arg0)) (groups m c) (m ((c : Thread nD τ).loc main_arg5))
        (m ((c : Thread nD τ).loc main_arg6)) (m ((c : Thread nD τ).loc main_arg7)) (ix3 ⟨t.val / 4, by omega⟩ ⟨t.val % 4 * 512 + r.val, by omega⟩ n)) ?_ ?_)
  · unfold merge share
    simp only [x_at m c t r _ _ _ hb hl, a_at m c t r _ _ _ hb hl, b_at m c t r _ _ _ hb hl, c_at m c t r _ _ _ hb hl, d_at m c t r _ _ _ hb hl,
      g_at, gate_at m c t _ _ hb, w_at]
    rw [Fin.sum_univ_four]
    rfl
  · congr 1
    blk_ext [idx t]

end Cert.Kernel5Ideal.Merge
-- ==== Proof.MergeReference.lean ====
module
public import proofs.«01_k».proof.Proof.Gen.Reference5Ideal.Run
public import proofs.«01_k».proof.Proof.Layer

/-! The plain merge of the reference, read at one entry: the groups stacked, normed, laid side by side and projected. -/

@[expose] public section
set_option maxRecDepth 16384
noncomputable section
open Idealize.ShloMosaic Idealize.ShloMosaic.TcCoe Idealize.SL.Sem
namespace Cert.Reference5Ideal.Merge
open Cert.Reference5Ideal Cert.Reference5Ideal.Gen Cert.Reference5Ideal.Value Cert.Layer

def stacked (A B C D : FVec Ideal S32x2048x256 .f32) : FVec Ideal S32x2048x4x256 .f32 :=
  concatenate S32x2048x4x256 2 [⟨S32x2048x1x256, broadcastInDim S32x2048x1x256 ![0, 1, 3] bcast_S32x2048x256_S32x2048x1x256_0_1_3 A⟩, ⟨S32x2048x1x256, broadcastInDim S32x2048x1x256 ![0, 1, 3] bcast_S32x2048x256_S32x2048x1x256_0_1_3 B⟩, ⟨S32x2048x1x256, broadcastInDim S32x2048x1x256 ![0, 1, 3] bcast_S32x2048x256_S32x2048x1x256_0_1_3 C⟩, ⟨S32x2048x1x256, broadcastInDim S32x2048x1x256 ![0, 1, 3] bcast_S32x2048x256_S32x2048x1x256_0_1_3 D⟩] concatenates_S32x2048x1x256_S32x2048x1x256_S32x2048x1x256_S32x2048x1x256_S32x2048x4x256_d2

theorem stacked_at (A B C D : FVec Ideal S32x2048x256 .f32) (b : Fin 32) (l : Fin 2048) (i : Fin 4) (k : Fin 256) :
    stacked A B C D (ix4 b l i k) = (![A, B, C, D] : Fin 4 → FVec Ideal S32x2048x256 .f32) i (ix3 b l k) := by
  fin_cases i <;> pointwise [stacked]

def normed (Y : FVec Ideal S32x2048x4x256 .f32) (G : FVec Ideal S1024 .f32) : FVec Ideal S32x2048x4x256 .f32 :=
  mulf (mulf Y (broadcastInDim S32x2048x4x256 ![0, 1, 2, 3] bcast_S32x2048x4x1_S32x2048x4x256_0_1_2_3 (Host.rsqrt (addf (Host.divf (broadcastInDim S32x2048x4x1 ![0, 1, 2] bcast_S32x2048x4_S32x2048x4x1_0_1_2 (Host.reduceAdd (mulf Y Y) (constant S_ .f32 0x00000000#32) reducesTo_S32x2048x4x256_S32x2048x4_d3 h_S_)) (broadcastInDim S32x2048x4x1 ![] bcast_S_S32x2048x4x1 (constant S_ .f32 0x43800000#32))) (broadcastInDim S32x2048x4x1 ![] bcast_S_S32x2048x4x1 (constant S_ .f32 0x358637BD#32)))))) (broadcastInDim S32x2048x4x256 ![0, 1, 2, 3] bcast_S1x1x4x256_S32x2048x4x256_0_1_2_3 (broadcastInDim S1x1x4x256 ![2, 3] bcast_S4x256_S1x1x4x256_2_3 (shapeCast _ G shapeCasts_S1024_S4x256)))

theorem normed_at (Y : FVec Ideal S32x2048x4x256 .f32) (G : FVec Ideal S1024 .f32) (b : Fin 32) (l : Fin 2048) (i : Fin 4) (k : Fin 256) :
    normed Y G (ix4 b l i k) = normRow count256 (fun k => Y (ix4 b l i k)) (fun k => G (ix1 ⟨i.val * 256 + k.val, by omega⟩)) k := by
  pointwise [normed]
  rfl

def flat (Y : FVec Ideal S32x2048x4x256 .f32) : FVec Ideal S32x2048x1024 .f32 := shapeCast _ Y shapeCasts_S32x2048x4x256_S32x2048x1024

theorem flat_at (Y : FVec Ideal S32x2048x4x256 .f32) (b : Fin 32) (l : Fin 2048) (n : Fin 1024) (i : Fin 4) (k : Fin 256) (h : (n : ℕ) = i.val * 256 + k.val) :
    flat Y (ix3 b l n) = Y (ix4 b l i k) := by
  pointwise [flat]
  blk_point []

def projected (X : FVec Ideal S32x2048x1024 .f32) (GATE : FVec Ideal S32x1024 .f32) (Y : FVec Ideal S32x2048x1024 .f32) (W : FVec Ideal S1024x1024 .f32) : FVec Ideal S32x2048x1024 .f32 :=
  addf X (mulf (broadcastInDim S32x2048x1024 ![0, 1, 2] bcast_S32x1x1024_S32x2048x1024_0_1_2 (broadcastInDim S32x1x1024 ![0, 2] bcast_S32x1024_S32x1x1024_0_2 GATE)) (Host.dotGeneral dot_S32x2048x1024_S1024x1024_S32x2048x1024_2_0_01_1_n_n none Y W))

theorem projected_at (X : FVec Ideal S32x2048x1024 .f32) (GATE : FVec Ideal S32x1024 .f32) (Y : FVec Ideal S32x2048x1024 .f32) (W : FVec Ideal S1024x1024 .f32) (b : Fin 32) (l : Fin 2048) (n : Fin 1024) :
    projected X GATE Y W (ix3 b l n) = X (ix3 b l n) + GATE (ix2 b n) * ∑ k : Fin 1024, Y (ix3 b l k) * W (ix2 k n) := by
  pointwise [projected]

theorem whole_eq (X : FVec Ideal S32x2048x1024 .f32) (A B C D : FVec Ideal S32x2048x256 .f32) (G : FVec Ideal S1024 .f32) (GATE : FVec Ideal S32x1024 .f32) (W : FVec Ideal S1024x1024 .f32) :
    projected X GATE (flat (normed (stacked A B C D) G)) W = merge X ![A, B, C, D] G GATE W := by
  funext j
  obtain ⟨b, l, n, rfl⟩ : ∃ b l n, j = ix3 b l n := ⟨j 0, j 1, j 2, by idx_vars j⟩
  rw [projected_at]
  unfold merge
  refine congrArg (fun s => X (ix3 b l n) + GATE (ix2 b n) * s) ?_
  symm
  refine Fin.sum_mul_add_congr fun i k hk => ?_
  rw [flat_at _ b l _ i k rfl, normed_at]
  simp only [stacked_at]
  rfl

theorem res_eq (m : (ℓ : Loc nD τ sig) → Buf (Elt Ideal) ℓ) (c : Dev nD) : res_main_v24 m c
    = projected (m ((c.tc : Thread nD τ).loc main_arg0)) (m ((c.tc : Thread nD τ).loc main_arg6))
      (flat (normed (stacked (m ((c.tc : Thread nD τ).loc main_arg1)) (m ((c.tc : Thread nD τ).loc main_arg2)) (m ((c.tc : Thread nD τ).loc main_arg3))
        (m ((c.tc : Thread nD τ).loc main_arg4))) (m ((c.tc : Thread nD τ).loc main_arg5)))) (m ((c.tc : Thread nD τ).loc main_arg7)) := rfl

end Cert.Reference5Ideal.Merge
-- ==== Proof.Merge.lean ====
module
public import proofs.«01_k».proof.Defs
public import proofs.«01_k».proof.Proof.MergeKernel
public import proofs.«01_k».proof.Proof.MergeReference

/-! The merge's value claim: from equal arguments both programs end with the same result. -/

@[expose] public section
noncomputable section
open Idealize.ShloMosaic Idealize.ShloMosaic.TcCoe Idealize.SL.Sem
namespace Cert.Merge

theorem algebraic : Cert.algebraic_Kernel5Ideal_Reference5Ideal := by
  pair_intro
  · run_from Cert.Kernel5Ideal.Gen.run_main m g
  · run_from Cert.Reference5Ideal.Value.run m' g'
    obtain ⟨e0, e1, e2, e3, e4, e5, e6, e7⟩ := hagree c
    refine (Cert.Reference5Ideal.Merge.res_eq m' c).trans ?_
    rw [e0, e1, e2, e3, e4, e5, e6, e7]
    exact (Cert.Reference5Ideal.Merge.whole_eq _ _ _ _ _ _ _ _).trans (Cert.Kernel5Ideal.Merge.final m c).symm

end Cert.Merge
-- ==== Proof.FfnPlainKernel.lean ====
module
public import proofs.«01_k».proof.Proof.Gen.Kernel6Ideal.Frame
public import proofs.«01_k».proof.Proof.Layer

/-! The feed-forward kernel's result without the final norm, as a function of its arguments. The grid walks batch, row block and 256 hidden
units at a time; the modulated rows stay in scratch over the eleven steps of a block, the output is summed in scratch and
written at the last step. -/

@[expose] public section
set_option maxRecDepth 16384
noncomputable section
open Idealize.ShloMosaic Idealize.ShloMosaic.TcCoe Idealize.SL.Sem
open Idealize.ShloMosaic.Pipeline (Dat)
namespace Cert.Kernel6Ideal.Ffn
open Cert.Kernel6Ideal Cert.Kernel6Ideal.Gen Cert.Layer

theorem pay1_at (x : FVec Ideal S1x1024x1024 .f32) (g : FVec Ideal S1x1024 .f32) (sc sh : FVec Ideal S1x1x1024 .f32) (r k : Fin 1024) :
    k0_pay1 (F := Ideal) x g sc sh (ix2 r k) = modRow (fun k => x (ix3 0 r k)) (fun k => g (ix2 0 k)) (fun k => sc (ix3 0 0 k)) (fun k => sh (ix3 0 0 k)) k := by
  pointwise [k0_pay1]
  rfl

theorem pay2_at (r k : Fin 1024) : k0_pay2 (F := Ideal) (ix2 r k) = 0 := by pointwise [k0_pay2]

/-- What one step adds: 256 hidden units through the second projection. -/
def part (h : FVec Ideal S1024x1024 .bf16) (wa wg : FVec Ideal S1024x256 .bf16) (wo : FVec Ideal S256x1024 .bf16) (j : S1024x1024.Idx) : EReal :=
  ∑ f : Fin 256, unit (fun k => h (ix2 (j 0) k)) (fun k => wa (ix2 k f)) (fun k => wg (ix2 k f)) * wo (ix2 f (j 1))

theorem pay3_at (h : FVec Ideal S1024x1024 .bf16) (wa wg : FVec Ideal S1024x256 .bf16) (acc : FVec Ideal S1024x1024 .f32) (wo : FVec Ideal S256x1024 .bf16) (j : S1024x1024.Idx) :
    k0_pay3 (F := Ideal) h wa wg acc wo j = acc j + part h wa wg wo j := by
  obtain ⟨r, n, rfl⟩ : ∃ r n, j = ix2 r n := ⟨j 0, j 1, by idx_vars j⟩
  pointwise [k0_pay3]
  rfl

theorem pay4_at (x : FVec Ideal S1x1024x1024 .f32) (gate : FVec Ideal S1x1x1024 .f32) (acc : FVec Ideal S1024x1024 .f32) (r : Fin 1024) (k : Fin 1024) :
    k0_pay4 (F := Ideal) x gate acc (ix3 0 r k) = x (ix3 0 r k) + gate (ix3 0 0 k) * acc (ix2 r k) := by
  pointwise [k0_pay4]

variable (m : (ℓ : Loc nD τ sig) → Buf (Elt Ideal) ℓ)

theorem idx : ∀ t : Fin cfg0.N, win0_0.index t = ![t.val / 22, t.val / 11 % 2, 0] ∧ win0_1.index t = ![0, 0]
    ∧ win0_2.index t = ![t.val / 22, 0, 0] ∧ win0_3.index t = ![t.val / 22, 0, 0] ∧ win0_4.index t = ![t.val / 22, 0, 0]
    ∧ win0_5.index t = ![0, t.val % 11] ∧ win0_6.index t = ![0, t.val % 11 + 11] ∧ win0_7.index t = ![t.val % 11, 0]
    ∧ win0_8.index t = ![0, 0] ∧ win0_9.index t = ![t.val / 22, t.val / 11 % 2, 0] ∧ t.val < 704 :=
  (by decide +kernel : ∀ t : Fin grid0.N, _)

/-! The windows of a step, read at an entry. -/

theorem x_at (c : Dev nD) (t : Fin cfg0.N) (r k : Fin 1024) (b : Fin 32) (l : Fin 2048) (hb : (b : ℕ) = t.val / 22)
    (hl : (l : ℕ) = t.val / 11 % 2 * 1024 + r) :
    (iblk m c 0 t : Vec Ideal S1x1024x1024 .f32) (ix3 0 r k) = m ((c : Thread nD τ).loc main_arg0) (ix3 b l k) := by
  blk_point [iblk, V, idx t]

theorem g_at (c : Dev nD) (t : Fin cfg0.N) (k : Fin 1024) :
    (iblk m c 1 t : Vec Ideal S1x1024 .f32) (ix2 0 k) = m ((c : Thread nD τ).loc main_arg1) (ix1 k) := by
  blk_point [iblk, V, idx t]

theorem sh_at (c : Dev nD) (t : Fin cfg0.N) (k : Fin 1024) (b : Fin 32) (hb : (b : ℕ) = t.val / 22) :
    (iblk m c 2 t : Vec Ideal S1x1x1024 .f32) (ix3 0 0 k) = m ((c : Thread nD τ).loc main_arg2) (ix2 b k) := by
  blk_point [iblk, V, idx t]

theorem sc_at (c : Dev nD) (t : Fin cfg0.N) (k : Fin 1024) (b : Fin 32) (hb : (b : ℕ) = t.val / 22) :
    (iblk m c 3 t : Vec Ideal S1x1x1024 .f32) (ix3 0 0 k) = m ((c : Thread nD τ).loc main_arg3) (ix2 b k) := by
  blk_point [iblk, V, idx t]

theorem gate_at (c : Dev nD) (t : Fin cfg0.N) (k : Fin 1024) (b : Fin 32) (hb : (b : ℕ) = t.val / 22) :
    (iblk m c 4 t : Vec Ideal S1x1x1024 .f32) (ix3 0 0 k) = m ((c : Thread nD τ).loc main_arg4) (ix2 b k) := by
  blk_point [iblk, V, idx t]

theorem wa_at (c : Dev nD) (t : Fin cfg0.N) (k : Fin 1024) (f : Fin 256) (n : Fin 5632) (hn : (n : ℕ) = t.val % 11 * 256 + f) :
    (iblk m c 5 t : Vec Ideal S1024x256 .bf16) (ix2 k f) = m ((c : Thread nD τ).loc main_arg5) (ix2 k n) := by
  blk_point [iblk, V, idx t]

theorem wu_at (c : Dev nD) (t : Fin cfg0.N) (k : Fin 1024) (f : Fin 256) (n : Fin 5632) (hn : (n : ℕ) = 2816 + (t.val % 11 * 256 + f)) :
    (iblk m c 6 t : Vec Ideal S1024x256 .bf16) (ix2 k f) = m ((c : Thread nD τ).loc main_arg5) (ix2 k n) := by
  blk_point [iblk, V, idx t]

theorem wo_at (c : Dev nD) (t : Fin cfg0.N) (f : Fin 256) (k : Fin 1024) (n : Fin 2816) (hn : (n : ℕ) = t.val % 11 * 256 + f) :
    (iblk m c 7 t : Vec Ideal S256x1024 .bf16) (ix2 f k) = m ((c : Thread nD τ).loc main_arg6) (ix2 n k) := by
  blk_point [iblk, V, idx t]

end Cert.Kernel6Ideal.Ffn
-- ==== Proof.FfnPlainArray.lean ====
module
public import proofs.«01_k».proof.Proof.FfnPlainKernel
public import Idealize.ShloMosaic.Lib.Pipeline.ReadBack

/-! The feed-forward kernel's result array without the final norm: the scratch over a block's eleven steps, and the block written at the last. -/

@[expose] public section
set_option maxRecDepth 16384
noncomputable section
open Idealize.ShloMosaic Idealize.ShloMosaic.TcCoe Idealize.SL.Sem
open Idealize.ShloMosaic.Pipeline (Dat)
namespace Cert.Kernel6Ideal.Ffn
open Cert.Kernel6Ideal Cert.Kernel6Ideal.Gen Cert.Layer

variable (m : (ℓ : Loc nD τ sig) → Buf (Elt Ideal) ℓ)

/-- The modulated row the arguments in memory `m` give. -/
abbrev hidden (c : Dev nD) (b : Fin 32) (l : Fin 2048) : Fin 1024 → EReal :=
  modAt (m ((c : Thread nD τ).loc main_arg0)) (m ((c : Thread nD τ).loc main_arg1)) (m ((c : Thread nD τ).loc main_arg3))
    (m ((c : Thread nD τ).loc main_arg2)) b l

/-- After any step the first scratch holds the modulated rows of the block. -/
theorem carried (c : Dev nD) : ∀ (n : ℕ) (hn : n < cfg0.N) (r : Fin 1024) (b : Fin 32) (l : Fin 2048) (hb : (b : ℕ) = n / 22)
    (hl : (l : ℕ) = n / 11 % 2 * 1024 + r), (fun k => (outsAt0 m c n hn).2.1 (ix2 r k)) = hidden m c b l := by
  have first : ∀ t : Fin cfg0.N, t.val % 11 = 0 → ∀ (r : Fin 1024) (b : Fin 32) (l : Fin 2048) (hb : (b : ℕ) = t.val / 22)
      (hl : (l : ℕ) = t.val / 11 % 2 * 1024 + r), (fun k => (outsAt0 m c t.val t.isLt).2.1 (ix2 r k)) = hidden m c b l := by
    intro t h r b l hb hl
    funext k
    rw [outsAt0_A m c t h (by omega)]
    frame_out
    refine (pay1_at _ _ _ _ r k).trans ?_
    simp only [x_at m c t r _ b l hb hl, g_at, sc_at m c t _ b hb, sh_at m c t _ b hb]
    rfl
  intro n
  induction n with
  | zero => intro hn; exact first ⟨0, hn⟩ rfl
  | succ n ih =>
    intro hn r b l hb hl
    by_cases h : (n + 1) % 11 = 0
    · exact first ⟨n + 1, hn⟩ h r b l hb hl
    · have same : (outsAt0 m c (n + 1) hn).2.1 = (outsAt0 m c n (by omega)).2.1 := by
        by_cases h' : (n + 1) % 11 = 10
        · exact congrArg (fun p => p.2.1) (outsAt0_C m c ⟨n + 1, hn⟩ h h')
        · exact congrArg (fun p => p.2.1) (outsAt0_B m c ⟨n + 1, hn⟩ h h')
      rw [same]
      exact ih (by omega) r b l (by omega) (by omega)

/-- What step `t` adds to the second scratch. -/
def term (c : Dev nD) (t : Fin cfg0.N) : S1024x1024.Idx → EReal :=
  part (outsAt0 m c t.val t.isLt).2.1 (iblk m c 5 t) (iblk m c 6 t) (iblk m c 7 t)

theorem sum_first (c : Dev nD) (t : Fin cfg0.N) (h : t.val % 11 = 0) (j : S1024x1024.Idx) :
    (outsAt0 m c t.val t.isLt).2.2 j = 0 + term m c t j := by
  unfold term
  rw [outsAt0_A m c t h (by omega)]
  frame_out
  refine (pay3_at _ _ _ _ _ j).trans ?_
  obtain ⟨r, n, rfl⟩ : ∃ r n, j = ix2 r n := ⟨j 0, j 1, by idx_vars j⟩
  rw [pay2_at]

theorem sum_next (c : Dev nD) (t : Fin cfg0.N) (h : ¬t.val % 11 = 0) (j : S1024x1024.Idx) :
    (outsAt0 m c t.val t.isLt).2.2 j
      = (outsAt0 m c (t.val - 1) (Nat.lt_of_le_of_lt (Nat.sub_le _ _) t.isLt)).2.2 j + term m c t j := by
  unfold term
  by_cases h' : t.val % 11 = 10
  · rw [outsAt0_C m c t h h']
    frame_out
    refine (pay3_at _ _ _ _ _ j).trans ?_
    simp only [read_unread_whole]
    rfl
  · rw [outsAt0_B m c t h h']
    frame_out
    refine (pay3_at _ _ _ _ _ j).trans ?_
    simp only [read_unread_whole]
    rfl

/-- At a block's last step the second scratch holds the whole second projection. -/
theorem summed (c : Dev nD) (t : Fin cfg0.N) (ht : t.val % 11 = 10) (r n : Fin 1024) (b : Fin 32) (l : Fin 2048)
    (hb : (b : ℕ) = t.val / 22) (hl : (l : ℕ) = t.val / 11 % 2 * 1024 + r) :
    (outsAt0 m c t.val t.isLt).2.2 (ix2 r n)
      = ∑ f : Fin 2816, unit (hidden m c b l) (fun k => m ((c : Thread nD τ).loc main_arg5) (ix2 k ⟨f, by omega⟩))
          (fun k => m ((c : Thread nD τ).loc main_arg5) (ix2 k ⟨2816 + f, by omega⟩)) * m ((c : Thread nD τ).loc main_arg6) (ix2 f n) := by
  refine (Pipeline.eq_sum_fin_of_reset_step_apply_of_flush (fun n h => (outsAt0 m c n h).2.2) 11 (fun _ => 0) (term m c)
    (sum_first m c) (sum_next m c) t ht _).trans ?_
  rw [zero_add]
  refine Fin.sum_mul_add_congr fun s f hf => ?_
  have hlt := Pipeline.run_point_lt_of_flush (J := 11) t ht s
  have hs := s.isLt
  show unit (fun k => (outsAt0 m c _ _).2.1 (ix2 r k)) _ _ * _ = _
  rw [carried m c (11 * (t.val / 11) + s.val) hlt r b l (by omega) (by omega)]
  congr 1
  · congr 1
    · funext k; exact wa_at m c ⟨_, hlt⟩ k f _ (by show s.val * 256 + f.val = (11 * (t.val / 11) + s.val) % 11 * 256 + f.val; omega)
    · funext k; exact wu_at m c ⟨_, hlt⟩ k f _ (by show 2816 + (s.val * 256 + f.val) = 2816 + ((11 * (t.val / 11) + s.val) % 11 * 256 + f.val); omega)
  · exact wo_at m c ⟨_, hlt⟩ f n _ (by show s.val * 256 + f.val = (11 * (t.val / 11) + s.val) % 11 * 256 + f.val; omega)

theorem written (c : Dev nD) (t : Fin cfg0.N) (ht : t.val % 11 = 10) (r n : Fin 1024) (b : Fin 32) (l : Fin 2048)
    (hb : (b : ℕ) = t.val / 22) (hl : (l : ℕ) = t.val / 11 % 2 * 1024 + r) :
    (outsAt0 m c t.val t.isLt).1 (ix3 0 r n)
      = ffnPlain (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix3 b l n) := by
  have acc := fun n => summed m c t ht r n b l hb hl
  rw [outsAt0_C m c t (by omega) ht] at acc ⊢
  frame_out at acc ⊢
  refine (pay4_at _ _ _ r n).trans ?_
  simp only [acc, x_at m c t r _ b l hb hl, gate_at m c t _ b hb]
  rfl

theorem final (c : Dev nD) : (dats m 0 c).arrAt 9 (cfgs 0).N
    = ffnPlain (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 9 _ (by decide +kernel) fun t hf y => ?_
  have ht := (flush0_9 t).mp hf
  have hN := (idx t).2.2.2.2.2.2.2.2.2.2
  blk_simp
  rw [after0_9]
  obtain ⟨r, n, rfl⟩ : ∃ r n : Fin 1024, y = (ix3 0 r n : S1x1024x1024.Idx) := ⟨y 1, y 2, by idx_vars y; rw [Fin.eq_zero y0]⟩
  refine (written m c t ht r n ⟨t.val / 22, by omega⟩ ⟨t.val / 11 % 2 * 1024 + r.val, by omega⟩ rfl rfl).trans ?_
  congr 1
  blk_ext [idx t]

end Cert.Kernel6Ideal.Ffn
-- ==== Proof.FfnPlainReference.lean ====
module
public import proofs.«01_k».proof.Proof.Gen.Reference6Ideal.Run
public import proofs.«01_k».proof.Proof.Layer

/-! The plain feed-forward of the reference, read at one entry. The term is cut into the norm, the modulation, the first
projection, the gate and the second projection. -/

@[expose] public section
set_option maxRecDepth 16384
noncomputable section
open Idealize.ShloMosaic Idealize.ShloMosaic.TcCoe Idealize.SL.Sem
namespace Cert.Reference6Ideal.Ffn
open Cert.Reference6Ideal Cert.Reference6Ideal.Gen Cert.Reference6Ideal.Value Cert.Layer

def normed (X : FVec Ideal S32x2048x1024 .f32) (G : FVec Ideal S1024 .f32) : FVec Ideal S32x2048x1024 .f32 :=
  mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 G))

theorem normed_at (X : FVec Ideal S32x2048x1024 .f32) (G : FVec Ideal S1024 .f32) (b : Fin 32) (l : Fin 2048) (k : Fin 1024) :
    normed X G (ix3 b l k) = normRow count1024 (fun k => X (ix3 b l k)) (fun k => G (ix1 k)) k := by
  pointwise [normed]
  rfl

/-- A row per batch, spread over the tokens. -/
def spread (A : FVec Ideal S32x1x1024 .f32) : FVec Ideal S32x2048x1024 .f32 :=
  broadcastInDim S32x2048x1024 ![0, 1, 2] bcast_S32x1x1024_S32x2048x1024_0_1_2 A

def modulated (N : FVec Ideal S32x2048x1024 .f32) (SC SH : FVec Ideal S32x1024 .f32) : FVec Ideal S32x2048x1024 .f32 :=
  addf (mulf N (spread (addf (broadcastInDim S32x1x1024 ![] bcast_S_S32x1x1024 (constant S_ .f32 0x3F800000#32)) (broadcastInDim S32x1x1024 ![0, 2] bcast_S32x1024_S32x1x1024_0_2 SC)))) (spread (broadcastInDim S32x1x1024 ![0, 2] bcast_S32x1024_S32x1x1024_0_2 SH))

theorem modulated_at (N : FVec Ideal S32x2048x1024 .f32) (SC SH : FVec Ideal S32x1024 .f32) (b : Fin 32) (l : Fin 2048) (k : Fin 1024) :
    modulated N SC SH (ix3 b l k) = N (ix3 b l k) * (1 + SC (ix2 b k)) + SH (ix2 b k) := by
  pointwise [modulated, spread]

def projected (H : FVec Ideal S32x2048x1024 .f32) (W : FVec Ideal S1024x5632 .f32) : FVec Ideal S32x2048x5632 .f32 :=
  Host.dotGeneral dot_S32x2048x1024_S1024x5632_S32x2048x5632_2_0_01_1_n_n none H W

theorem projected_at (H : FVec Ideal S32x2048x1024 .f32) (W : FVec Ideal S1024x5632 .f32) (b : Fin 32) (l : Fin 2048) (f : Fin 5632) :
    projected H W (ix3 b l f) = ∑ k : Fin 1024, H (ix3 b l k) * W (ix2 k f) := by
  pointwise [projected]

def first (P : FVec Ideal S32x2048x5632 .f32) : FVec Ideal S32x2048x2816 .f32 := extractStridedSlice S32x2048x2816 ![0, 0, 0] P slices_S32x2048x5632_S32x2048x2816_0_0_0

def second (P : FVec Ideal S32x2048x5632 .f32) : FVec Ideal S32x2048x2816 .f32 := extractStridedSlice S32x2048x2816 ![0, 0, 2816] P slices_S32x2048x5632_S32x2048x2816_0_0_2816

theorem first_at (P : FVec Ideal S32x2048x5632 .f32) (b : Fin 32) (l : Fin 2048) (f : Fin 2816) : first P (ix3 b l f) = P (ix3 b l ⟨f, by omega⟩) := by
  pointwise [first]

theorem second_at (P : FVec Ideal S32x2048x5632 .f32) (b : Fin 32) (l : Fin 2048) (f : Fin 2816) : second P (ix3 b l f) = P (ix3 b l ⟨2816 + f, by omega⟩) := by
  pointwise [second]

def gated (A U : FVec Ideal S32x2048x2816 .f32) : FVec Ideal S32x2048x2816 .f32 :=
  mulf (mulf A (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf A))))) U

theorem gated_at (A U : FVec Ideal S32x2048x2816 .f32) (b : Fin 32) (l : Fin 2048) (f : Fin 2816) :
    gated A U (ix3 b l f) = A (ix3 b l f) * Ideal.logistic (A (ix3 b l f)) * U (ix3 b l f) := by
  pointwise [gated]
  rfl

def residual (X : FVec Ideal S32x2048x1024 .f32) (GATE : FVec Ideal S32x1024 .f32) (Y : FVec Ideal S32x2048x2816 .f32) (WO : FVec Ideal S2816x1024 .f32) : FVec Ideal S32x2048x1024 .f32 :=
  addf X (mulf (spread (broadcastInDim S32x1x1024 ![0, 2] bcast_S32x1024_S32x1x1024_0_2 GATE)) (Host.dotGeneral dot_S32x2048x2816_S2816x1024_S32x2048x1024_2_0_01_1_n_n none Y WO))

theorem residual_at (X : FVec Ideal S32x2048x1024 .f32) (GATE : FVec Ideal S32x1024 .f32) (Y : FVec Ideal S32x2048x2816 .f32) (WO : FVec Ideal S2816x1024 .f32) (b : Fin 32) (l : Fin 2048) (n : Fin 1024) :
    residual X GATE Y WO (ix3 b l n) = X (ix3 b l n) + GATE (ix2 b n) * ∑ f : Fin 2816, Y (ix3 b l f) * WO (ix2 f n) := by
  pointwise [residual, spread]

/-- The reference's result, of its arguments; the final gain is not read. -/
def whole (X : FVec Ideal S32x2048x1024 .f32) (G : FVec Ideal S1024 .f32) (SH SC GATE : FVec Ideal S32x1024 .f32) (WI : FVec Ideal S1024x5632 .f32)
    (WO : FVec Ideal S2816x1024 .f32) : FVec Ideal S32x2048x1024 .f32 :=
  residual X GATE (gated (first (projected (modulated (normed X G) SC SH) WI)) (second (projected (modulated (normed X G) SC SH) WI))) WO

theorem whole_eq (X : FVec Ideal S32x2048x1024 .f32) (G : FVec Ideal S1024 .f32) (SH SC GATE : FVec Ideal S32x1024 .f32) (WI : FVec Ideal S1024x5632 .f32)
    (WO : FVec Ideal S2816x1024 .f32) : whole X G SH SC GATE WI WO = ffnPlain X G SH SC GATE WI WO := by
  funext j
  obtain ⟨b, l, n, rfl⟩ : ∃ b l n, j = ix3 b l n := ⟨j 0, j 1, j 2, by idx_vars j⟩
  unfold whole
  simp only [residual_at, gated_at, first_at, second_at, projected_at, modulated_at, normed_at]
  rfl

theorem res_eq (m : (ℓ : Loc nD τ sig) → Buf (Elt Ideal) ℓ) (c : Dev nD) : res_main_v30 m c
    = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

end Cert.Reference6Ideal.Ffn
-- ==== Proof.FfnPlain.lean ====
module
public import proofs.«01_k».proof.Defs
public import proofs.«01_k».proof.Proof.FfnPlainArray
public import proofs.«01_k».proof.Proof.FfnPlainReference

/-! The feed-forward's value claim without the final norm: from equal arguments both programs end with the same result. -/

@[expose] public section
noncomputable section
open Idealize.ShloMosaic Idealize.ShloMosaic.TcCoe Idealize.SL.Sem
namespace Cert.FfnPlain

theorem algebraic : Cert.algebraic_Kernel6Ideal_Reference6Ideal := by
  pair_intro
  · run_from Cert.Kernel6Ideal.Gen.run_main m g
  · run_from Cert.Reference6Ideal.Value.run m' g'
    obtain ⟨e0, e1, e2, e3, e4, e5, e6, e7⟩ := hagree c
    refine (Cert.Reference6Ideal.Ffn.res_eq m' c).trans ?_
    rw [e0, e1, e2, e3, e4, e5, e6]
    exact (Cert.Reference6Ideal.Ffn.whole_eq _ _ _ _ _ _ _).trans (Cert.Kernel6Ideal.Ffn.final m c).symm

end Cert.FfnPlain
-- ==== Proof.FfnContextKernel.lean ====
module
public import proofs.«01_k».proof.Proof.Gen.Kernel7Ideal.Frame
public import proofs.«01_k».proof.Proof.Layer

/-! The feed-forward kernel's result over the context's rows without the final norm, as a function of its arguments. The grid walks the batch and 256 hidden
units at a time; the modulated rows stay in scratch over the eleven steps of a block, the output is summed in scratch and
written at the last step. -/

@[expose] public section
set_option maxRecDepth 16384
noncomputable section
open Idealize.ShloMosaic Idealize.ShloMosaic.TcCoe Idealize.SL.Sem
open Idealize.ShloMosaic.Pipeline (Dat)
namespace Cert.Kernel7Ideal.Ffn
open Cert.Kernel7Ideal Cert.Kernel7Ideal.Gen Cert.Layer

theorem pay1_at (x : FVec Ideal S1x256x1024 .f32) (g : FVec Ideal S1x1024 .f32) (sc sh : FVec Ideal S1x1x1024 .f32) (r : Fin 256) (k : Fin 1024) :
    k0_pay1 (F := Ideal) x g sc sh (ix2 r k) = modRow (fun k => x (ix3 0 r k)) (fun k => g (ix2 0 k)) (fun k => sc (ix3 0 0 k)) (fun k => sh (ix3 0 0 k)) k := by
  pointwise [k0_pay1]
  rfl

theorem pay2_at (r : Fin 256) (k : Fin 1024) : k0_pay2 (F := Ideal) (ix2 r k) = 0 := by pointwise [k0_pay2]

/-- What one step adds: 256 hidden units through the second projection. -/
def part (h : FVec Ideal S256x1024 .bf16) (wa wg : FVec Ideal S1024x256 .bf16) (wo : FVec Ideal S256x1024 .bf16) (j : S256x1024.Idx) : EReal :=
  ∑ f : Fin 256, unit (fun k => h (ix2 (j 0) k)) (fun k => wa (ix2 k f)) (fun k => wg (ix2 k f)) * wo (ix2 f (j 1))

theorem pay3_at (h : FVec Ideal S256x1024 .bf16) (wa wg : FVec Ideal S1024x256 .bf16) (acc : FVec Ideal S256x1024 .f32) (wo : FVec Ideal S256x1024 .bf16) (j : S256x1024.Idx) :
    k0_pay3 (F := Ideal) h wa wg acc wo j = acc j + part h wa wg wo j := by
  obtain ⟨r, n, rfl⟩ : ∃ r n, j = ix2 r n := ⟨j 0, j 1, by idx_vars j⟩
  pointwise [k0_pay3]
  rfl

theorem pay4_at (x : FVec Ideal S1x256x1024 .f32) (gate : FVec Ideal S1x1x1024 .f32) (acc : FVec Ideal S256x1024 .f32) (r : Fin 256) (k : Fin 1024) :
    k0_pay4 (F := Ideal) x gate acc (ix3 0 r k) = x (ix3 0 r k) + gate (ix3 0 0 k) * acc (ix2 r k) := by
  pointwise [k0_pay4]

variable (m : (ℓ : Loc nD τ sig) → Buf (Elt Ideal) ℓ)

theorem idx : ∀ t : Fin cfg0.N, win0_0.index t = ![t.val / 11, 0, 0] ∧ win0_1.index t = ![0, 0]
    ∧ win0_2.index t = ![t.val / 11, 0, 0] ∧ win0_3.index t = ![t.val / 11, 0, 0] ∧ win0_4.index t = ![t.val / 11, 0, 0]
    ∧ win0_5.index t = ![0, t.val % 11] ∧ win0_6.index t = ![0, t.val % 11 + 11] ∧ win0_7.index t = ![t.val % 11, 0]
    ∧ win0_8.index t = ![0, 0] ∧ win0_9.index t = ![t.val / 11, 0, 0] ∧ t.val < 352 :=
  (by decide +kernel : ∀ t : Fin grid0.N, _)

/-! The windows of a step, read at an entry. -/

theorem x_at (c : Dev nD) (t : Fin cfg0.N) (r : Fin 256) (k : Fin 1024) (b : Fin 32) (l : Fin 256) (hb : (b : ℕ) = t.val / 11)
    (hl : (l : ℕ) = r.val) :
    (iblk m c 0 t : Vec Ideal S1x256x1024 .f32) (ix3 0 r k) = m ((c : Thread nD τ).loc main_arg0) (ix3 b l k) := by
  blk_point [iblk, V, idx t]

theorem g_at (c : Dev nD) (t : Fin cfg0.N) (k : Fin 1024) :
    (iblk m c 1 t : Vec Ideal S1x1024 .f32) (ix2 0 k) = m ((c : Thread nD τ).loc main_arg1) (ix1 k) := by
  blk_point [iblk, V, idx t]

theorem sh_at (c : Dev nD) (t : Fin cfg0.N) (k : Fin 1024) :
    (iblk m c 2 t : Vec Ideal S1x1x1024 .f32) (ix3 0 0 k) = m ((c : Thread nD τ).loc main_arg2) (ix1 k) := by
  blk_point [iblk, V, idx t]

theorem sc_at (c : Dev nD) (t : Fin cfg0.N) (k : Fin 1024) :
    (iblk m c 3 t : Vec Ideal S1x1x1024 .f32) (ix3 0 0 k) = m ((c : Thread nD τ).loc main_arg3) (ix1 k) := by
  blk_point [iblk, V, idx t]

theorem gate_at (c : Dev nD) (t : Fin cfg0.N) (k : Fin 1024) :
    (iblk m c 4 t : Vec Ideal S1x1x1024 .f32) (ix3 0 0 k) = m ((c : Thread nD τ).loc main_arg4) (ix1 k) := by
  blk_point [iblk, V, idx t]

theorem wa_at (c : Dev nD) (t : Fin cfg0.N) (k : Fin 1024) (f : Fin 256) (n : Fin 5632) (hn : (n : ℕ) = t.val % 11 * 256 + f) :
    (iblk m c 5 t : Vec Ideal S1024x256 .bf16) (ix2 k f) = m ((c : Thread nD τ).loc main_arg5) (ix2 k n) := by
  blk_point [iblk, V, idx t]

theorem wu_at (c : Dev nD) (t : Fin cfg0.N) (k : Fin 1024) (f : Fin 256) (n : Fin 5632) (hn : (n : ℕ) = 2816 + (t.val % 11 * 256 + f)) :
    (iblk m c 6 t : Vec Ideal S1024x256 .bf16) (ix2 k f) = m ((c : Thread nD τ).loc main_arg5) (ix2 k n) := by
  blk_point [iblk, V, idx t]

theorem wo_at (c : Dev nD) (t : Fin cfg0.N) (f : Fin 256) (k : Fin 1024) (n : Fin 2816) (hn : (n : ℕ) = t.val % 11 * 256 + f) :
    (iblk m c 7 t : Vec Ideal S256x1024 .bf16) (ix2 f k) = m ((c : Thread nD τ).loc main_arg6) (ix2 n k) := by
  blk_point [iblk, V, idx t]

end Cert.Kernel7Ideal.Ffn
-- ==== Proof.FfnContextArray.lean ====
module
public import proofs.«01_k».proof.Proof.FfnContextKernel
public import Idealize.ShloMosaic.Lib.Pipeline.ReadBack

/-! The feed-forward kernel's result array over the context's rows without the final norm: the scratch over a block's eleven steps, and the block written at the last. -/

@[expose] public section
set_option maxRecDepth 16384
noncomputable section
open Idealize.ShloMosaic Idealize.ShloMosaic.TcCoe Idealize.SL.Sem
open Idealize.ShloMosaic.Pipeline (Dat)
namespace Cert.Kernel7Ideal.Ffn
open Cert.Kernel7Ideal Cert.Kernel7Ideal.Gen Cert.Layer

variable (m : (ℓ : Loc nD τ sig) → Buf (Elt Ideal) ℓ)

/-- The modulated row the arguments in memory `m` give. -/
abbrev hidden (c : Dev nD) (b : Fin 32) (l : Fin 256) : Fin 1024 → EReal :=
  modCtx (m ((c : Thread nD τ).loc main_arg0)) (m ((c : Thread nD τ).loc main_arg1)) (m ((c : Thread nD τ).loc main_arg3))
    (m ((c : Thread nD τ).loc main_arg2)) b l

/-- After any step the first scratch holds the modulated rows of the block. -/
theorem carried (c : Dev nD) : ∀ (n : ℕ) (hn : n < cfg0.N) (r : Fin 256) (b : Fin 32) (l : Fin 256) (hb : (b : ℕ) = n / 11)
    (hl : (l : ℕ) = r.val), (fun k => (outsAt0 m c n hn).2.1 (ix2 r k)) = hidden m c b l := by
  have first : ∀ t : Fin cfg0.N, t.val % 11 = 0 → ∀ (r : Fin 256) (b : Fin 32) (l : Fin 256) (hb : (b : ℕ) = t.val / 11)
      (hl : (l : ℕ) = r.val), (fun k => (outsAt0 m c t.val t.isLt).2.1 (ix2 r k)) = hidden m c b l := by
    intro t h r b l hb hl
    funext k
    rw [outsAt0_A m c t h (by omega)]
    frame_out
    refine (pay1_at _ _ _ _ r k).trans ?_
    simp only [x_at m c t r _ b l hb hl, g_at, sc_at, sh_at]
    rfl
  intro n
  induction n with
  | zero => intro hn; exact first ⟨0, hn⟩ rfl
  | succ n ih =>
    intro hn r b l hb hl
    by_cases h : (n + 1) % 11 = 0
    · exact first ⟨n + 1, hn⟩ h r b l hb hl
    · have same : (outsAt0 m c (n + 1) hn).2.1 = (outsAt0 m c n (by omega)).2.1 := by
        by_cases h' : (n + 1) % 11 = 10
        · exact congrArg (fun p => p.2.1) (outsAt0_C m c ⟨n + 1, hn⟩ h h')
        · exact congrArg (fun p => p.2.1) (outsAt0_B m c ⟨n + 1, hn⟩ h h')
      rw [same]
      exact ih (by omega) r b l (by omega) (by omega)

/-- What step `t` adds to the second scratch. -/
def term (c : Dev nD) (t : Fin cfg0.N) : S256x1024.Idx → EReal :=
  part (outsAt0 m c t.val t.isLt).2.1 (iblk m c 5 t) (iblk m c 6 t) (iblk m c 7 t)

theorem sum_first (c : Dev nD) (t : Fin cfg0.N) (h : t.val % 11 = 0) (j : S256x1024.Idx) :
    (outsAt0 m c t.val t.isLt).2.2 j = 0 + term m c t j := by
  unfold term
  rw [outsAt0_A m c t h (by omega)]
  frame_out
  refine (pay3_at _ _ _ _ _ j).trans ?_
  obtain ⟨r, n, rfl⟩ : ∃ r n, j = ix2 r n := ⟨j 0, j 1, by idx_vars j⟩
  rw [pay2_at]

theorem sum_next (c : Dev nD) (t : Fin cfg0.N) (h : ¬t.val % 11 = 0) (j : S256x1024.Idx) :
    (outsAt0 m c t.val t.isLt).2.2 j
      = (outsAt0 m c (t.val - 1) (Nat.lt_of_le_of_lt (Nat.sub_le _ _) t.isLt)).2.2 j + term m c t j := by
  unfold term
  by_cases h' : t.val % 11 = 10
  · rw [outsAt0_C m c t h h']
    frame_out
    refine (pay3_at _ _ _ _ _ j).trans ?_
    simp only [read_unread_whole]
    rfl
  · rw [outsAt0_B m c t h h']
    frame_out
    refine (pay3_at _ _ _ _ _ j).trans ?_
    simp only [read_unread_whole]
    rfl

/-- At a block's last step the second scratch holds the whole second projection. -/
theorem summed (c : Dev nD) (t : Fin cfg0.N) (ht : t.val % 11 = 10) (r : Fin 256) (n : Fin 1024) (b : Fin 32) (l : Fin 256)
    (hb : (b : ℕ) = t.val / 11) (hl : (l : ℕ) = r.val) :
    (outsAt0 m c t.val t.isLt).2.2 (ix2 r n)
      = ∑ f : Fin 2816, unit (hidden m c b l) (fun k => m ((c : Thread nD τ).loc main_arg5) (ix2 k ⟨f, by omega⟩))
          (fun k => m ((c : Thread nD τ).loc main_arg5) (ix2 k ⟨2816 + f, by omega⟩)) * m ((c : Thread nD τ).loc main_arg6) (ix2 f n) := by
  refine (Pipeline.eq_sum_fin_of_reset_step_apply_of_flush (fun n h => (outsAt0 m c n h).2.2) 11 (fun _ => 0) (term m c)
    (sum_first m c) (sum_next m c) t ht _).trans ?_
  rw [zero_add]
  refine Fin.sum_mul_add_congr fun s f hf => ?_
  have hlt := Pipeline.run_point_lt_of_flush (J := 11) t ht s
  have hs := s.isLt
  show unit (fun k => (outsAt0 m c _ _).2.1 (ix2 r k)) _ _ * _ = _
  rw [carried m c (11 * (t.val / 11) + s.val) hlt r b l (by omega) (by omega)]
  congr 1
  · congr 1
    · funext k; exact wa_at m c ⟨_, hlt⟩ k f _ (by show s.val * 256 + f.val = (11 * (t.val / 11) + s.val) % 11 * 256 + f.val; omega)
    · funext k; exact wu_at m c ⟨_, hlt⟩ k f _ (by show 2816 + (s.val * 256 + f.val) = 2816 + ((11 * (t.val / 11) + s.val) % 11 * 256 + f.val); omega)
  · exact wo_at m c ⟨_, hlt⟩ f n _ (by show s.val * 256 + f.val = (11 * (t.val / 11) + s.val) % 11 * 256 + f.val; omega)

theorem written (c : Dev nD) (t : Fin cfg0.N) (ht : t.val % 11 = 10) (r : Fin 256) (n : Fin 1024) (b : Fin 32) (l : Fin 256)
    (hb : (b : ℕ) = t.val / 11) (hl : (l : ℕ) = r.val) :
    (outsAt0 m c t.val t.isLt).1 (ix3 0 r n)
      = ffnCtx (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix3 b l n) := by
  have acc := fun n => summed m c t ht r n b l hb hl
  rw [outsAt0_C m c t (by omega) ht] at acc ⊢
  frame_out at acc ⊢
  refine (pay4_at _ _ _ r n).trans ?_
  simp only [acc, x_at m c t r _ b l hb hl, gate_at]
  rfl

theorem final (c : Dev nD) : (dats m 0 c).arrAt 9 (cfgs 0).N
    = ffnCtx (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 9 _ (by decide +kernel) fun t hf y => ?_
  have ht := (flush0_9 t).mp hf
  have hN := (idx t).2.2.2.2.2.2.2.2.2.2
  blk_simp
  rw [after0_9]
  obtain ⟨r, n, rfl⟩ : ∃ (r : Fin 256) (n : Fin 1024), y = (ix3 0 r n : S1x256x1024.Idx) := ⟨y 1, y 2, by idx_vars y; rw [Fin.eq_zero y0]⟩
  refine (written m c t ht r n ⟨t.val / 11, by omega⟩ ⟨r.val, by omega⟩ rfl rfl).trans ?_
  congr 1
  blk_ext [idx t]

end Cert.Kernel7Ideal.Ffn
-- ==== Proof.FfnContextReference.lean ====
module
public import proofs.«01_k».proof.Proof.Gen.Reference7Ideal.Run
public import proofs.«01_k».proof.Proof.Layer

/-! The plain feed-forward of the reference, read at one entry. The term is cut into the norm, the modulation, the first
projection, the gate and the second projection. -/

@[expose] public section
set_option maxRecDepth 16384
noncomputable section
open Idealize.ShloMosaic Idealize.ShloMosaic.TcCoe Idealize.SL.Sem
namespace Cert.Reference7Ideal.Ffn
open Cert.Reference7Ideal Cert.Reference7Ideal.Gen Cert.Reference7Ideal.Value Cert.Layer

def normed (X : FVec Ideal S32x256x1024 .f32) (G : FVec Ideal S1024 .f32) : FVec Ideal S32x256x1024 .f32 :=
  mulf (mulf X (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf X X) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 G))

theorem normed_at (X : FVec Ideal S32x256x1024 .f32) (G : FVec Ideal S1024 .f32) (b : Fin 32) (l : Fin 256) (k : Fin 1024) :
    normed X G (ix3 b l k) = normRow count1024 (fun k => X (ix3 b l k)) (fun k => G (ix1 k)) k := by
  pointwise [normed]
  rfl

/-- A row, spread over the batches and tokens. -/
def spread (A : FVec Ideal S1024 .f32) : FVec Ideal S32x256x1024 .f32 :=
  broadcastInDim S32x256x1024 ![0, 1, 2] bcast_S1x1x1024_S32x256x1024_0_1_2 (broadcastInDim S1x1x1024 ![2] bcast_S1024_S1x1x1024_2 A)

def modulated (N : FVec Ideal S32x256x1024 .f32) (SC SH : FVec Ideal S1024 .f32) : FVec Ideal S32x256x1024 .f32 :=
  addf (mulf N (spread (addf (broadcastInDim S1024 ![] bcast_S_S1024 (constant S_ .f32 0x3F800000#32)) SC))) (spread SH)

theorem modulated_at (N : FVec Ideal S32x256x1024 .f32) (SC SH : FVec Ideal S1024 .f32) (b : Fin 32) (l : Fin 256) (k : Fin 1024) :
    modulated N SC SH (ix3 b l k) = N (ix3 b l k) * (1 + SC (ix1 k)) + SH (ix1 k) := by
  pointwise [modulated, spread]

def projected (H : FVec Ideal S32x256x1024 .f32) (W : FVec Ideal S1024x5632 .f32) : FVec Ideal S32x256x5632 .f32 :=
  Host.dotGeneral dot_S32x256x1024_S1024x5632_S32x256x5632_2_0_01_1_n_n none H W

theorem projected_at (H : FVec Ideal S32x256x1024 .f32) (W : FVec Ideal S1024x5632 .f32) (b : Fin 32) (l : Fin 256) (f : Fin 5632) :
    projected H W (ix3 b l f) = ∑ k : Fin 1024, H (ix3 b l k) * W (ix2 k f) := by
  pointwise [projected]

def first (P : FVec Ideal S32x256x5632 .f32) : FVec Ideal S32x256x2816 .f32 := extractStridedSlice S32x256x2816 ![0, 0, 0] P slices_S32x256x5632_S32x256x2816_0_0_0

def second (P : FVec Ideal S32x256x5632 .f32) : FVec Ideal S32x256x2816 .f32 := extractStridedSlice S32x256x2816 ![0, 0, 2816] P slices_S32x256x5632_S32x256x2816_0_0_2816

theorem first_at (P : FVec Ideal S32x256x5632 .f32) (b : Fin 32) (l : Fin 256) (f : Fin 2816) : first P (ix3 b l f) = P (ix3 b l ⟨f, by omega⟩) := by
  pointwise [first]

theorem second_at (P : FVec Ideal S32x256x5632 .f32) (b : Fin 32) (l : Fin 256) (f : Fin 2816) : second P (ix3 b l f) = P (ix3 b l ⟨2816 + f, by omega⟩) := by
  pointwise [second]

def gated (A U : FVec Ideal S32x256x2816 .f32) : FVec Ideal S32x256x2816 .f32 :=
  mulf (mulf A (Host.divf (broadcastInDim S32x256x2816 ![] bcast_S_S32x256x2816 (constant S_ .f32 0x3F800000#32)) (addf (broadcastInDim S32x256x2816 ![] bcast_S_S32x256x2816 (constant S_ .f32 0x3F800000#32)) (Host.exp (Host.negf A))))) U

theorem gated_at (A U : FVec Ideal S32x256x2816 .f32) (b : Fin 32) (l : Fin 256) (f : Fin 2816) :
    gated A U (ix3 b l f) = A (ix3 b l f) * Ideal.logistic (A (ix3 b l f)) * U (ix3 b l f) := by
  pointwise [gated]
  rfl

def residual (X : FVec Ideal S32x256x1024 .f32) (GATE : FVec Ideal S1024 .f32) (Y : FVec Ideal S32x256x2816 .f32) (WO : FVec Ideal S2816x1024 .f32) : FVec Ideal S32x256x1024 .f32 :=
  addf X (mulf (spread GATE) (Host.dotGeneral dot_S32x256x2816_S2816x1024_S32x256x1024_2_0_01_1_n_n none Y WO))

theorem residual_at (X : FVec Ideal S32x256x1024 .f32) (GATE : FVec Ideal S1024 .f32) (Y : FVec Ideal S32x256x2816 .f32) (WO : FVec Ideal S2816x1024 .f32) (b : Fin 32) (l : Fin 256) (n : Fin 1024) :
    residual X GATE Y WO (ix3 b l n) = X (ix3 b l n) + GATE (ix1 n) * ∑ f : Fin 2816, Y (ix3 b l f) * WO (ix2 f n) := by
  pointwise [residual, spread]

/-- The reference's result, of its arguments; the final gain is not read. -/
def whole (X : FVec Ideal S32x256x1024 .f32) (G : FVec Ideal S1024 .f32) (SH SC GATE : FVec Ideal S1024 .f32) (WI : FVec Ideal S1024x5632 .f32)
    (WO : FVec Ideal S2816x1024 .f32) : FVec Ideal S32x256x1024 .f32 :=
  residual X GATE (gated (first (projected (modulated (normed X G) SC SH) WI)) (second (projected (modulated (normed X G) SC SH) WI))) WO

theorem whole_eq (X : FVec Ideal S32x256x1024 .f32) (G : FVec Ideal S1024 .f32) (SH SC GATE : FVec Ideal S1024 .f32) (WI : FVec Ideal S1024x5632 .f32)
    (WO : FVec Ideal S2816x1024 .f32) : whole X G SH SC GATE WI WO = ffnCtx X G SH SC GATE WI WO := by
  funext j
  obtain ⟨b, l, n, rfl⟩ : ∃ b l n, j = ix3 b l n := ⟨j 0, j 1, j 2, by idx_vars j⟩
  unfold whole
  simp only [residual_at, gated_at, first_at, second_at, projected_at, modulated_at, normed_at]
  rfl

theorem res_eq (m : (ℓ : Loc nD τ sig) → Buf (Elt Ideal) ℓ) (c : Dev nD) : res_main_v30 m c
    = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

end Cert.Reference7Ideal.Ffn
-- ==== Proof.FfnContext.lean ====
module
public import proofs.«01_k».proof.Defs
public import proofs.«01_k».proof.Proof.FfnContextArray
public import proofs.«01_k».proof.Proof.FfnContextReference

/-! The feed-forward's value claim over the context's rows: from equal arguments both programs end with the same result. -/

@[expose] public section
noncomputable section
open Idealize.ShloMosaic Idealize.ShloMosaic.TcCoe Idealize.SL.Sem
namespace Cert.FfnContext

theorem algebraic : Cert.algebraic_Kernel7Ideal_Reference7Ideal := by
  pair_intro
  · run_from Cert.Kernel7Ideal.Gen.run_main m g
  · run_from Cert.Reference7Ideal.Value.run m' g'
    obtain ⟨e0, e1, e2, e3, e4, e5, e6, e7⟩ := hagree c
    refine (Cert.Reference7Ideal.Ffn.res_eq m' c).trans ?_
    rw [e0, e1, e2, e3, e4, e5, e6]
    exact (Cert.Reference7Ideal.Ffn.whole_eq _ _ _ _ _ _ _).trans (Cert.Kernel7Ideal.Ffn.final m c).symm

end Cert.FfnContext
-- ==== Proof.ProjContextKernel.lean ====
module
public import proofs.«01_k».proof.Proof.Gen.Kernel8Ideal.Frame
public import proofs.«01_k».proof.Proof.Layer

/-! The input projection kernel's five results over the context's rows, as functions of its arguments: the modulated rows times the widened
weights, whose 96 columns after the latent ones are zero. -/

@[expose] public section
set_option maxRecDepth 16384
noncomputable section
open Idealize.ShloMosaic Idealize.ShloMosaic.TcCoe Idealize.SL.Sem
open Idealize.ShloMosaic.Pipeline (Dat)
namespace Cert.Kernel8Ideal.Proj
open Cert.Kernel8Ideal Cert.Kernel8Ideal.Gen Cert.Layer

/-- The kernel's row at a column of the widened weights. -/
def col (x0 : FVec Ideal S1x256x1024 .f32) (x1 : FVec Ideal S1x1024 .f32) (x2 x3 : FVec Ideal S1x1x1024 .f32) (x4 : FVec Ideal S1024x2816 .bf16)
    (r : Fin 256) (f : Fin 2816) : EReal :=
  ∑ k, modRow (fun k => x0 (ix3 0 r k)) (fun k => x1 (ix2 0 k)) (fun k => x3 (ix3 0 0 k)) (fun k => x2 (ix3 0 0 k)) k * x4 (ix2 k f)

/-- The modulated rows the five products share. -/
theorem rows_at (x0 : FVec Ideal S1x256x1024 .f32) (x1 : FVec Ideal S1x1024 .f32) (x2 x3 : FVec Ideal S1x1x1024 .f32) (r : Fin 256) (k : Fin 1024) :
    k0_pay5 (F := Ideal) x0 x1 x3 x2 (ix2 r k)
      = modRow (fun k => x0 (ix3 0 r k)) (fun k => x1 (ix2 0 k)) (fun k => x3 (ix3 0 0 k)) (fun k => x2 (ix3 0 0 k)) k := by
  pointwise [k0_pay5]
  rfl

theorem block5_eq (x0 : FVec Ideal S1x256x1024 .f32) (x1 : FVec Ideal S1x1024 .f32) (x2 x3 : FVec Ideal S1x1x1024 .f32) (x4 : FVec Ideal S1024x2816 .bf16)
    (r : Fin 256) (n : Fin 768) : out0_5 (F := Ideal) x0 x1 x2 x3 x4 (ix3 0 r n) = col x0 x1 x2 x3 x4 r ⟨0 + n, by omega⟩ := by
  unfold_out out0_5
  canon_tiles x h
  open_payloads
  pointwise [k0_pay6]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm
  simp only [col, zero_add]
  rfl

theorem block6_eq (x0 : FVec Ideal S1x256x1024 .f32) (x1 : FVec Ideal S1x1024 .f32) (x2 x3 : FVec Ideal S1x1x1024 .f32) (x4 : FVec Ideal S1024x2816 .bf16)
    (r : Fin 256) (n : Fin 256) : out0_6 (F := Ideal) x0 x1 x2 x3 x4 (ix3 0 r n) = col x0 x1 x2 x3 x4 r ⟨768 + n, by omega⟩ := by
  unfold_out out0_6
  canon_tiles x h
  open_payloads
  pointwise [k0_pay1, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

theorem block7_eq (x0 : FVec Ideal S1x256x1024 .f32) (x1 : FVec Ideal S1x1024 .f32) (x2 x3 : FVec Ideal S1x1x1024 .f32) (x4 : FVec Ideal S1024x2816 .bf16)
    (r : Fin 256) (n : Fin 256) : out0_7 (F := Ideal) x0 x1 x2 x3 x4 (ix3 0 r n) = col x0 x1 x2 x3 x4 r ⟨1024 + n, by omega⟩ := by
  unfold_out out0_7
  canon_tiles x h
  open_payloads
  pointwise [k0_pay2, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

theorem block8_eq (x0 : FVec Ideal S1x256x1024 .f32) (x1 : FVec Ideal S1x1024 .f32) (x2 x3 : FVec Ideal S1x1x1024 .f32) (x4 : FVec Ideal S1024x2816 .bf16)
    (r : Fin 256) (n : Fin 1024) : out0_8 (F := Ideal) x0 x1 x2 x3 x4 (ix3 0 r n) = col x0 x1 x2 x3 x4 r ⟨1280 + n, by omega⟩ := by
  unfold_out out0_8
  canon_tiles x h
  open_payloads
  pointwise [k0_pay3, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

theorem block9_eq (x0 : FVec Ideal S1x256x1024 .f32) (x1 : FVec Ideal S1x1024 .f32) (x2 x3 : FVec Ideal S1x1x1024 .f32) (x4 : FVec Ideal S1024x2816 .bf16)
    (r : Fin 256) (n : Fin 512) : out0_9 (F := Ideal) x0 x1 x2 x3 x4 (ix3 0 r n) = col x0 x1 x2 x3 x4 r ⟨2304 + n, by omega⟩ := by
  unfold_out out0_9
  canon_tiles x h
  open_payloads
  pointwise [k0_pay4, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm

  rfl

variable (m : (ℓ : Loc nD τ sig) → Buf (Elt Ideal) ℓ)

theorem idx : ∀ t : Fin cfg0.N, win0_0.index t = ![t.val, 0, 0] ∧ win0_1.index t = ![0, 0]
    ∧ win0_2.index t = ![t.val, 0, 0] ∧ win0_3.index t = ![t.val, 0, 0] ∧ win0_4.index t = ![0, 0]
    ∧ win0_5.index t = ![t.val, 0, 0] ∧ win0_6.index t = ![t.val, 0, 0] ∧ win0_7.index t = ![t.val, 0, 0]
    ∧ win0_8.index t = ![t.val, 0, 0] ∧ win0_9.index t = ![t.val, 0, 0] ∧ t.val < 32 :=
  (by decide +kernel : ∀ t : Fin grid0.N, _)

theorem x_at (c : Dev nD) (t : Fin cfg0.N) (r : Fin 256) (n : Fin 1024) (b : Fin 32) (l : Fin 256) (hb : (b : ℕ) = t.val)
    (hl : (l : ℕ) = r.val) :
    (iblk m c 0 t : Vec Ideal S1x256x1024 .f32) (ix3 0 r n) = m ((c : Thread nD τ).loc main_arg0) (ix3 b l n) := by
  blk_point [iblk, V, idx t]

theorem g_at (c : Dev nD) (t : Fin cfg0.N) (k : Fin 1024) :
    (iblk m c 1 t : Vec Ideal S1x1024 .f32) (ix2 0 k) = m ((c : Thread nD τ).loc main_arg1) (ix1 k) := by
  blk_point [iblk, V, idx t]

theorem sh_at (c : Dev nD) (t : Fin cfg0.N) (k : Fin 1024) :
    (iblk m c 2 t : Vec Ideal S1x1x1024 .f32) (ix3 0 0 k) = m ((c : Thread nD τ).loc main_arg2) (ix1 k) := by
  blk_point [iblk, V, idx t]

theorem sc_at (c : Dev nD) (t : Fin cfg0.N) (k : Fin 1024) :
    (iblk m c 3 t : Vec Ideal S1x1x1024 .f32) (ix3 0 0 k) = m ((c : Thread nD τ).loc main_arg3) (ix1 k) := by
  blk_point [iblk, V, idx t]

/-- The weights with 96 zero columns put in after column 1183. -/
def wide (W : FVec Ideal S1024x2720 .f32) : FVec Ideal S1024x2816 .f32 :=
  concatenate S1024x2816 1 [⟨S1024x1184, extractStridedSlice S1024x1184 ![0, 0] W slices_S1024x2720_S1024x1184_0_0⟩,
    ⟨S1024x96, broadcastInDim S1024x96 ![] bcast_S_S1024x96 (constant S_ .f32 0x00000000#32)⟩,
    ⟨S1024x1536, extractStridedSlice S1024x1536 ![0, 1184] W slices_S1024x2720_S1024x1536_0_1184⟩] concatenates_S1024x1184_S1024x96_S1024x1536_S1024x2816_d1

theorem wide_low (W : FVec Ideal S1024x2720 .f32) (k : Fin 1024) (f : Fin 2816) (n : Fin 2720) (hf : (f : ℕ) < 1184) (hn : (n : ℕ) = f) :
    wide W (ix2 k f) = W (ix2 k n) := by
  obtain ⟨f, hF⟩ := f
  obtain ⟨n, hN⟩ := n
  dsimp only at hf hn
  subst hn
  pointwise [wide]
  exact dif_pos hf

theorem wide_mid (W : FVec Ideal S1024x2720 .f32) (k : Fin 1024) (f : Fin 2816) (hf : 1184 ≤ (f : ℕ)) (hf' : (f : ℕ) < 1280) :
    wide W (ix2 k f) = 0 := by
  pointwise [wide]
  rw [dif_neg (by omega), dif_pos (by omega)]

theorem wide_high (W : FVec Ideal S1024x2720 .f32) (k : Fin 1024) (f : Fin 2816) (n : Fin 2720) (hf : 1280 ≤ (f : ℕ)) (hn : (n : ℕ) + 96 = f) :
    wide W (ix2 k f) = W (ix2 k n) := by
  pointwise [wide]
  rw [dif_neg (by omega), dif_neg (by omega)]
  exact congrArg (fun j => W (ix2 k j)) (Fin.ext (by dsimp only; omega))

theorem v_wide (c : Dev nD) : V m c main_v9 = truncf (F := Ideal) .bf16 (wide (m ((c : Thread nD τ).loc main_arg4))) bitsLt_bf16_f32 := by
  unfold V wide
  after_results_simp
  rfl

theorem w_at (c : Dev nD) (t : Fin cfg0.N) (k : Fin 1024) (f : Fin 2816) :
    (iblk m c 4 t : Vec Ideal S1024x2816 .bf16) (ix2 k f) = wide (m ((c : Thread nD τ).loc main_arg4)) (ix2 k f) := by
  refine Eq.trans (b := (V m c main_v9 : Vec Ideal S1024x2816 .bf16) (ix2 k f)) ?_ ?_
  · blk_point [iblk, idx t]
  · rw [v_wide]; rfl

/-- The first columns of the widened weights are the weights' own. -/
theorem col_low (c : Dev nD) (t : Fin cfg0.N) (r : Fin 256) (b : Fin 32) (l : Fin 256) (hb : (b : ℕ) = t.val)
    (hl : (l : ℕ) = r.val) (f : Fin 2816) (n : Fin 2720) (hf : (f : ℕ) < 1184) (hn : (n : ℕ) = f) :
    col (iblk m c 0 t) (iblk m c 1 t) (iblk m c 2 t) (iblk m c 3 t) (iblk m c 4 t) r f
      = projCtxAt (m ((c : Thread nD τ).loc main_arg0)) (m ((c : Thread nD τ).loc main_arg1)) (m ((c : Thread nD τ).loc main_arg2))
        (m ((c : Thread nD τ).loc main_arg3)) (m ((c : Thread nD τ).loc main_arg4)) b l n := by
  unfold col projCtxAt modCtx
  simp only [x_at m c t r _ b l hb hl, g_at, sh_at, sc_at, w_at, wide_low _ _ f n hf hn]

/-- Its last columns are the weights' own, 96 columns further. -/
theorem col_high (c : Dev nD) (t : Fin cfg0.N) (r : Fin 256) (b : Fin 32) (l : Fin 256) (hb : (b : ℕ) = t.val)
    (hl : (l : ℕ) = r.val) (f : Fin 2816) (n : Fin 2720) (hf : 1280 ≤ (f : ℕ)) (hn : (n : ℕ) + 96 = f) :
    col (iblk m c 0 t) (iblk m c 1 t) (iblk m c 2 t) (iblk m c 3 t) (iblk m c 4 t) r f
      = projCtxAt (m ((c : Thread nD τ).loc main_arg0)) (m ((c : Thread nD τ).loc main_arg1)) (m ((c : Thread nD τ).loc main_arg2))
        (m ((c : Thread nD τ).loc main_arg3)) (m ((c : Thread nD τ).loc main_arg4)) b l n := by
  unfold col projCtxAt modCtx
  simp only [x_at m c t r _ b l hb hl, g_at, sh_at, sc_at, w_at, wide_high _ _ f n hf hn]

/-- Between them it is zero: whatever the rows hold, a product with zero is zero. -/
theorem col_mid (c : Dev nD) (t : Fin cfg0.N) (r : Fin 256) (f : Fin 2816) (hf : 1184 ≤ (f : ℕ)) (hf' : (f : ℕ) < 1280) :
    col (iblk m c 0 t) (iblk m c 1 t) (iblk m c 2 t) (iblk m c 3 t) (iblk m c 4 t) r f = 0 := by
  unfold col
  simp only [w_at, wide_mid _ _ f hf hf', mul_zero, Finset.sum_const_zero]

theorem final5 (c : Dev nD) : (dats m 0 c).arrAt 5 (cfgs 0).N
    = projCtxCols 768 0 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have hN := (idx t).2.2.2.2.2.2.2.2.2.2
  blk_simp
  rw [after0_5]
  obtain ⟨r, n, rfl⟩ : ∃ (r : Fin 256) (n : Fin 768), y = (ix3 0 r n : S1x256x768.Idx) := ⟨y 1, y 2, by idx_vars y; rw [Fin.eq_zero y0]⟩
  refine (block5_eq _ _ _ _ _ r n).trans (Eq.trans (b := (projCtxCols 768 0 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val, by omega⟩ ⟨r.val, by omega⟩ n)) ?_ ?_)
  · exact col_low m c t r ⟨t.val, by omega⟩ ⟨r.val, by omega⟩ rfl rfl ⟨0 + n.val, by omega⟩ ⟨0 + n.val, by omega⟩ (by dsimp only; omega) rfl
  · congr 1
    blk_ext [idx t]

theorem final6 (c : Dev nD) : (dats m 0 c).arrAt 6 (cfgs 0).N
    = projCtxCols 256 768 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have hN := (idx t).2.2.2.2.2.2.2.2.2.2
  blk_simp
  rw [after0_6]
  obtain ⟨r, n, rfl⟩ : ∃ (r : Fin 256) (n : Fin 256), y = (ix3 0 r n : S1x256x256.Idx) := ⟨y 1, y 2, by idx_vars y; rw [Fin.eq_zero y0]⟩
  refine (block6_eq _ _ _ _ _ r n).trans (Eq.trans (b := (projCtxCols 256 768 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val, by omega⟩ ⟨r.val, by omega⟩ n)) ?_ ?_)
  · exact col_low m c t r ⟨t.val, by omega⟩ ⟨r.val, by omega⟩ rfl rfl ⟨768 + n.val, by omega⟩ ⟨768 + n.val, by omega⟩ (by dsimp only; omega) rfl
  · congr 1
    blk_ext [idx t]

theorem final7 (c : Dev nD) : (dats m 0 c).arrAt 7 (cfgs 0).N
    = projCtxLatent (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have hN := (idx t).2.2.2.2.2.2.2.2.2.2
  blk_simp
  rw [after0_7]
  obtain ⟨r, n, rfl⟩ : ∃ (r : Fin 256) (n : Fin 256), y = (ix3 0 r n : S1x256x256.Idx) := ⟨y 1, y 2, by idx_vars y; rw [Fin.eq_zero y0]⟩
  refine (block7_eq _ _ _ _ _ r n).trans (Eq.trans (b := (projCtxLatent (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val, by omega⟩ ⟨r.val, by omega⟩ n)) ?_ ?_)
  · by_cases hn : n.val < 160
    · refine (col_low m c t r ⟨t.val, by omega⟩ ⟨r.val, by omega⟩ rfl rfl ⟨1024 + n.val, by omega⟩ ⟨1024 + n.val, by omega⟩ (by dsimp only; omega) rfl).trans ?_
      exact (projCtxLatent_low _ _ _ _ _ _ _ n hn).symm
    · refine (col_mid m c t r ⟨1024 + n.val, by omega⟩ (by dsimp only; omega) (by dsimp only; omega)).trans ?_
      exact (projCtxLatent_high _ _ _ _ _ _ _ n hn).symm
  · congr 1
    blk_ext [idx t]

theorem final8 (c : Dev nD) : (dats m 0 c).arrAt 8 (cfgs 0).N
    = projCtxCols 1024 1184 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have hN := (idx t).2.2.2.2.2.2.2.2.2.2
  blk_simp
  rw [after0_8]
  obtain ⟨r, n, rfl⟩ : ∃ (r : Fin 256) (n : Fin 1024), y = (ix3 0 r n : S1x256x1024.Idx) := ⟨y 1, y 2, by idx_vars y; rw [Fin.eq_zero y0]⟩
  refine (block8_eq _ _ _ _ _ r n).trans (Eq.trans (b := (projCtxCols 1024 1184 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val, by omega⟩ ⟨r.val, by omega⟩ n)) ?_ ?_)
  · exact col_high m c t r ⟨t.val, by omega⟩ ⟨r.val, by omega⟩ rfl rfl ⟨1280 + n.val, by omega⟩ ⟨1184 + n.val, by omega⟩ (by dsimp only; omega) (by dsimp only; omega)
  · congr 1
    blk_ext [idx t]

theorem final9 (c : Dev nD) : (dats m 0 c).arrAt 9 (cfgs 0).N
    = projCtxCols 512 2208 (by omega) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  have hN := (idx t).2.2.2.2.2.2.2.2.2.2
  blk_simp
  rw [after0_9]
  obtain ⟨r, n, rfl⟩ : ∃ (r : Fin 256) (n : Fin 512), y = (ix3 0 r n : S1x256x512.Idx) := ⟨y 1, y 2, by idx_vars y; rw [Fin.eq_zero y0]⟩
  refine (block9_eq _ _ _ _ _ r n).trans (Eq.trans (b := (projCtxCols 512 2208 (by omega) (m ((c : Thread nD τ).loc main_arg0)) (m ((c : Thread nD τ).loc main_arg1)) (m ((c : Thread nD τ).loc main_arg2))
        (m ((c : Thread nD τ).loc main_arg3)) (m ((c : Thread nD τ).loc main_arg4)))
        (ix3 ⟨t.val, by omega⟩ ⟨r.val, by omega⟩ n)) ?_ ?_)
  · exact col_high m c t r ⟨t.val, by omega⟩ ⟨r.val, by omega⟩ rfl rfl ⟨2304 + n.val, by omega⟩ ⟨2208 + n.val, by omega⟩ (by dsimp only; omega) (by dsimp only; omega)
  · congr 1
    blk_ext [idx t]

end Cert.Kernel8Ideal.Proj
-- ==== Proof.ProjContextReference.lean ====
module
public import proofs.«01_k».proof.Proof.Gen.Reference8Ideal.Run
public import proofs.«01_k».proof.Proof.Layer

/-! The plain input projection of the reference, read at one entry: the norm, the modulation, the projection, and the five
slices of its columns. -/

@[expose] public section
set_option maxRecDepth 16384
noncomputable section
open Idealize.ShloMosaic Idealize.ShloMosaic.TcCoe Idealize.SL.Sem
namespace Cert.Reference8Ideal.Proj
open Cert.Reference8Ideal Cert.Reference8Ideal.Gen Cert.Reference8Ideal.Value Cert.Layer

def normed (X : FVec Ideal S32x256x1024 .f32) (G : FVec Ideal S1024 .f32) : FVec Ideal S32x256x1024 .f32 :=
  mulf (mulf X (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf X X) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 G))

theorem normed_at (X : FVec Ideal S32x256x1024 .f32) (G : FVec Ideal S1024 .f32) (b : Fin 32) (l : Fin 256) (k : Fin 1024) :
    normed X G (ix3 b l k) = normRow count1024 (fun k => X (ix3 b l k)) (fun k => G (ix1 k)) k := by
  pointwise [normed]
  rfl

/-- A row, spread over the batches and tokens. -/
def spread (A : FVec Ideal S1024 .f32) : FVec Ideal S32x256x1024 .f32 :=
  broadcastInDim S32x256x1024 ![0, 1, 2] bcast_S1x1x1024_S32x256x1024_0_1_2 (broadcastInDim S1x1x1024 ![2] bcast_S1024_S1x1x1024_2 A)

def modulated (N : FVec Ideal S32x256x1024 .f32) (SC SH : FVec Ideal S1024 .f32) : FVec Ideal S32x256x1024 .f32 :=
  addf (mulf N (spread (addf (broadcastInDim S1024 ![] bcast_S_S1024 (constant S_ .f32 0x3F800000#32)) SC))) (spread SH)

theorem modulated_at (N : FVec Ideal S32x256x1024 .f32) (SC SH : FVec Ideal S1024 .f32) (b : Fin 32) (l : Fin 256) (k : Fin 1024) :
    modulated N SC SH (ix3 b l k) = N (ix3 b l k) * (1 + SC (ix1 k)) + SH (ix1 k) := by
  pointwise [modulated, spread]

def projected (X : FVec Ideal S32x256x1024 .f32) (G : FVec Ideal S1024 .f32) (SH SC : FVec Ideal S1024 .f32) (W : FVec Ideal S1024x2720 .f32) : FVec Ideal S32x256x2720 .f32 :=
  Host.dotGeneral dot_S32x256x1024_S1024x2720_S32x256x2720_2_0_01_1_n_n none (modulated (normed X G) SC SH) W

theorem projected_at (X : FVec Ideal S32x256x1024 .f32) (G : FVec Ideal S1024 .f32) (SH SC : FVec Ideal S1024 .f32) (W : FVec Ideal S1024x2720 .f32) (b : Fin 32) (l : Fin 256) (n : Fin 2720) :
    projected X G SH SC W (ix3 b l n) = projCtxAt X G SH SC W b l n := by
  pointwise [projected]
  simp only [modulated_at, normed_at]
  rfl

def hyena (P : FVec Ideal S32x256x2720 .f32) : FVec Ideal S32x256x768 .f32 := extractStridedSlice S32x256x768 ![0, 0, 0] P slices_S32x256x2720_S32x256x768_0_0_0

theorem hyena_eq (X : FVec Ideal S32x256x1024 .f32) (G : FVec Ideal S1024 .f32) (SH SC : FVec Ideal S1024 .f32) (W : FVec Ideal S1024x2720 .f32) :
    hyena (projected X G SH SC W) = projCtxCols 768 0 (by omega) X G SH SC W := by
  funext j
  obtain ⟨b, l, n, rfl⟩ : ∃ b l n, j = ix3 b l n := ⟨j 0, j 1, j 2, by idx_vars j⟩
  have e : ∀ P : FVec Ideal S32x256x2720 .f32, hyena P (ix3 b l n) = P (ix3 b l ⟨0 + n.val, by omega⟩) := fun P => by
    pointwise [hyena]
  rw [e, projected_at]
  rfl

def query (P : FVec Ideal S32x256x2720 .f32) : FVec Ideal S32x256x256 .f32 := extractStridedSlice S32x256x256 ![0, 0, 768] P slices_S32x256x2720_S32x256x256_0_0_768

theorem query_eq (X : FVec Ideal S32x256x1024 .f32) (G : FVec Ideal S1024 .f32) (SH SC : FVec Ideal S1024 .f32) (W : FVec Ideal S1024x2720 .f32) :
    query (projected X G SH SC W) = projCtxCols 256 768 (by omega) X G SH SC W := by
  funext j
  obtain ⟨b, l, n, rfl⟩ : ∃ b l n, j = ix3 b l n := ⟨j 0, j 1, j 2, by idx_vars j⟩
  have e : ∀ P : FVec Ideal S32x256x2720 .f32, query P (ix3 b l n) = P (ix3 b l ⟨768 + n.val, by omega⟩) := fun P => by
    pointwise [query]
  rw [e, projected_at]
  rfl

def retention (P : FVec Ideal S32x256x2720 .f32) : FVec Ideal S32x256x1024 .f32 := extractStridedSlice S32x256x1024 ![0, 0, 1184] P slices_S32x256x2720_S32x256x1024_0_0_1184

theorem retention_eq (X : FVec Ideal S32x256x1024 .f32) (G : FVec Ideal S1024 .f32) (SH SC : FVec Ideal S1024 .f32) (W : FVec Ideal S1024x2720 .f32) :
    retention (projected X G SH SC W) = projCtxCols 1024 1184 (by omega) X G SH SC W := by
  funext j
  obtain ⟨b, l, n, rfl⟩ : ∃ b l n, j = ix3 b l n := ⟨j 0, j 1, j 2, by idx_vars j⟩
  have e : ∀ P : FVec Ideal S32x256x2720 .f32, retention P (ix3 b l n) = P (ix3 b l ⟨1184 + n.val, by omega⟩) := fun P => by
    pointwise [retention]
  rw [e, projected_at]
  rfl

def grouped (P : FVec Ideal S32x256x2720 .f32) : FVec Ideal S32x256x512 .f32 := extractStridedSlice S32x256x512 ![0, 0, 2208] P slices_S32x256x2720_S32x256x512_0_0_2208

theorem grouped_eq (X : FVec Ideal S32x256x1024 .f32) (G : FVec Ideal S1024 .f32) (SH SC : FVec Ideal S1024 .f32) (W : FVec Ideal S1024x2720 .f32) :
    grouped (projected X G SH SC W) = projCtxCols 512 2208 (by omega) X G SH SC W := by
  funext j
  obtain ⟨b, l, n, rfl⟩ : ∃ b l n, j = ix3 b l n := ⟨j 0, j 1, j 2, by idx_vars j⟩
  have e : ∀ P : FVec Ideal S32x256x2720 .f32, grouped P (ix3 b l n) = P (ix3 b l ⟨2208 + n.val, by omega⟩) := fun P => by
    pointwise [grouped]
  rw [e, projected_at]
  rfl

def latent (P : FVec Ideal S32x256x2720 .f32) : FVec Ideal S32x256x160 .f32 := extractStridedSlice S32x256x160 ![0, 0, 1024] P slices_S32x256x2720_S32x256x160_0_0_1024

theorem latent_at (P : FVec Ideal S32x256x2720 .f32) (b : Fin 32) (l : Fin 256) (n : Fin 160) : latent P (ix3 b l n) = P (ix3 b l ⟨1024 + n.val, by omega⟩) := by
  pointwise [latent]

def widened (Q : FVec Ideal S32x256x160 .f32) : FVec Ideal S32x256x256 .f32 :=
  pad S32x256x256 ![0, 0, 0] ![0, 0, 96] ![0, 0, 0] Q (sitofp .f32 (constantI S_ 32 0#32)) pads_S32x256x160_S32x256x256_000_000_0960 h_S_

theorem zero_word : (FloatOps.sitofp (F := Ideal) .f32 0#32 : EReal) = 0 := by
  simp [FloatOps.sitofp]

theorem widened_low (Q : FVec Ideal S32x256x160 .f32) (b : Fin 32) (l : Fin 256) (n : Fin 256) (hn : n.val < 160) : widened Q (ix3 b l n) = Q (ix3 b l ⟨n.val, hn⟩) := by
  pointwise [widened]
  exact dif_pos hn

theorem widened_high (Q : FVec Ideal S32x256x160 .f32) (b : Fin 32) (l : Fin 256) (n : Fin 256) (hn : ¬ n.val < 160) : widened Q (ix3 b l n) = 0 := by
  pointwise [widened]
  rw [dif_neg hn]
  exact zero_word

theorem latent_eq (X : FVec Ideal S32x256x1024 .f32) (G : FVec Ideal S1024 .f32) (SH SC : FVec Ideal S1024 .f32) (W : FVec Ideal S1024x2720 .f32) :
    widened (latent (projected X G SH SC W)) = projCtxLatent X G SH SC W := by
  funext j
  obtain ⟨b, l, n, rfl⟩ : ∃ b l n, j = ix3 b l n := ⟨j 0, j 1, j 2, by idx_vars j⟩
  by_cases hn : n.val < 160
  · rw [widened_low _ b l n hn, latent_at, projected_at]
    exact (projCtxLatent_low _ _ _ _ _ _ _ n hn).symm
  · rw [widened_high _ b l n hn]
    exact (projCtxLatent_high _ _ _ _ _ _ _ n hn).symm

end Cert.Reference8Ideal.Proj
-- ==== Proof.ProjContext.lean ====
module
public import proofs.«01_k».proof.Defs
public import proofs.«01_k».proof.Proof.ProjContextKernel
public import proofs.«01_k».proof.Proof.ProjContextReference

/-! The input projection's value claim over the context's rows: from equal arguments both programs end with the same five results. -/

@[expose] public section
noncomputable section
open Idealize.ShloMosaic Idealize.ShloMosaic.TcCoe Idealize.SL.Sem
namespace Cert.ProjContext
open Cert.Kernel8Ideal.Proj Cert.Reference8Ideal.Proj

theorem algebraic : Cert.algebraic_Kernel8Ideal_Reference8Ideal := by
  pair_intro
  · run_from Cert.Kernel8Ideal.Gen.run_main m g
  · run_from Cert.Reference8Ideal.Value.run m' g'
    · exact (hyena_eq _ _ _ _ _).trans (final5 m c).symm
    · exact (query_eq _ _ _ _ _).trans (final6 m c).symm
    · exact (latent_eq _ _ _ _ _).trans (final7 m c).symm
    · exact (retention_eq _ _ _ _ _).trans (final8 m c).symm
    · exact (grouped_eq _ _ _ _ _).trans (final9 m c).symm

end Cert.ProjContext
-- ==== Proof.MergeContextKernel.lean ====
module
public import proofs.«01_k».proof.Proof.Gen.Kernel9Ideal.Frame
public import proofs.«01_k».proof.Proof.Layer

/-! The merge kernel's result over the context's rows, as a function of its arguments: each of the four groups is normed and goes through its own
256 rows of the output projection, and the four products are added. -/

@[expose] public section
set_option maxRecDepth 16384
noncomputable section
open Idealize.ShloMosaic Idealize.ShloMosaic.TcCoe Idealize.SL.Sem
open Idealize.ShloMosaic.Pipeline (Dat)
namespace Cert.Kernel9Ideal.Merge
open Cert.Kernel9Ideal Cert.Kernel9Ideal.Gen Cert.Layer

/-- One group's share of the output projection at a row and a column. -/
def share (y : FVec Ideal S1x256x256 .f32) (g : FVec Ideal S1x1024 .f32) (w : FVec Ideal S1024x1024 .bf16) (r : Fin 256) (n : Fin 1024) (i : Fin 4) : EReal :=
  ∑ k : Fin 256, normRow count256 (fun k => y (ix3 0 r k)) (fun k => g (ix2 0 ⟨i.val * 256 + k.val, by omega⟩)) k * w (ix2 ⟨i.val * 256 + k.val, by omega⟩ n)

theorem share_zero (y : FVec Ideal S1x256x256 .f32) (g : FVec Ideal S1x1024 .f32) (w : FVec Ideal S1024x1024 .bf16) (r : Fin 256) (n : Fin 1024) :
    share y g w r n 0 = ∑ k : Fin 256, normRow count256 (fun k => y (ix3 0 r k)) (fun k => g (ix2 0 ⟨k.val, by omega⟩)) k * w (ix2 ⟨k.val, by omega⟩ n) := by
  unfold share
  simp only [Fin.val_zero, zero_mul, zero_add]

theorem block_eq (x0 : FVec Ideal S1x256x1024 .f32) (x1 x2 x3 x4 : FVec Ideal S1x256x256 .f32) (x5 : FVec Ideal S1x1024 .f32)
    (x6 : FVec Ideal S1x1x1024 .f32) (x7 : FVec Ideal S1024x1024 .bf16) (r : Fin 256) (n : Fin 1024) :
    out0_8 (F := Ideal) x0 x1 x2 x3 x4 x5 x6 x7 (ix3 0 r n)
      = x0 (ix3 0 r n) + x6 (ix3 0 0 n) * (share x1 x5 x7 r n 0 + share x2 x5 x7 r n 1 + share x3 x5 x7 r n 2 + share x4 x5 x7 r n 3) := by
  unfold out0_8
  canon_tiles x h
  open_payloads
  pointwise [k0_pay1, k0_pay2, k0_pay3, k0_pay4, k0_pay5]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm
  rw [share_zero]
  rfl

variable (m : (ℓ : Loc nD τ sig) → Buf (Elt Ideal) ℓ)

theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![0, 0] ∧ win0_6.index t = ![t.val, 0, 0] ∧ win0_7.index t = ![0, 0]
    ∧ win0_8.index t = ![t.val, 0, 0] ∧ t.val < 32 :=
  (by decide +kernel : ∀ t : Fin grid0.N, _)

theorem x_at (c : Dev nD) (t : Fin cfg0.N) (r : Fin 256) (n : Fin 1024) (b : Fin 32) (l : Fin 256) (hb : (b : ℕ) = t.val)
    (hl : (l : ℕ) = r.val) :
    (iblk m c 0 t : Vec Ideal S1x256x1024 .f32) (ix3 0 r n) = m ((c : Thread nD τ).loc main_arg0) (ix3 b l n) := by
  blk_point [iblk, V, idx t]

theorem a_at (c : Dev nD) (t : Fin cfg0.N) (r : Fin 256) (k : Fin 256) (b : Fin 32) (l : Fin 256) (hb : (b : ℕ) = t.val)
    (hl : (l : ℕ) = r.val) :
    (iblk m c 1 t : Vec Ideal S1x256x256 .f32) (ix3 0 r k) = m ((c : Thread nD τ).loc main_arg1) (ix3 b l k) := by
  blk_point [iblk, V, idx t]

theorem b_at (c : Dev nD) (t : Fin cfg0.N) (r : Fin 256) (k : Fin 256) (b : Fin 32) (l : Fin 256) (hb : (b : ℕ) = t.val)
    (hl : (l : ℕ) = r.val) :
    (iblk m c 2 t : Vec Ideal S1x256x256 .f32) (ix3 0 r k) = m ((c : Thread nD τ).loc main_arg2) (ix3 b l k) := by
  blk_point [iblk, V, idx t]

theorem c_at (c : Dev nD) (t : Fin cfg0.N) (r : Fin 256) (k : Fin 256) (b : Fin 32) (l : Fin 256) (hb : (b : ℕ) = t.val)
    (hl : (l : ℕ) = r.val) :
    (iblk m c 3 t : Vec Ideal S1x256x256 .f32) (ix3 0 r k) = m ((c : Thread nD τ).loc main_arg3) (ix3 b l k) := by
  blk_point [iblk, V, idx t]

theorem d_at (c : Dev nD) (t : Fin cfg0.N) (r : Fin 256) (k : Fin 256) (b : Fin 32) (l : Fin 256) (hb : (b : ℕ) = t.val)
    (hl : (l : ℕ) = r.val) :
    (iblk m c 4 t : Vec Ideal S1x256x256 .f32) (ix3 0 r k) = m ((c : Thread nD τ).loc main_arg4) (ix3 b l k) := by
  blk_point [iblk, V, idx t]

theorem g_at (c : Dev nD) (t : Fin cfg0.N) (k : Fin 1024) :
    (iblk m c 5 t : Vec Ideal S1x1024 .f32) (ix2 0 k) = m ((c : Thread nD τ).loc main_arg5) (ix1 k) := by
  blk_point [iblk, V, idx t]

theorem gate_at (c : Dev nD) (t : Fin cfg0.N) (k : Fin 1024) :
    (iblk m c 6 t : Vec Ideal S1x1x1024 .f32) (ix3 0 0 k) = m ((c : Thread nD τ).loc main_arg6) (ix1 k) := by
  blk_point [iblk, V, idx t]

theorem w_at (c : Dev nD) (t : Fin cfg0.N) (k n : Fin 1024) :
    (iblk m c 7 t : Vec Ideal S1024x1024 .bf16) (ix2 k n) = m ((c : Thread nD τ).loc main_arg7) (ix2 k n) := by
  blk_point [iblk, V, idx t]

/-- The four groups in memory. -/
abbrev groups (c : Dev nD) : Fin 4 → FVec Ideal (⟨3, ![32, 256, 256]⟩ : Shape) .f32 :=
  ![m ((c : Thread nD τ).loc main_arg1), m ((c : Thread nD τ).loc main_arg2), m ((c : Thread nD τ).loc main_arg3), m ((c : Thread nD τ).loc main_arg4)]

theorem final (c : Dev nD) : (dats m 0 c).arrAt 8 (cfgs 0).N
    = mergeCtx (m ((c : Thread nD τ).loc main_arg0)) (groups m c) (m ((c : Thread nD τ).loc main_arg5))
        (m ((c : Thread nD τ).loc main_arg6)) (m ((c : Thread nD τ).loc main_arg7)) := by
  refine (dats m 0 c).arrAt_eq_of_covers 8 _ (by decide +kernel) fun t hf y => ?_
  have hN := (idx t).2.2.2.2.2.2.2.2.2
  blk_simp
  rw [after0_8]
  obtain ⟨r, n, rfl⟩ : ∃ (r : Fin 256) (n : Fin 1024), y = (ix3 0 r n : S1x256x1024.Idx) := ⟨y 1, y 2, by idx_vars y; rw [Fin.eq_zero y0]⟩
  have hb : ((⟨t.val, by omega⟩ : Fin 32) : ℕ) = t.val := rfl
  have hl : ((⟨r.val, by omega⟩ : Fin 256) : ℕ) = r.val := rfl
  refine (block_eq _ _ _ _ _ _ _ _ r n).trans (Eq.trans (b := mergeCtx (m ((c : Thread nD τ).loc main_arg0)) (groups m c) (m ((c : Thread nD τ).loc main_arg5))
        (m ((c : Thread nD τ).loc main_arg6)) (m ((c : Thread nD τ).loc main_arg7)) (ix3 ⟨t.val, by omega⟩ ⟨r.val, by omega⟩ n)) ?_ ?_)
  · unfold mergeCtx share
    simp only [x_at m c t r _ _ _ hb hl, a_at m c t r _ _ _ hb hl, b_at m c t r _ _ _ hb hl, c_at m c t r _ _ _ hb hl, d_at m c t r _ _ _ hb hl,
      g_at, gate_at, w_at]
    rw [Fin.sum_univ_four]
    rfl
  · congr 1
    blk_ext [idx t]

end Cert.Kernel9Ideal.Merge
-- ==== Proof.MergeContextReference.lean ====
module
public import proofs.«01_k».proof.Proof.Gen.Reference9Ideal.Run
public import proofs.«01_k».proof.Proof.Layer

/-! The plain merge of the reference, read at one entry: the groups stacked, normed, laid side by side and projected. -/

@[expose] public section
set_option maxRecDepth 16384
noncomputable section
open Idealize.ShloMosaic Idealize.ShloMosaic.TcCoe Idealize.SL.Sem
namespace Cert.Reference9Ideal.Merge
open Cert.Reference9Ideal Cert.Reference9Ideal.Gen Cert.Reference9Ideal.Value Cert.Layer

def stacked (A B C D : FVec Ideal S32x256x256 .f32) : FVec Ideal S32x256x4x256 .f32 :=
  concatenate S32x256x4x256 2 [⟨S32x256x1x256, broadcastInDim S32x256x1x256 ![0, 1, 3] bcast_S32x256x256_S32x256x1x256_0_1_3 A⟩, ⟨S32x256x1x256, broadcastInDim S32x256x1x256 ![0, 1, 3] bcast_S32x256x256_S32x256x1x256_0_1_3 B⟩, ⟨S32x256x1x256, broadcastInDim S32x256x1x256 ![0, 1, 3] bcast_S32x256x256_S32x256x1x256_0_1_3 C⟩, ⟨S32x256x1x256, broadcastInDim S32x256x1x256 ![0, 1, 3] bcast_S32x256x256_S32x256x1x256_0_1_3 D⟩] concatenates_S32x256x1x256_S32x256x1x256_S32x256x1x256_S32x256x1x256_S32x256x4x256_d2

theorem stacked_at (A B C D : FVec Ideal S32x256x256 .f32) (b : Fin 32) (l : Fin 256) (i : Fin 4) (k : Fin 256) :
    stacked A B C D (ix4 b l i k) = (![A, B, C, D] : Fin 4 → FVec Ideal S32x256x256 .f32) i (ix3 b l k) := by
  fin_cases i <;> pointwise [stacked]

def normed (Y : FVec Ideal S32x256x4x256 .f32) (G : FVec Ideal S1024 .f32) : FVec Ideal S32x256x4x256 .f32 :=
  mulf (mulf Y (broadcastInDim S32x256x4x256 ![0, 1, 2, 3] bcast_S32x256x4x1_S32x256x4x256_0_1_2_3 (Host.rsqrt (addf (Host.divf (broadcastInDim S32x256x4x1 ![0, 1, 2] bcast_S32x256x4_S32x256x4x1_0_1_2 (Host.reduceAdd (mulf Y Y) (constant S_ .f32 0x00000000#32) reducesTo_S32x256x4x256_S32x256x4_d3 h_S_)) (broadcastInDim S32x256x4x1 ![] bcast_S_S32x256x4x1 (constant S_ .f32 0x43800000#32))) (broadcastInDim S32x256x4x1 ![] bcast_S_S32x256x4x1 (constant S_ .f32 0x358637BD#32)))))) (broadcastInDim S32x256x4x256 ![0, 1, 2, 3] bcast_S1x1x4x256_S32x256x4x256_0_1_2_3 (broadcastInDim S1x1x4x256 ![2, 3] bcast_S4x256_S1x1x4x256_2_3 (shapeCast _ G shapeCasts_S1024_S4x256)))

theorem normed_at (Y : FVec Ideal S32x256x4x256 .f32) (G : FVec Ideal S1024 .f32) (b : Fin 32) (l : Fin 256) (i : Fin 4) (k : Fin 256) :
    normed Y G (ix4 b l i k) = normRow count256 (fun k => Y (ix4 b l i k)) (fun k => G (ix1 ⟨i.val * 256 + k.val, by omega⟩)) k := by
  pointwise [normed]
  rfl

def flat (Y : FVec Ideal S32x256x4x256 .f32) : FVec Ideal S32x256x1024 .f32 := shapeCast _ Y shapeCasts_S32x256x4x256_S32x256x1024

theorem flat_at (Y : FVec Ideal S32x256x4x256 .f32) (b : Fin 32) (l : Fin 256) (n : Fin 1024) (i : Fin 4) (k : Fin 256) (h : (n : ℕ) = i.val * 256 + k.val) :
    flat Y (ix3 b l n) = Y (ix4 b l i k) := by
  pointwise [flat]
  blk_point []

def projected (X : FVec Ideal S32x256x1024 .f32) (GATE : FVec Ideal S1024 .f32) (Y : FVec Ideal S32x256x1024 .f32) (W : FVec Ideal S1024x1024 .f32) : FVec Ideal S32x256x1024 .f32 :=
  addf X (mulf (broadcastInDim S32x256x1024 ![0, 1, 2] bcast_S1x1x1024_S32x256x1024_0_1_2 (broadcastInDim S1x1x1024 ![2] bcast_S1024_S1x1x1024_2 GATE)) (Host.dotGeneral dot_S32x256x1024_S1024x1024_S32x256x1024_2_0_01_1_n_n none Y W))

theorem projected_at (X : FVec Ideal S32x256x1024 .f32) (GATE : FVec Ideal S1024 .f32) (Y : FVec Ideal S32x256x1024 .f32) (W : FVec Ideal S1024x1024 .f32) (b : Fin 32) (l : Fin 256) (n : Fin 1024) :
    projected X GATE Y W (ix3 b l n) = X (ix3 b l n) + GATE (ix1 n) * ∑ k : Fin 1024, Y (ix3 b l k) * W (ix2 k n) := by
  pointwise [projected]

theorem whole_eq (X : FVec Ideal S32x256x1024 .f32) (A B C D : FVec Ideal S32x256x256 .f32) (G : FVec Ideal S1024 .f32) (GATE : FVec Ideal S1024 .f32) (W : FVec Ideal S1024x1024 .f32) :
    projected X GATE (flat (normed (stacked A B C D) G)) W = mergeCtx X ![A, B, C, D] G GATE W := by
  funext j
  obtain ⟨b, l, n, rfl⟩ : ∃ b l n, j = ix3 b l n := ⟨j 0, j 1, j 2, by idx_vars j⟩
  rw [projected_at]
  unfold mergeCtx
  refine congrArg (fun s => X (ix3 b l n) + GATE (ix1 n) * s) ?_
  symm
  refine Fin.sum_mul_add_congr fun i k hk => ?_
  rw [flat_at _ b l _ i k rfl, normed_at]
  simp only [stacked_at]
  rfl

end Cert.Reference9Ideal.Merge
-- ==== Proof.MergeContext.lean ====
module
public import proofs.«01_k».proof.Defs
public import proofs.«01_k».proof.Proof.MergeContextKernel
public import proofs.«01_k».proof.Proof.MergeContextReference

/-! The merge's value claim over the context's rows: from equal arguments both programs end with the same result. -/

@[expose] public section
noncomputable section
open Idealize.ShloMosaic Idealize.ShloMosaic.TcCoe Idealize.SL.Sem
namespace Cert.MergeContext

theorem algebraic : Cert.algebraic_Kernel9Ideal_Reference9Ideal := by
  pair_intro
  · run_from Cert.Kernel9Ideal.Gen.run_main m g
  · run_from Cert.Reference9Ideal.Value.run m' g'
    obtain ⟨-, e1, e2, e3, e4, -, -, -⟩ := hagree c
    rw [e1, e2, e3, e4]
    exact (Cert.Reference9Ideal.Merge.whole_eq _ _ _ _ _ _ _ _).trans (Cert.Kernel9Ideal.Merge.final m c).symm

end Cert.MergeContext
-- ==== Proof.Heads.lean ====
module
public import proofs.«01_k».proof.Proof.Layer

/-! The queries, keys and values of the latent attention, as functions of their arguments: the normed ranks through the
up-projections, the last 32 of a head's 96 entries turned by the position's angles, a head filled up to 128 lanes. -/

@[expose] public section
noncomputable section
open Idealize.ShloMosaic
namespace Cert.Layer

def count128 : EReal := Ideal.ofBits .f32 1124073472#32

def headScale : EReal := Ideal.ofBits .f32 0x3DD105EC#32

/-- The rotation of 32 entries by 16 angles, the first half against the second. -/
def rotated (c s : Fin 16 → EReal) (x : Fin 32 → EReal) (i : Fin 32) : EReal :=
  if h : i.val < 16 then x i * c ⟨i, h⟩ - x ⟨i + 16, by omega⟩ * s ⟨i, h⟩
  else x i * c ⟨i - 16, by omega⟩ + x ⟨i - 16, by omega⟩ * s ⟨i - 16, by omega⟩

/-- A head's lanes: 64 entries, 32 entries, and zeros. -/
def lanes (a : Fin 64 → EReal) (p : Fin 32 → EReal) (d : Fin 128) : EReal :=
  if h : d.val < 64 then a ⟨d, h⟩ else if h' : d.val < 96 then p ⟨d - 64, by omega⟩ else 0

theorem lanes_low (a : Fin 64 → EReal) (p : Fin 32 → EReal) (d : Fin 128) (h : d.val < 64) : lanes a p d = a ⟨d, h⟩ := by
  unfold lanes; exact dif_pos h

theorem lanes_mid (a : Fin 64 → EReal) (p : Fin 32 → EReal) (d : Fin 128) (h : 64 ≤ d.val) (h' : d.val < 96) : lanes a p d = p ⟨d - 64, by omega⟩ := by
  unfold lanes; rw [dif_neg (by omega), dif_pos h']

theorem lanes_high (a : Fin 64 → EReal) (p : Fin 32 → EReal) (d : Fin 128) (h : 96 ≤ d.val) : lanes a p d = 0 := by
  unfold lanes; rw [dif_neg (by omega), dif_neg (by omega)]

theorem rotated_low (c s : Fin 16 → EReal) (x : Fin 32 → EReal) (i : Fin 32) (h : i.val < 16) :
    rotated c s x i = x i * c ⟨i, h⟩ - x ⟨i + 16, by omega⟩ * s ⟨i, h⟩ := by
  unfold rotated; exact dif_pos h

theorem rotated_high (c s : Fin 16 → EReal) (x : Fin 32 → EReal) (i : Fin 32) (h : 16 ≤ i.val) :
    rotated c s x i = x i * c ⟨i - 16, by omega⟩ + x ⟨i - 16, by omega⟩ * s ⟨i - 16, by omega⟩ := by
  unfold rotated; exact dif_neg (by omega)

/-- A column of the query's up-projection, and of the keys' and values'. -/
def queryAt (cq : FVec Ideal (⟨3, ![32, 2048, 256]⟩ : Shape) .f32) (gq : FVec Ideal (⟨1, ![256]⟩ : Shape) .f32)
    (w : FVec Ideal (⟨2, ![256, 384]⟩ : Shape) .f32) (b : Fin 32) (l : Fin 2048) (n : Fin 384) : EReal :=
  ∑ k : Fin 256, normRow count256 (fun k => cq (ix3 b l k)) (fun k => gq (ix1 k)) k * w (ix2 k n)

def keyAt (ckv : FVec Ideal (⟨3, ![32, 2048, 128]⟩ : Shape) .f32) (gkv : FVec Ideal (⟨1, ![128]⟩ : Shape) .f32)
    (w : FVec Ideal (⟨2, ![128, 512]⟩ : Shape) .f32) (b : Fin 32) (l : Fin 2048) (n : Fin 512) : EReal :=
  ∑ k : Fin 128, normRow count128 (fun k => ckv (ix3 b l k)) (fun k => gkv (ix1 k)) k * w (ix2 k n)

def queries (cq : FVec Ideal (⟨3, ![32, 2048, 256]⟩ : Shape) .f32) (gq : FVec Ideal (⟨1, ![256]⟩ : Shape) .f32)
    (w : FVec Ideal (⟨2, ![256, 384]⟩ : Shape) .f32) (c s : FVec Ideal (⟨2, ![2048, 16]⟩ : Shape) .f32) :
    FVec Ideal (⟨4, ![32, 4, 2048, 128]⟩ : Shape) .bf16 := fun j =>
  lanes (fun e => queryAt cq gq w (j 0) (j 2) ⟨(j 1 : Fin 4).val * 96 + e, by have : (j 1 : Fin 4).val < 4 := (j 1 : Fin 4).isLt; omega⟩)
    (rotated (fun i => c (ix2 (j 2) i)) (fun i => s (ix2 (j 2) i))
      fun e => queryAt cq gq w (j 0) (j 2) ⟨(j 1 : Fin 4).val * 96 + 64 + e, by have : (j 1 : Fin 4).val < 4 := (j 1 : Fin 4).isLt; omega⟩) (j 3)
    * headScale

def keys (ckv : FVec Ideal (⟨3, ![32, 2048, 128]⟩ : Shape) .f32) (kr : FVec Ideal (⟨3, ![32, 2048, 32]⟩ : Shape) .f32)
    (gkv : FVec Ideal (⟨1, ![128]⟩ : Shape) .f32) (w : FVec Ideal (⟨2, ![128, 512]⟩ : Shape) .f32)
    (c s : FVec Ideal (⟨2, ![2048, 16]⟩ : Shape) .f32) : FVec Ideal (⟨4, ![32, 4, 2048, 128]⟩ : Shape) .bf16 := fun j =>
  lanes (fun e => keyAt ckv gkv w (j 0) (j 2) ⟨(j 1 : Fin 4).val * 128 + e, by have : (j 1 : Fin 4).val < 4 := (j 1 : Fin 4).isLt; omega⟩)
    (rotated (fun i => c (ix2 (j 2) i)) (fun i => s (ix2 (j 2) i)) fun e => kr (ix3 (j 0) (j 2) e)) (j 3)

def values (ckv : FVec Ideal (⟨3, ![32, 2048, 128]⟩ : Shape) .f32) (gkv : FVec Ideal (⟨1, ![128]⟩ : Shape) .f32)
    (w : FVec Ideal (⟨2, ![128, 512]⟩ : Shape) .f32) : FVec Ideal (⟨4, ![32, 4, 2048, 128]⟩ : Shape) .bf16 := fun j =>
  keyAt ckv gkv w (j 0) (j 2) ⟨(j 1 : Fin 4).val * 128 + 64 + (j 3 : Fin 128).val % 64, by have : (j 1 : Fin 4).val < 4 := (j 1 : Fin 4).isLt; omega⟩

theorem queries_at (cq : FVec Ideal (⟨3, ![32, 2048, 256]⟩ : Shape) .f32) (gq : FVec Ideal (⟨1, ![256]⟩ : Shape) .f32)
    (w : FVec Ideal (⟨2, ![256, 384]⟩ : Shape) .f32) (c s : FVec Ideal (⟨2, ![2048, 16]⟩ : Shape) .f32) (b : Fin 32) (g : Fin 4) (l : Fin 2048) (d : Fin 128) :
    queries cq gq w c s (ix4 b g l d) = lanes (fun e => queryAt cq gq w b l ⟨g.val * 96 + e, by omega⟩)
      (rotated (fun i => c (ix2 l i)) (fun i => s (ix2 l i)) fun e => queryAt cq gq w b l ⟨g.val * 96 + 64 + e, by omega⟩) d * headScale := rfl

theorem keys_at (ckv : FVec Ideal (⟨3, ![32, 2048, 128]⟩ : Shape) .f32) (kr : FVec Ideal (⟨3, ![32, 2048, 32]⟩ : Shape) .f32)
    (gkv : FVec Ideal (⟨1, ![128]⟩ : Shape) .f32) (w : FVec Ideal (⟨2, ![128, 512]⟩ : Shape) .f32)
    (c s : FVec Ideal (⟨2, ![2048, 16]⟩ : Shape) .f32) (b : Fin 32) (g : Fin 4) (l : Fin 2048) (d : Fin 128) :
    keys ckv kr gkv w c s (ix4 b g l d) = lanes (fun e => keyAt ckv gkv w b l ⟨g.val * 128 + e, by omega⟩)
      (rotated (fun i => c (ix2 l i)) (fun i => s (ix2 l i)) fun e => kr (ix3 b l e)) d := rfl

theorem values_at (ckv : FVec Ideal (⟨3, ![32, 2048, 128]⟩ : Shape) .f32) (gkv : FVec Ideal (⟨1, ![128]⟩ : Shape) .f32)
    (w : FVec Ideal (⟨2, ![128, 512]⟩ : Shape) .f32) (b : Fin 32) (g : Fin 4) (l : Fin 2048) (d : Fin 128) :
    values ckv gkv w (ix4 b g l d) = keyAt ckv gkv w b l ⟨g.val * 128 + 64 + d.val % 64, by omega⟩ := rfl

/-! The kernel's form of the rotation: three tables over all lanes, and the lanes turned by 16 either way. -/

def turned (cf s1 s2 x : Fin 128 → EReal) (d : Fin 128) : EReal :=
  x d * cf d + x ⟨(d + 16) % 128, by omega⟩ * s1 d + x ⟨(d + 112) % 128, by omega⟩ * s2 d

/-- A table that holds `p` in the lanes from `o` on, and `z` elsewhere. -/
def band {n : ℕ} (z : EReal) (o : ℕ) (p : Fin n → EReal) (d : Fin 128) : EReal :=
  if h : o ≤ d.val ∧ d.val < o + n then p ⟨d - o, by omega⟩ else z

theorem band_in {n : ℕ} (z : EReal) (o : ℕ) (p : Fin n → EReal) (d : Fin 128) (h : o ≤ d.val) (h' : d.val < o + n) :
    band z o p d = p ⟨d - o, by omega⟩ := by
  unfold band; exact dif_pos ⟨h, h'⟩

theorem band_out {n : ℕ} (z : EReal) (o : ℕ) (p : Fin n → EReal) (d : Fin 128) (h : ¬ (o ≤ d.val ∧ d.val < o + n)) : band z o p d = z := by
  unfold band; exact dif_neg h

/-- The cosines twice. -/
def twice (c : Fin 16 → EReal) (i : Fin 32) : EReal := c ⟨i.val % 16, by omega⟩

/-- Over a head's lanes, the kernel's form is the rotation of the 32 entries and leaves the rest. -/
theorem turned_eq (c s : Fin 16 → EReal) (x : Fin 128 → EReal) (d : Fin 128) (h96 : ∀ e : Fin 128, 96 ≤ e.val → x e = 0) :
    turned (band 1 64 (twice c)) (band 0 64 fun i => - s i) (band 0 80 s) x d
      = lanes (fun e => x ⟨e, by omega⟩) (rotated c s fun e => x ⟨64 + e, by omega⟩) d := by
  unfold turned
  by_cases h : d.val < 64
  · rw [lanes_low _ _ _ h, band_out _ _ _ _ (by omega), band_out _ _ _ _ (by omega), band_out _ _ _ _ (by omega)]
    simp only [mul_one, mul_zero, add_zero]
  by_cases h' : 96 ≤ d.val
  · rw [lanes_high _ _ _ h', band_out _ _ _ _ (by omega), band_out _ _ _ _ (by omega), band_out _ _ _ _ (by omega)]
    simp only [mul_one, mul_zero, add_zero]
    exact h96 d h'
  rw [lanes_mid _ _ _ (by omega) (by omega), band_in _ _ _ _ (by omega) (by omega)]
  by_cases h8 : d.val < 80
  · rw [rotated_low _ _ _ _ (by dsimp only; omega), band_in _ _ _ _ (by omega) (by omega), band_out _ _ _ _ (by omega)]
    simp only [mul_zero, add_zero, mul_neg, ← sub_eq_add_neg, twice]
    congr 2 <;> congr 1 <;> (apply Fin.ext; dsimp only; omega)
  · rw [rotated_high _ _ _ _ (by dsimp only; omega), band_out _ _ _ _ (by omega), band_in _ _ _ _ (by omega) (by omega)]
    simp only [mul_zero, add_zero, twice]
    congr 2 <;> congr 1 <;> (apply Fin.ext; dsimp only; omega)

end Cert.Layer
-- ==== Proof.MlaBlocks.lean ====
module
public import proofs.«01_k».proof.Proof.Gen.Kernel10Ideal.Frame
public import proofs.«01_k».proof.Proof.Heads

/-! The blocks the kernel that prepares the latent attention writes: queries, keys and values of four heads. -/

@[expose] public section
set_option maxRecDepth 16384
noncomputable section
open Idealize.ShloMosaic Idealize.ShloMosaic.TcCoe Idealize.SL.Sem
open Idealize.ShloMosaic.Pipeline (Dat)
namespace Cert.Kernel10Ideal.Mla
open Cert.Kernel10Ideal Cert.Kernel10Ideal.Gen Cert.Layer

/-- The kernel's query row at a column of the widened weights, and the rows of keys and values likewise. -/
def queryCol (x0 : FVec Ideal S1x512x256 .f32) (x2 : FVec Ideal S1x256 .f32) (x4 : FVec Ideal S256x512 .bf16) (r : Fin 512) (n : Fin 512) : EReal :=
  ∑ k, normRow count256 (fun k => x0 (ix3 0 r k)) (fun k => x2 (ix2 0 k)) k * x4 (ix2 k n)

def keyCol (x1 : FVec Ideal S1x512x256 .f32) (x3 : FVec Ideal S1x128 .f32) (x5 : FVec Ideal S128x512 .bf16) (r : Fin 512) (n : Fin 512) : EReal :=
  ∑ k : Fin 128, normRow count128 (fun k : Fin 128 => x1 (ix3 0 r ⟨k, by omega⟩)) (fun k => x3 (ix2 0 k)) k * x5 (ix2 k n)

/-- The lanes the keys' 32 entries are read from: the second half of the row, turned by 64. -/
def sideLane (x1 : FVec Ideal S1x512x256 .f32) (r : Fin 512) (d : Fin 128) : EReal := x1 (ix3 0 r ⟨128 + (d.val + 64) % 128, by omega⟩)

theorem query_at (x0 : FVec Ideal S1x512x256 .f32) (x2 : FVec Ideal S1x256 .f32) (x4 : FVec Ideal S256x512 .bf16) (r : Fin 512) (n : Fin 512) :
    k0_pay7 (F := Ideal) x0 x2 x4 (ix2 r n) = queryCol x0 x2 x4 r n := by
  pointwise [k0_pay7]
  rfl

theorem key_at (x1 : FVec Ideal S1x512x256 .f32) (x3 : FVec Ideal S1x128 .f32) (x5 : FVec Ideal S128x512 .bf16) (r : Fin 512) (n : Fin 512) :
    k0_pay13 (F := Ideal) (k0_pay9 x1) (k0_pay10 x1) k0_pay11 x3 x5 (ix2 r n) = keyCol x1 x3 x5 r n := by
  pointwise [k0_pay13, k0_pay12, k0_pay9, k0_pay8, k0_pay10, k0_pay11]
  rfl

theorem value_at (x1 : FVec Ideal S1x512x256 .f32) (x3 : FVec Ideal S1x128 .f32) (x5 : FVec Ideal S128x512 .bf16) (r : Fin 512) (n : Fin 512) :
    k0_pay14 (F := Ideal) (k0_pay9 x1) (k0_pay10 x1) k0_pay11 x3 x5 (ix2 r n) = keyCol x1 x3 x5 r n := by
  pointwise [k0_pay14, k0_pay12, k0_pay9, k0_pay8, k0_pay10, k0_pay11]
  rfl

theorem side_at (v1 v3 v5 : FVec Ideal S512x128 .f32) (x1 : FVec Ideal S1x512x256 .f32) (r : Fin 512) (d : Fin 128) :
    k0_pay15 (F := Ideal) v1 v3 v5 (k0_pay8 x1) (ix2 r d)
      = turned (fun d => v1 (ix2 r d)) (fun d => v3 (ix2 r d)) (fun d => v5 (ix2 r d)) (sideLane x1 r) d := by
  pointwise [k0_pay15, k0_pay8]
  rfl

theorem query0_at (v1 v3 v5 : FVec Ideal S512x128 .f32) (v25 : FVec Ideal S512x512 .f32) (r : Fin 512) (d : Fin 128) :
    k0_pay16 (F := Ideal) v1 v3 v5 v25 (ix4 0 0 r d)
      = turned (fun d => v1 (ix2 r d)) (fun d => v3 (ix2 r d)) (fun d => v5 (ix2 r d)) (fun d => v25 (ix2 r ⟨0 + d, by omega⟩)) d * headScale := by
  pointwise [k0_pay16]
  rfl

theorem query1_at (v1 v3 v5 : FVec Ideal S512x128 .f32) (v25 : FVec Ideal S512x512 .f32) (r : Fin 512) (d : Fin 128) :
    k0_pay20 (F := Ideal) v1 v3 v5 v25 (ix4 0 0 r d)
      = turned (fun d => v1 (ix2 r d)) (fun d => v3 (ix2 r d)) (fun d => v5 (ix2 r d)) (fun d => v25 (ix2 r ⟨128 + d, by omega⟩)) d * headScale := by
  pointwise [k0_pay20]
  rfl

theorem query2_at (v1 v3 v5 : FVec Ideal S512x128 .f32) (v25 : FVec Ideal S512x512 .f32) (r : Fin 512) (d : Fin 128) :
    k0_pay23 (F := Ideal) v1 v3 v5 v25 (ix4 0 0 r d)
      = turned (fun d => v1 (ix2 r d)) (fun d => v3 (ix2 r d)) (fun d => v5 (ix2 r d)) (fun d => v25 (ix2 r ⟨256 + d, by omega⟩)) d * headScale := by
  pointwise [k0_pay23]
  rfl

theorem query3_at (v1 v3 v5 : FVec Ideal S512x128 .f32) (v25 : FVec Ideal S512x512 .f32) (r : Fin 512) (d : Fin 128) :
    k0_pay1 (F := Ideal) (k0_pay26 v1 v3 v5 v25) (ix4 0 0 r d)
      = turned (fun d => v1 (ix2 r d)) (fun d => v3 (ix2 r d)) (fun d => v5 (ix2 r d)) (fun d => v25 (ix2 r ⟨384 + d, by omega⟩)) d * headScale := by
  pointwise [k0_pay1, k0_pay26]
  rfl

theorem key0_at (v1 v3 v5 : FVec Ideal S512x128 .f32) (v27 : FVec Ideal S512x256 .f32) (v28 : FVec Ideal S512x128 .f32) (v33 v34 : FVec Ideal S512x1 .f32)
    (v39 : FVec Ideal S1x128 .f32) (v44 : FVec Ideal S128x512 .bf16) (r : Fin 512) (d : Fin 128) :
    k0_pay18 (F := Ideal) (k0_pay17 v1 v3 v5 v27 v28 v33 v34 v39 v44) (ix4 0 0 r d)
      = k0_pay13 (F := Ideal) v28 v33 v34 v39 v44 (ix2 r ⟨0 + d, by omega⟩) + k0_pay15 (F := Ideal) v1 v3 v5 v27 (ix2 r d) := by
  pointwise [k0_pay18, k0_pay17]

theorem key1_at (v46 : FVec Ideal S512x512 .f32) (v58 : FVec Ideal S512x128 .f32) (r : Fin 512) (d : Fin 128) :
    k0_pay21 (F := Ideal) v46 v58 (ix4 0 0 r d) = v46 (ix2 r ⟨128 + d, by omega⟩) + v58 (ix2 r d) := by
  pointwise [k0_pay21]

theorem key2_at (v46 : FVec Ideal S512x512 .f32) (v58 : FVec Ideal S512x128 .f32) (r : Fin 512) (d : Fin 128) :
    k0_pay24 (F := Ideal) v46 v58 (ix4 0 0 r d) = v46 (ix2 r ⟨256 + d, by omega⟩) + v58 (ix2 r d) := by
  pointwise [k0_pay24]

theorem key3_at (v46 : FVec Ideal S512x512 .f32) (v58 : FVec Ideal S512x128 .f32) (r : Fin 512) (d : Fin 128) :
    k0_pay2 (F := Ideal) v46 v58 (ix4 0 0 r d) = v46 (ix2 r ⟨384 + d, by omega⟩) + v58 (ix2 r d) := by
  pointwise [k0_pay2]

theorem value0_at (v49 : FVec Ideal S512x512 .f32) (r : Fin 512) (d : Fin 128) :
    k0_pay19 (F := Ideal) v49 (ix4 0 0 r d) = v49 (ix2 r ⟨0 + d, by omega⟩) := by
  pointwise [k0_pay19]

theorem value1_at (v49 : FVec Ideal S512x512 .f32) (r : Fin 512) (d : Fin 128) :
    k0_pay22 (F := Ideal) v49 (ix4 0 0 r d) = v49 (ix2 r ⟨128 + d, by omega⟩) := by
  pointwise [k0_pay22]

theorem value2_at (v49 : FVec Ideal S512x512 .f32) (r : Fin 512) (d : Fin 128) :
    k0_pay25 (F := Ideal) v49 (ix4 0 0 r d) = v49 (ix2 r ⟨256 + d, by omega⟩) := by
  pointwise [k0_pay25]

theorem value3_at (v49 : FVec Ideal S512x512 .f32) (r : Fin 512) (d : Fin 128) :
    k0_pay3 (F := Ideal) v49 (ix4 0 0 r d) = v49 (ix2 r ⟨384 + d, by omega⟩) := by
  pointwise [k0_pay3]

theorem table4_at (x : FVec Ideal S512x128 .f32) (r : Fin 512) (d : Fin 128) : k0_pay4 (F := Ideal) x (ix2 r d) = x (ix2 r d) := by
  pointwise [k0_pay4]

theorem table5_at (x : FVec Ideal S512x128 .f32) (r : Fin 512) (d : Fin 128) : k0_pay5 (F := Ideal) x (ix2 r d) = x (ix2 r d) := by
  pointwise [k0_pay5]

theorem table6_at (x : FVec Ideal S512x128 .f32) (r : Fin 512) (d : Fin 128) : k0_pay6 (F := Ideal) x (ix2 r d) = x (ix2 r d) := by
  pointwise [k0_pay6]

theorem queries_eq (x0 x1 : FVec Ideal S1x512x256 .f32) (x2 : FVec Ideal S1x256 .f32) (x3 : FVec Ideal S1x128 .f32)
    (x4 : FVec Ideal S256x512 .bf16) (x5 x6 : FVec Ideal S128x512 .bf16) (x7 x8 x9 : FVec Ideal S512x128 .f32) (g : Fin 4) (r : Fin 512) (d : Fin 128) :
    out0_10 (F := Ideal) x0 x1 x2 x3 x4 x5 x6 x7 x8 x9 (ix4 0 g r d)
      = turned (fun d => x7 (ix2 r d)) (fun d => x8 (ix2 r d)) (fun d => x9 (ix2 r d))
          (fun d => queryCol x0 x2 x4 r ⟨g.val * 128 + d, by omega⟩) d * headScale := by
  unfold_out out0_10
  canon_tiles x h
  case piece0 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 3 := Fin.ext (by simpa using h1)
    refine (show _ = k0_pay1 (F := Ideal) (k0_pay26 (k0_pay4 x7) (k0_pay5 x8) (k0_pay6 x9) (k0_pay7 x0 x2 x4)) (ix4 0 0 r' d') from rfl).trans ?_
    rw [query3_at]
    simp only [table4_at, table5_at, table6_at, query_at, key_at, value_at, side_at]
    rfl
  case piece1 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 2 := Fin.ext (by simpa using h1)
    refine (show _ = k0_pay23 (F := Ideal) (k0_pay4 x7) (k0_pay5 x8) (k0_pay6 x9) (k0_pay7 x0 x2 x4) (ix4 0 0 r' d') from rfl).trans ?_
    rw [query2_at]
    simp only [table4_at, table5_at, table6_at, query_at, key_at, value_at, side_at]
    rfl
  case piece2 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 1 := Fin.ext (by simpa using h1)
    refine (show _ = k0_pay20 (F := Ideal) (k0_pay4 x7) (k0_pay5 x8) (k0_pay6 x9) (k0_pay7 x0 x2 x4) (ix4 0 0 r' d') from rfl).trans ?_
    rw [query1_at]
    simp only [table4_at, table5_at, table6_at, query_at, key_at, value_at, side_at]
    rfl
  case piece3 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 0 := Fin.ext (by simpa using h1)
    refine (show _ = k0_pay16 (F := Ideal) (k0_pay4 x7) (k0_pay5 x8) (k0_pay6 x9) (k0_pay7 x0 x2 x4) (ix4 0 0 r' d') from rfl).trans ?_
    rw [query0_at]
    simp only [table4_at, table5_at, table6_at, query_at, key_at, value_at, side_at]
    rfl

theorem keys_eq (x0 x1 : FVec Ideal S1x512x256 .f32) (x2 : FVec Ideal S1x256 .f32) (x3 : FVec Ideal S1x128 .f32)
    (x4 : FVec Ideal S256x512 .bf16) (x5 x6 : FVec Ideal S128x512 .bf16) (x7 x8 x9 : FVec Ideal S512x128 .f32) (g : Fin 4) (r : Fin 512) (d : Fin 128) :
    out0_11 (F := Ideal) x0 x1 x2 x3 x4 x5 x6 x7 x8 x9 (ix4 0 g r d)
      = keyCol x1 x3 x5 r ⟨g.val * 128 + d, by omega⟩
        + turned (fun d => x7 (ix2 r d)) (fun d => x8 (ix2 r d)) (fun d => x9 (ix2 r d)) (sideLane x1 r) d := by
  unfold_out out0_11
  canon_tiles x h
  case piece0 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 3 := Fin.ext (by simpa using h1)
    refine (show _ = k0_pay2 (F := Ideal) (k0_pay13 (k0_pay9 x1) (k0_pay10 x1) k0_pay11 x3 x5) (k0_pay15 (k0_pay4 x7) (k0_pay5 x8) (k0_pay6 x9) (k0_pay8 x1)) (ix4 0 0 r' d') from rfl).trans ?_
    rw [key3_at]
    simp only [table4_at, table5_at, table6_at, query_at, key_at, value_at, side_at]
    rfl
  case piece1 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 2 := Fin.ext (by simpa using h1)
    refine (show _ = k0_pay24 (F := Ideal) (k0_pay13 (k0_pay9 x1) (k0_pay10 x1) k0_pay11 x3 x5) (k0_pay15 (k0_pay4 x7) (k0_pay5 x8) (k0_pay6 x9) (k0_pay8 x1)) (ix4 0 0 r' d') from rfl).trans ?_
    rw [key2_at]
    simp only [table4_at, table5_at, table6_at, query_at, key_at, value_at, side_at]
    rfl
  case piece2 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 1 := Fin.ext (by simpa using h1)
    refine (show _ = k0_pay21 (F := Ideal) (k0_pay13 (k0_pay9 x1) (k0_pay10 x1) k0_pay11 x3 x5) (k0_pay15 (k0_pay4 x7) (k0_pay5 x8) (k0_pay6 x9) (k0_pay8 x1)) (ix4 0 0 r' d') from rfl).trans ?_
    rw [key1_at]
    simp only [table4_at, table5_at, table6_at, query_at, key_at, value_at, side_at]
    rfl
  case piece3 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 0 := Fin.ext (by simpa using h1)
    refine (show _ = k0_pay18 (F := Ideal) (k0_pay17 (k0_pay4 x7) (k0_pay5 x8) (k0_pay6 x9) (k0_pay8 x1) (k0_pay9 x1) (k0_pay10 x1) k0_pay11 x3 x5) (ix4 0 0 r' d') from rfl).trans ?_
    rw [key0_at]
    simp only [table4_at, table5_at, table6_at, query_at, key_at, value_at, side_at]
    rfl

theorem values_eq (x0 x1 : FVec Ideal S1x512x256 .f32) (x2 : FVec Ideal S1x256 .f32) (x3 : FVec Ideal S1x128 .f32)
    (x4 : FVec Ideal S256x512 .bf16) (x5 x6 : FVec Ideal S128x512 .bf16) (x7 x8 x9 : FVec Ideal S512x128 .f32) (g : Fin 4) (r : Fin 512) (d : Fin 128) :
    out0_12 (F := Ideal) x0 x1 x2 x3 x4 x5 x6 x7 x8 x9 (ix4 0 g r d)
      = keyCol x1 x3 x6 r ⟨g.val * 128 + d, by omega⟩ := by
  unfold_out out0_12
  canon_tiles x h
  case piece0 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 3 := Fin.ext (by simpa using h1)
    refine (show _ = k0_pay3 (F := Ideal) (k0_pay14 (k0_pay9 x1) (k0_pay10 x1) k0_pay11 x3 x6) (ix4 0 0 r' d') from rfl).trans ?_
    rw [value3_at]
    simp only [table4_at, table5_at, table6_at, query_at, key_at, value_at, side_at]
    rfl
  case piece1 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 2 := Fin.ext (by simpa using h1)
    refine (show _ = k0_pay25 (F := Ideal) (k0_pay14 (k0_pay9 x1) (k0_pay10 x1) k0_pay11 x3 x6) (ix4 0 0 r' d') from rfl).trans ?_
    rw [value2_at]
    simp only [table4_at, table5_at, table6_at, query_at, key_at, value_at, side_at]
    rfl
  case piece2 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 1 := Fin.ext (by simpa using h1)
    refine (show _ = k0_pay22 (F := Ideal) (k0_pay14 (k0_pay9 x1) (k0_pay10 x1) k0_pay11 x3 x6) (ix4 0 0 r' d') from rfl).trans ?_
    rw [value1_at]
    simp only [table4_at, table5_at, table6_at, query_at, key_at, value_at, side_at]
    rfl
  case piece3 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 0 := Fin.ext (by simpa using h1)
    refine (show _ = k0_pay19 (F := Ideal) (k0_pay14 (k0_pay9 x1) (k0_pay10 x1) k0_pay11 x3 x6) (ix4 0 0 r' d') from rfl).trans ?_
    rw [value0_at]
    simp only [table4_at, table5_at, table6_at, query_at, key_at, value_at, side_at]
    rfl

end Cert.Kernel10Ideal.Mla
-- ==== Proof.Tables.lean ====
module
public import proofs.«01_k».proof.Proof.Heads
public import Idealize.ShloMosaic.Lib.Routing.OpsSet
public import Idealize.ShloMosaic.Lib.Routing.OpsPair

/-! A band of columns set in a table of 128 lanes, read at an entry. -/

@[expose] public section
noncomputable section
open Idealize.ShloMosaic Idealize.ShloMosaic.Routing
namespace Cert.Layer

theorem lands_band {n : ℕ} (d : ScatterDims (⟨2, ![2048, 128]⟩ : Shape) (⟨1, ![1]⟩ : Shape) (⟨2, ![2048, n]⟩ : Shape))
    (hu : d.updateWindowDims = [0, 1]) (hi : d.insertedWindowDims = []) (hs : d.scatterDimsToOperandDims = [1])
    (idx : IVec (⟨1, ![1]⟩ : Shape) 32) (o : ℕ) (ho : (idx (ix1 0)).toInt = (o : Int)) (l' l : Fin 2048) (i : Fin n) (e : Fin 128) :
    d.resultIdx? (ix2 l' i) idx = some (ix2 l e) ↔ l' = l ∧ o + i.val = e.val := by
  have hm : (1 : Fin 2) ∈ d.scatterDimsToOperandDims := by rw [hs]; exact List.mem_singleton.2 rfl
  have hkept : d.sKept = [0, 1] := by
    show (⟨2, ![2048, 128]⟩ : Shape).kept d.insertedWindowDims = _
    rw [hi]
    rfl
  have hwin0 : d.window (ix2 l' i) 0 = l'.val := by
    obtain ⟨uw, iw, sd, iv, wf⟩ := d
    obtain rfl : uw = [0, 1] := hu
    obtain rfl : iw = [] := hi
    rfl
  have hwin1 : d.window (ix2 l' i) 1 = i.val := by
    obtain ⟨uw, iw, sd, iv, wf⟩ := d
    obtain rfl : uw = [0, 1] := hu
    obtain rfl : iw = [] := hi
    rfl
  have hstart0 : d.start (ix2 l' i) idx 0 = 0 := by
    unfold ScatterDims.start
    rw [dif_neg fun h => by rw [hs] at h; exact absurd (List.mem_singleton.1 h) (by decide : (0 : Fin 2) ≠ 1)]
  have hstart1 : d.start (ix2 l' i) idx 1 = (o : Int) := by
    unfold ScatterDims.start
    rw [dif_pos hm]
    have hsi : d.siIdx (ix2 l' i) ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, ho]
  refine (resultIdx?_ix2 d (ix2 l' i) idx l e).trans ?_
  rw [Fin.ext_iff, hstart0, hwin0, hstart1, hwin1]
  omega

/-- A table of one value in which the columns from `o` on are set. -/
theorem set_band {n : ℕ} (d : ScatterDims (⟨2, ![2048, 128]⟩ : Shape) (⟨1, ![1]⟩ : Shape) (⟨2, ![2048, n]⟩ : Shape))
    (hu : d.updateWindowDims = [0, 1]) (hi : d.insertedWindowDims = []) (hs : d.scatterDimsToOperandDims = [1])
    (x : (⟨2, ![2048, 128]⟩ : Shape).Idx → EReal) (idx : IVec (⟨1, ![1]⟩ : Shape) 32) (u : (⟨2, ![2048, n]⟩ : Shape).Idx → EReal)
    (o : ℕ) (ho : (idx (ix1 0)).toInt = (o : Int)) (z : EReal) (hz : ∀ j, x j = z) (l : Fin 2048) (e : Fin 128) :
    Host.scatter d (fun _ b => b) x idx u (ix2 l e) = band z o (fun i => u (ix2 l i)) e := by
  have lands : ∀ j : (⟨2, ![2048, n]⟩ : Shape).Idx, d.resultIdx? j idx = some (ix2 l e) → j 0 = l ∧ o + (j 1 : Fin n).val = e.val := fun j hj =>
    (lands_band d hu hi hs idx o ho (j 0) l (j 1) e).1 ((congrArg (fun t => d.resultIdx? t idx) (eq_ix2 j).symm).trans hj)
  by_cases h : o ≤ e.val ∧ e.val < o + n
  · rw [band_in _ _ _ _ h.1 h.2]
    refine scatter_set_hit d x idx u _ _ (fun j hj => ?_) (ix2 l ⟨e - o, by omega⟩) ((lands_band d hu hi hs idx o ho l l _ e).2 ⟨rfl, by dsimp only; omega⟩)
    obtain ⟨h0, h1⟩ := lands j hj
    refine congrArg u ((eq_ix2 j).trans ?_)
    exact congrArg₂ ix2 h0 (Fin.ext (by dsimp only; omega))
  · rw [band_out _ _ _ _ h]
    refine (scatter_set_miss d x idx u _ fun j hj => h ?_).trans (hz _)
    obtain ⟨h0, h1⟩ := lands j hj
    have : (j 1 : Fin n).val < n := (j 1 : Fin n).isLt
    omega

end Cert.Layer
-- ==== Proof.MlaHost.lean ====
module
public import proofs.«01_k».proof.Proof.Gen.Kernel10Ideal.Frame
public import proofs.«01_k».proof.Proof.Tables

/-! What the kernel that prepares the latent attention is given: the row of keys and its side entries in one, the weights
with each head widened to 128 columns, and the rotation's three tables. -/

@[expose] public section
set_option maxRecDepth 16384
noncomputable section
open Idealize.ShloMosaic Idealize.ShloMosaic.TcCoe Idealize.SL.Sem
open Idealize.ShloMosaic.Pipeline (Dat)
namespace Cert.Kernel10Ideal.Mla
open Cert.Kernel10Ideal Cert.Kernel10Ideal.Gen Cert.Layer

theorem zero_word : (FloatOps.sitofp (F := Ideal) .f32 0#32 : EReal) = 0 := by
  simp [FloatOps.sitofp]

def joined (C : FVec Ideal S32x2048x128 .f32) (R : FVec Ideal S32x2048x32 .f32) : FVec Ideal S32x2048x256 .f32 :=
  pad S32x2048x256 ![0, 0, 0] ![0, 0, 96] ![0, 0, 0]
    (concatenate S32x2048x160 2 [⟨S32x2048x128, C⟩, ⟨S32x2048x32, R⟩] concatenates_S32x2048x128_S32x2048x32_S32x2048x160_d2)
    (sitofp .f32 (constantI S_ 32 0#32)) pads_S32x2048x160_S32x2048x256_000_000_0960 h_S_

theorem joined_low (C : FVec Ideal S32x2048x128 .f32) (R : FVec Ideal S32x2048x32 .f32) (b : Fin 32) (l : Fin 2048) (n : Fin 256) (h : n.val < 128) :
    joined C R (ix3 b l n) = C (ix3 b l ⟨n, h⟩) := by
  pointwise [joined]
  rw [dif_pos (by omega)]
  exact dif_pos h

theorem joined_mid (C : FVec Ideal S32x2048x128 .f32) (R : FVec Ideal S32x2048x32 .f32) (b : Fin 32) (l : Fin 2048) (n : Fin 256) (h : 128 ≤ n.val) (h' : n.val < 160) :
    joined C R (ix3 b l n) = R (ix3 b l ⟨n - 128, by omega⟩) := by
  pointwise [joined]
  rw [dif_pos (by omega)]
  exact dif_neg (by omega)

theorem joined_high (C : FVec Ideal S32x2048x128 .f32) (R : FVec Ideal S32x2048x32 .f32) (b : Fin 32) (l : Fin 2048) (n : Fin 256) (h : 160 ≤ n.val) :
    joined C R (ix3 b l n) = 0 := by
  pointwise [joined]
  rw [dif_neg (by omega)]
  exact zero_word

def queryWide (W : FVec Ideal S256x384 .f32) : FVec Ideal S256x512 .f32 :=
  shapeCast S256x512 (pad S256x4x128 ![0, 0, 0] ![0, 0, 32] ![0, 0, 0] (shapeCast S256x4x96 W shapeCasts_S256x384_S256x4x96)
    (sitofp .f32 (constantI S_ 32 0#32)) pads_S256x4x96_S256x4x128_000_000_0320 h_S_) shapeCasts_S256x4x128_S256x512

theorem queryWide_low (W : FVec Ideal S256x384 .f32) (k : Fin 256) (g : Fin 4) (d : Fin 128) (h : d.val < 96) :
    queryWide W (ix2 k ⟨g.val * 128 + d, by omega⟩) = W (ix2 k ⟨g.val * 96 + d, by omega⟩) := by
  pointwise [queryWide]
  rw [dif_pos (by omega)]

theorem queryWide_high (W : FVec Ideal S256x384 .f32) (k : Fin 256) (g : Fin 4) (d : Fin 128) (h : 96 ≤ d.val) :
    queryWide W (ix2 k ⟨g.val * 128 + d, by omega⟩) = 0 := by
  pointwise [queryWide]
  rw [dif_neg (by omega)]
  exact zero_word

def keyWide (W : FVec Ideal S128x512 .f32) : FVec Ideal S128x512 .f32 :=
  shapeCast S128x512 (pad S128x4x128 ![0, 0, 0] ![0, 0, 64] ![0, 0, 0]
    (extractStridedSlice S128x4x64 ![0, 0, 0] (shapeCast S128x4x128 W shapeCasts_S128x512_S128x4x128) slices_S128x4x128_S128x4x64_0_0_0)
    (sitofp .f32 (constantI S_ 32 0#32)) pads_S128x4x64_S128x4x128_000_000_0640 h_S_) shapeCasts_S128x4x128_S128x512

theorem keyWide_low (W : FVec Ideal S128x512 .f32) (k : Fin 128) (g : Fin 4) (d : Fin 128) (h : d.val < 64) :
    keyWide W (ix2 k ⟨g.val * 128 + d, by omega⟩) = W (ix2 k ⟨g.val * 128 + d, by omega⟩) := by
  pointwise [keyWide]
  rw [dif_pos (by omega)]

theorem keyWide_high (W : FVec Ideal S128x512 .f32) (k : Fin 128) (g : Fin 4) (d : Fin 128) (h : 64 ≤ d.val) :
    keyWide W (ix2 k ⟨g.val * 128 + d, by omega⟩) = 0 := by
  pointwise [keyWide]
  rw [dif_neg (by omega)]
  exact zero_word

def valueWide (W : FVec Ideal S128x512 .f32) : FVec Ideal S128x512 .f32 :=
  shapeCast S128x512 (concatenate S128x4x128 2
    [⟨S128x4x64, extractStridedSlice S128x4x64 ![0, 0, 64] (shapeCast S128x4x128 W shapeCasts_S128x512_S128x4x128) slices_S128x4x128_S128x4x64_0_0_64⟩,
     ⟨S128x4x64, extractStridedSlice S128x4x64 ![0, 0, 64] (shapeCast S128x4x128 W shapeCasts_S128x512_S128x4x128) slices_S128x4x128_S128x4x64_0_0_64⟩]
    concatenates_S128x4x64_S128x4x64_S128x4x128_d2) shapeCasts_S128x4x128_S128x512

theorem valueWide_at (W : FVec Ideal S128x512 .f32) (k : Fin 128) (g : Fin 4) (d : Fin 128) :
    valueWide W (ix2 k ⟨g.val * 128 + d, by omega⟩) = W (ix2 k ⟨g.val * 128 + 64 + d.val % 64, by omega⟩) := by
  pointwise [valueWide]
  by_cases h : d.val < 64
  · rw [dif_pos (by omega)]
    exact congrArg (fun j => W (ix2 k j)) (Fin.ext (by dsimp only; omega))
  · rw [dif_neg (by omega)]
    exact congrArg (fun j => W (ix2 k j)) (Fin.ext (by dsimp only; omega))

/-- The rows' and the columns' number of every token, and the eight speeds. -/
def rowOf : FVec Ideal S2048 .f32 :=
  sitofp .f32 (shapeCast S2048 (broadcastInDim S32x64 ![0] bcast_S32_S32x64_0 (iotaInDim S32 32 0)) shapeCasts_S32x64_S2048)

def colOf : FVec Ideal S2048 .f32 :=
  sitofp .f32 (shapeCast S2048 (broadcastInDim S32x64 ![0, 1] bcast_S1x64_S32x64_0_1 (shapeCast S1x64 (iotaInDim S64 32 0) shapeCasts_S64_S1x64)) shapeCasts_S32x64_S2048)

def speed : FVec Ideal S8 .f32 :=
  Host.powf (broadcastInDim S8 ![] bcast_S_S8 (constant S_ .f32 0x461C4000#32))
    (Host.divf (Host.negf (sitofp .f32 (iotaInDim S8 32 0))) (broadcastInDim S8 ![] bcast_S_S8 (constant S_ .f32 0x41000000#32)))

def angles : FVec Ideal S2048x16 .f32 :=
  concatenate S2048x16 1
    [⟨S2048x8, mulf (broadcastInDim S2048x8 ![0, 1] bcast_S2048x1_S2048x8_0_1 (broadcastInDim S2048x1 ![0] bcast_S2048_S2048x1_0 rowOf))
        (broadcastInDim S2048x8 ![0, 1] bcast_S1x8_S2048x8_0_1 (broadcastInDim S1x8 ![1] bcast_S8_S1x8_1 speed))⟩,
     ⟨S2048x8, mulf (broadcastInDim S2048x8 ![0, 1] bcast_S2048x1_S2048x8_0_1 (broadcastInDim S2048x1 ![0] bcast_S2048_S2048x1_0 colOf))
        (broadcastInDim S2048x8 ![0, 1] bcast_S1x8_S2048x8_0_1 (broadcastInDim S1x8 ![1] bcast_S8_S1x8_1 speed))⟩] concatenates_S2048x8_S2048x8_S2048x16_d1

def cosines : FVec Ideal S2048x16 .f32 := Host.cos angles
def sines : FVec Ideal S2048x16 .f32 := Host.sin angles

/-- A table through the one-period repetition. -/
def once (A : FVec Ideal S2048x128 .f32) : FVec Ideal S2048x128 .f32 :=
  shapeCast S2048x128 (broadcastInDim S1x2048x1x128 ![0, 1, 2, 3] bcast_S1x2048x1x128_S1x2048x1x128_0_1_2_3
    (shapeCast S1x2048x1x128 A shapeCasts_S2048x128_S1x2048x1x128)) shapeCasts_S1x2048x1x128_S2048x128

theorem once_at (A : FVec Ideal S2048x128 .f32) (l : Fin 2048) (d : Fin 128) : once A (ix2 l d) = A (ix2 l d) := by
  pointwise [once]

def plainTable (C : FVec Ideal S2048x16 .f32) : FVec Ideal S2048x128 .f32 :=
  once (Host.scatter scatter_S2048x128_S1_S2048x32_01_n_1_0 (fun _ b => b) (broadcastInDim S2048x128 ![] bcast_S_S2048x128 (constant S_ .f32 0x3F800000#32))
    (broadcastInDim S1 ![] bcast_S_S1 (constantI S_ 32 64#32))
    (concatenate S2048x32 1 [⟨S2048x16, C⟩, ⟨S2048x16, C⟩] concatenates_S2048x16_S2048x16_S2048x32_d1))

def minusTable (S : FVec Ideal S2048x16 .f32) : FVec Ideal S2048x128 .f32 :=
  once (Host.scatter scatter_S2048x128_S1_S2048x16_01_n_1_0 (fun _ b => b) (broadcastInDim S2048x128 ![] bcast_S_S2048x128 (constant S_ .f32 0x00000000#32))
    (broadcastInDim S1 ![] bcast_S_S1 (constantI S_ 32 64#32)) (Host.negf S))

def plusTable (S : FVec Ideal S2048x16 .f32) : FVec Ideal S2048x128 .f32 :=
  once (Host.scatter scatter_S2048x128_S1_S2048x16_01_n_1_0 (fun _ b => b) (broadcastInDim S2048x128 ![] bcast_S_S2048x128 (constant S_ .f32 0x00000000#32))
    (broadcastInDim S1 ![] bcast_S_S1 (constantI S_ 32 80#32)) S)

theorem plain_at (C : FVec Ideal S2048x16 .f32) (l : Fin 2048) (d : Fin 128) :
    plainTable C (ix2 l d) = band 1 64 (twice fun i => C (ix2 l i)) d := by
  unfold plainTable
  rw [once_at]
  refine (set_band _ rfl rfl rfl _ _ _ 64 (by rfl) 1 (fun j => ?_) l d).trans ?_
  · obtain ⟨a, b, rfl⟩ : ∃ a b, j = ix2 a b := ⟨j 0, j 1, by idx_vars j⟩
    pointwise
  · congr 1
    funext i
    unfold twice
    pointwise
    by_cases h : i.val < 16
    · rw [dif_pos h]
      exact congrArg (fun j => C (ix2 l j)) (Fin.ext (by dsimp only; omega))
    · rw [dif_neg h]
      exact congrArg (fun j => C (ix2 l j)) (Fin.ext (by dsimp only; omega))

theorem minus_at (S : FVec Ideal S2048x16 .f32) (l : Fin 2048) (d : Fin 128) :
    minusTable S (ix2 l d) = band 0 64 (fun i => - S (ix2 l i)) d := by
  unfold minusTable
  rw [once_at]
  refine (set_band _ rfl rfl rfl _ _ _ 64 (by rfl) 0 (fun j => ?_) l d).trans ?_
  · obtain ⟨a, b, rfl⟩ : ∃ a b, j = ix2 a b := ⟨j 0, j 1, by idx_vars j⟩
    pointwise
  · rfl

theorem plus_at (S : FVec Ideal S2048x16 .f32) (l : Fin 2048) (d : Fin 128) :
    plusTable S (ix2 l d) = band 0 80 (fun i => S (ix2 l i)) d := by
  unfold plusTable
  rw [once_at]
  refine set_band _ rfl rfl rfl _ _ _ 80 (by rfl) 0 (fun j => ?_) l d
  obtain ⟨a, b, rfl⟩ : ∃ a b, j = ix2 a b := ⟨j 0, j 1, by idx_vars j⟩
  pointwise

variable (m : (ℓ : Loc nD τ sig) → Buf (Elt Ideal) ℓ)

theorem v_joined (c : Dev nD) : V m c main_v1 = joined (m ((c : Thread nD τ).loc main_arg1)) (m ((c : Thread nD τ).loc main_arg2)) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_gain (c : Dev nD) : V m c main_v2 = broadcastInDim S1x256 ![1] bcast_S256_S1x256_1 (m ((c : Thread nD τ).loc main_arg3)) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp

theorem v_keyGain (c : Dev nD) : V m c main_v3 = broadcastInDim S1x128 ![1] bcast_S128_S1x128_1 (m ((c : Thread nD τ).loc main_arg4)) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp

theorem v_query (c : Dev nD) : V m c main_v15 = truncf (F := Ideal) .bf16 (queryWide (m ((c : Thread nD τ).loc main_arg5))) bitsLt_bf16_f32 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_key (c : Dev nD) : V m c main_v16 = truncf (F := Ideal) .bf16 (keyWide (m ((c : Thread nD τ).loc main_arg6))) bitsLt_bf16_f32 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_value (c : Dev nD) : V m c main_v17 = truncf (F := Ideal) .bf16 (valueWide (m ((c : Thread nD τ).loc main_arg6))) bitsLt_bf16_f32 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_plain (c : Dev nD) : V m c main_v59 = plainTable cosines := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_minus (c : Dev nD) : V m c main_v62 = minusTable sines := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_plus (c : Dev nD) : V m c main_v65 = plusTable sines := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

end Cert.Kernel10Ideal.Mla
-- ==== Proof.MlaTiles.lean ====
module
public import proofs.«01_k».proof.Proof.MlaHost

/-! The blocks the kernel that prepares the latent attention reads, entry by entry. -/

@[expose] public section
set_option maxRecDepth 16384
noncomputable section
open Idealize.ShloMosaic Idealize.ShloMosaic.TcCoe Idealize.SL.Sem
open Idealize.ShloMosaic.Pipeline (Dat)
namespace Cert.Kernel10Ideal.Mla
open Cert.Kernel10Ideal Cert.Kernel10Ideal.Gen Cert.Layer

theorem idx : ∀ t : Fin cfg0.N, win0_0.index t = ![t.val / 4, t.val % 4, 0] ∧ win0_1.index t = ![t.val / 4, t.val % 4, 0]
    ∧ win0_2.index t = ![0, 0] ∧ win0_3.index t = ![0, 0] ∧ win0_4.index t = ![0, 0] ∧ win0_5.index t = ![0, 0] ∧ win0_6.index t = ![0, 0]
    ∧ win0_7.index t = ![t.val % 4, 0] ∧ win0_8.index t = ![t.val % 4, 0] ∧ win0_9.index t = ![t.val % 4, 0]
    ∧ win0_10.index t = ![t.val / 4, 0, t.val % 4, 0] ∧ win0_11.index t = ![t.val / 4, 0, t.val % 4, 0] ∧ win0_12.index t = ![t.val / 4, 0, t.val % 4, 0]
    ∧ t.val < 128 :=
  (by decide +kernel : ∀ t : Fin grid0.N, _)

theorem tile1 (c : Dev nD) (A : Buf (Elt Ideal) ((c : Thread nD τ).loc (Pipeline.arrRef spec0 1))) (t : Fin cfg0.N) (r : Fin 512) (n : Fin 256) (b : Fin 32) (l : Fin 2048) (hb : (b : ℕ) = t.val / 4) (hl : (l : ℕ) = t.val % 4 * 512 + r) :
    (((cfg0.win 1).blk t).view.read (Elt Ideal) A : Vec Ideal S1x512x256 .f32) (ix3 0 r n) = (A : Vec Ideal S32x2048x256 .f32) (ix3 b l n) := by
  blk_point [idx t]

theorem tile2 (c : Dev nD) (A : Buf (Elt Ideal) ((c : Thread nD τ).loc (Pipeline.arrRef spec0 2))) (t : Fin cfg0.N) (k : Fin 256) :
    (((cfg0.win 2).blk t).view.read (Elt Ideal) A : Vec Ideal S1x256 .f32) (ix2 0 k) = (A : Vec Ideal S1x256 .f32) (ix2 0 k) := by
  blk_point [idx t]

theorem tile3 (c : Dev nD) (A : Buf (Elt Ideal) ((c : Thread nD τ).loc (Pipeline.arrRef spec0 3))) (t : Fin cfg0.N) (k : Fin 128) :
    (((cfg0.win 3).blk t).view.read (Elt Ideal) A : Vec Ideal S1x128 .f32) (ix2 0 k) = (A : Vec Ideal S1x128 .f32) (ix2 0 k) := by
  blk_point [idx t]

theorem tile4 (c : Dev nD) (A : Buf (Elt Ideal) ((c : Thread nD τ).loc (Pipeline.arrRef spec0 4))) (t : Fin cfg0.N) (k : Fin 256) (f : Fin 512) :
    (((cfg0.win 4).blk t).view.read (Elt Ideal) A : Vec Ideal S256x512 .bf16) (ix2 k f) = (A : Vec Ideal S256x512 .bf16) (ix2 k f) := by
  blk_point [idx t]

theorem tile5 (c : Dev nD) (A : Buf (Elt Ideal) ((c : Thread nD τ).loc (Pipeline.arrRef spec0 5))) (t : Fin cfg0.N) (k : Fin 128) (f : Fin 512) :
    (((cfg0.win 5).blk t).view.read (Elt Ideal) A : Vec Ideal S128x512 .bf16) (ix2 k f) = (A : Vec Ideal S128x512 .bf16) (ix2 k f) := by
  blk_point [idx t]

theorem tile6 (c : Dev nD) (A : Buf (Elt Ideal) ((c : Thread nD τ).loc (Pipeline.arrRef spec0 6))) (t : Fin cfg0.N) (k : Fin 128) (f : Fin 512) :
    (((cfg0.win 6).blk t).view.read (Elt Ideal) A : Vec Ideal S128x512 .bf16) (ix2 k f) = (A : Vec Ideal S128x512 .bf16) (ix2 k f) := by
  blk_point [idx t]

theorem tile7 (c : Dev nD) (A : Buf (Elt Ideal) ((c : Thread nD τ).loc (Pipeline.arrRef spec0 7))) (t : Fin cfg0.N) (r : Fin 512) (d : Fin 128) (l : Fin 2048) (hl : (l : ℕ) = t.val % 4 * 512 + r) :
    (((cfg0.win 7).blk t).view.read (Elt Ideal) A : Vec Ideal S512x128 .f32) (ix2 r d) = (A : Vec Ideal S2048x128 .f32) (ix2 l d) := by
  blk_point [idx t]

theorem tile8 (c : Dev nD) (A : Buf (Elt Ideal) ((c : Thread nD τ).loc (Pipeline.arrRef spec0 8))) (t : Fin cfg0.N) (r : Fin 512) (d : Fin 128) (l : Fin 2048) (hl : (l : ℕ) = t.val % 4 * 512 + r) :
    (((cfg0.win 8).blk t).view.read (Elt Ideal) A : Vec Ideal S512x128 .f32) (ix2 r d) = (A : Vec Ideal S2048x128 .f32) (ix2 l d) := by
  blk_point [idx t]

theorem tile9 (c : Dev nD) (A : Buf (Elt Ideal) ((c : Thread nD τ).loc (Pipeline.arrRef spec0 9))) (t : Fin cfg0.N) (r : Fin 512) (d : Fin 128) (l : Fin 2048) (hl : (l : ℕ) = t.val % 4 * 512 + r) :
    (((cfg0.win 9).blk t).view.read (Elt Ideal) A : Vec Ideal S512x128 .f32) (ix2 r d) = (A : Vec Ideal S2048x128 .f32) (ix2 l d) := by
  blk_point [idx t]

end Cert.Kernel10Ideal.Mla
-- ==== Proof.MlaReads.lean ====
module
public import proofs.«01_k».proof.Proof.MlaTiles

/-! The blocks the kernel that prepares the latent attention reads, in terms of its arguments. -/

@[expose] public section
set_option maxRecDepth 16384
noncomputable section
open Idealize.ShloMosaic Idealize.ShloMosaic.TcCoe Idealize.SL.Sem
open Idealize.ShloMosaic.Pipeline (Dat)
namespace Cert.Kernel10Ideal.Mla
open Cert.Kernel10Ideal Cert.Kernel10Ideal.Gen Cert.Layer

variable (m : (ℓ : Loc nD τ sig) → Buf (Elt Ideal) ℓ)

theorem cq_at (c : Dev nD) (t : Fin cfg0.N) (r : Fin 512) (n : Fin 256) (b : Fin 32) (l : Fin 2048) (hb : (b : ℕ) = t.val / 4)
    (hl : (l : ℕ) = t.val % 4 * 512 + r) :
    (iblk m c 0 t : Vec Ideal S1x512x256 .f32) (ix3 0 r n) = m ((c : Thread nD τ).loc main_arg0) (ix3 b l n) := by
  blk_point [iblk, V, idx t]

theorem row_at (c : Dev nD) (t : Fin cfg0.N) (r : Fin 512) (n : Fin 256) (b : Fin 32) (l : Fin 2048) (hb : (b : ℕ) = t.val / 4)
    (hl : (l : ℕ) = t.val % 4 * 512 + r) :
    (iblk m c 1 t : Vec Ideal S1x512x256 .f32) (ix3 0 r n)
      = joined (m ((c : Thread nD τ).loc main_arg1)) (m ((c : Thread nD τ).loc main_arg2)) (ix3 b l n) := by
  refine (tile1 c (V m c main_v1) t r n b l hb hl).trans ?_
  rw [v_joined]

theorem gq_at (c : Dev nD) (t : Fin cfg0.N) (k : Fin 256) :
    (iblk m c 2 t : Vec Ideal S1x256 .f32) (ix2 0 k)
      = m ((c : Thread nD τ).loc main_arg3) (ix1 k) := by
  refine (tile2 c (V m c main_v2) t k).trans ?_
  rw [v_gain]
  pointwise

theorem gk_at (c : Dev nD) (t : Fin cfg0.N) (k : Fin 128) :
    (iblk m c 3 t : Vec Ideal S1x128 .f32) (ix2 0 k)
      = m ((c : Thread nD τ).loc main_arg4) (ix1 k) := by
  refine (tile3 c (V m c main_v3) t k).trans ?_
  rw [v_keyGain]
  pointwise

theorem wq_at (c : Dev nD) (t : Fin cfg0.N) (k : Fin 256) (f : Fin 512) :
    (iblk m c 4 t : Vec Ideal S256x512 .bf16) (ix2 k f)
      = queryWide (m ((c : Thread nD τ).loc main_arg5)) (ix2 k f) := by
  refine (tile4 c (V m c main_v15) t k f).trans ?_
  rw [v_query]
  rfl

theorem wk_at (c : Dev nD) (t : Fin cfg0.N) (k : Fin 128) (f : Fin 512) :
    (iblk m c 5 t : Vec Ideal S128x512 .bf16) (ix2 k f)
      = keyWide (m ((c : Thread nD τ).loc main_arg6)) (ix2 k f) := by
  refine (tile5 c (V m c main_v16) t k f).trans ?_
  rw [v_key]
  rfl

theorem wv_at (c : Dev nD) (t : Fin cfg0.N) (k : Fin 128) (f : Fin 512) :
    (iblk m c 6 t : Vec Ideal S128x512 .bf16) (ix2 k f)
      = valueWide (m ((c : Thread nD τ).loc main_arg6)) (ix2 k f) := by
  refine (tile6 c (V m c main_v17) t k f).trans ?_
  rw [v_value]
  rfl

theorem plain_tile (c : Dev nD) (t : Fin cfg0.N) (r : Fin 512) (d : Fin 128) (l : Fin 2048) (hl : (l : ℕ) = t.val % 4 * 512 + r) :
    (iblk m c 7 t : Vec Ideal S512x128 .f32) (ix2 r d)
      = band 1 64 (twice fun i => cosines (ix2 l i)) d := by
  refine (tile7 c (V m c main_v59) t r d l hl).trans ?_
  rw [v_plain]
  exact plain_at _ l d

theorem minus_tile (c : Dev nD) (t : Fin cfg0.N) (r : Fin 512) (d : Fin 128) (l : Fin 2048) (hl : (l : ℕ) = t.val % 4 * 512 + r) :
    (iblk m c 8 t : Vec Ideal S512x128 .f32) (ix2 r d)
      = band 0 64 (fun i => - sines (ix2 l i)) d := by
  refine (tile8 c (V m c main_v62) t r d l hl).trans ?_
  rw [v_minus]
  exact minus_at _ l d

theorem plus_tile (c : Dev nD) (t : Fin cfg0.N) (r : Fin 512) (d : Fin 128) (l : Fin 2048) (hl : (l : ℕ) = t.val % 4 * 512 + r) :
    (iblk m c 9 t : Vec Ideal S512x128 .f32) (ix2 r d)
      = band 0 80 (fun i => sines (ix2 l i)) d := by
  refine (tile9 c (V m c main_v65) t r d l hl).trans ?_
  rw [v_plus]
  exact plus_at _ l d

end Cert.Kernel10Ideal.Mla
-- ==== Proof.MlaColumns.lean ====
module
public import proofs.«01_k».proof.Proof.MlaBlocks
public import proofs.«01_k».proof.Proof.MlaReads

/-! The columns of the latent attention's products and the rotated lanes, in terms of the kernel's arguments. -/

@[expose] public section
set_option maxRecDepth 16384
noncomputable section
open Idealize.ShloMosaic Idealize.ShloMosaic.TcCoe Idealize.SL.Sem
open Idealize.ShloMosaic.Pipeline (Dat)
namespace Cert.Kernel10Ideal.Mla
open Cert.Kernel10Ideal Cert.Kernel10Ideal.Gen Cert.Layer

variable (m : (ℓ : Loc nD τ sig) → Buf (Elt Ideal) ℓ)

/-- A query column of a tile: the weights' own column in a head's first 96 lanes, and zero after them. -/
theorem query_low (c : Dev nD) (t : Fin cfg0.N) (r : Fin 512) (b : Fin 32) (l : Fin 2048) (hb : (b : ℕ) = t.val / 4)
    (hl : (l : ℕ) = t.val % 4 * 512 + r) (g : Fin 4) (d : Fin 128) (h : d.val < 96) :
    queryCol (iblk m c 0 t) (iblk m c 2 t) (iblk m c 4 t) r ⟨g.val * 128 + d, by omega⟩
      = queryAt (m ((c : Thread nD τ).loc main_arg0)) (m ((c : Thread nD τ).loc main_arg3)) (m ((c : Thread nD τ).loc main_arg5)) b l ⟨g.val * 96 + d, by omega⟩ := by
  unfold queryCol queryAt
  simp only [cq_at m c t r _ b l hb hl, gq_at, wq_at, queryWide_low _ _ g d h]

theorem query_high (c : Dev nD) (t : Fin cfg0.N) (r : Fin 512) (g : Fin 4) (d : Fin 128) (h : 96 ≤ d.val) :
    queryCol (iblk m c 0 t) (iblk m c 2 t) (iblk m c 4 t) r ⟨g.val * 128 + d, by omega⟩ = 0 := by
  unfold queryCol
  simp only [wq_at, queryWide_high _ _ g d h, mul_zero, Finset.sum_const_zero]

theorem key_low (c : Dev nD) (t : Fin cfg0.N) (r : Fin 512) (b : Fin 32) (l : Fin 2048) (hb : (b : ℕ) = t.val / 4)
    (hl : (l : ℕ) = t.val % 4 * 512 + r) (g : Fin 4) (d : Fin 128) (h : d.val < 64) :
    keyCol (iblk m c 1 t) (iblk m c 3 t) (iblk m c 5 t) r ⟨g.val * 128 + d, by omega⟩
      = keyAt (m ((c : Thread nD τ).loc main_arg1)) (m ((c : Thread nD τ).loc main_arg4)) (m ((c : Thread nD τ).loc main_arg6)) b l ⟨g.val * 128 + d, by omega⟩ := by
  unfold keyCol keyAt
  have e : ∀ k : Fin 128, (iblk m c 1 t : Vec Ideal S1x512x256 .f32) (ix3 0 r ⟨k, by omega⟩) = m ((c : Thread nD τ).loc main_arg1) (ix3 b l k) := fun k =>
    (row_at m c t r _ b l hb hl).trans (joined_low _ _ b l _ k.isLt)
  simp only [e, gk_at, wk_at, keyWide_low _ _ g d h]

theorem key_high (c : Dev nD) (t : Fin cfg0.N) (r : Fin 512) (g : Fin 4) (d : Fin 128) (h : 64 ≤ d.val) :
    keyCol (iblk m c 1 t) (iblk m c 3 t) (iblk m c 5 t) r ⟨g.val * 128 + d, by omega⟩ = 0 := by
  unfold keyCol
  simp only [wk_at, keyWide_high _ _ g d h, mul_zero, Finset.sum_const_zero]

theorem value_col (c : Dev nD) (t : Fin cfg0.N) (r : Fin 512) (b : Fin 32) (l : Fin 2048) (hb : (b : ℕ) = t.val / 4)
    (hl : (l : ℕ) = t.val % 4 * 512 + r) (g : Fin 4) (d : Fin 128) :
    keyCol (iblk m c 1 t) (iblk m c 3 t) (iblk m c 6 t) r ⟨g.val * 128 + d, by omega⟩
      = keyAt (m ((c : Thread nD τ).loc main_arg1)) (m ((c : Thread nD τ).loc main_arg4)) (m ((c : Thread nD τ).loc main_arg6)) b l ⟨g.val * 128 + 64 + d.val % 64, by omega⟩ := by
  unfold keyCol keyAt
  have e : ∀ k : Fin 128, (iblk m c 1 t : Vec Ideal S1x512x256 .f32) (ix3 0 r ⟨k, by omega⟩) = m ((c : Thread nD τ).loc main_arg1) (ix3 b l k) := fun k =>
    (row_at m c t r _ b l hb hl).trans (joined_low _ _ b l _ k.isLt)
  simp only [e, gk_at, wv_at, valueWide_at _ _ g d]

/-- The side lanes: the keys' 32 entries in lanes 64 to 95, and zeros around them where the keys' own entries lie or nothing does. -/
theorem side_mid (c : Dev nD) (t : Fin cfg0.N) (r : Fin 512) (b : Fin 32) (l : Fin 2048) (hb : (b : ℕ) = t.val / 4)
    (hl : (l : ℕ) = t.val % 4 * 512 + r) (e : Fin 32) :
    sideLane (iblk m c 1 t) r ⟨64 + e, by omega⟩ = m ((c : Thread nD τ).loc main_arg2) (ix3 b l e) := by
  unfold sideLane
  rw [row_at m c t r _ b l hb hl, joined_mid _ _ b l _ (by dsimp only; omega) (by dsimp only; omega)]
  exact congrArg (fun j => m ((c : Thread nD τ).loc main_arg2) (ix3 b l j)) (Fin.ext (by dsimp only; omega))

theorem side_out (c : Dev nD) (t : Fin cfg0.N) (r : Fin 512) (d : Fin 128) (h : d.val < 64 ∨ 96 ≤ d.val) :
    sideLane (iblk m c 1 t) r d = 0 := by
  have ht := (idx t).2.2.2.2.2.2.2.2.2.2.2.2.2
  unfold sideLane
  rw [row_at m c t r _ ⟨t.val / 4, by omega⟩ ⟨t.val % 4 * 512 + r, by omega⟩ rfl rfl, joined_high _ _ _ _ _ (by dsimp only; omega)]

theorem turned_tile (c : Dev nD) (t : Fin cfg0.N) (r : Fin 512) (l : Fin 2048) (hl : (l : ℕ) = t.val % 4 * 512 + r) (x : Fin 128 → EReal) (d : Fin 128)
    (h96 : ∀ e : Fin 128, 96 ≤ e.val → x e = 0) :
    turned (fun d => (iblk m c 7 t : Vec Ideal S512x128 .f32) (ix2 r d)) (fun d => (iblk m c 8 t : Vec Ideal S512x128 .f32) (ix2 r d))
        (fun d => (iblk m c 9 t : Vec Ideal S512x128 .f32) (ix2 r d)) x d
      = lanes (fun e => x ⟨e, by omega⟩) (rotated (fun i => cosines (ix2 l i)) (fun i => sines (ix2 l i)) fun e => x ⟨64 + e, by omega⟩) d := by
  refine Eq.trans ?_ (turned_eq _ _ x d h96)
  unfold turned
  dsimp only
  rw [plain_tile m c t r d l hl, minus_tile m c t r d l hl, plus_tile m c t r d l hl]

end Cert.Kernel10Ideal.Mla
-- ==== Proof.MlaKernel.lean ====
module
public import proofs.«01_k».proof.Proof.MlaBlocks
public import proofs.«01_k».proof.Proof.MlaColumns

/-! The three results of the kernel that prepares the latent attention, as functions of its arguments. -/

@[expose] public section
set_option maxRecDepth 16384
noncomputable section
open Idealize.ShloMosaic Idealize.ShloMosaic.TcCoe Idealize.SL.Sem
open Idealize.ShloMosaic.Pipeline (Dat)
namespace Cert.Kernel10Ideal.Mla
open Cert.Kernel10Ideal Cert.Kernel10Ideal.Gen Cert.Layer

variable (m : (ℓ : Loc nD τ sig) → Buf (Elt Ideal) ℓ)

theorem query_entry (c : Dev nD) (t : Fin cfg0.N) (hN : t.val < 128) (g : Fin 4) (r : Fin 512) (d : Fin 128) :
    turned (fun d => (iblk m c 7 t : Vec Ideal S512x128 .f32) (ix2 r d)) (fun d => (iblk m c 8 t : Vec Ideal S512x128 .f32) (ix2 r d))
        (fun d => (iblk m c 9 t : Vec Ideal S512x128 .f32) (ix2 r d))
        (fun d => queryCol (iblk m c 0 t) (iblk m c 2 t) (iblk m c 4 t) r ⟨g.val * 128 + d, by omega⟩) d * headScale
      = queries (m ((c : Thread nD τ).loc main_arg0)) (m ((c : Thread nD τ).loc main_arg3)) (m ((c : Thread nD τ).loc main_arg5)) cosines sines
        (ix4 ⟨t.val / 4, by omega⟩ g ⟨t.val % 4 * 512 + r.val, by omega⟩ d) := by
  rw [turned_tile m c t r ⟨t.val % 4 * 512 + r.val, by omega⟩ rfl _ d fun e he => query_high m c t r g e he]
  rw [queries_at]
  refine congrArg (· * headScale) (congrArg₂ (fun a p => lanes a p d) ?_ (congrArg (rotated _ _) ?_))
  · funext e
    exact query_low m c t r ⟨t.val / 4, by omega⟩ ⟨t.val % 4 * 512 + r.val, by omega⟩ rfl rfl g ⟨e, by omega⟩ (by dsimp only; omega)
  · funext e
    refine (query_low m c t r ⟨t.val / 4, by omega⟩ ⟨t.val % 4 * 512 + r.val, by omega⟩ rfl rfl g ⟨64 + e, by omega⟩ (by dsimp only; omega)).trans ?_
    exact congrArg (queryAt _ _ _ _ _) (Fin.ext (by dsimp only; exact (Nat.add_assoc _ _ _).symm))

theorem final_queries (c : Dev nD) : (dats m 0 c).arrAt 10 (cfgs 0).N
    = queries (m ((c : Thread nD τ).loc main_arg0)) (m ((c : Thread nD τ).loc main_arg3)) (m ((c : Thread nD τ).loc main_arg5)) cosines sines := by
  refine (dats m 0 c).arrAt_eq_of_covers 10 _ (by decide +kernel) fun t hf y => ?_
  have hN := (idx t).2.2.2.2.2.2.2.2.2.2.2.2.2
  blk_simp
  rw [after0_10]
  obtain ⟨g, r, d, rfl⟩ : ∃ (g : Fin 4) (r : Fin 512) (d : Fin 128), y = (ix4 0 g r d : S1x4x512x128.Idx) := ⟨y 1, y 2, y 3, by idx_vars y; rw [Fin.eq_zero y0]⟩
  refine (queries_eq _ _ _ _ _ _ _ _ _ _ g r d).trans (Eq.trans (b := (queries (m ((c : Thread nD τ).loc main_arg0)) (m ((c : Thread nD τ).loc main_arg3))
    (m ((c : Thread nD τ).loc main_arg5)) cosines sines) (ix4 ⟨t.val / 4, by omega⟩ g ⟨t.val % 4 * 512 + r.val, by omega⟩ d)) ?_ ?_)
  · exact query_entry m c t hN g r d
  · refine congrArg (queries _ _ _ _ _) ?_
    blk_ext [idx t]

theorem final_keys (c : Dev nD) : (dats m 0 c).arrAt 11 (cfgs 0).N
    = keys (m ((c : Thread nD τ).loc main_arg1)) (m ((c : Thread nD τ).loc main_arg2)) (m ((c : Thread nD τ).loc main_arg4)) (m ((c : Thread nD τ).loc main_arg6)) cosines sines := by
  refine (dats m 0 c).arrAt_eq_of_covers 11 _ (by decide +kernel) fun t hf y => ?_
  have hN := (idx t).2.2.2.2.2.2.2.2.2.2.2.2.2
  blk_simp
  rw [after0_11]
  obtain ⟨g, r, d, rfl⟩ : ∃ (g : Fin 4) (r : Fin 512) (d : Fin 128), y = (ix4 0 g r d : S1x4x512x128.Idx) := ⟨y 1, y 2, y 3, by idx_vars y; rw [Fin.eq_zero y0]⟩
  refine (keys_eq _ _ _ _ _ _ _ _ _ _ g r d).trans (Eq.trans (b := (keys (m ((c : Thread nD τ).loc main_arg1)) (m ((c : Thread nD τ).loc main_arg2))
    (m ((c : Thread nD τ).loc main_arg4)) (m ((c : Thread nD τ).loc main_arg6)) cosines sines) (ix4 ⟨t.val / 4, by omega⟩ g ⟨t.val % 4 * 512 + r.val, by omega⟩ d)) ?_ ?_)
  · rw [turned_tile m c t r ⟨t.val % 4 * 512 + r.val, by omega⟩ rfl _ d fun e he => side_out m c t r e (Or.inr he)]
    rw [keys_at]
    by_cases h : d.val < 64
    · rw [lanes_low _ _ d h, side_out m c t r _ (Or.inl h), add_zero]
      refine (key_low m c t r ⟨t.val / 4, by omega⟩ ⟨t.val % 4 * 512 + r.val, by omega⟩ rfl rfl g d h).trans ?_
      rw [lanes_low _ _ d h]
    rw [key_high m c t r g d (by omega), zero_add]
    by_cases h' : d.val < 96
    · rw [lanes_mid _ _ d (by omega) h']
      refine Eq.trans ?_ (lanes_mid _ _ d (by omega) h').symm
      refine congrFun (congrArg (rotated _ _) ?_) _
      funext e
      exact side_mid m c t r ⟨t.val / 4, by omega⟩ ⟨t.val % 4 * 512 + r.val, by omega⟩ rfl rfl e
    · rw [lanes_high _ _ d (by omega)]
      exact (lanes_high _ _ d (by omega)).symm
  · refine congrArg (keys _ _ _ _ _ _) ?_
    blk_ext [idx t]

theorem final_values (c : Dev nD) : (dats m 0 c).arrAt 12 (cfgs 0).N
    = values (m ((c : Thread nD τ).loc main_arg1)) (m ((c : Thread nD τ).loc main_arg4)) (m ((c : Thread nD τ).loc main_arg6)) := by
  refine (dats m 0 c).arrAt_eq_of_covers 12 _ (by decide +kernel) fun t hf y => ?_
  have hN := (idx t).2.2.2.2.2.2.2.2.2.2.2.2.2
  blk_simp
  rw [after0_12]
  obtain ⟨g, r, d, rfl⟩ : ∃ (g : Fin 4) (r : Fin 512) (d : Fin 128), y = (ix4 0 g r d : S1x4x512x128.Idx) := ⟨y 1, y 2, y 3, by idx_vars y; rw [Fin.eq_zero y0]⟩
  refine (values_eq _ _ _ _ _ _ _ _ _ _ g r d).trans (Eq.trans (b := (values (m ((c : Thread nD τ).loc main_arg1)) (m ((c : Thread nD τ).loc main_arg4))
    (m ((c : Thread nD τ).loc main_arg6))) (ix4 ⟨t.val / 4, by omega⟩ g ⟨t.val % 4 * 512 + r.val, by omega⟩ d)) ?_ ?_)
  · exact value_col m c t r ⟨t.val / 4, by omega⟩ ⟨t.val % 4 * 512 + r.val, by omega⟩ rfl rfl g d
  · refine congrArg (values _ _ _) ?_
    blk_ext [idx t]

end Cert.Kernel10Ideal.Mla
-- ==== Proof.MlaReference.lean ====
module
public import proofs.«01_k».proof.Proof.Gen.Reference10Ideal.Run
public import proofs.«01_k».proof.Proof.Heads

/-! The reference's queries, keys and values of the latent attention, read at one entry: the norm, the up-projection into
four heads, the rotation of a head's last 32 entries, and the heads filled up to 128 lanes. -/

@[expose] public section
set_option maxRecDepth 16384
noncomputable section
open Idealize.ShloMosaic Idealize.ShloMosaic.TcCoe Idealize.SL.Sem
namespace Cert.Reference10Ideal.Mla
open Cert.Reference10Ideal Cert.Reference10Ideal.Gen Cert.Reference10Ideal.Value Cert.Layer

theorem zero_word : (FloatOps.sitofp (F := Ideal) .f32 0#32 : EReal) = 0 := by
  simp [FloatOps.sitofp]

def rowNumber : FVec Ideal S2048 .f32 :=
  sitofp .f32 (shapeCast S2048 (broadcastInDim S32x64 ![0] bcast_S32_S32x64_0 (iotaInDim S32 32 0)) shapeCasts_S32x64_S2048)

def colNumber : FVec Ideal S2048 .f32 :=
  sitofp .f32 (shapeCast S2048 (broadcastInDim S32x64 ![0, 1] bcast_S1x64_S32x64_0_1 (shapeCast S1x64 (iotaInDim S64 32 0) shapeCasts_S64_S1x64)) shapeCasts_S32x64_S2048)

def frequency : FVec Ideal S8 .f32 :=
  Host.powf (broadcastInDim S8 ![] bcast_S_S8 (constant S_ .f32 0x461C4000#32))
    (Host.divf (Host.negf (sitofp .f32 (iotaInDim S8 32 0))) (broadcastInDim S8 ![] bcast_S_S8 (constant S_ .f32 0x41000000#32)))

def angle : FVec Ideal S2048x16 .f32 :=
  concatenate S2048x16 1
    [⟨S2048x8, mulf (broadcastInDim S2048x8 ![0, 1] bcast_S2048x1_S2048x8_0_1 (broadcastInDim S2048x1 ![0] bcast_S2048_S2048x1_0 rowNumber))
        (broadcastInDim S2048x8 ![0, 1] bcast_S1x8_S2048x8_0_1 (broadcastInDim S1x8 ![1] bcast_S8_S1x8_1 frequency))⟩,
     ⟨S2048x8, mulf (broadcastInDim S2048x8 ![0, 1] bcast_S2048x1_S2048x8_0_1 (broadcastInDim S2048x1 ![0] bcast_S2048_S2048x1_0 colNumber))
        (broadcastInDim S2048x8 ![0, 1] bcast_S1x8_S2048x8_0_1 (broadcastInDim S1x8 ![1] bcast_S8_S1x8_1 frequency))⟩] concatenates_S2048x8_S2048x8_S2048x16_d1

def cosine : FVec Ideal S2048x16 .f32 := Host.cos angle
def sine : FVec Ideal S2048x16 .f32 := Host.sin angle

def normedQuery (X : FVec Ideal S32x2048x256 .f32) (G : FVec Ideal S256 .f32) : FVec Ideal S32x2048x256 .f32 :=
  mulf (mulf X (broadcastInDim S32x2048x256 ![0, 1, 2] bcast_S32x2048x1_S32x2048x256_0_1_2 (Host.rsqrt (addf (Host.divf
    (broadcastInDim S32x2048x1 ![0, 1] bcast_S32x2048_S32x2048x1_0_1 (Host.reduceAdd (mulf X X) (constant S_ .f32 0x00000000#32) reducesTo_S32x2048x256_S32x2048_d2 h_S_))
    (broadcastInDim S32x2048x1 ![] bcast_S_S32x2048x1 (constant S_ .f32 0x43800000#32))) (broadcastInDim S32x2048x1 ![] bcast_S_S32x2048x1 (constant S_ .f32 0x358637BD#32))))))
    (broadcastInDim S32x2048x256 ![0, 1, 2] bcast_S1x1x256_S32x2048x256_0_1_2 (broadcastInDim S1x1x256 ![2] bcast_S256_S1x1x256_2 G))

theorem normedQuery_at (X : FVec Ideal S32x2048x256 .f32) (G : FVec Ideal S256 .f32) (b : Fin 32) (l : Fin 2048) (k : Fin 256) :
    normedQuery X G (ix3 b l k) = normRow count256 (fun k => X (ix3 b l k)) (fun k => G (ix1 k)) k := by
  pointwise [normedQuery]
  rfl

def normedKey (X : FVec Ideal S32x2048x128 .f32) (G : FVec Ideal S128 .f32) : FVec Ideal S32x2048x128 .f32 :=
  mulf (mulf X (broadcastInDim S32x2048x128 ![0, 1, 2] bcast_S32x2048x1_S32x2048x128_0_1_2 (Host.rsqrt (addf (Host.divf
    (broadcastInDim S32x2048x1 ![0, 1] bcast_S32x2048_S32x2048x1_0_1 (Host.reduceAdd (mulf X X) (constant S_ .f32 0x00000000#32) reducesTo_S32x2048x128_S32x2048_d2 h_S_))
    (broadcastInDim S32x2048x1 ![] bcast_S_S32x2048x1 (constant S_ .f32 0x43000000#32))) (broadcastInDim S32x2048x1 ![] bcast_S_S32x2048x1 (constant S_ .f32 0x358637BD#32))))))
    (broadcastInDim S32x2048x128 ![0, 1, 2] bcast_S1x1x128_S32x2048x128_0_1_2 (broadcastInDim S1x1x128 ![2] bcast_S128_S1x1x128_2 G))

theorem normedKey_at (X : FVec Ideal S32x2048x128 .f32) (G : FVec Ideal S128 .f32) (b : Fin 32) (l : Fin 2048) (k : Fin 128) :
    normedKey X G (ix3 b l k) = normRow count128 (fun k => X (ix3 b l k)) (fun k => G (ix1 k)) k := by
  pointwise [normedKey]
  rfl

def queryHeads (X : FVec Ideal S32x2048x256 .f32) (G : FVec Ideal S256 .f32) (W : FVec Ideal S256x384 .f32) : FVec Ideal S32x2048x4x96 .f32 :=
  shapeCast S32x2048x4x96 (Host.dotGeneral dot_S32x2048x256_S256x384_S32x2048x384_2_0_01_1_n_n none (normedQuery X G) W) shapeCasts_S32x2048x384_S32x2048x4x96

theorem queryHeads_at (X : FVec Ideal S32x2048x256 .f32) (G : FVec Ideal S256 .f32) (W : FVec Ideal S256x384 .f32) (b : Fin 32) (l : Fin 2048) (g : Fin 4) (e : Fin 96) :
    queryHeads X G W (ix4 b l g e) = queryAt X G W b l ⟨g.val * 96 + e, by omega⟩ := by
  pointwise [queryHeads]
  simp only [normedQuery_at]
  rfl

def keyHeads (X : FVec Ideal S32x2048x128 .f32) (G : FVec Ideal S128 .f32) (W : FVec Ideal S128x512 .f32) : FVec Ideal S32x2048x4x128 .f32 :=
  shapeCast S32x2048x4x128 (Host.dotGeneral dot_S32x2048x128_S128x512_S32x2048x512_2_0_01_1_n_n none (normedKey X G) W) shapeCasts_S32x2048x512_S32x2048x4x128

theorem keyHeads_at (X : FVec Ideal S32x2048x128 .f32) (G : FVec Ideal S128 .f32) (W : FVec Ideal S128x512 .f32) (b : Fin 32) (l : Fin 2048) (g : Fin 4) (e : Fin 128) :
    keyHeads X G W (ix4 b l g e) = keyAt X G W b l ⟨g.val * 128 + e, by omega⟩ := by
  pointwise [keyHeads]
  simp only [normedKey_at]
  rfl

/-- The rotation of the four heads' entries, and of the one row the heads of keys share. -/
def turnFour (U : FVec Ideal S32x2048x4x32 .f32) (C S : FVec Ideal S2048x16 .f32) : FVec Ideal S32x2048x4x32 .f32 :=
  concatenate S32x2048x4x32 3
    [⟨S32x2048x4x16, subf (mulf (extractStridedSlice S32x2048x4x16 ![0, 0, 0, 0] U slices_S32x2048x4x32_S32x2048x4x16_0_0_0_0)
        (broadcastInDim S32x2048x4x16 ![0, 1, 2, 3] bcast_S1x2048x1x16_S32x2048x4x16_0_1_2_3 (broadcastInDim S1x2048x1x16 ![1, 3] bcast_S2048x16_S1x2048x1x16_1_3 C)))
      (mulf (extractStridedSlice S32x2048x4x16 ![0, 0, 0, 16] U slices_S32x2048x4x32_S32x2048x4x16_0_0_0_16)
        (broadcastInDim S32x2048x4x16 ![0, 1, 2, 3] bcast_S1x2048x1x16_S32x2048x4x16_0_1_2_3 (broadcastInDim S1x2048x1x16 ![1, 3] bcast_S2048x16_S1x2048x1x16_1_3 S)))⟩,
     ⟨S32x2048x4x16, addf (mulf (extractStridedSlice S32x2048x4x16 ![0, 0, 0, 16] U slices_S32x2048x4x32_S32x2048x4x16_0_0_0_16)
        (broadcastInDim S32x2048x4x16 ![0, 1, 2, 3] bcast_S1x2048x1x16_S32x2048x4x16_0_1_2_3 (broadcastInDim S1x2048x1x16 ![1, 3] bcast_S2048x16_S1x2048x1x16_1_3 C)))
      (mulf (extractStridedSlice S32x2048x4x16 ![0, 0, 0, 0] U slices_S32x2048x4x32_S32x2048x4x16_0_0_0_0)
        (broadcastInDim S32x2048x4x16 ![0, 1, 2, 3] bcast_S1x2048x1x16_S32x2048x4x16_0_1_2_3 (broadcastInDim S1x2048x1x16 ![1, 3] bcast_S2048x16_S1x2048x1x16_1_3 S)))⟩]
    concatenates_S32x2048x4x16_S32x2048x4x16_S32x2048x4x32_d3

theorem turnFour_at (U : FVec Ideal S32x2048x4x32 .f32) (C S : FVec Ideal S2048x16 .f32) (b : Fin 32) (l : Fin 2048) (g : Fin 4) (i : Fin 32) :
    turnFour U C S (ix4 b l g i) = rotated (fun i => C (ix2 l i)) (fun i => S (ix2 l i)) (fun e => U (ix4 b l g e)) i := by
  pointwise [turnFour]
  by_cases h : i.val < 16
  · rw [dif_pos h, rotated_low _ _ _ _ h]
    refine congrArg₂ (· - ·) rfl (congrArg₂ (· * ·) (congrArg (fun j => U (ix4 b l g j)) (Fin.ext (by dsimp only; omega))) rfl)
  · rw [dif_neg h, rotated_high _ _ _ _ (by omega)]
    refine congrArg₂ (· + ·) (congrArg₂ (· * ·) (congrArg (fun j => U (ix4 b l g j)) (Fin.ext (by dsimp only; omega))) rfl) rfl

def turnOne (U : FVec Ideal S32x2048x1x32 .f32) (C S : FVec Ideal S2048x16 .f32) : FVec Ideal S32x2048x1x32 .f32 :=
  concatenate S32x2048x1x32 3
    [⟨S32x2048x1x16, subf (mulf (extractStridedSlice S32x2048x1x16 ![0, 0, 0, 0] U slices_S32x2048x1x32_S32x2048x1x16_0_0_0_0)
        (broadcastInDim S32x2048x1x16 ![0, 1, 2, 3] bcast_S1x2048x1x16_S32x2048x1x16_0_1_2_3 (broadcastInDim S1x2048x1x16 ![1, 3] bcast_S2048x16_S1x2048x1x16_1_3 C)))
      (mulf (extractStridedSlice S32x2048x1x16 ![0, 0, 0, 16] U slices_S32x2048x1x32_S32x2048x1x16_0_0_0_16)
        (broadcastInDim S32x2048x1x16 ![0, 1, 2, 3] bcast_S1x2048x1x16_S32x2048x1x16_0_1_2_3 (broadcastInDim S1x2048x1x16 ![1, 3] bcast_S2048x16_S1x2048x1x16_1_3 S)))⟩,
     ⟨S32x2048x1x16, addf (mulf (extractStridedSlice S32x2048x1x16 ![0, 0, 0, 16] U slices_S32x2048x1x32_S32x2048x1x16_0_0_0_16)
        (broadcastInDim S32x2048x1x16 ![0, 1, 2, 3] bcast_S1x2048x1x16_S32x2048x1x16_0_1_2_3 (broadcastInDim S1x2048x1x16 ![1, 3] bcast_S2048x16_S1x2048x1x16_1_3 C)))
      (mulf (extractStridedSlice S32x2048x1x16 ![0, 0, 0, 0] U slices_S32x2048x1x32_S32x2048x1x16_0_0_0_0)
        (broadcastInDim S32x2048x1x16 ![0, 1, 2, 3] bcast_S1x2048x1x16_S32x2048x1x16_0_1_2_3 (broadcastInDim S1x2048x1x16 ![1, 3] bcast_S2048x16_S1x2048x1x16_1_3 S)))⟩]
    concatenates_S32x2048x1x16_S32x2048x1x16_S32x2048x1x32_d3

theorem turnOne_at (U : FVec Ideal S32x2048x1x32 .f32) (C S : FVec Ideal S2048x16 .f32) (b : Fin 32) (l : Fin 2048) (i : Fin 32) :
    turnOne U C S (ix4 b l 0 i) = rotated (fun i => C (ix2 l i)) (fun i => S (ix2 l i)) (fun e => U (ix4 b l 0 e)) i := by
  pointwise [turnOne]
  by_cases h : i.val < 16
  · rw [dif_pos h, rotated_low _ _ _ _ h]
    refine congrArg₂ (· - ·) rfl (congrArg₂ (· * ·) (congrArg (fun j => U (ix4 b l 0 j)) (Fin.ext (by dsimp only; omega))) rfl)
  · rw [dif_neg h, rotated_high _ _ _ _ (by omega)]
    refine congrArg₂ (· + ·) (congrArg₂ (· * ·) (congrArg (fun j => U (ix4 b l 0 j)) (Fin.ext (by dsimp only; omega))) rfl) rfl

/-- The heads of 96 entries: 64 as they are, 32 rotated. -/
def queryWhole (U : FVec Ideal S32x2048x4x96 .f32) (C S : FVec Ideal S2048x16 .f32) : FVec Ideal S32x2048x4x96 .f32 :=
  concatenate S32x2048x4x96 3
    [⟨S32x2048x4x64, extractStridedSlice S32x2048x4x64 ![0, 0, 0, 0] U slices_S32x2048x4x96_S32x2048x4x64_0_0_0_0⟩,
     ⟨S32x2048x4x32, turnFour (extractStridedSlice S32x2048x4x32 ![0, 0, 0, 64] U slices_S32x2048x4x96_S32x2048x4x32_0_0_0_64) C S⟩]
    concatenates_S32x2048x4x64_S32x2048x4x32_S32x2048x4x96_d3

theorem tail_at (U : FVec Ideal S32x2048x4x96 .f32) (b : Fin 32) (l : Fin 2048) (g : Fin 4) (e : Fin 32) :
    extractStridedSlice S32x2048x4x32 ![0, 0, 0, 64] U slices_S32x2048x4x96_S32x2048x4x32_0_0_0_64 (ix4 b l g e) = U (ix4 b l g ⟨64 + e, by omega⟩) := by
  pointwise

theorem queryWhole_low (U : FVec Ideal S32x2048x4x96 .f32) (C S : FVec Ideal S2048x16 .f32) (b : Fin 32) (l : Fin 2048) (g : Fin 4) (d : Fin 96) (h : d.val < 64) :
    queryWhole U C S (ix4 b l g d) = U (ix4 b l g d) := by
  pointwise [queryWhole]
  exact dif_pos h

theorem queryWhole_high (U : FVec Ideal S32x2048x4x96 .f32) (C S : FVec Ideal S2048x16 .f32) (b : Fin 32) (l : Fin 2048) (g : Fin 4) (d : Fin 96) (h : 64 ≤ d.val) :
    queryWhole U C S (ix4 b l g d) = rotated (fun i => C (ix2 l i)) (fun i => S (ix2 l i)) (fun e => U (ix4 b l g ⟨64 + e, by omega⟩)) ⟨d - 64, by omega⟩ := by
  pointwise [queryWhole]
  refine (dif_neg (by omega)).trans ?_
  exact (turnFour_at _ C S b l g _).trans (congrArg (fun u => rotated _ _ u _) (funext fun e => tail_at U b l g e))

def keyWhole (U : FVec Ideal S32x2048x4x128 .f32) (R : FVec Ideal S32x2048x32 .f32) (C S : FVec Ideal S2048x16 .f32) : FVec Ideal S32x2048x4x96 .f32 :=
  concatenate S32x2048x4x96 3
    [⟨S32x2048x4x64, extractStridedSlice S32x2048x4x64 ![0, 0, 0, 0] U slices_S32x2048x4x128_S32x2048x4x64_0_0_0_0⟩,
     ⟨S32x2048x4x32, broadcastInDim S32x2048x4x32 ![0, 1, 2, 3] bcast_S32x2048x1x32_S32x2048x4x32_0_1_2_3
      (turnOne (broadcastInDim S32x2048x1x32 ![0, 1, 3] bcast_S32x2048x32_S32x2048x1x32_0_1_3 R) C S)⟩]
    concatenates_S32x2048x4x64_S32x2048x4x32_S32x2048x4x96_d3

theorem lone_at (R : FVec Ideal S32x2048x32 .f32) (b : Fin 32) (l : Fin 2048) (e : Fin 32) :
    broadcastInDim S32x2048x1x32 ![0, 1, 3] bcast_S32x2048x32_S32x2048x1x32_0_1_3 R (ix4 b l 0 e) = R (ix3 b l e) := by
  pointwise

theorem keyWhole_low (U : FVec Ideal S32x2048x4x128 .f32) (R : FVec Ideal S32x2048x32 .f32) (C S : FVec Ideal S2048x16 .f32) (b : Fin 32) (l : Fin 2048) (g : Fin 4) (d : Fin 96)
    (h : d.val < 64) : keyWhole U R C S (ix4 b l g d) = U (ix4 b l g ⟨d, by omega⟩) := by
  pointwise [keyWhole]
  exact dif_pos h

theorem keyWhole_high (U : FVec Ideal S32x2048x4x128 .f32) (R : FVec Ideal S32x2048x32 .f32) (C S : FVec Ideal S2048x16 .f32) (b : Fin 32) (l : Fin 2048) (g : Fin 4) (d : Fin 96)
    (h : 64 ≤ d.val) : keyWhole U R C S (ix4 b l g d) = rotated (fun i => C (ix2 l i)) (fun i => S (ix2 l i)) (fun e => R (ix3 b l e)) ⟨d - 64, by omega⟩ := by
  pointwise [keyWhole]
  refine (dif_neg (by omega)).trans ?_
  exact (turnOne_at _ C S b l _).trans (congrArg (fun u => rotated _ _ u _) (funext fun e => lone_at R b l e))

/-- Heads of 96 entries filled up with zeros, heads before tokens. -/
def filled (U : FVec Ideal S32x2048x4x96 .f32) : FVec Ideal S32x4x2048x128 .bf16 :=
  truncf .bf16 (transpose S32x4x2048x128 [0, 2, 1, 3] (pad S32x2048x4x128 ![0, 0, 0, 0] ![0, 0, 0, 32] ![0, 0, 0, 0] U
    (sitofp .f32 (constantI S_ 32 0#32)) pads_S32x2048x4x96_S32x2048x4x128_000_000_000_0320 h_S_) transposes_S32x2048x4x128_S32x4x2048x128_0_2_1_3) bitsLt_bf16_f32

theorem filled_low (U : FVec Ideal S32x2048x4x96 .f32) (b : Fin 32) (g : Fin 4) (l : Fin 2048) (d : Fin 128) (h : d.val < 96) :
    filled U (ix4 b g l d) = U (ix4 b l g ⟨d, h⟩) := by
  pointwise [filled]
  exact dif_pos h

theorem filled_high (U : FVec Ideal S32x2048x4x96 .f32) (b : Fin 32) (g : Fin 4) (l : Fin 2048) (d : Fin 128) (h : 96 ≤ d.val) :
    filled U (ix4 b g l d) = 0 := by
  pointwise [filled]
  rw [dif_neg (by omega)]
  exact zero_word

def scaled (U : FVec Ideal S32x2048x4x96 .f32) : FVec Ideal S32x2048x4x96 .f32 :=
  mulf U (broadcastInDim S32x2048x4x96 ![] bcast_S_S32x2048x4x96 (constant S_ .f32 0x3DD105EC#32))

theorem scaled_at (U : FVec Ideal S32x2048x4x96 .f32) (b : Fin 32) (l : Fin 2048) (g : Fin 4) (d : Fin 96) : scaled U (ix4 b l g d) = U (ix4 b l g d) * headScale := by
  pointwise [scaled]
  rfl

theorem queries_whole (X : FVec Ideal S32x2048x256 .f32) (G : FVec Ideal S256 .f32) (W : FVec Ideal S256x384 .f32) (C S : FVec Ideal S2048x16 .f32) :
    filled (scaled (queryWhole (queryHeads X G W) C S)) = queries X G W C S := by
  funext j
  obtain ⟨b, g, l, d, rfl⟩ : ∃ b g l d, j = ix4 b g l d := ⟨j 0, j 1, j 2, j 3, by idx_vars j⟩
  rw [queries_at]
  by_cases h : d.val < 64
  · rw [filled_low _ b g l d (by omega), scaled_at, queryWhole_low _ _ _ b l g _ h, queryHeads_at, lanes_low _ _ d h]
  by_cases h' : d.val < 96
  · rw [filled_low _ b g l d (by omega), scaled_at, queryWhole_high _ _ _ b l g _ (by dsimp only; omega), lanes_mid _ _ d (by omega) h']
    simp only [queryHeads_at, Nat.add_assoc]
  · rw [filled_high _ b g l d (by omega), lanes_high _ _ d (by omega), zero_mul]

theorem keys_whole (X : FVec Ideal S32x2048x128 .f32) (R : FVec Ideal S32x2048x32 .f32) (G : FVec Ideal S128 .f32) (W : FVec Ideal S128x512 .f32) (C S : FVec Ideal S2048x16 .f32) :
    filled (keyWhole (keyHeads X G W) R C S) = keys X R G W C S := by
  funext j
  obtain ⟨b, g, l, d, rfl⟩ : ∃ b g l d, j = ix4 b g l d := ⟨j 0, j 1, j 2, j 3, by idx_vars j⟩
  rw [keys_at]
  by_cases h : d.val < 64
  · rw [filled_low _ b g l d (by omega), keyWhole_low _ _ _ _ b l g _ h, keyHeads_at, lanes_low _ _ d h]
  by_cases h' : d.val < 96
  · rw [filled_low _ b g l d (by omega), keyWhole_high _ _ _ _ b l g _ (by dsimp only; omega), lanes_mid _ _ d (by omega) h']
  · rw [filled_high _ b g l d (by omega), lanes_high _ _ d (by omega)]

/-- The values twice, heads before tokens. -/
def doubled (U : FVec Ideal S32x2048x4x128 .f32) : FVec Ideal S32x4x2048x128 .bf16 :=
  truncf .bf16 (transpose S32x4x2048x128 [0, 2, 1, 3] (concatenate S32x2048x4x128 3
    [⟨S32x2048x4x64, extractStridedSlice S32x2048x4x64 ![0, 0, 0, 64] U slices_S32x2048x4x128_S32x2048x4x64_0_0_0_64⟩,
     ⟨S32x2048x4x64, extractStridedSlice S32x2048x4x64 ![0, 0, 0, 64] U slices_S32x2048x4x128_S32x2048x4x64_0_0_0_64⟩]
    concatenates_S32x2048x4x64_S32x2048x4x64_S32x2048x4x128_d3) transposes_S32x2048x4x128_S32x4x2048x128_0_2_1_3) bitsLt_bf16_f32

theorem doubled_at (U : FVec Ideal S32x2048x4x128 .f32) (b : Fin 32) (g : Fin 4) (l : Fin 2048) (d : Fin 128) :
    doubled U (ix4 b g l d) = U (ix4 b l g ⟨64 + d.val % 64, by omega⟩) := by
  pointwise [doubled]
  by_cases h : d.val < 64
  · refine (dif_pos h).trans ?_
    exact congrArg (fun j => U (ix4 b l g j)) (Fin.ext (by dsimp only; omega))
  · refine (dif_neg h).trans ?_
    exact congrArg (fun j => U (ix4 b l g j)) (Fin.ext (by dsimp only; omega))

theorem values_whole (X : FVec Ideal S32x2048x128 .f32) (G : FVec Ideal S128 .f32) (W : FVec Ideal S128x512 .f32) :
    doubled (keyHeads X G W) = values X G W := by
  funext j
  obtain ⟨b, g, l, d, rfl⟩ : ∃ b g l d, j = ix4 b g l d := ⟨j 0, j 1, j 2, j 3, by idx_vars j⟩
  rw [doubled_at, keyHeads_at, values_at]
  exact congrArg (keyAt X G W b l) (Fin.ext (by dsimp only; omega))

end Cert.Reference10Ideal.Mla
-- ==== Proof.Mla.lean ====
module
public import proofs.«01_k».proof.Defs
public import proofs.«01_k».proof.Proof.MlaKernel
public import proofs.«01_k».proof.Proof.MlaReference

/-! The latent attention's preparation, its value claim: from equal arguments both programs end with the same queries, keys and values. -/

@[expose] public section
noncomputable section
open Idealize.ShloMosaic Idealize.ShloMosaic.TcCoe Idealize.SL.Sem
namespace Cert.Mla
open Cert.Kernel10Ideal.Mla Cert.Reference10Ideal.Mla Cert.Layer

theorem cosine_eq : cosine = cosines := rfl

theorem sine_eq : sine = sines := rfl

/-- What the kernel's program ends with. -/
theorem kernel_ends (m : (ℓ : Loc Cert.Kernel10Ideal.nD Cert.Kernel10Ideal.τ Cert.Kernel10Ideal.sig) → Buf (Elt Ideal) ℓ) (g : Dev Cert.Kernel10Ideal.nD → PrngReg) :
    θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
        r.2.mem ((c.tc : Thread Cert.Kernel10Ideal.nD Cert.Kernel10Ideal.τ).loc Cert.Kernel10Ideal.main_v66_0) = queries (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg5)) cosines sines
        ∧ r.2.mem ((c.tc : Thread Cert.Kernel10Ideal.nD Cert.Kernel10Ideal.τ).loc Cert.Kernel10Ideal.main_v66_1) = keys (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg6)) cosines sines
        ∧ r.2.mem ((c.tc : Thread Cert.Kernel10Ideal.nD Cert.Kernel10Ideal.τ).loc Cert.Kernel10Ideal.main_v66_2) = values (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg6))
        ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
        ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
        ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
        ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
        ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
        ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
        ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)) :=
  θ_run_mono (θ_run_and (Cert.Kernel10Ideal.Gen.unchanged m g) (Cert.Kernel10Ideal.Gen.run_main m g)) fun r h c =>
    ⟨((h.2 c).1 10).trans (final_queries m c), ((h.2 c).1 11).trans (final_keys m c), ((h.2 c).1 12).trans (final_values m c), h.1 c⟩

theorem read_queries (m' : (ℓ : Loc Cert.Reference10Ideal.nD Cert.Reference10Ideal.τ Cert.Reference10Ideal.sig) → Buf (Elt Ideal) ℓ) (c : Dev Cert.Reference10Ideal.nD) :
    Cert.Reference10Ideal.Value.res_main_v100 m' c = queries (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg5)) cosine sine :=
  queries_whole _ _ _ cosine sine

theorem read_keys (m' : (ℓ : Loc Cert.Reference10Ideal.nD Cert.Reference10Ideal.τ Cert.Reference10Ideal.sig) → Buf (Elt Ideal) ℓ) (c : Dev Cert.Reference10Ideal.nD) :
    Cert.Reference10Ideal.Value.res_main_v103 m' c = keys (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg6)) cosine sine :=
  keys_whole _ _ _ _ cosine sine

/-- What the reference's program ends with. -/
theorem reference_ends (m' : (ℓ : Loc Cert.Reference10Ideal.nD Cert.Reference10Ideal.τ Cert.Reference10Ideal.sig) → Buf (Elt Ideal) ℓ) (g' : Dev Cert.Reference10Ideal.nD → PrngReg) :
    θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
        r.2.mem ((c.tc : Thread Cert.Reference10Ideal.nD Cert.Reference10Ideal.τ).loc Cert.Reference10Ideal.main_v100) = queries (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg5)) cosine sine
        ∧ r.2.mem ((c.tc : Thread Cert.Reference10Ideal.nD Cert.Reference10Ideal.τ).loc Cert.Reference10Ideal.main_v103) = keys (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg6)) cosine sine
        ∧ r.2.mem ((c.tc : Thread Cert.Reference10Ideal.nD Cert.Reference10Ideal.τ).loc Cert.Reference10Ideal.main_v106) = values (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg6))
        ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
        ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
        ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
        ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)) :=
  θ_run_mono (Cert.Reference10Ideal.Value.run m' g') fun r h c =>
    ⟨(h c).1.trans (read_queries m' c), (h c).2.1.trans (read_keys m' c), (h c).2.2.1.trans (values_whole _ _ _), (h c).2.2.2⟩

theorem algebraic : Cert.algebraic_Kernel10Ideal_Reference10Ideal := by
  intro m g m' g' _ hagree
  refine ⟨_, _, _, kernel_ends m g, θ_run_mono (reference_ends m' g') fun r h c => ?_⟩
  obtain ⟨e0, e1, e2, e3, e4, e5, e6⟩ := hagree c
  obtain ⟨h1, h2, h3, h4⟩ := h c
  rw [e0, e3, e5, cosine_eq, sine_eq] at h1
  rw [e1, e2, e4, e6, cosine_eq, sine_eq] at h2
  rw [e1, e4, e6] at h3
  exact ⟨h1, h2, h3, h4⟩

end Cert.Mla
-- ==== Proof.HeadsPlain.lean ====
module
public import proofs.«01_k».proof.Proof.Heads

/-! The heads of the latent attention over the context's tokens, where nothing is rotated. -/

@[expose] public section
noncomputable section
open Idealize.ShloMosaic Idealize.ShloMosaic.TcCoe Idealize.SL.Sem
namespace Cert.Layer

def plainQueryAt (cq : FVec Ideal (⟨3, ![32, 256, 256]⟩ : Shape) .f32) (gq : FVec Ideal (⟨1, ![256]⟩ : Shape) .f32)
    (w : FVec Ideal (⟨2, ![256, 384]⟩ : Shape) .f32) (b : Fin 32) (l : Fin 256) (n : Fin 384) : EReal :=
  ∑ k : Fin 256, normRow count256 (fun k => cq (ix3 b l k)) (fun k => gq (ix1 k)) k * w (ix2 k n)

def plainKeyAt (ckv : FVec Ideal (⟨3, ![32, 256, 128]⟩ : Shape) .f32) (gkv : FVec Ideal (⟨1, ![128]⟩ : Shape) .f32)
    (w : FVec Ideal (⟨2, ![128, 512]⟩ : Shape) .f32) (b : Fin 32) (l : Fin 256) (n : Fin 512) : EReal :=
  ∑ k : Fin 128, normRow count128 (fun k => ckv (ix3 b l k)) (fun k => gkv (ix1 k)) k * w (ix2 k n)

def plainQueries (cq : FVec Ideal (⟨3, ![32, 256, 256]⟩ : Shape) .f32) (gq : FVec Ideal (⟨1, ![256]⟩ : Shape) .f32)
    (w : FVec Ideal (⟨2, ![256, 384]⟩ : Shape) .f32) : FVec Ideal (⟨4, ![32, 4, 256, 128]⟩ : Shape) .bf16 := fun j =>
  (if h : (j 3 : Fin 128).val < 96 then plainQueryAt cq gq w (j 0) (j 2)
    ⟨(j 1 : Fin 4).val * 96 + (j 3 : Fin 128).val, by have : (j 1 : Fin 4).val < 4 := (j 1 : Fin 4).isLt; omega⟩ else 0) * headScale

def plainKeys (ckv : FVec Ideal (⟨3, ![32, 256, 128]⟩ : Shape) .f32) (kr : FVec Ideal (⟨3, ![32, 256, 32]⟩ : Shape) .f32)
    (gkv : FVec Ideal (⟨1, ![128]⟩ : Shape) .f32) (w : FVec Ideal (⟨2, ![128, 512]⟩ : Shape) .f32) :
    FVec Ideal (⟨4, ![32, 4, 256, 128]⟩ : Shape) .bf16 := fun j =>
  lanes (fun e => plainKeyAt ckv gkv w (j 0) (j 2) ⟨(j 1 : Fin 4).val * 128 + e, by have : (j 1 : Fin 4).val < 4 := (j 1 : Fin 4).isLt; omega⟩)
    (fun e => kr (ix3 (j 0) (j 2) e)) (j 3)

def plainValues (ckv : FVec Ideal (⟨3, ![32, 256, 128]⟩ : Shape) .f32) (gkv : FVec Ideal (⟨1, ![128]⟩ : Shape) .f32)
    (w : FVec Ideal (⟨2, ![128, 512]⟩ : Shape) .f32) : FVec Ideal (⟨4, ![32, 4, 256, 128]⟩ : Shape) .bf16 := fun j =>
  plainKeyAt ckv gkv w (j 0) (j 2) ⟨(j 1 : Fin 4).val * 128 + 64 + (j 3 : Fin 128).val % 64, by have : (j 1 : Fin 4).val < 4 := (j 1 : Fin 4).isLt; omega⟩

theorem plainQueries_low (cq : FVec Ideal (⟨3, ![32, 256, 256]⟩ : Shape) .f32) (gq : FVec Ideal (⟨1, ![256]⟩ : Shape) .f32)
    (w : FVec Ideal (⟨2, ![256, 384]⟩ : Shape) .f32) (b : Fin 32) (g : Fin 4) (l : Fin 256) (d : Fin 128) (h : d.val < 96) :
    plainQueries cq gq w (ix4 b g l d) = plainQueryAt cq gq w b l ⟨g.val * 96 + d, by omega⟩ * headScale :=
  congrArg (· * headScale) (dif_pos h)

theorem plainQueries_high (cq : FVec Ideal (⟨3, ![32, 256, 256]⟩ : Shape) .f32) (gq : FVec Ideal (⟨1, ![256]⟩ : Shape) .f32)
    (w : FVec Ideal (⟨2, ![256, 384]⟩ : Shape) .f32) (b : Fin 32) (g : Fin 4) (l : Fin 256) (d : Fin 128) (h : 96 ≤ d.val) :
    plainQueries cq gq w (ix4 b g l d) = 0 :=
  (congrArg (· * headScale) (dif_neg (show ¬ d.val < 96 by omega))).trans (zero_mul _)

theorem plainKeys_at (ckv : FVec Ideal (⟨3, ![32, 256, 128]⟩ : Shape) .f32) (kr : FVec Ideal (⟨3, ![32, 256, 32]⟩ : Shape) .f32)
    (gkv : FVec Ideal (⟨1, ![128]⟩ : Shape) .f32) (w : FVec Ideal (⟨2, ![128, 512]⟩ : Shape) .f32) (b : Fin 32) (g : Fin 4) (l : Fin 256) (d : Fin 128) :
    plainKeys ckv kr gkv w (ix4 b g l d)
      = lanes (fun e => plainKeyAt ckv gkv w b l ⟨g.val * 128 + e, by omega⟩) (fun e => kr (ix3 b l e)) d := rfl

theorem plainValues_at (ckv : FVec Ideal (⟨3, ![32, 256, 128]⟩ : Shape) .f32) (gkv : FVec Ideal (⟨1, ![128]⟩ : Shape) .f32)
    (w : FVec Ideal (⟨2, ![128, 512]⟩ : Shape) .f32) (b : Fin 32) (g : Fin 4) (l : Fin 256) (d : Fin 128) :
    plainValues ckv gkv w (ix4 b g l d) = plainKeyAt ckv gkv w b l ⟨g.val * 128 + 64 + d.val % 64, by omega⟩ := rfl

end Cert.Layer
-- ==== Proof.MlaContextBlocks.lean ====
module
public import proofs.«01_k».proof.Proof.Gen.Kernel11Ideal.Frame
public import proofs.«01_k».proof.Proof.HeadsPlain

/-! The blocks the kernel that prepares the latent attention of the context writes: queries, keys and values of four heads. -/

@[expose] public section
set_option maxRecDepth 16384
noncomputable section
open Idealize.ShloMosaic Idealize.ShloMosaic.TcCoe Idealize.SL.Sem
open Idealize.ShloMosaic.Pipeline (Dat)
namespace Cert.Kernel11Ideal.Mla
open Cert.Kernel11Ideal Cert.Kernel11Ideal.Gen Cert.Layer

/-- The kernel's query row at a column of the widened weights, and the rows of keys and values likewise. -/
def queryCol (x0 : FVec Ideal S1x256x256 .f32) (x2 : FVec Ideal S1x256 .f32) (x4 : FVec Ideal S256x512 .bf16) (r : Fin 256) (n : Fin 512) : EReal :=
  ∑ k, normRow count256 (fun k => x0 (ix3 0 r k)) (fun k => x2 (ix2 0 k)) k * x4 (ix2 k n)

def keyCol (x1 : FVec Ideal S1x256x256 .f32) (x3 : FVec Ideal S1x128 .f32) (x5 : FVec Ideal S128x512 .bf16) (r : Fin 256) (n : Fin 512) : EReal :=
  ∑ k : Fin 128, normRow count128 (fun k : Fin 128 => x1 (ix3 0 r ⟨k, by omega⟩)) (fun k => x3 (ix2 0 k)) k * x5 (ix2 k n)

/-- The lanes the keys' 32 entries are read from: the second half of the row, turned by 64. -/
def sideLane (x1 : FVec Ideal S1x256x256 .f32) (r : Fin 256) (d : Fin 128) : EReal := x1 (ix3 0 r ⟨128 + (d.val + 64) % 128, by omega⟩)

theorem query_at (x0 : FVec Ideal S1x256x256 .f32) (x2 : FVec Ideal S1x256 .f32) (x4 : FVec Ideal S256x512 .bf16) (r : Fin 256) (n : Fin 512) :
    k0_pay4 (F := Ideal) x0 x2 x4 (ix2 r n) = queryCol x0 x2 x4 r n := by
  pointwise [k0_pay4]
  rfl

theorem key_at (x1 : FVec Ideal S1x256x256 .f32) (x3 : FVec Ideal S1x128 .f32) (x5 : FVec Ideal S128x512 .bf16) (r : Fin 256) (n : Fin 512) :
    k0_pay7 (F := Ideal) (k0_pay6 x1 x3) x5 (ix2 r n) = keyCol x1 x3 x5 r n := by
  pointwise [k0_pay7, k0_pay6, k0_pay5]
  rfl

theorem value_at (x1 : FVec Ideal S1x256x256 .f32) (x3 : FVec Ideal S1x128 .f32) (x5 : FVec Ideal S128x512 .bf16) (r : Fin 256) (n : Fin 512) :
    k0_pay8 (F := Ideal) (k0_pay6 x1 x3) x5 (ix2 r n) = keyCol x1 x3 x5 r n := by
  pointwise [k0_pay8, k0_pay6, k0_pay5]
  rfl

theorem side_at (x1 : FVec Ideal S1x256x256 .f32) (r : Fin 256) (d : Fin 128) : k0_pay9 (F := Ideal) (k0_pay5 x1) (ix2 r d) = sideLane x1 r d := by
  pointwise [k0_pay9, k0_pay5]
  rfl

theorem query0_at (v : FVec Ideal S256x512 .f32) (r : Fin 256) (d : Fin 128) : k0_pay10 (F := Ideal) v (ix4 0 0 r d) = v (ix2 r ⟨0 + d, by omega⟩) * headScale := by
  pointwise [k0_pay10]
  rfl

theorem query1_at (v : FVec Ideal S256x512 .f32) (r : Fin 256) (d : Fin 128) : k0_pay13 (F := Ideal) v (ix4 0 0 r d) = v (ix2 r ⟨128 + d, by omega⟩) * headScale := by
  pointwise [k0_pay13]
  rfl

theorem query2_at (v : FVec Ideal S256x512 .f32) (r : Fin 256) (d : Fin 128) : k0_pay16 (F := Ideal) v (ix4 0 0 r d) = v (ix2 r ⟨256 + d, by omega⟩) * headScale := by
  pointwise [k0_pay16]
  rfl

theorem query3_at (v : FVec Ideal S256x512 .f32) (r : Fin 256) (d : Fin 128) : k0_pay1 (F := Ideal) (k0_pay19 v) (ix4 0 0 r d) = v (ix2 r ⟨384 + d, by omega⟩) * headScale := by
  pointwise [k0_pay1, k0_pay19]
  rfl

theorem key0_at (u : FVec Ideal S256x256 .f32) (v : FVec Ideal S256x128 .bf16) (w : FVec Ideal S128x512 .bf16) (r : Fin 256) (d : Fin 128) :
    k0_pay11 (F := Ideal) u v w (ix4 0 0 r d) = k0_pay7 (F := Ideal) v w (ix2 r ⟨0 + d, by omega⟩) + k0_pay9 (F := Ideal) u (ix2 r d) := by
  pointwise [k0_pay11]

theorem key1_at (v : FVec Ideal S256x512 .f32) (u : FVec Ideal S256x128 .f32) (r : Fin 256) (d : Fin 128) :
    k0_pay14 (F := Ideal) v u (ix4 0 0 r d) = v (ix2 r ⟨128 + d, by omega⟩) + u (ix2 r d) := by
  pointwise [k0_pay14]

theorem key2_at (v : FVec Ideal S256x512 .f32) (u : FVec Ideal S256x128 .f32) (r : Fin 256) (d : Fin 128) :
    k0_pay17 (F := Ideal) v u (ix4 0 0 r d) = v (ix2 r ⟨256 + d, by omega⟩) + u (ix2 r d) := by
  pointwise [k0_pay17]

theorem key3_at (v : FVec Ideal S256x512 .f32) (u : FVec Ideal S256x128 .f32) (r : Fin 256) (d : Fin 128) :
    k0_pay2 (F := Ideal) v u (ix4 0 0 r d) = v (ix2 r ⟨384 + d, by omega⟩) + u (ix2 r d) := by
  pointwise [k0_pay2]

theorem value0_at (v : FVec Ideal S256x128 .bf16) (w : FVec Ideal S128x512 .bf16) (r : Fin 256) (d : Fin 128) :
    k0_pay12 (F := Ideal) v w (ix4 0 0 r d) = k0_pay8 (F := Ideal) v w (ix2 r ⟨0 + d, by omega⟩) := by
  pointwise [k0_pay12]

theorem value1_at (v : FVec Ideal S256x512 .f32) (r : Fin 256) (d : Fin 128) : k0_pay15 (F := Ideal) v (ix4 0 0 r d) = v (ix2 r ⟨128 + d, by omega⟩) := by
  pointwise [k0_pay15]

theorem value2_at (v : FVec Ideal S256x512 .f32) (r : Fin 256) (d : Fin 128) : k0_pay18 (F := Ideal) v (ix4 0 0 r d) = v (ix2 r ⟨256 + d, by omega⟩) := by
  pointwise [k0_pay18]

theorem value3_at (v : FVec Ideal S256x512 .f32) (r : Fin 256) (d : Fin 128) : k0_pay3 (F := Ideal) v (ix4 0 0 r d) = v (ix2 r ⟨384 + d, by omega⟩) := by
  pointwise [k0_pay3]

theorem queries_eq (x0 x1 : FVec Ideal S1x256x256 .f32) (x2 : FVec Ideal S1x256 .f32) (x3 : FVec Ideal S1x128 .f32)
    (x4 : FVec Ideal S256x512 .bf16) (x5 x6 : FVec Ideal S128x512 .bf16) (g : Fin 4) (r : Fin 256) (d : Fin 128) :
    out0_7 (F := Ideal) x0 x1 x2 x3 x4 x5 x6 (ix4 0 g r d) = queryCol x0 x2 x4 r ⟨g.val * 128 + d, by omega⟩ * headScale := by
  unfold_out out0_7
  canon_tiles x h
  case piece0 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 3 := Fin.ext (by simpa using h1)
    refine (show _ = k0_pay1 (F := Ideal) (k0_pay19 (k0_pay4 x0 x2 x4)) (ix4 0 0 r' d') from rfl).trans ?_
    rw [query3_at]
    simp only [query_at, key_at, value_at, side_at]
    rfl
  case piece1 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 2 := Fin.ext (by simpa using h1)
    refine (show _ = k0_pay16 (F := Ideal) (k0_pay4 x0 x2 x4) (ix4 0 0 r' d') from rfl).trans ?_
    rw [query2_at]
    simp only [query_at, key_at, value_at, side_at]
    rfl
  case piece2 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 1 := Fin.ext (by simpa using h1)
    refine (show _ = k0_pay13 (F := Ideal) (k0_pay4 x0 x2 x4) (ix4 0 0 r' d') from rfl).trans ?_
    rw [query1_at]
    simp only [query_at, key_at, value_at, side_at]
    rfl
  case piece3 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 0 := Fin.ext (by simpa using h1)
    refine (show _ = k0_pay10 (F := Ideal) (k0_pay4 x0 x2 x4) (ix4 0 0 r' d') from rfl).trans ?_
    rw [query0_at]
    simp only [query_at, key_at, value_at, side_at]
    rfl

theorem keys_eq (x0 x1 : FVec Ideal S1x256x256 .f32) (x2 : FVec Ideal S1x256 .f32) (x3 : FVec Ideal S1x128 .f32)
    (x4 : FVec Ideal S256x512 .bf16) (x5 x6 : FVec Ideal S128x512 .bf16) (g : Fin 4) (r : Fin 256) (d : Fin 128) :
    out0_8 (F := Ideal) x0 x1 x2 x3 x4 x5 x6 (ix4 0 g r d) = keyCol x1 x3 x5 r ⟨g.val * 128 + d, by omega⟩ + sideLane x1 r d := by
  unfold_out out0_8
  canon_tiles x h
  case piece0 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 3 := Fin.ext (by simpa using h1)
    refine (show _ = k0_pay2 (F := Ideal) (k0_pay7 (k0_pay6 x1 x3) x5) (k0_pay9 (k0_pay5 x1)) (ix4 0 0 r' d') from rfl).trans ?_
    rw [key3_at]
    simp only [query_at, key_at, value_at, side_at]
    rfl
  case piece1 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 2 := Fin.ext (by simpa using h1)
    refine (show _ = k0_pay17 (F := Ideal) (k0_pay7 (k0_pay6 x1 x3) x5) (k0_pay9 (k0_pay5 x1)) (ix4 0 0 r' d') from rfl).trans ?_
    rw [key2_at]
    simp only [query_at, key_at, value_at, side_at]
    rfl
  case piece2 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 1 := Fin.ext (by simpa using h1)
    refine (show _ = k0_pay14 (F := Ideal) (k0_pay7 (k0_pay6 x1 x3) x5) (k0_pay9 (k0_pay5 x1)) (ix4 0 0 r' d') from rfl).trans ?_
    rw [key1_at]
    simp only [query_at, key_at, value_at, side_at]
    rfl
  case piece3 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 0 := Fin.ext (by simpa using h1)
    refine (show _ = k0_pay11 (F := Ideal) (k0_pay5 x1) (k0_pay6 x1 x3) x5 (ix4 0 0 r' d') from rfl).trans ?_
    rw [key0_at]
    simp only [query_at, key_at, value_at, side_at]
    rfl

theorem values_eq (x0 x1 : FVec Ideal S1x256x256 .f32) (x2 : FVec Ideal S1x256 .f32) (x3 : FVec Ideal S1x128 .f32)
    (x4 : FVec Ideal S256x512 .bf16) (x5 x6 : FVec Ideal S128x512 .bf16) (g : Fin 4) (r : Fin 256) (d : Fin 128) :
    out0_9 (F := Ideal) x0 x1 x2 x3 x4 x5 x6 (ix4 0 g r d) = keyCol x1 x3 x6 r ⟨g.val * 128 + d, by omega⟩ := by
  unfold_out out0_9
  canon_tiles x h
  case piece0 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 3 := Fin.ext (by simpa using h1)
    refine (show _ = k0_pay3 (F := Ideal) (k0_pay8 (k0_pay6 x1 x3) x6) (ix4 0 0 r' d') from rfl).trans ?_
    rw [value3_at]
    simp only [query_at, key_at, value_at, side_at]
    rfl
  case piece1 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 2 := Fin.ext (by simpa using h1)
    refine (show _ = k0_pay18 (F := Ideal) (k0_pay8 (k0_pay6 x1 x3) x6) (ix4 0 0 r' d') from rfl).trans ?_
    rw [value2_at]
    simp only [query_at, key_at, value_at, side_at]
    rfl
  case piece2 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 1 := Fin.ext (by simpa using h1)
    refine (show _ = k0_pay15 (F := Ideal) (k0_pay8 (k0_pay6 x1 x3) x6) (ix4 0 0 r' d') from rfl).trans ?_
    rw [value1_at]
    simp only [query_at, key_at, value_at, side_at]
    rfl
  case piece3 =>
    open_payloads
    obtain ⟨a, b, r', d', rfl⟩ : ∃ a b r' d', x = ix4 a b r' d' := ⟨x 0, x 1, x 2, x 3, by idx_vars x⟩
    obtain rfl : a = 0 := Subsingleton.elim _ _
    obtain rfl : b = 0 := Subsingleton.elim _ _
    obtain rfl : r' = r := Fin.ext h2.symm
    obtain rfl : d' = d := Fin.ext h3.symm
    obtain rfl : g = 0 := Fin.ext (by simpa using h1)
    refine (show _ = k0_pay12 (F := Ideal) (k0_pay6 x1 x3) x6 (ix4 0 0 r' d') from rfl).trans ?_
    rw [value0_at]
    simp only [query_at, key_at, value_at, side_at]
    rfl

end Cert.Kernel11Ideal.Mla
-- ==== Proof.MlaContextHost.lean ====
module
public import proofs.«01_k».proof.Proof.Gen.Kernel11Ideal.Frame
public import proofs.«01_k».proof.Proof.MlaHost

/-! The arrays the context's latent preparation finds: the joined row and the widened weights. -/

@[expose] public section
set_option maxRecDepth 16384
noncomputable section
open Idealize.ShloMosaic Idealize.ShloMosaic.TcCoe Idealize.SL.Sem
open Idealize.ShloMosaic.Pipeline (Dat)
namespace Cert.Kernel11Ideal.Mla
open Cert.Kernel11Ideal Cert.Kernel11Ideal.Gen Cert.Layer
open Cert.Kernel10Ideal.Mla (zero_word queryWide keyWide valueWide queryWide_low queryWide_high keyWide_low keyWide_high valueWide_at)

def joined (C : FVec Ideal S32x256x128 .f32) (R : FVec Ideal S32x256x32 .f32) : FVec Ideal S32x256x256 .f32 :=
  pad S32x256x256 ![0, 0, 0] ![0, 0, 96] ![0, 0, 0]
    (concatenate S32x256x160 2 [⟨S32x256x128, C⟩, ⟨S32x256x32, R⟩] concatenates_S32x256x128_S32x256x32_S32x256x160_d2)
    (sitofp .f32 (constantI S_ 32 0#32)) pads_S32x256x160_S32x256x256_000_000_0960 h_S_

theorem joined_low (C : FVec Ideal S32x256x128 .f32) (R : FVec Ideal S32x256x32 .f32) (b : Fin 32) (l : Fin 256) (n : Fin 256) (h : n.val < 128) :
    joined C R (ix3 b l n) = C (ix3 b l ⟨n, h⟩) := by
  pointwise [joined]
  rw [dif_pos (by omega)]
  exact dif_pos h

theorem joined_mid (C : FVec Ideal S32x256x128 .f32) (R : FVec Ideal S32x256x32 .f32) (b : Fin 32) (l : Fin 256) (n : Fin 256) (h : 128 ≤ n.val) (h' : n.val < 160) :
    joined C R (ix3 b l n) = R (ix3 b l ⟨n - 128, by omega⟩) := by
  pointwise [joined]
  rw [dif_pos (by omega)]
  exact dif_neg (by omega)

theorem joined_high (C : FVec Ideal S32x256x128 .f32) (R : FVec Ideal S32x256x32 .f32) (b : Fin 32) (l : Fin 256) (n : Fin 256) (h : 160 ≤ n.val) :
    joined C R (ix3 b l n) = 0 := by
  pointwise [joined]
  rw [dif_neg (by omega)]
  exact zero_word

variable (m : (ℓ : Loc nD τ sig) → Buf (Elt Ideal) ℓ)

theorem v_joined (c : Dev nD) : V m c main_v1 = joined (m ((c : Thread nD τ).loc main_arg1)) (m ((c : Thread nD τ).loc main_arg2)) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_gain (c : Dev nD) : V m c main_v2 = broadcastInDim S1x256 ![1] bcast_S256_S1x256_1 (m ((c : Thread nD τ).loc main_arg3)) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp

theorem v_keyGain (c : Dev nD) : V m c main_v3 = broadcastInDim S1x128 ![1] bcast_S128_S1x128_1 (m ((c : Thread nD τ).loc main_arg4)) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp

theorem v_query (c : Dev nD) : V m c main_v15 = truncf (F := Ideal) .bf16 (queryWide (m ((c : Thread nD τ).loc main_arg5))) bitsLt_bf16_f32 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_key (c : Dev nD) : V m c main_v16 = truncf (F := Ideal) .bf16 (keyWide (m ((c : Thread nD τ).loc main_arg6))) bitsLt_bf16_f32 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

theorem v_value (c : Dev nD) : V m c main_v17 = truncf (F := Ideal) .bf16 (valueWide (m ((c : Thread nD τ).loc main_arg6))) bitsLt_bf16_f32 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  rfl

end Cert.Kernel11Ideal.Mla
-- ==== Proof.MlaContextReads.lean ====
module
public import proofs.«01_k».proof.Proof.MlaContextBlocks
public import proofs.«01_k».proof.Proof.MlaContextHost

/-! The blocks the context's latent preparation reads, in terms of its arguments, and the columns of its products. -/

@[expose] public section
set_option maxRecDepth 16384
noncomputable section
open Idealize.ShloMosaic Idealize.ShloMosaic.TcCoe Idealize.SL.Sem
open Idealize.ShloMosaic.Pipeline (Dat)
namespace Cert.Kernel11Ideal.Mla
open Cert.Kernel11Ideal Cert.Kernel11Ideal.Gen Cert.Layer
open Cert.Kernel10Ideal.Mla (queryWide keyWide valueWide queryWide_low queryWide_high keyWide_low keyWide_high valueWide_at)

theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0] ∧ win0_6.index t = ![0, 0]
    ∧ win0_7.index t = ![t.val, 0, 0, 0] ∧ win0_8.index t = ![t.val, 0, 0, 0] ∧ win0_9.index t = ![t.val, 0, 0, 0]
    ∧ t.val < 32 :=
  (by decide +kernel : ∀ t : Fin grid0.N, _)

theorem tile1 (c : Dev nD) (A : Buf (Elt Ideal) ((c : Thread nD τ).loc (Pipeline.arrRef spec0 1))) (t : Fin cfg0.N) (r : Fin 256) (n : Fin 256) (b : Fin 32) (l : Fin 256) (hb : (b : ℕ) = t.val) (hl : (l : ℕ) = r.val) :
    (((cfg0.win 1).blk t).view.read (Elt Ideal) A : Vec Ideal S1x256x256 .f32) (ix3 0 r n) = (A : Vec Ideal S32x256x256 .f32) (ix3 b l n) := by
  blk_point [idx t]

theorem tile2 (c : Dev nD) (A : Buf (Elt Ideal) ((c : Thread nD τ).loc (Pipeline.arrRef spec0 2))) (t : Fin cfg0.N) (k : Fin 256) :
    (((cfg0.win 2).blk t).view.read (Elt Ideal) A : Vec Ideal S1x256 .f32) (ix2 0 k) = (A : Vec Ideal S1x256 .f32) (ix2 0 k) := by
  blk_point [idx t]

theorem tile3 (c : Dev nD) (A : Buf (Elt Ideal) ((c : Thread nD τ).loc (Pipeline.arrRef spec0 3))) (t : Fin cfg0.N) (k : Fin 128) :
    (((cfg0.win 3).blk t).view.read (Elt Ideal) A : Vec Ideal S1x128 .f32) (ix2 0 k) = (A : Vec Ideal S1x128 .f32) (ix2 0 k) := by
  blk_point [idx t]

theorem tile4 (c : Dev nD) (A : Buf (Elt Ideal) ((c : Thread nD τ).loc (Pipeline.arrRef spec0 4))) (t : Fin cfg0.N) (k : Fin 256) (f : Fin 512) :
    (((cfg0.win 4).blk t).view.read (Elt Ideal) A : Vec Ideal S256x512 .bf16) (ix2 k f) = (A : Vec Ideal S256x512 .bf16) (ix2 k f) := by
  blk_point [idx t]

theorem tile5 (c : Dev nD) (A : Buf (Elt Ideal) ((c : Thread nD τ).loc (Pipeline.arrRef spec0 5))) (t : Fin cfg0.N) (k : Fin 128) (f : Fin 512) :
    (((cfg0.win 5).blk t).view.read (Elt Ideal) A : Vec Ideal S128x512 .bf16) (ix2 k f) = (A : Vec Ideal S128x512 .bf16) (ix2 k f) := by
  blk_point [idx t]

theorem tile6 (c : Dev nD) (A : Buf (Elt Ideal) ((c : Thread nD τ).loc (Pipeline.arrRef spec0 6))) (t : Fin cfg0.N) (k : Fin 128) (f : Fin 512) :
    (((cfg0.win 6).blk t).view.read (Elt Ideal) A : Vec Ideal S128x512 .bf16) (ix2 k f) = (A : Vec Ideal S128x512 .bf16) (ix2 k f) := by
  blk_point [idx t]

variable (m : (ℓ : Loc nD τ sig) → Buf (Elt Ideal) ℓ)

theorem cq_at (c : Dev nD) (t : Fin cfg0.N) (r : Fin 256) (n : Fin 256) (b : Fin 32) (l : Fin 256) (hb : (b : ℕ) = t.val)
    (hl : (l : ℕ) = r.val) :
    (iblk m c 0 t : Vec Ideal S1x256x256 .f32) (ix3 0 r n) = m ((c : Thread nD τ).loc main_arg0) (ix3 b l n) := by
  blk_point [iblk, V, idx t]

theorem row_at (c : Dev nD) (t : Fin cfg0.N) (r : Fin 256) (n : Fin 256) (b : Fin 32) (l : Fin 256) (hb : (b : ℕ) = t.val)
    (hl : (l : ℕ) = r.val) :
    (iblk m c 1 t : Vec Ideal S1x256x256 .f32) (ix3 0 r n)
      = joined (m ((c : Thread nD τ).loc main_arg1)) (m ((c : Thread nD τ).loc main_arg2)) (ix3 b l n) := by
  refine (tile1 c (V m c main_v1) t r n b l hb hl).trans ?_
  rw [v_joined]

theorem gq_at (c : Dev nD) (t : Fin cfg0.N) (k : Fin 256) :
    (iblk m c 2 t : Vec Ideal S1x256 .f32) (ix2 0 k)
      = m ((c : Thread nD τ).loc main_arg3) (ix1 k) := by
  refine (tile2 c (V m c main_v2) t k).trans ?_
  rw [v_gain]
  pointwise

theorem gk_at (c : Dev nD) (t : Fin cfg0.N) (k : Fin 128) :
    (iblk m c 3 t : Vec Ideal S1x128 .f32) (ix2 0 k)
      = m ((c : Thread nD τ).loc main_arg4) (ix1 k) := by
  refine (tile3 c (V m c main_v3) t k).trans ?_
  rw [v_keyGain]
  pointwise

theorem wq_at (c : Dev nD) (t : Fin cfg0.N) (k : Fin 256) (f : Fin 512) :
    (iblk m c 4 t : Vec Ideal S256x512 .bf16) (ix2 k f)
      = queryWide (m ((c : Thread nD τ).loc main_arg5)) (ix2 k f) := by
  refine (tile4 c (V m c main_v15) t k f).trans ?_
  rw [v_query]
  rfl

theorem wk_at (c : Dev nD) (t : Fin cfg0.N) (k : Fin 128) (f : Fin 512) :
    (iblk m c 5 t : Vec Ideal S128x512 .bf16) (ix2 k f)
      = keyWide (m ((c : Thread nD τ).loc main_arg6)) (ix2 k f) := by
  refine (tile5 c (V m c main_v16) t k f).trans ?_
  rw [v_key]
  rfl

theorem wv_at (c : Dev nD) (t : Fin cfg0.N) (k : Fin 128) (f : Fin 512) :
    (iblk m c 6 t : Vec Ideal S128x512 .bf16) (ix2 k f)
      = valueWide (m ((c : Thread nD τ).loc main_arg6)) (ix2 k f) := by
  refine (tile6 c (V m c main_v17) t k f).trans ?_
  rw [v_value]
  rfl

/-- A query column of a tile: the weights' own column in a head's first 96 lanes, and zero after them. -/
theorem query_low (c : Dev nD) (t : Fin cfg0.N) (r : Fin 256) (b : Fin 32) (l : Fin 256) (hb : (b : ℕ) = t.val)
    (hl : (l : ℕ) = r.val) (g : Fin 4) (d : Fin 128) (h : d.val < 96) :
    queryCol (iblk m c 0 t) (iblk m c 2 t) (iblk m c 4 t) r ⟨g.val * 128 + d, by omega⟩
      = plainQueryAt (m ((c : Thread nD τ).loc main_arg0)) (m ((c : Thread nD τ).loc main_arg3)) (m ((c : Thread nD τ).loc main_arg5)) b l ⟨g.val * 96 + d, by omega⟩ := by
  unfold queryCol plainQueryAt
  simp only [cq_at m c t r _ b l hb hl, gq_at, wq_at, queryWide_low _ _ g d h]

theorem query_high (c : Dev nD) (t : Fin cfg0.N) (r : Fin 256) (g : Fin 4) (d : Fin 128) (h : 96 ≤ d.val) :
    queryCol (iblk m c 0 t) (iblk m c 2 t) (iblk m c 4 t) r ⟨g.val * 128 + d, by omega⟩ = 0 := by
  unfold queryCol
  simp only [wq_at, queryWide_high _ _ g d h, mul_zero, Finset.sum_const_zero]

theorem key_low (c : Dev nD) (t : Fin cfg0.N) (r : Fin 256) (b : Fin 32) (l : Fin 256) (hb : (b : ℕ) = t.val)
    (hl : (l : ℕ) = r.val) (g : Fin 4) (d : Fin 128) (h : d.val < 64) :
    keyCol (iblk m c 1 t) (iblk m c 3 t) (iblk m c 5 t) r ⟨g.val * 128 + d, by omega⟩
      = plainKeyAt (m ((c : Thread nD τ).loc main_arg1)) (m ((c : Thread nD τ).loc main_arg4)) (m ((c : Thread nD τ).loc main_arg6)) b l ⟨g.val * 128 + d, by omega⟩ := by
  unfold keyCol plainKeyAt
  have e : ∀ k : Fin 128, (iblk m c 1 t : Vec Ideal S1x256x256 .f32) (ix3 0 r ⟨k, by omega⟩) = m ((c : Thread nD τ).loc main_arg1) (ix3 b l k) := fun k =>
    (row_at m c t r _ b l hb hl).trans (joined_low _ _ b l _ k.isLt)
  simp only [e, gk_at, wk_at, keyWide_low _ _ g d h]

theorem key_high (c : Dev nD) (t : Fin cfg0.N) (r : Fin 256) (g : Fin 4) (d : Fin 128) (h : 64 ≤ d.val) :
    keyCol (iblk m c 1 t) (iblk m c 3 t) (iblk m c 5 t) r ⟨g.val * 128 + d, by omega⟩ = 0 := by
  unfold keyCol
  simp only [wk_at, keyWide_high _ _ g d h, mul_zero, Finset.sum_const_zero]

theorem value_col (c : Dev nD) (t : Fin cfg0.N) (r : Fin 256) (b : Fin 32) (l : Fin 256) (hb : (b : ℕ) = t.val)
    (hl : (l : ℕ) = r.val) (g : Fin 4) (d : Fin 128) :
    keyCol (iblk m c 1 t) (iblk m c 3 t) (iblk m c 6 t) r ⟨g.val * 128 + d, by omega⟩
      = plainKeyAt (m ((c : Thread nD τ).loc main_arg1)) (m ((c : Thread nD τ).loc main_arg4)) (m ((c : Thread nD τ).loc main_arg6)) b l ⟨g.val * 128 + 64 + d.val % 64, by omega⟩ := by
  unfold keyCol plainKeyAt
  have e : ∀ k : Fin 128, (iblk m c 1 t : Vec Ideal S1x256x256 .f32) (ix3 0 r ⟨k, by omega⟩) = m ((c : Thread nD τ).loc main_arg1) (ix3 b l k) := fun k =>
    (row_at m c t r _ b l hb hl).trans (joined_low _ _ b l _ k.isLt)
  simp only [e, gk_at, wv_at, valueWide_at _ _ g d]

/-- The side lanes: the keys' 32 entries in lanes 64 to 95, and zeros around them where the keys' own entries lie or nothing does. -/
theorem side_mid (c : Dev nD) (t : Fin cfg0.N) (r : Fin 256) (b : Fin 32) (l : Fin 256) (hb : (b : ℕ) = t.val)
    (hl : (l : ℕ) = r.val) (e : Fin 32) :
    sideLane (iblk m c 1 t) r ⟨64 + e, by omega⟩ = m ((c : Thread nD τ).loc main_arg2) (ix3 b l e) := by
  unfold sideLane
  rw [row_at m c t r _ b l hb hl, joined_mid _ _ b l _ (by dsimp only; omega) (by dsimp only; omega)]
  exact congrArg (fun j => m ((c : Thread nD τ).loc main_arg2) (ix3 b l j)) (Fin.ext (by dsimp only; omega))

theorem side_out (c : Dev nD) (t : Fin cfg0.N) (r : Fin 256) (d : Fin 128) (h : d.val < 64 ∨ 96 ≤ d.val) :
    sideLane (iblk m c 1 t) r d = 0 := by
  have ht := (idx t).2.2.2.2.2.2.2.2.2.2
  unfold sideLane
  rw [row_at m c t r _ ⟨t.val, by omega⟩ r rfl rfl, joined_high _ _ _ _ _ (by dsimp only; omega)]

end Cert.Kernel11Ideal.Mla
-- ==== Proof.MlaContextKernel.lean ====
module
public import proofs.«01_k».proof.Proof.MlaContextReads

/-! The three results of the context's latent preparation, as functions of its arguments. -/

@[expose] public section
set_option maxRecDepth 16384
noncomputable section
open Idealize.ShloMosaic Idealize.ShloMosaic.TcCoe Idealize.SL.Sem
open Idealize.ShloMosaic.Pipeline (Dat)
namespace Cert.Kernel11Ideal.Mla
open Cert.Kernel11Ideal Cert.Kernel11Ideal.Gen Cert.Layer

variable (m : (ℓ : Loc nD τ sig) → Buf (Elt Ideal) ℓ)

theorem final_queries (c : Dev nD) : (dats m 0 c).arrAt 7 (cfgs 0).N
    = plainQueries (m ((c : Thread nD τ).loc main_arg0)) (m ((c : Thread nD τ).loc main_arg3)) (m ((c : Thread nD τ).loc main_arg5)) := by
  refine (dats m 0 c).arrAt_eq_of_covers 7 _ (by decide +kernel) fun t hf y => ?_
  have hN : t.val < 32 := (idx t).2.2.2.2.2.2.2.2.2.2
  blk_simp
  rw [after0_7]
  obtain ⟨g, r, d, rfl⟩ : ∃ (g : Fin 4) (r : Fin 256) (d : Fin 128), y = (ix4 0 g r d : S1x4x256x128.Idx) := ⟨y 1, y 2, y 3, by idx_vars y; rw [Fin.eq_zero y0]⟩
  refine (queries_eq _ _ _ _ _ _ _ g r d).trans (Eq.trans (b := (plainQueries (m ((c : Thread nD τ).loc main_arg0)) (m ((c : Thread nD τ).loc main_arg3)) (m ((c : Thread nD τ).loc main_arg5))) (ix4 ⟨t.val, hN⟩ g r d)) ?_ ?_)
  · by_cases h : d.val < 96
    · rw [query_low m c t r ⟨t.val, hN⟩ r rfl rfl g d h, plainQueries_low _ _ _ _ _ _ _ h]
    · rw [query_high m c t r g d (by omega), plainQueries_high _ _ _ _ _ _ _ (by omega), zero_mul]
  · refine congrArg (plainQueries _ _ _) ?_
    blk_ext [idx t]

theorem final_keys (c : Dev nD) : (dats m 0 c).arrAt 8 (cfgs 0).N
    = plainKeys (m ((c : Thread nD τ).loc main_arg1)) (m ((c : Thread nD τ).loc main_arg2)) (m ((c : Thread nD τ).loc main_arg4)) (m ((c : Thread nD τ).loc main_arg6)) := by
  refine (dats m 0 c).arrAt_eq_of_covers 8 _ (by decide +kernel) fun t hf y => ?_
  have hN : t.val < 32 := (idx t).2.2.2.2.2.2.2.2.2.2
  blk_simp
  rw [after0_8]
  obtain ⟨g, r, d, rfl⟩ : ∃ (g : Fin 4) (r : Fin 256) (d : Fin 128), y = (ix4 0 g r d : S1x4x256x128.Idx) := ⟨y 1, y 2, y 3, by idx_vars y; rw [Fin.eq_zero y0]⟩
  refine (keys_eq _ _ _ _ _ _ _ g r d).trans (Eq.trans (b := (plainKeys (m ((c : Thread nD τ).loc main_arg1)) (m ((c : Thread nD τ).loc main_arg2)) (m ((c : Thread nD τ).loc main_arg4)) (m ((c : Thread nD τ).loc main_arg6))) (ix4 ⟨t.val, hN⟩ g r d)) ?_ ?_)
  · rw [plainKeys_at]
    by_cases h : d.val < 64
    · rw [lanes_low _ _ d h, side_out m c t r _ (Or.inl h), add_zero]
      exact key_low m c t r ⟨t.val, hN⟩ r rfl rfl g d h
    rw [key_high m c t r g d (by omega), zero_add]
    by_cases h' : d.val < 96
    · rw [lanes_mid _ _ d (by omega) h']
      refine Eq.trans ?_ (side_mid m c t r ⟨t.val, hN⟩ r rfl rfl ⟨d - 64, by omega⟩)
      exact congrArg (sideLane _ r) (Fin.ext (by dsimp only; omega))
    · rw [lanes_high _ _ d (by omega)]
      exact side_out m c t r d (Or.inr (by omega))
  · refine congrArg (plainKeys _ _ _ _) ?_
    blk_ext [idx t]

theorem final_values (c : Dev nD) : (dats m 0 c).arrAt 9 (cfgs 0).N
    = plainValues (m ((c : Thread nD τ).loc main_arg1)) (m ((c : Thread nD τ).loc main_arg4)) (m ((c : Thread nD τ).loc main_arg6)) := by
  refine (dats m 0 c).arrAt_eq_of_covers 9 _ (by decide +kernel) fun t hf y => ?_
  have hN : t.val < 32 := (idx t).2.2.2.2.2.2.2.2.2.2
  blk_simp
  rw [after0_9]
  obtain ⟨g, r, d, rfl⟩ : ∃ (g : Fin 4) (r : Fin 256) (d : Fin 128), y = (ix4 0 g r d : S1x4x256x128.Idx) := ⟨y 1, y 2, y 3, by idx_vars y; rw [Fin.eq_zero y0]⟩
  refine (values_eq _ _ _ _ _ _ _ g r d).trans (Eq.trans (b := (plainValues (m ((c : Thread nD τ).loc main_arg1)) (m ((c : Thread nD τ).loc main_arg4)) (m ((c : Thread nD τ).loc main_arg6))) (ix4 ⟨t.val, hN⟩ g r d)) ?_ ?_)
  · exact value_col m c t r ⟨t.val, hN⟩ r rfl rfl g d
  · refine congrArg (plainValues _ _ _) ?_
    blk_ext [idx t]

end Cert.Kernel11Ideal.Mla
-- ==== Proof.MlaContextReference.lean ====
module
public import proofs.«01_k».proof.Proof.Gen.Reference11Ideal.Run
public import proofs.«01_k».proof.Proof.HeadsPlain

/-! The reference's queries, keys and values of the context's latent attention, read at one entry: the norm, the up-projection into
four heads, the shared key beside them, and the heads filled up to 128 lanes. -/

@[expose] public section
set_option maxRecDepth 16384
noncomputable section
open Idealize.ShloMosaic Idealize.ShloMosaic.TcCoe Idealize.SL.Sem
namespace Cert.Reference11Ideal.Mla
open Cert.Reference11Ideal Cert.Reference11Ideal.Gen Cert.Reference11Ideal.Value Cert.Layer

theorem zero_word : (FloatOps.sitofp (F := Ideal) .f32 0#32 : EReal) = 0 := by
  simp [FloatOps.sitofp]

def normedQuery (X : FVec Ideal S32x256x256 .f32) (G : FVec Ideal S256 .f32) : FVec Ideal S32x256x256 .f32 :=
  mulf (mulf X (broadcastInDim S32x256x256 ![0, 1, 2] bcast_S32x256x1_S32x256x256_0_1_2 (Host.rsqrt (addf (Host.divf
    (broadcastInDim S32x256x1 ![0, 1] bcast_S32x256_S32x256x1_0_1 (Host.reduceAdd (mulf X X) (constant S_ .f32 0x00000000#32) reducesTo_S32x256x256_S32x256_d2 h_S_))
    (broadcastInDim S32x256x1 ![] bcast_S_S32x256x1 (constant S_ .f32 0x43800000#32))) (broadcastInDim S32x256x1 ![] bcast_S_S32x256x1 (constant S_ .f32 0x358637BD#32))))))
    (broadcastInDim S32x256x256 ![0, 1, 2] bcast_S1x1x256_S32x256x256_0_1_2 (broadcastInDim S1x1x256 ![2] bcast_S256_S1x1x256_2 G))

theorem normedQuery_at (X : FVec Ideal S32x256x256 .f32) (G : FVec Ideal S256 .f32) (b : Fin 32) (l : Fin 256) (k : Fin 256) :
    normedQuery X G (ix3 b l k) = normRow count256 (fun k => X (ix3 b l k)) (fun k => G (ix1 k)) k := by
  pointwise [normedQuery]
  rfl

def normedKey (X : FVec Ideal S32x256x128 .f32) (G : FVec Ideal S128 .f32) : FVec Ideal S32x256x128 .f32 :=
  mulf (mulf X (broadcastInDim S32x256x128 ![0, 1, 2] bcast_S32x256x1_S32x256x128_0_1_2 (Host.rsqrt (addf (Host.divf
    (broadcastInDim S32x256x1 ![0, 1] bcast_S32x256_S32x256x1_0_1 (Host.reduceAdd (mulf X X) (constant S_ .f32 0x00000000#32) reducesTo_S32x256x128_S32x256_d2 h_S_))
    (broadcastInDim S32x256x1 ![] bcast_S_S32x256x1 (constant S_ .f32 0x43000000#32))) (broadcastInDim S32x256x1 ![] bcast_S_S32x256x1 (constant S_ .f32 0x358637BD#32))))))
    (broadcastInDim S32x256x128 ![0, 1, 2] bcast_S1x1x128_S32x256x128_0_1_2 (broadcastInDim S1x1x128 ![2] bcast_S128_S1x1x128_2 G))

theorem normedKey_at (X : FVec Ideal S32x256x128 .f32) (G : FVec Ideal S128 .f32) (b : Fin 32) (l : Fin 256) (k : Fin 128) :
    normedKey X G (ix3 b l k) = normRow count128 (fun k => X (ix3 b l k)) (fun k => G (ix1 k)) k := by
  pointwise [normedKey]
  rfl

def queryHeads (X : FVec Ideal S32x256x256 .f32) (G : FVec Ideal S256 .f32) (W : FVec Ideal S256x384 .f32) : FVec Ideal S32x256x4x96 .f32 :=
  shapeCast S32x256x4x96 (Host.dotGeneral dot_S32x256x256_S256x384_S32x256x384_2_0_01_1_n_n none (normedQuery X G) W) shapeCasts_S32x256x384_S32x256x4x96

theorem queryHeads_at (X : FVec Ideal S32x256x256 .f32) (G : FVec Ideal S256 .f32) (W : FVec Ideal S256x384 .f32) (b : Fin 32) (l : Fin 256) (g : Fin 4) (e : Fin 96) :
    queryHeads X G W (ix4 b l g e) = plainQueryAt X G W b l ⟨g.val * 96 + e, by omega⟩ := by
  pointwise [queryHeads]
  simp only [normedQuery_at]
  rfl

def keyHeads (X : FVec Ideal S32x256x128 .f32) (G : FVec Ideal S128 .f32) (W : FVec Ideal S128x512 .f32) : FVec Ideal S32x256x4x128 .f32 :=
  shapeCast S32x256x4x128 (Host.dotGeneral dot_S32x256x128_S128x512_S32x256x512_2_0_01_1_n_n none (normedKey X G) W) shapeCasts_S32x256x512_S32x256x4x128

theorem keyHeads_at (X : FVec Ideal S32x256x128 .f32) (G : FVec Ideal S128 .f32) (W : FVec Ideal S128x512 .f32) (b : Fin 32) (l : Fin 256) (g : Fin 4) (e : Fin 128) :
    keyHeads X G W (ix4 b l g e) = plainKeyAt X G W b l ⟨g.val * 128 + e, by omega⟩ := by
  pointwise [keyHeads]
  simp only [normedKey_at]
  rfl

def keyWhole (U : FVec Ideal S32x256x4x128 .f32) (R : FVec Ideal S32x256x32 .f32) : FVec Ideal S32x256x4x96 .f32 :=
  concatenate S32x256x4x96 3
    [⟨S32x256x4x64, extractStridedSlice S32x256x4x64 ![0, 0, 0, 0] U slices_S32x256x4x128_S32x256x4x64_0_0_0_0⟩,
     ⟨S32x256x4x32, broadcastInDim S32x256x4x32 ![0, 1, 2, 3] bcast_S32x256x1x32_S32x256x4x32_0_1_2_3
      (broadcastInDim S32x256x1x32 ![0, 1, 3] bcast_S32x256x32_S32x256x1x32_0_1_3 R)⟩]
    concatenates_S32x256x4x64_S32x256x4x32_S32x256x4x96_d3

theorem keyWhole_low (U : FVec Ideal S32x256x4x128 .f32) (R : FVec Ideal S32x256x32 .f32) (b : Fin 32) (l : Fin 256) (g : Fin 4) (d : Fin 96)
    (h : d.val < 64) : keyWhole U R (ix4 b l g d) = U (ix4 b l g ⟨d, by omega⟩) := by
  pointwise [keyWhole]
  exact dif_pos h

theorem keyWhole_high (U : FVec Ideal S32x256x4x128 .f32) (R : FVec Ideal S32x256x32 .f32) (b : Fin 32) (l : Fin 256) (g : Fin 4) (d : Fin 96)
    (h : 64 ≤ d.val) : keyWhole U R (ix4 b l g d) = R (ix3 b l ⟨d - 64, by omega⟩) := by
  pointwise [keyWhole]
  exact dif_neg (by omega)

/-- Heads of 96 entries filled up with zeros, heads before tokens. -/
def filled (U : FVec Ideal S32x256x4x96 .f32) : FVec Ideal S32x4x256x128 .bf16 :=
  truncf .bf16 (transpose S32x4x256x128 [0, 2, 1, 3] (pad S32x256x4x128 ![0, 0, 0, 0] ![0, 0, 0, 32] ![0, 0, 0, 0] U
    (sitofp .f32 (constantI S_ 32 0#32)) pads_S32x256x4x96_S32x256x4x128_000_000_000_0320 h_S_) transposes_S32x256x4x128_S32x4x256x128_0_2_1_3) bitsLt_bf16_f32

theorem filled_low (U : FVec Ideal S32x256x4x96 .f32) (b : Fin 32) (g : Fin 4) (l : Fin 256) (d : Fin 128) (h : d.val < 96) :
    filled U (ix4 b g l d) = U (ix4 b l g ⟨d, h⟩) := by
  pointwise [filled]
  exact dif_pos h

theorem filled_high (U : FVec Ideal S32x256x4x96 .f32) (b : Fin 32) (g : Fin 4) (l : Fin 256) (d : Fin 128) (h : 96 ≤ d.val) :
    filled U (ix4 b g l d) = 0 := by
  pointwise [filled]
  rw [dif_neg (by omega)]
  exact zero_word

def scaled (U : FVec Ideal S32x256x4x96 .f32) : FVec Ideal S32x256x4x96 .f32 :=
  mulf U (broadcastInDim S32x256x4x96 ![] bcast_S_S32x256x4x96 (constant S_ .f32 0x3DD105EC#32))

theorem scaled_at (U : FVec Ideal S32x256x4x96 .f32) (b : Fin 32) (l : Fin 256) (g : Fin 4) (d : Fin 96) : scaled U (ix4 b l g d) = U (ix4 b l g d) * headScale := by
  pointwise [scaled]
  rfl

theorem queries_whole (X : FVec Ideal S32x256x256 .f32) (G : FVec Ideal S256 .f32) (W : FVec Ideal S256x384 .f32) :
    filled (scaled (queryHeads X G W)) = plainQueries X G W := by
  funext j
  obtain ⟨b, g, l, d, rfl⟩ : ∃ b g l d, j = ix4 b g l d := ⟨j 0, j 1, j 2, j 3, by idx_vars j⟩
  by_cases h : d.val < 96
  · rw [filled_low _ b g l d h, scaled_at, queryHeads_at, plainQueries_low _ _ _ b g l d h]
  · rw [filled_high _ b g l d (by omega), plainQueries_high _ _ _ b g l d (by omega)]

theorem keys_whole (X : FVec Ideal S32x256x128 .f32) (R : FVec Ideal S32x256x32 .f32) (G : FVec Ideal S128 .f32) (W : FVec Ideal S128x512 .f32) :
    filled (keyWhole (keyHeads X G W) R) = plainKeys X R G W := by
  funext j
  obtain ⟨b, g, l, d, rfl⟩ : ∃ b g l d, j = ix4 b g l d := ⟨j 0, j 1, j 2, j 3, by idx_vars j⟩
  rw [plainKeys_at]
  by_cases h : d.val < 64
  · rw [filled_low _ b g l d (by omega), keyWhole_low _ _ b l g _ h, keyHeads_at, lanes_low _ _ d h]
  by_cases h' : d.val < 96
  · rw [filled_low _ b g l d (by omega), keyWhole_high _ _ b l g _ (by dsimp only; omega), lanes_mid _ _ d (by omega) h']
  · rw [filled_high _ b g l d (by omega), lanes_high _ _ d (by omega)]

/-- The values twice, heads before tokens. -/
def doubled (U : FVec Ideal S32x256x4x128 .f32) : FVec Ideal S32x4x256x128 .bf16 :=
  truncf .bf16 (transpose S32x4x256x128 [0, 2, 1, 3] (concatenate S32x256x4x128 3
    [⟨S32x256x4x64, extractStridedSlice S32x256x4x64 ![0, 0, 0, 64] U slices_S32x256x4x128_S32x256x4x64_0_0_0_64⟩,
     ⟨S32x256x4x64, extractStridedSlice S32x256x4x64 ![0, 0, 0, 64] U slices_S32x256x4x128_S32x256x4x64_0_0_0_64⟩]
    concatenates_S32x256x4x64_S32x256x4x64_S32x256x4x128_d3) transposes_S32x256x4x128_S32x4x256x128_0_2_1_3) bitsLt_bf16_f32

theorem doubled_at (U : FVec Ideal S32x256x4x128 .f32) (b : Fin 32) (g : Fin 4) (l : Fin 256) (d : Fin 128) :
    doubled U (ix4 b g l d) = U (ix4 b l g ⟨64 + d.val % 64, by omega⟩) := by
  pointwise [doubled]
  by_cases h : d.val < 64
  · refine (dif_pos h).trans ?_
    exact congrArg (fun j => U (ix4 b l g j)) (Fin.ext (by dsimp only; omega))
  · refine (dif_neg h).trans ?_
    exact congrArg (fun j => U (ix4 b l g j)) (Fin.ext (by dsimp only; omega))

theorem values_whole (X : FVec Ideal S32x256x128 .f32) (G : FVec Ideal S128 .f32) (W : FVec Ideal S128x512 .f32) :
    doubled (keyHeads X G W) = plainValues X G W := by
  funext j
  obtain ⟨b, g, l, d, rfl⟩ : ∃ b g l d, j = ix4 b g l d := ⟨j 0, j 1, j 2, j 3, by idx_vars j⟩
  rw [doubled_at, keyHeads_at, plainValues_at]
  exact congrArg (plainKeyAt X G W b l) (Fin.ext (by dsimp only; omega))

end Cert.Reference11Ideal.Mla
-- ==== Proof.MlaContext.lean ====
module
public import proofs.«01_k».proof.Defs
public import proofs.«01_k».proof.Proof.MlaContextKernel
public import proofs.«01_k».proof.Proof.MlaContextReference

/-! The preparation of the context's latent attention, its value claim: from equal arguments both programs end with the same queries, keys and values. -/

@[expose] public section
noncomputable section
open Idealize.ShloMosaic Idealize.ShloMosaic.TcCoe Idealize.SL.Sem
namespace Cert.MlaContext
open Cert.Kernel11Ideal.Mla Cert.Reference11Ideal.Mla Cert.Layer

/-- What the kernel's program ends with. -/
theorem kernel_ends (m : (ℓ : Loc Cert.Kernel11Ideal.nD Cert.Kernel11Ideal.τ Cert.Kernel11Ideal.sig) → Buf (Elt Ideal) ℓ) (g : Dev Cert.Kernel11Ideal.nD → PrngReg) :
    θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
        r.2.mem ((c.tc : Thread Cert.Kernel11Ideal.nD Cert.Kernel11Ideal.τ).loc Cert.Kernel11Ideal.main_v18_0) = plainQueries (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg5))
        ∧ r.2.mem ((c.tc : Thread Cert.Kernel11Ideal.nD Cert.Kernel11Ideal.τ).loc Cert.Kernel11Ideal.main_v18_1) = plainKeys (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg6))
        ∧ r.2.mem ((c.tc : Thread Cert.Kernel11Ideal.nD Cert.Kernel11Ideal.τ).loc Cert.Kernel11Ideal.main_v18_2) = plainValues (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg6))
        ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
        ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
        ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
        ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
        ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
        ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
        ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)) :=
  θ_run_mono (θ_run_and (Cert.Kernel11Ideal.Gen.unchanged m g) (Cert.Kernel11Ideal.Gen.run_main m g)) fun r h c =>
    ⟨((h.2 c).1 7).trans (final_queries m c), ((h.2 c).1 8).trans (final_keys m c), ((h.2 c).1 9).trans (final_values m c), h.1 c⟩

/-- What the reference's program ends with. -/
theorem reference_ends (m' : (ℓ : Loc Cert.Reference11Ideal.nD Cert.Reference11Ideal.τ Cert.Reference11Ideal.sig) → Buf (Elt Ideal) ℓ) (g' : Dev Cert.Reference11Ideal.nD → PrngReg) :
    θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
        r.2.mem ((c.tc : Thread Cert.Reference11Ideal.nD Cert.Reference11Ideal.τ).loc Cert.Reference11Ideal.main_v39) = plainQueries (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg5))
        ∧ r.2.mem ((c.tc : Thread Cert.Reference11Ideal.nD Cert.Reference11Ideal.τ).loc Cert.Reference11Ideal.main_v42) = plainKeys (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg6))
        ∧ r.2.mem ((c.tc : Thread Cert.Reference11Ideal.nD Cert.Reference11Ideal.τ).loc Cert.Reference11Ideal.main_v45) = plainValues (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg6))
        ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
        ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
        ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
        ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
        ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
        ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)) :=
  θ_run_mono (Cert.Reference11Ideal.Value.run m' g') fun r h c =>
    ⟨(h c).1.trans (queries_whole _ _ _), (h c).2.1.trans (keys_whole _ _ _ _), (h c).2.2.1.trans (values_whole _ _ _), (h c).2.2.2⟩

theorem algebraic : Cert.algebraic_Kernel11Ideal_Reference11Ideal := by
  intro m g m' g' _ hagree
  refine ⟨_, _, _, kernel_ends m g, θ_run_mono (reference_ends m' g') fun r h c => ?_⟩
  obtain ⟨e0, e1, e2, e3, e4, e5, e6⟩ := hagree c
  obtain ⟨h1, h2, h3, h4⟩ := h c
  rw [e0, e3, e5] at h1
  rw [e1, e2, e4, e6] at h2
  rw [e1, e4, e6] at h3
  exact ⟨h1, h2, h3, h4⟩

end Cert.MlaContext
-- ==== Proof.AttnContextKernel.lean ====
module
public import proofs.«01_k».proof.Proof.Gen.Kernel12Ideal.Frame
public import proofs.«01_k».proof.Proof.Softmax
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.Kernel12Ideal.Attn
open Cert.Kernel12Ideal Cert.Kernel12Ideal.Gen Cert.Softmax

/-- Softmax of one row of scores, weighting the values and dividing once at the end. -/
def once (s v : Fin 256 → EReal) : EReal :=
  Ideal.div (∑ k, Ideal.exp (s k - top s) * v k) (∑ k, Ideal.exp (s k - top s))

theorem once_congr {s t v w : Fin 256 → EReal} (h1 : ∀ k, s k = t k) (h2 : ∀ k, v k = w k) : once s v = once t w := by
  rw [funext h1, funext h2]

/-- One entry of a block: the row's query of head `h` against the keys, the values read at lane `e`. -/
def blockAt (x0 : FVec Ideal S1x4x256x128 .bf16) (x1 x2 : FVec Ideal S1x4x256x128 .bf16) (h : Fin 4) (r : Fin 256) (e : Fin 128) : EReal :=
  once (fun k : Fin 256 => ∑ d : Fin 128, x0 (ix4 0 h r d) * x1 (ix4 0 h k d)) (fun k => x2 (ix4 0 h k e))

theorem neg_inf : Ideal.ofBits .f32 (4286578688#32) = ⊥ := by
  simp [Ideal.ofBits, Ideal.ieee]

/-- The lane mask picks the first of two values on the lower 64 lanes and the second on the upper ones. -/
theorem select_lane {α : Type} (n : ℕ) (hn : n < 128) (a b : α) :
    Scalar.select (IntOp.cmpi .slt (BitVec.ofNat 32 n) 64#32) a b = if n < 64 then a else b := by
  have key : ∀ k : Fin 128, IntOp.cmpi .slt (BitVec.ofNat 32 k.val) 64#32 = if k.val < 64 then 1#1 else 0#1 := by
    decide +kernel
  rw [key ⟨n, hn⟩]
  by_cases hk : n < 64 <;> simp [hk, Scalar.select]

theorem block_eq (x0 : FVec Ideal S1x4x256x128 .bf16) (x1 x2 : FVec Ideal S1x4x256x128 .bf16) (y : S1x256x256.Idx)
    (g : Fin 4) (e : Fin 128) (r : Fin 256) (hg : (g : ℕ) = (y 2 : ℕ) / 64) (he : (e : ℕ) = (y 2 : ℕ) % 128) (hr : (r : ℕ) = y 1) :
    out0_3 (F := Ideal) x0 x1 x2 y = blockAt x0 x1 x2 g r e := by
  unfold_out out0_3
  canon_tiles x h
  case piece0 =>
    open_payloads
    pointwise [k0_pay8]
    obtain rfl : e = x 2 := Fin.ext (by omega)
    obtain rfl : r = x 1 := Fin.ext (by omega)
    rw [select_lane _ x2_lt, neg_inf]
    split_ifs with hx
    · obtain rfl : g = 2 := Fin.ext (by omega)
      rfl
    · obtain rfl : g = 3 := Fin.ext (by omega)
      rfl
  case piece1 =>
    open_payloads
    pointwise [k0_pay5]
    obtain rfl : e = x 2 := Fin.ext (by omega)
    obtain rfl : r = x 1 := Fin.ext (by omega)
    rw [select_lane _ x2_lt, neg_inf]
    split_ifs with hx
    · obtain rfl : g = 0 := Fin.ext (by omega)
      rfl
    · obtain rfl : g = 1 := Fin.ext (by omega)
      rfl

variable (m : (ℓ : Loc nD τ sig) → Buf (Elt Ideal) ℓ)

theorem idx : ∀ t : Fin cfg0.N, win0_0.index t = ![t.val, 0, 0, 0] ∧ win0_1.index t = ![t.val, 0, 0, 0]
    ∧ win0_2.index t = ![t.val, 0, 0, 0] ∧ win0_3.index t = ![t.val, 0, 0] ∧ t.val < 32 :=
  (by decide +kernel : ∀ t : Fin grid0.N, _)

/-- The whole array's entry at batch `b`, row `l`, output lane `j`: head `j / 64`, value lane `j % 128`. -/
def arrayAt (Q : FVec Ideal S32x4x256x128 .bf16) (K V : FVec Ideal S32x4x256x128 .bf16) (b : Fin 32) (g : Fin 4) (l : Fin 256) (e : Fin 128) : EReal :=
  once (fun k : Fin 256 => ∑ d : Fin 128, Q (ix4 b g l d) * K (ix4 b g k d)) (fun k => V (ix4 b g k e))

def array (Q : FVec Ideal S32x4x256x128 .bf16) (K V : FVec Ideal S32x4x256x128 .bf16) : FVec Ideal S32x256x256 .f32 := fun j =>
  arrayAt Q K V (j 0) ⟨(j 2 : ℕ) / 64, by idx_bounds; omega⟩ (j 1) ⟨(j 2 : ℕ) % 128, by omega⟩

theorem final (c : Dev nD) : (dats m 0 c).arrAt 3 (cfgs 0).N
    = array (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (block_eq _ _ _ y ⟨(y 2 : ℕ) / 64, by idx_bounds; omega⟩ ⟨(y 2 : ℕ) % 128, by omega⟩ (y 1) rfl rfl rfl).trans ?_
  refine once_congr ?_ ?_ <;> intro k
  all_goals blk_point [iblk, V, idx t]
end Cert.Kernel12Ideal.Attn
-- ==== Proof.AttnContextReference.lean ====
module
public import proofs.«01_k».proof.Proof.Gen.Reference12Ideal.Run
public import proofs.«01_k».proof.Proof.Softmax
public import Idealize.ShloMosaic.Lib.Pipeline.ValueKit
public import Idealize.ShloMosaic.Lib.Pointwise

/-! The plain latent attention of the context in the reference, read at one entry: softmax of one row of scores over the keys,
weighting the values of the head. The term is cut into scores, weights, values and the final product. -/

@[expose] public section
set_option maxRecDepth 16384
noncomputable section
open Idealize.ShloMosaic Idealize.ShloMosaic.TcCoe Idealize.SL.Sem
namespace Cert.Reference12Ideal.Attn
open Cert.Reference12Ideal Cert.Reference12Ideal.Gen Cert.Reference12Ideal.Value Cert.Softmax

/-- The keys (or values) in the reference's type. -/
def wide (A : FVec Ideal S32x4x256x128 .bf16) : FVec Ideal S32x4x256x128 .f32 := extf .f32 A bitsLt_bf16_f32

def scores (Q : FVec Ideal S32x4x256x128 .bf16) (K : FVec Ideal S32x4x256x128 .f32) : FVec Ideal S32x4x256x256 .f32 :=
  Host.dotGeneral dot_S32x4x256x128_S32x4x256x128_S32x4x256x256_3_3_2_2_01_01 none (extf .f32 Q bitsLt_bf16_f32) K

def rowMax (S : FVec Ideal S32x4x256x256 .f32) : FVec Ideal S32x4x256 .f32 :=
  Host.reduce FloatOps.maximumf S (constant S_ .f32 0xFF800000#32) reducesTo_S32x4x256x256_S32x4x256_d3 h_S_

def floor : FVec Ideal S32x4x256 .f32 := broadcastInDim S32x4x256 ![] bcast_S_S32x4x256 (constant S_ .f32 0xFF800000#32)

def expo (S : FVec Ideal S32x4x256x256 .f32) (N M : FVec Ideal S32x4x256 .f32) : FVec Ideal S32x4x256x256 .f32 :=
  Host.exp (subf S (broadcastInDim S32x4x256x256 ![0, 1, 2, 3] bcast_S32x4x256x1_S32x4x256x256_0_1_2_3 (broadcastInDim S32x4x256x1 ![0, 1, 2] bcast_S32x4x256_S32x4x256x1_0_1_2 (maximumf N M))))

def weights (E : FVec Ideal S32x4x256x256 .f32) : FVec Ideal S32x4x256x256 .f32 :=
  Host.divf E (broadcastInDim S32x4x256x256 ![0, 1, 2, 3] bcast_S32x4x256x1_S32x4x256x256_0_1_2_3 (broadcastInDim S32x4x256x1 ![0, 1, 2] bcast_S32x4x256_S32x4x256x1_0_1_2 (Host.reduceAdd E (constant S_ .f32 0x00000000#32) reducesTo_S32x4x256x256_S32x4x256_d3 h_S_)))

def values (V : FVec Ideal S32x4x256x128 .f32) : FVec Ideal S32x4x256x64 .f32 :=
  concatenate S32x4x256x64 1
    [⟨S32x1x256x64, broadcastInDim S32x1x256x64 ![0, 2, 3] bcast_S32x256x64_S32x1x256x64_0_2_3 (shapeCast S32x256x64 (extractStridedSlice S32x1x256x64 ![0, 0, 0, 0] V slices_S32x4x256x128_S32x1x256x64_0_0_0_0) shapeCasts_S32x1x256x64_S32x256x64)⟩,
     ⟨S32x1x256x64, broadcastInDim S32x1x256x64 ![0, 2, 3] bcast_S32x256x64_S32x1x256x64_0_2_3 (shapeCast S32x256x64 (extractStridedSlice S32x1x256x64 ![0, 1, 0, 64] V slices_S32x4x256x128_S32x1x256x64_0_1_0_64) shapeCasts_S32x1x256x64_S32x256x64)⟩,
     ⟨S32x1x256x64, broadcastInDim S32x1x256x64 ![0, 2, 3] bcast_S32x256x64_S32x1x256x64_0_2_3 (shapeCast S32x256x64 (extractStridedSlice S32x1x256x64 ![0, 2, 0, 0] V slices_S32x4x256x128_S32x1x256x64_0_2_0_0) shapeCasts_S32x1x256x64_S32x256x64)⟩,
     ⟨S32x1x256x64, broadcastInDim S32x1x256x64 ![0, 2, 3] bcast_S32x256x64_S32x1x256x64_0_2_3 (shapeCast S32x256x64 (extractStridedSlice S32x1x256x64 ![0, 3, 0, 64] V slices_S32x4x256x128_S32x1x256x64_0_3_0_64) shapeCasts_S32x1x256x64_S32x256x64)⟩]
    concatenates_S32x1x256x64_S32x1x256x64_S32x1x256x64_S32x1x256x64_S32x4x256x64_d1

def product (V : FVec Ideal S32x4x256x64 .f32) (W : FVec Ideal S32x4x256x256 .f32) : FVec Ideal S32x256x256 .f32 :=
  shapeCast S32x256x256 (transpose S32x256x4x64 [0, 3, 1, 2] (Host.dotGeneral dot_S32x4x256x64_S32x4x256x256_S32x4x64x256_2_3_3_2_01_01 none V W) transposes_S32x4x64x256_S32x256x4x64_0_3_1_2) shapeCasts_S32x256x4x64_S32x256x256

theorem wide_at (A : FVec Ideal S32x4x256x128 .bf16) (i : S32x4x256x128.Idx) : wide A i = A i := rfl

theorem scores_at (Q : FVec Ideal S32x4x256x128 .bf16) (K : FVec Ideal S32x4x256x128 .f32) (b : Fin 32) (h : Fin 4) (l : Fin 256) (k : Fin 256) :
    scores Q K (ix4 b h l k) = ∑ d : Fin 128, Q (ix4 b h l d) * K (ix4 b h k d) := by
  pointwise [scores]

theorem neg_inf : Ideal.ofBits .f32 (4286578688#32) = ⊥ := by
  simp [Ideal.ofBits, Ideal.ieee]

theorem floor_at (i : S32x4x256.Idx) : floor i = Ideal.ofBits .f32 (4286578688#32) := rfl

theorem rowMax_at (S : FVec Ideal S32x4x256x256 .f32) (b : Fin 32) (h : Fin 4) (l : Fin 256) :
    rowMax S (ix3 b h l) = Finset.univ.fold max (Ideal.ofBits .f32 (4286578688#32)) fun k : Fin 256 => S (ix4 b h l k) := by
  pointwise [rowMax]

theorem expo_at' (S : FVec Ideal S32x4x256x256 .f32) (N M : FVec Ideal S32x4x256 .f32) (b : Fin 32) (h : Fin 4) (l : Fin 256) (k : Fin 256) :
    expo S N M (ix4 b h l k) = Ideal.exp (S (ix4 b h l k) - max (N (ix3 b h l)) (M (ix3 b h l))) := by
  pointwise [expo]

theorem expo_at (S : FVec Ideal S32x4x256x256 .f32) (b : Fin 32) (h : Fin 4) (l : Fin 256) (k : Fin 256) :
    expo S floor (rowMax S) (ix4 b h l k) = Ideal.exp (S (ix4 b h l k) - max ⊥ (top fun k : Fin 256 => S (ix4 b h l k))) := by
  rw [expo_at', floor_at, rowMax_at, neg_inf, top]

theorem weights_at (E : FVec Ideal S32x4x256x256 .f32) (b : Fin 32) (h : Fin 4) (l : Fin 256) (k : Fin 256) :
    weights E (ix4 b h l k) = Ideal.div (E (ix4 b h l k)) (∑ k : Fin 256, E (ix4 b h l k)) := by
  pointwise [weights]

theorem values_at (V : FVec Ideal S32x4x256x128 .f32) (b : Fin 32) (h : Fin 4) (k : Fin 256) (e : Fin 64) :
    values V (ix4 b h k e) = V (ix4 b h k ⟨(h : ℕ) % 2 * 64 + e, by omega⟩) := by
  pointwise [values]
  fin_cases h <;> simp <;> rfl

theorem product_at (V : FVec Ideal S32x4x256x64 .f32) (W : FVec Ideal S32x4x256x256 .f32) (b : Fin 32) (l : Fin 256) (n : Fin 256) :
    product V W (ix3 b l n) = ∑ k : Fin 256, W (ix4 b ⟨(n : ℕ) / 64, by omega⟩ l k)
      * V (ix4 b ⟨(n : ℕ) / 64, by omega⟩ k ⟨(n : ℕ) % 64, by omega⟩) := by
  pointwise [product]
  exact Finset.sum_congr rfl fun k _ => mul_comm _ _

/-- Entry `j` of the attention: the softmax of its row of scores against the values of its head and lane. -/
theorem product_attend (S : FVec Ideal S32x4x256x256 .f32) (V : FVec Ideal S32x4x256x128 .f32) (b : Fin 32) (l : Fin 256) (n : Fin 256) :
    product (values V) (weights (expo S floor (rowMax S))) (ix3 b l n)
      = attend (fun k : Fin 256 => S (ix4 b ⟨(n : ℕ) / 64, by omega⟩ l k))
          (fun k => V (ix4 b ⟨(n : ℕ) / 64, by omega⟩ k ⟨(n : ℕ) % 128, by omega⟩)) := by
  rw [product_at, attend]
  refine Finset.sum_congr rfl fun k _ => ?_
  rw [weights_at, values_at]
  simp only [expo_at]
  congr 3
  apply Fin.ext
  simp only; omega

end Cert.Reference12Ideal.Attn
-- ==== Proof.AttnContext.lean ====
module
public import proofs.«01_k».proof.Defs
public import proofs.«01_k».proof.Proof.Gen.Pre_finite_qk12
public import proofs.«01_k».proof.Proof.AttnContextKernel
public import proofs.«01_k».proof.Proof.AttnContextReference
public import proofs.«01_k».proof.Proof.Attn

/-! The kernel's latent attention of the context is the reference's, when the queries and the keys are finite. -/

@[expose] public section
set_option maxRecDepth 16384
noncomputable section
open Idealize.ShloMosaic Idealize.ShloMosaic.TcCoe Idealize.SL.Sem
namespace Cert.AttnContext
open Cert.Softmax Cert.Attn

open Cert.Reference12Ideal Cert.Reference12Ideal.Attn in
/-- Kernel's array = reference's term, over variables. -/
theorem array_eq (Q : FVec Ideal S32x4x256x128 .bf16) (K V : FVec Ideal S32x4x256x128 .bf16)
    (hQ : ∀ i, IsReal (Q i)) (hK : ∀ i, IsReal (K i)) :
    product (values (wide V)) (weights (expo (scores Q (wide K)) floor (rowMax (scores Q (wide K)))))
      = Cert.Kernel12Ideal.Attn.array Q K V := by
  funext j
  obtain ⟨b, l, n, rfl⟩ : ∃ (b : Fin 32) (l : Fin 256) (n : Fin 256), j = ix3 b l n := ⟨j 0, j 1, j 2, by idx_vars j⟩
  rw [product_attend]
  have hs : ∀ k : Fin 256, IsReal (scores Q (wide K) (ix4 b ⟨(n : ℕ) / 64, by omega⟩ l k)) := fun k => by
    rw [scores_at]; exact isReal_dot _ _ (fun d => hQ _) (fun d => by rw [wide_at]; exact hK _)
  rw [attend_eq_div (by omega) _ _ hs]
  refine Cert.Kernel12Ideal.Attn.once_congr ?_ ?_ <;> intro k
  · rw [scores_at]; exact Finset.sum_congr rfl fun d _ => by rw [wide_at]; rfl
  · exact wide_at ..

open Cert.Kernel12Ideal in
/-- The precondition says that the queries and the keys are real numbers. -/
theorem real_of_pre (m : (ℓ : Loc nD τ sig) → Buf (Elt Ideal) ℓ) (h : Cert.Pre_Kernel12Ideal_finite_qk12 m) (c : Dev nD) :
    (∀ i, IsReal ((m ((c : Thread nD τ).loc main_arg0) : FVec Ideal S32x4x256x128 .bf16) i))
    ∧ (∀ i, IsReal ((m ((c : Thread nD τ).loc main_arg1) : FVec Ideal S32x4x256x128 .bf16) i)) :=
  ⟨fun i => isReal_of_test _ (congrFun (h c).1 i), fun i => isReal_of_test _ (congrFun (h c).2 i)⟩

theorem algebraic : Cert.algebraic_Kernel12Ideal_Reference12Ideal_pre_finite_qk12 := by
  pair_intro
  · run_from Cert.Kernel12Ideal.Gen.run_main m g
  · run_from Cert.Reference12Ideal.Value.run m' g'
    obtain ⟨e0, e1, e2⟩ := hagree c
    obtain ⟨hQ, hK⟩ := real_of_pre m hpre c
    rw [e2]
    exact (array_eq _ _ _ hQ hK).trans (Cert.Kernel12Ideal.Attn.final m c).symm

end Cert.AttnContext
-- ==== Proof.GqaContextKernel.lean ====
module
public import proofs.«01_k».proof.Proof.Gen.Kernel13Ideal.Frame
public import proofs.«01_k».proof.Proof.Softmax
public import Idealize.ShloMosaic.Lib.Pipeline.ValueKit
public import Idealize.ShloMosaic.Lib.Pointwise
/-! The grouped-query kernel's result as a function of its arguments: two heads of queries to each head of keys. -/

@[expose] public section
set_option maxRecDepth 16384
noncomputable section
open Idealize.ShloMosaic Idealize.ShloMosaic.TcCoe Idealize.SL.Sem
open Idealize.ShloMosaic.Pipeline (Dat)
namespace Cert.Kernel13Ideal.Gqa
open Cert.Kernel13Ideal Cert.Kernel13Ideal.Gen Cert.Softmax

/-- Softmax of one row of scores, weighting the values and dividing once at the end. -/
def once (s v : Fin 256 → EReal) : EReal :=
  Ideal.div (∑ k, Ideal.exp (s k - top s) * v k) (∑ k, Ideal.exp (s k - top s))

theorem once_congr {s t v w : Fin 256 → EReal} (h1 : ∀ k, s k = t k) (h2 : ∀ k, v k = w k) : once s v = once t w := by
  rw [funext h1, funext h2]

/-- One entry of a block: the row's query of head `h` against the keys, the values read at lane `e`. -/
def blockAt (x0 : FVec Ideal S1x4x256x128 .bf16) (x1 x2 : FVec Ideal S1x2x256x128 .bf16) (h : Fin 4) (r : Fin 256) (e : Fin 128) : EReal :=
  once (fun k : Fin 256 => ∑ d : Fin 128, x0 (ix4 0 h r d) * x1 (ix4 0 ⟨h.val / 2, by omega⟩ k d)) (fun k => x2 (ix4 0 ⟨h.val / 2, by omega⟩ k e))

theorem neg_inf : Ideal.ofBits .f32 (4286578688#32) = ⊥ := by
  simp [Ideal.ofBits, Ideal.ieee]

/-- The lane mask picks the first of two values on the lower 64 lanes and the second on the upper ones. -/
theorem select_lane {α : Type} (n : ℕ) (hn : n < 128) (a b : α) :
    Scalar.select (IntOp.cmpi .slt (BitVec.ofNat 32 n) 64#32) a b = if n < 64 then a else b := by
  have key : ∀ k : Fin 128, IntOp.cmpi .slt (BitVec.ofNat 32 k.val) 64#32 = if k.val < 64 then 1#1 else 0#1 := by
    decide +kernel
  rw [key ⟨n, hn⟩]
  by_cases hk : n < 64 <;> simp [hk, Scalar.select]

theorem block_eq (x0 : FVec Ideal S1x4x256x128 .bf16) (x1 x2 : FVec Ideal S1x2x256x128 .bf16) (y : S1x256x256.Idx)
    (g : Fin 4) (e : Fin 128) (r : Fin 256) (hg : (g : ℕ) = (y 2 : ℕ) / 64) (he : (e : ℕ) = (y 2 : ℕ) % 128) (hr : (r : ℕ) = y 1) :
    out0_3 (F := Ideal) x0 x1 x2 y = blockAt x0 x1 x2 g r e := by
  unfold_out out0_3
  canon_tiles x h
  case piece0 =>
    open_payloads
    pointwise [k0_pay8]
    obtain rfl : e = x 2 := Fin.ext (by omega)
    obtain rfl : r = x 1 := Fin.ext (by omega)
    rw [select_lane _ x2_lt, neg_inf]
    split_ifs with hx
    · obtain rfl : g = 2 := Fin.ext (by omega)
      rfl
    · obtain rfl : g = 3 := Fin.ext (by omega)
      rfl
  case piece1 =>
    open_payloads
    pointwise [k0_pay5]
    obtain rfl : e = x 2 := Fin.ext (by omega)
    obtain rfl : r = x 1 := Fin.ext (by omega)
    rw [select_lane _ x2_lt, neg_inf]
    split_ifs with hx
    · obtain rfl : g = 0 := Fin.ext (by omega)
      rfl
    · obtain rfl : g = 1 := Fin.ext (by omega)
      rfl

variable (m : (ℓ : Loc nD τ sig) → Buf (Elt Ideal) ℓ)

theorem idx : ∀ t : Fin cfg0.N, win0_0.index t = ![t.val, 0, 0, 0] ∧ win0_1.index t = ![t.val, 0, 0, 0]
    ∧ win0_2.index t = ![t.val, 0, 0, 0] ∧ win0_3.index t = ![t.val, 0, 0] ∧ t.val < 32 :=
  (by decide +kernel : ∀ t : Fin grid0.N, _)

/-- The whole array's entry at batch `b`, row `l`, output lane `j`: head `j / 64`, value lane `j % 128`. -/
def arrayAt (Q : FVec Ideal S32x4x256x128 .bf16) (K V : FVec Ideal S32x2x256x128 .bf16) (b : Fin 32) (g : Fin 4) (l : Fin 256) (e : Fin 128) : EReal :=
  once (fun k : Fin 256 => ∑ d : Fin 128, Q (ix4 b g l d) * K (ix4 b ⟨g.val / 2, by omega⟩ k d)) (fun k => V (ix4 b ⟨g.val / 2, by omega⟩ k e))

def array (Q : FVec Ideal S32x4x256x128 .bf16) (K V : FVec Ideal S32x2x256x128 .bf16) : FVec Ideal S32x256x256 .f32 := fun j =>
  arrayAt Q K V (j 0) ⟨(j 2 : ℕ) / 64, by idx_bounds; omega⟩ (j 1) ⟨(j 2 : ℕ) % 128, by omega⟩

theorem final (c : Dev nD) : (dats m 0 c).arrAt 3 (cfgs 0).N
    = array (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (block_eq _ _ _ y ⟨(y 2 : ℕ) / 64, by idx_bounds; omega⟩ ⟨(y 2 : ℕ) % 128, by omega⟩ (y 1) rfl rfl rfl).trans ?_
  refine once_congr ?_ ?_ <;> intro k
  all_goals blk_point [iblk, V, idx t]
end Cert.Kernel13Ideal.Gqa
-- ==== Proof.GqaContextReference.lean ====
module
public import proofs.«01_k».proof.Proof.Gen.Reference13Ideal.Run
public import proofs.«01_k».proof.Proof.Softmax
public import Idealize.ShloMosaic.Lib.Pipeline.ValueKit
public import Idealize.ShloMosaic.Lib.Pointwise

/-! The plain grouped-query attention of the context in the reference, read at one entry: softmax of one row of scores over the keys,
weighting the values of the head. The term is cut into scores, weights, values and the final product. -/

@[expose] public section
set_option maxRecDepth 16384
noncomputable section
open Idealize.ShloMosaic Idealize.ShloMosaic.TcCoe Idealize.SL.Sem
namespace Cert.Reference13Ideal.Gqa
open Cert.Reference13Ideal Cert.Reference13Ideal.Gen Cert.Reference13Ideal.Value Cert.Softmax

/-- The keys (or values) in the reference's type. -/
def wide (A : FVec Ideal S32x2x256x128 .bf16) : FVec Ideal S32x2x256x128 .f32 := extf .f32 A bitsLt_bf16_f32

/-- Each head of keys, twice. -/
def repeated (K : FVec Ideal S32x2x256x128 .f32) : FVec Ideal S32x4x256x128 .f32 :=
  shapeCast _ (broadcastInDim S32x2x2x256x128 ![0, 1, 3, 4] bcast_S32x2x256x128_S32x2x2x256x128_0_1_3_4 K) shapeCasts_S32x2x2x256x128_S32x4x256x128

theorem repeated_at (K : FVec Ideal S32x2x256x128 .f32) (b : Fin 32) (h : Fin 4) (k : Fin 256) (d : Fin 128) :
    repeated K (ix4 b h k d) = K (ix4 b ⟨(h : ℕ) / 2, by omega⟩ k d) := by
  pointwise [repeated]

def scores (Q : FVec Ideal S32x4x256x128 .bf16) (K : FVec Ideal S32x4x256x128 .f32) : FVec Ideal S32x4x256x256 .f32 :=
  Host.dotGeneral dot_S32x4x256x128_S32x4x256x128_S32x4x256x256_3_3_2_2_01_01 none (extf .f32 Q bitsLt_bf16_f32) K

def rowMax (S : FVec Ideal S32x4x256x256 .f32) : FVec Ideal S32x4x256 .f32 :=
  Host.reduce FloatOps.maximumf S (constant S_ .f32 0xFF800000#32) reducesTo_S32x4x256x256_S32x4x256_d3 h_S_

def floor : FVec Ideal S32x4x256 .f32 := broadcastInDim S32x4x256 ![] bcast_S_S32x4x256 (constant S_ .f32 0xFF800000#32)

def expo (S : FVec Ideal S32x4x256x256 .f32) (N M : FVec Ideal S32x4x256 .f32) : FVec Ideal S32x4x256x256 .f32 :=
  Host.exp (subf S (broadcastInDim S32x4x256x256 ![0, 1, 2, 3] bcast_S32x4x256x1_S32x4x256x256_0_1_2_3 (broadcastInDim S32x4x256x1 ![0, 1, 2] bcast_S32x4x256_S32x4x256x1_0_1_2 (maximumf N M))))

def weights (E : FVec Ideal S32x4x256x256 .f32) : FVec Ideal S32x4x256x256 .f32 :=
  Host.divf E (broadcastInDim S32x4x256x256 ![0, 1, 2, 3] bcast_S32x4x256x1_S32x4x256x256_0_1_2_3 (broadcastInDim S32x4x256x1 ![0, 1, 2] bcast_S32x4x256_S32x4x256x1_0_1_2 (Host.reduceAdd E (constant S_ .f32 0x00000000#32) reducesTo_S32x4x256x256_S32x4x256_d3 h_S_)))

def values (V : FVec Ideal S32x2x256x128 .f32) : FVec Ideal S32x4x256x64 .f32 :=
  concatenate S32x4x256x64 1
    [⟨S32x1x256x64, broadcastInDim S32x1x256x64 ![0, 2, 3] bcast_S32x256x64_S32x1x256x64_0_2_3 (shapeCast S32x256x64 (extractStridedSlice S32x1x256x64 ![0, 0, 0, 0] V slices_S32x2x256x128_S32x1x256x64_0_0_0_0) shapeCasts_S32x1x256x64_S32x256x64)⟩,
     ⟨S32x1x256x64, broadcastInDim S32x1x256x64 ![0, 2, 3] bcast_S32x256x64_S32x1x256x64_0_2_3 (shapeCast S32x256x64 (extractStridedSlice S32x1x256x64 ![0, 0, 0, 64] V slices_S32x2x256x128_S32x1x256x64_0_0_0_64) shapeCasts_S32x1x256x64_S32x256x64)⟩,
     ⟨S32x1x256x64, broadcastInDim S32x1x256x64 ![0, 2, 3] bcast_S32x256x64_S32x1x256x64_0_2_3 (shapeCast S32x256x64 (extractStridedSlice S32x1x256x64 ![0, 1, 0, 0] V slices_S32x2x256x128_S32x1x256x64_0_1_0_0) shapeCasts_S32x1x256x64_S32x256x64)⟩,
     ⟨S32x1x256x64, broadcastInDim S32x1x256x64 ![0, 2, 3] bcast_S32x256x64_S32x1x256x64_0_2_3 (shapeCast S32x256x64 (extractStridedSlice S32x1x256x64 ![0, 1, 0, 64] V slices_S32x2x256x128_S32x1x256x64_0_1_0_64) shapeCasts_S32x1x256x64_S32x256x64)⟩]
    concatenates_S32x1x256x64_S32x1x256x64_S32x1x256x64_S32x1x256x64_S32x4x256x64_d1

def product (V : FVec Ideal S32x4x256x64 .f32) (W : FVec Ideal S32x4x256x256 .f32) : FVec Ideal S32x256x256 .f32 :=
  shapeCast S32x256x256 (transpose S32x256x4x64 [0, 3, 1, 2] (Host.dotGeneral dot_S32x4x256x64_S32x4x256x256_S32x4x64x256_2_3_3_2_01_01 none V W) transposes_S32x4x64x256_S32x256x4x64_0_3_1_2) shapeCasts_S32x256x4x64_S32x256x256

theorem wide_at (A : FVec Ideal S32x2x256x128 .bf16) (i : S32x2x256x128.Idx) : wide A i = A i := rfl

theorem scores_at (Q : FVec Ideal S32x4x256x128 .bf16) (K : FVec Ideal S32x4x256x128 .f32) (b : Fin 32) (h : Fin 4) (l : Fin 256) (k : Fin 256) :
    scores Q K (ix4 b h l k) = ∑ d : Fin 128, Q (ix4 b h l d) * K (ix4 b h k d) := by
  pointwise [scores]

theorem neg_inf : Ideal.ofBits .f32 (4286578688#32) = ⊥ := by
  simp [Ideal.ofBits, Ideal.ieee]

theorem floor_at (i : S32x4x256.Idx) : floor i = Ideal.ofBits .f32 (4286578688#32) := rfl

theorem rowMax_at (S : FVec Ideal S32x4x256x256 .f32) (b : Fin 32) (h : Fin 4) (l : Fin 256) :
    rowMax S (ix3 b h l) = Finset.univ.fold max (Ideal.ofBits .f32 (4286578688#32)) fun k : Fin 256 => S (ix4 b h l k) := by
  pointwise [rowMax]

theorem expo_at' (S : FVec Ideal S32x4x256x256 .f32) (N M : FVec Ideal S32x4x256 .f32) (b : Fin 32) (h : Fin 4) (l : Fin 256) (k : Fin 256) :
    expo S N M (ix4 b h l k) = Ideal.exp (S (ix4 b h l k) - max (N (ix3 b h l)) (M (ix3 b h l))) := by
  pointwise [expo]

theorem expo_at (S : FVec Ideal S32x4x256x256 .f32) (b : Fin 32) (h : Fin 4) (l : Fin 256) (k : Fin 256) :
    expo S floor (rowMax S) (ix4 b h l k) = Ideal.exp (S (ix4 b h l k) - max ⊥ (top fun k : Fin 256 => S (ix4 b h l k))) := by
  rw [expo_at', floor_at, rowMax_at, neg_inf, top]

theorem weights_at (E : FVec Ideal S32x4x256x256 .f32) (b : Fin 32) (h : Fin 4) (l : Fin 256) (k : Fin 256) :
    weights E (ix4 b h l k) = Ideal.div (E (ix4 b h l k)) (∑ k : Fin 256, E (ix4 b h l k)) := by
  pointwise [weights]

theorem values_at (V : FVec Ideal S32x2x256x128 .f32) (b : Fin 32) (h : Fin 4) (k : Fin 256) (e : Fin 64) :
    values V (ix4 b h k e) = V (ix4 b ⟨(h : ℕ) / 2, by omega⟩ k ⟨(h : ℕ) % 2 * 64 + e, by omega⟩) := by
  pointwise [values]
  fin_cases h <;> simp <;> rfl

theorem product_at (V : FVec Ideal S32x4x256x64 .f32) (W : FVec Ideal S32x4x256x256 .f32) (b : Fin 32) (l : Fin 256) (n : Fin 256) :
    product V W (ix3 b l n) = ∑ k : Fin 256, W (ix4 b ⟨(n : ℕ) / 64, by omega⟩ l k)
      * V (ix4 b ⟨(n : ℕ) / 64, by omega⟩ k ⟨(n : ℕ) % 64, by omega⟩) := by
  pointwise [product]
  exact Finset.sum_congr rfl fun k _ => mul_comm _ _

variable (m : (ℓ : Loc nD τ sig) → Buf (Elt Ideal) ℓ)

/-- The scores of the memory's arguments. -/
def memScores (c : Dev nD) : FVec Ideal S32x4x256x256 .f32 :=
  scores (m ((c : Thread nD τ).loc main_arg0)) (repeated (wide (m ((c : Thread nD τ).loc main_arg1))))

/-- The reference's result is the cut term. -/
theorem res_eq (c : Dev nD) : res_main_v32 m c
    = product (values (wide (m ((c : Thread nD τ).loc main_arg2))))
        (weights (expo (memScores m c) floor (rowMax (memScores m c)))) := rfl

/-- Entry `j` of the attention: the softmax of its row of scores against the values of its head and lane. -/
theorem product_attend (S : FVec Ideal S32x4x256x256 .f32) (V : FVec Ideal S32x2x256x128 .f32) (b : Fin 32) (l : Fin 256) (n : Fin 256) :
    product (values V) (weights (expo S floor (rowMax S))) (ix3 b l n)
      = attend (fun k : Fin 256 => S (ix4 b ⟨(n : ℕ) / 64, by omega⟩ l k))
          (fun k => V (ix4 b ⟨(n : ℕ) / 64 / 2, by omega⟩ k ⟨(n : ℕ) % 128, by omega⟩)) := by
  rw [product_at, attend]
  refine Finset.sum_congr rfl fun k _ => ?_
  rw [weights_at, values_at]
  simp only [expo_at]
  congr 3
  apply Fin.ext
  simp only; omega

end Cert.Reference13Ideal.Gqa
-- ==== Proof.GqaContext.lean ====
module
public import proofs.«01_k».proof.Defs
public import proofs.«01_k».proof.Proof.Gen.Pre_finite_qk13
public import proofs.«01_k».proof.Proof.GqaContextKernel
public import proofs.«01_k».proof.Proof.GqaContextReference
public import proofs.«01_k».proof.Proof.Attn

/-! The kernel's grouped-query attention of the context is the reference's, when the queries and the keys are finite. -/

@[expose] public section
set_option maxRecDepth 16384
noncomputable section
open Idealize.ShloMosaic Idealize.ShloMosaic.TcCoe Idealize.SL.Sem
namespace Cert.GqaContext
open Cert.Softmax Cert.Attn

open Cert.Reference13Ideal Cert.Reference13Ideal.Gqa in
/-- Kernel's array = reference's term, over variables. -/
theorem array_eq (Q : FVec Ideal S32x4x256x128 .bf16) (K V : FVec Ideal S32x2x256x128 .bf16)
    (hQ : ∀ i, IsReal (Q i)) (hK : ∀ i, IsReal (K i)) :
    product (values (wide V)) (weights (expo (scores Q (repeated (wide K))) floor (rowMax (scores Q (repeated (wide K))))))
      = Cert.Kernel13Ideal.Gqa.array Q K V := by
  funext j
  obtain ⟨b, l, n, rfl⟩ : ∃ (b : Fin 32) (l : Fin 256) (n : Fin 256), j = ix3 b l n := ⟨j 0, j 1, j 2, by idx_vars j⟩
  rw [product_attend]
  have hs : ∀ k : Fin 256, IsReal (scores Q (repeated (wide K)) (ix4 b ⟨(n : ℕ) / 64, by omega⟩ l k)) := fun k => by
    rw [scores_at]; exact isReal_dot _ _ (fun d => hQ _) (fun d => by rw [repeated_at, wide_at]; exact hK _)
  rw [attend_eq_div (by omega) _ _ hs]
  refine Cert.Kernel13Ideal.Gqa.once_congr ?_ ?_ <;> intro k
  · rw [scores_at]; exact Finset.sum_congr rfl fun d _ => by rw [repeated_at, wide_at]; rfl
  · exact wide_at ..

open Cert.Kernel13Ideal in
/-- The precondition says that the queries and the keys are real numbers. -/
theorem real_of_pre (m : (ℓ : Loc nD τ sig) → Buf (Elt Ideal) ℓ) (h : Cert.Pre_Kernel13Ideal_finite_qk13 m) (c : Dev nD) :
    (∀ i, IsReal ((m ((c : Thread nD τ).loc main_arg0) : FVec Ideal S32x4x256x128 .bf16) i))
    ∧ (∀ i, IsReal ((m ((c : Thread nD τ).loc main_arg1) : FVec Ideal S32x2x256x128 .bf16) i)) :=
  ⟨fun i => isReal_of_test _ (congrFun (h c).1 i), fun i => isReal_of_test _ (congrFun (h c).2 i)⟩

theorem algebraic : Cert.algebraic_Kernel13Ideal_Reference13Ideal_pre_finite_qk13 := by
  pair_intro
  · run_from Cert.Kernel13Ideal.Gen.run_main m g
  · run_from Cert.Reference13Ideal.Value.run m' g'
    obtain ⟨e0, e1, e2⟩ := hagree c
    obtain ⟨hQ, hK⟩ := real_of_pre m hpre c
    refine (Cert.Reference13Ideal.Gqa.res_eq m' c).trans ?_
    unfold Cert.Reference13Ideal.Gqa.memScores
    rw [e0, e1, e2]
    exact (array_eq _ _ _ hQ hK).trans (Cert.Kernel13Ideal.Gqa.final m c).symm

end Cert.GqaContext
-- ==== Proof.ModulationKernel.lean ====
module
public import proofs.«01_k».proof.Proof.Gen.Kernel14Ideal.Frame
public import Idealize.ShloMosaic.Lib.Pipeline.ValueKit
public import Idealize.ShloMosaic.Lib.Pointwise

/-! The modulation kernel's result as a function of its arguments, computed tile by tile of 1024 columns. -/

@[expose] public section
set_option maxRecDepth 16384
noncomputable section
open Idealize.ShloMosaic Idealize.ShloMosaic.TcCoe Idealize.SL.Sem
open Idealize.ShloMosaic.Pipeline (Dat)

/-- Layer `i`'s modulation vectors: each row of the conditioning vectors, gated by its own logistic, through the layer's projection, plus its bias. -/
def Cert.Modulation.modulation (C : FVec Ideal (⟨2, ![40, 1024]⟩ : Shape) .f32) (W : FVec Ideal (⟨3, ![2, 1024, 6144]⟩ : Shape) .f32)
    (B : FVec Ideal (⟨2, ![2, 6144]⟩ : Shape) .f32) : FVec Ideal (⟨3, ![2, 40, 6144]⟩ : Shape) .f32 := fun j =>
  (∑ d : Fin 1024, C (ix2 (j 1) d) * Ideal.logistic (C (ix2 (j 1) d)) * W (ix3 (j 0) d (j 2))) + B (ix2 (j 0) (j 2))

namespace Cert.Kernel14Ideal.Modulation
open Cert.Kernel14Ideal Cert.Kernel14Ideal.Gen Cert.Modulation

theorem block_eq (x0 : FVec Ideal S40x1024 .f32) (x1 : FVec Ideal S1x1024x1024 .f32) (x2 : FVec Ideal S1x1x1024 .f32) (r : Fin 40) (n : Fin 1024) :
    out0_3 (F := Ideal) x0 x1 x2 (ix3 0 r n)
      = (∑ d : Fin 1024, x0 (ix2 r d) * Ideal.logistic (x0 (ix2 r d)) * x1 (ix3 0 d n)) + x2 (ix3 0 0 n) := by
  unfold out0_3
  canon_tiles x h
  open_payloads
  pointwise [k0_pay1]
  obtain ⟨a, r', n', rfl⟩ : ∃ a r' n', x = ix3 a r' n' := ⟨x 0, x 1, x 2, by idx_vars x⟩
  obtain rfl : a = 0 := Subsingleton.elim _ _
  obtain rfl : r' = r := Fin.ext h1.symm
  obtain rfl : n' = n := Fin.ext h2.symm
  rfl

variable (m : (ℓ : Loc nD τ sig) → Buf (Elt Ideal) ℓ)

theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 12 :=
  (by decide +kernel : ∀ t : Fin grid0.N, _)

theorem c_at (c : Dev nD) (t : Fin cfg0.N) (r : Fin 40) (d : Fin 1024) :
    (iblk m c 0 t : Vec Ideal S40x1024 .f32) (ix2 r d) = m ((c : Thread nD τ).loc main_arg0) (ix2 r d) := by
  blk_point [iblk, V, idx t]

theorem w_at (c : Dev nD) (t : Fin cfg0.N) (d n : Fin 1024) (i : Fin 2) (k : Fin 6144) (hi : (i : ℕ) = t.val / 6) (hk : (k : ℕ) = t.val % 6 * 1024 + n) :
    (iblk m c 1 t : Vec Ideal S1x1024x1024 .f32) (ix3 0 d n) = m ((c : Thread nD τ).loc main_arg1) (ix3 i d k) := by
  blk_point [iblk, V, idx t]

theorem b_at (c : Dev nD) (t : Fin cfg0.N) (n : Fin 1024) (i : Fin 2) (k : Fin 6144) (hi : (i : ℕ) = t.val / 6) (hk : (k : ℕ) = t.val % 6 * 1024 + n) :
    (iblk m c 2 t : Vec Ideal S1x1x1024 .f32) (ix3 0 0 n) = m ((c : Thread nD τ).loc main_arg2) (ix2 i k) := by
  blk_point [iblk, V, idx t]

theorem final (c : Dev nD) : (dats m 0 c).arrAt 3 (cfgs 0).N
    = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := (idx t).2.2.2.2
  blk_simp
  rw [after0_3]
  obtain ⟨r, n, rfl⟩ : ∃ (r : Fin 40) (n : Fin 1024), y = (ix3 0 r n : S1x40x1024.Idx) := ⟨y 1, y 2, by idx_vars y; rw [Fin.eq_zero y0]⟩
  have hi : ((⟨t.val / 6, by omega⟩ : Fin 2) : ℕ) = t.val / 6 := rfl
  have hk : ((⟨t.val % 6 * 1024 + n.val, by omega⟩ : Fin 6144) : ℕ) = t.val % 6 * 1024 + n := rfl
  refine (block_eq _ _ _ r n).trans (Eq.trans (b := modulation (m ((c : Thread nD τ).loc main_arg0)) (m ((c : Thread nD τ).loc main_arg1))
        (m ((c : Thread nD τ).loc main_arg2)) (ix3 ⟨t.val / 6, by omega⟩ r ⟨t.val % 6 * 1024 + n.val, by omega⟩)) ?_ ?_)
  · unfold modulation
    simp only [c_at m c t, w_at m c t _ _ _ _ hi hk, b_at m c t _ _ _ hi hk]
    rfl
  · congr 1
    blk_ext [idx t]

end Cert.Kernel14Ideal.Modulation
-- ==== Proof.ModulationReference.lean ====
module
public import proofs.«01_k».proof.Proof.Gen.Reference14Ideal.Run
public import proofs.«01_k».proof.Proof.ModulationKernel

/-! The plain modulation vectors of the reference, read at one entry. -/

@[expose] public section
set_option maxRecDepth 16384
noncomputable section
open Idealize.ShloMosaic Idealize.ShloMosaic.TcCoe Idealize.SL.Sem
namespace Cert.Reference14Ideal.Modulation
open Cert.Reference14Ideal Cert.Reference14Ideal.Gen Cert.Modulation

def gated (C : FVec Ideal S40x1024 .f32) : FVec Ideal S40x1024 .f32 :=
  mulf C (Host.divf (broadcastInDim S40x1024 ![] bcast_S_S40x1024 (constant S_ .f32 0x3F800000#32)) (addf (broadcastInDim S40x1024 ![] bcast_S_S40x1024 (constant S_ .f32 0x3F800000#32)) (Host.exp (Host.negf C))))

theorem gated_at (C : FVec Ideal S40x1024 .f32) (r : Fin 40) (d : Fin 1024) :
    gated C (ix2 r d) = C (ix2 r d) * Ideal.logistic (C (ix2 r d)) := by
  pointwise [gated]
  rfl

/-- One layer: its projection of the gated rows, plus its bias on every row, as a stack of one. -/
def layer (G : FVec Ideal S40x1024 .f32) (w : FVec Ideal S1x1024x6144 .f32) (b : FVec Ideal S1x6144 .f32) : FVec Ideal S1x40x6144 .f32 :=
  broadcastInDim S1x40x6144 ![1, 2] bcast_S40x6144_S1x40x6144_1_2 (addf (Host.dotGeneral dot_S40x1024_S1024x6144_S40x6144_1_0_0_1_n_n none G (shapeCast S1024x6144 w shapeCasts_S1x1024x6144_S1024x6144)) (broadcastInDim S40x6144 ![0, 1] bcast_S1x6144_S40x6144_0_1 (broadcastInDim S1x6144 ![1] bcast_S6144_S1x6144_1 (shapeCast S6144 b shapeCasts_S1x6144_S6144))))

theorem layer_at (G : FVec Ideal S40x1024 .f32) (w : FVec Ideal S1x1024x6144 .f32) (b : FVec Ideal S1x6144 .f32) (r : Fin 40) (n : Fin 6144) :
    layer G w b (ix3 0 r n) = (∑ d : Fin 1024, G (ix2 r d) * w (ix3 0 d n)) + b (ix2 0 n) := by
  pointwise [layer]

def stacked (L L' : FVec Ideal S1x40x6144 .f32) : FVec Ideal S2x40x6144 .f32 :=
  concatenate S2x40x6144 0 [⟨S1x40x6144, L⟩, ⟨S1x40x6144, L'⟩] concatenates_S1x40x6144_S1x40x6144_S2x40x6144_d0

theorem stacked_at (L L' : FVec Ideal S1x40x6144 .f32) (i : Fin 2) (r : Fin 40) (n : Fin 6144) :
    stacked L L' (ix3 i r n) = if i = 0 then L (ix3 0 r n) else L' (ix3 0 r n) := by
  fin_cases i <;> pointwise [stacked]

def whole (C : FVec Ideal S40x1024 .f32) (W : FVec Ideal S2x1024x6144 .f32) (B : FVec Ideal S2x6144 .f32) : FVec Ideal S2x40x6144 .f32 :=
  stacked (layer (gated C) (extractStridedSlice S1x1024x6144 ![0, 0, 0] W slices_S2x1024x6144_S1x1024x6144_0_0_0) (extractStridedSlice S1x6144 ![0, 0] B slices_S2x6144_S1x6144_0_0))
    (layer (gated C) (extractStridedSlice S1x1024x6144 ![1, 0, 0] W slices_S2x1024x6144_S1x1024x6144_1_0_0) (extractStridedSlice S1x6144 ![1, 0] B slices_S2x6144_S1x6144_1_0))

theorem w0_at (W : FVec Ideal S2x1024x6144 .f32) (d : Fin 1024) (n : Fin 6144) :
    extractStridedSlice S1x1024x6144 ![0, 0, 0] W slices_S2x1024x6144_S1x1024x6144_0_0_0 (ix3 0 d n) = W (ix3 0 d n) := by
  pointwise []

theorem w1_at (W : FVec Ideal S2x1024x6144 .f32) (d : Fin 1024) (n : Fin 6144) :
    extractStridedSlice S1x1024x6144 ![1, 0, 0] W slices_S2x1024x6144_S1x1024x6144_1_0_0 (ix3 0 d n) = W (ix3 1 d n) := by
  pointwise []

theorem b0_at (B : FVec Ideal S2x6144 .f32) (n : Fin 6144) :
    extractStridedSlice S1x6144 ![0, 0] B slices_S2x6144_S1x6144_0_0 (ix2 0 n) = B (ix2 0 n) := by
  pointwise []

theorem b1_at (B : FVec Ideal S2x6144 .f32) (n : Fin 6144) :
    extractStridedSlice S1x6144 ![1, 0] B slices_S2x6144_S1x6144_1_0 (ix2 0 n) = B (ix2 1 n) := by
  pointwise []

/-- The reference's result is both layers' modulation vectors. -/
theorem whole_eq (C : FVec Ideal S40x1024 .f32) (W : FVec Ideal S2x1024x6144 .f32) (B : FVec Ideal S2x6144 .f32) :
    whole C W B = modulation C W B := by
  funext j
  obtain ⟨i, r, n, rfl⟩ : ∃ (i : Fin 2) (r : Fin 40) (n : Fin 6144), j = ix3 i r n := ⟨j 0, j 1, j 2, by idx_vars j⟩
  rw [whole, stacked_at, layer_at, layer_at, b0_at, b1_at]
  simp only [gated_at, w0_at, w1_at]
  fin_cases i <;> rfl

end Cert.Reference14Ideal.Modulation
-- ==== Proof.Modulation.lean ====
module
public import proofs.«01_k».proof.Defs
public import proofs.«01_k».proof.Proof.ModulationKernel
public import proofs.«01_k».proof.Proof.ModulationReference

/-! The modulation vectors' value claim: from equal arguments both programs end with the same result. -/

@[expose] public section
noncomputable section
open Idealize.ShloMosaic Idealize.ShloMosaic.TcCoe Idealize.SL.Sem
namespace Cert.Modulation

/-- What the reference's program ends with. -/
theorem reference_ends (m' : (ℓ : Loc Cert.Reference14Ideal.nD Cert.Reference14Ideal.τ Cert.Reference14Ideal.sig) → Buf (Elt Ideal) ℓ) (g' : Dev Cert.Reference14Ideal.nD → PrngReg) :
    θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
        r.2.mem ((c.tc : Thread Cert.Reference14Ideal.nD Cert.Reference14Ideal.τ).loc Cert.Reference14Ideal.main_v19) = modulation (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2))
        ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
        ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
        ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)) :=
  θ_run_mono (Cert.Reference14Ideal.Value.run m' g') fun r h c =>
    ⟨(h c).1.trans (Cert.Reference14Ideal.Modulation.whole_eq _ _ _), (h c).2⟩

/-- What the kernel's program ends with. -/
theorem kernel_ends (m : (ℓ : Loc Cert.Kernel14Ideal.nD Cert.Kernel14Ideal.τ Cert.Kernel14Ideal.sig) → Buf (Elt Ideal) ℓ) (g : Dev Cert.Kernel14Ideal.nD → PrngReg) :
    θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
        r.2.mem ((c.tc : Thread Cert.Kernel14Ideal.nD Cert.Kernel14Ideal.τ).loc Cert.Kernel14Ideal.main_v1) = modulation (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))
        ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
        ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
        ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)) :=
  θ_run_mono (θ_run_and (Cert.Kernel14Ideal.Gen.unchanged m g) (Cert.Kernel14Ideal.Gen.run_main m g)) fun r h c =>
    ⟨((h.2 c).1 3).trans (Cert.Kernel14Ideal.Modulation.final m c), h.1 c⟩

theorem algebraic : Cert.algebraic_Kernel14Ideal_Reference14Ideal := by
  intro m g m' g' _ hagree
  refine ⟨_, kernel_ends m g, θ_run_mono (reference_ends m' g') fun r h c => ?_⟩
  obtain ⟨e0, e1, e2⟩ := hagree c
  obtain ⟨h1, h2⟩ := h c
  rw [e0, e1, e2] at h1
  exact ⟨h1, h2⟩

end Cert.Modulation
-- ==== Proof.FiltersKernel.lean ====
module
public import proofs.«01_k».proof.Proof.Gen.Kernel15Ideal.Frame
public import Idealize.ShloMosaic.Lib.Pipeline.ValueKit
public import Idealize.ShloMosaic.Lib.Pointwise

/-! What the filter kernel's body leaves in its block of 512 columns. -/

@[expose] public section
set_option maxRecDepth 16384
noncomputable section
open Idealize.ShloMosaic Idealize.ShloMosaic.TcCoe Idealize.SL.Sem
open Idealize.ShloMosaic.Pipeline (Dat)

namespace Cert.Kernel15Ideal.Filters
open Cert.Kernel15Ideal Cert.Kernel15Ideal.Gen

/-- One layer of the small network. -/
def hidden (H : FVec Ideal S2048x64 .f32) (W : FVec Ideal S64x64 .f32) (B F : FVec Ideal S1x64 .f32) : FVec Ideal S2048x64 .f32 :=
  sin (mulf (broadcastTo S2048x64 F broadcasts_S1x64_S2048x64) (addf (matmul dot_S2048x64_S64x64_S2048x64_1_0_0_1_n_n (some .fp32) H W (constant S2048x64 .f32 0x00000000#32)) (broadcastTo S2048x64 B broadcasts_S1x64_S2048x64)))

theorem hidden_at (H : FVec Ideal S2048x64 .f32) (W : FVec Ideal S64x64 .f32) (B F : FVec Ideal S1x64 .f32) (l : Fin 2048) (k : Fin 64) :
    hidden H W B F (ix2 l k) = FloatOps.sin (F := Ideal) (φ := .f32) (F (ix2 0 k) * ((∑ d : Fin 64, H (ix2 l d) * W (ix2 d k)) + B (ix2 0 k))) := by
  pointwise [hidden]

theorem pay1_at (v : FVec Ideal S2048x512 .f32) (T : FVec Ideal S2048x1 .f32) (D : FVec Ideal S1x512 .f32) (l : Fin 2048) (n : Fin 512) :
    k0_pay1 (F := Ideal) v T D (ix2 l n) = v (ix2 l n) * (Ideal.exp (-T (ix2 l 0) * D (ix2 0 n)) + Ideal.ofBits .f32 0x3D4CCCCD#32) := by
  pointwise [k0_pay1]
  rw [zero_sub]

theorem pay2_at (v : FVec Ideal S2048x512 .f32) (T : FVec Ideal S2048x1 .f32) (D : FVec Ideal S1x512 .f32) (l : Fin 2048) (n : Fin 256) :
    k0_pay2 (F := Ideal) v T D (ix2 l n) = k0_pay1 (F := Ideal) v T D (ix2 l ⟨n.val, by omega⟩) := by
  pointwise [k0_pay2]

theorem pay3_at (v : FVec Ideal S2048x512 .f32) (T : FVec Ideal S2048x1 .f32) (D : FVec Ideal S1x512 .f32) (l : Fin 2048) (n : Fin 256) :
    k0_pay3 (F := Ideal) v T D (ix2 l n) = if l = 0 then 0 else k0_pay1 (F := Ideal) v T D (ix2 l ⟨256 + n.val, by omega⟩) := by
  pointwise [k0_pay3]
  by_cases h : l = 0
  · subst h
    rfl
  · have hl : l.val ≠ 0 := fun e => h (Fin.ext e)
    have hb : BitVec.ofNat 32 l.val ≠ 0#32 := fun e => hl (by
      have := congrArg BitVec.toNat e
      simp only [BitVec.toNat_ofNat] at this
      omega)
    rw [if_neg h]
    have hz : IntOp.cmpi .eq (BitVec.ofNat 32 l.val) 0#32 = 0#1 := by
      simp only [IntOp.cmpi]
      rw [beq_eq_false_iff_ne.2 hb]
      rfl
    rw [hz]
    rfl

theorem pay4_at (v : FVec Ideal S2048x512 .f32) (T : FVec Ideal S2048x1 .f32) (D : FVec Ideal S1x512 .f32) (n : Fin 256) :
    k0_pay4 (F := Ideal) v T D (ix2 0 n) = (∑ l : Fin 2048, FloatOps.absf (F := Ideal) (φ := .f32) (k0_pay2 (F := Ideal) v T D (ix2 l n)))
      + ∑ l : Fin 2048, FloatOps.absf (F := Ideal) (φ := .f32) (k0_pay3 (F := Ideal) v T D (ix2 l n)) := by
  pointwise [k0_pay4]

theorem pay7_eq (F : FVec Ideal S1x64 .f32) (Z : FVec Ideal S2048x64 .f32) (W1 : FVec Ideal S64x64 .f32) (B1 : FVec Ideal S1x64 .f32) (W2 : FVec Ideal S64x64 .f32) (B2 : FVec Ideal S1x64 .f32) (W3 : FVec Ideal S64x64 .f32) (B3 : FVec Ideal S1x64 .f32) (W4 : FVec Ideal S64x512 .f32) (l : Fin 2048) (n : Fin 512) :
    k0_pay7 (F := Ideal) F Z W1 B1 W2 B2 W3 B3 W4 (ix2 l n) = ∑ d : Fin 64, hidden (hidden (hidden Z W1 B1 F) W2 B2 F) W3 B3 F (ix2 l d) * W4 (ix2 d n) := by
  have e : k0_pay7 (F := Ideal) F Z W1 B1 W2 B2 W3 B3 W4 = matmul dot_S2048x64_S64x512_S2048x512_1_0_0_1_n_n (some .fp32) (hidden (hidden (hidden Z W1 B1 F) W2 B2 F) W3 B3 F) W4 (constant S2048x512 .f32 0x00000000#32) := by
    unfold k0_pay7 hidden
    simp only [shapeCast_self]
  rw [e]
  generalize hidden (hidden (hidden Z W1 B1 F) W2 B2 F) W3 B3 F = H
  pointwise []

/-- The unnormalized filter of one block, its column `n` at lag `l`. -/
def raw (x0 : FVec Ideal S2048x64 .f32) (x1 : FVec Ideal S2048x1 .f32) (x2 : FVec Ideal S64x64 .f32) (x3 : FVec Ideal S1x64 .f32) (x4 : FVec Ideal S64x64 .f32) (x5 : FVec Ideal S1x64 .f32) (x6 : FVec Ideal S64x64 .f32) (x7 x8 : FVec Ideal S1x64 .f32) (x9 : FVec Ideal S64x512 .f32) (x10 : FVec Ideal S1x512 .f32) : FVec Ideal S2048x512 .f32 :=
  k0_pay1 (k0_pay7 x8 x0 x2 x3 x4 x5 x6 x7 x9) x1 x10

theorem pay5_at (v : FVec Ideal S2048x512 .f32) (T : FVec Ideal S2048x1 .f32) (D : FVec Ideal S1x512 .f32) (l : Fin 2048) (n : Fin 256) :
    k0_pay5 (F := Ideal) v T D (ix2 l n) = Ideal.div (k0_pay2 (F := Ideal) v T D (ix2 l n)) (k0_pay4 (F := Ideal) v T D (ix2 0 n)) := by
  pointwise [k0_pay5]

theorem pay6_at (v : FVec Ideal S2048x512 .f32) (T : FVec Ideal S2048x1 .f32) (D : FVec Ideal S1x512 .f32) (l : Fin 2048) (n : Fin 256) :
    k0_pay6 (F := Ideal) v T D (ix2 l n) = Ideal.div (k0_pay3 (F := Ideal) v T D (ix2 l n)) (k0_pay4 (F := Ideal) v T D (ix2 0 n)) := by
  pointwise [k0_pay6]

theorem ld0 (x : FVec Ideal S1x64 .f32) : View.ld (Val := Elt Ideal) (e' := .f32) x r0_0 = x :=
  View.ld_unit_lit (Val := Elt Ideal) (S := S1x64) (e := .f32) _ x (by decide)

theorem ld1 (x : FVec Ideal S2048x64 .f32) : View.ld (Val := Elt Ideal) (e' := .f32) x r0_1 = x :=
  View.ld_unit_lit (Val := Elt Ideal) (S := S2048x64) (e := .f32) _ x (by decide)

theorem ld2 (x : FVec Ideal S64x64 .f32) : View.ld (Val := Elt Ideal) (e' := .f32) x r0_2 = x :=
  View.ld_unit_lit (Val := Elt Ideal) (S := S64x64) (e := .f32) _ x (by decide)

theorem ld3 (x : FVec Ideal S64x512 .f32) : View.ld (Val := Elt Ideal) (e' := .f32) x r0_3 = x :=
  View.ld_unit_lit (Val := Elt Ideal) (S := S64x512) (e := .f32) _ x (by decide)

theorem ld4 (x : FVec Ideal S2048x1 .f32) : View.ld (Val := Elt Ideal) (e' := .f32) x r0_4 = x :=
  View.ld_unit_lit (Val := Elt Ideal) (S := S2048x1) (e := .f32) _ x (by decide)

theorem ld5 (x : FVec Ideal S1x512 .f32) : View.ld (Val := Elt Ideal) (e' := .f32) x r0_5 = x :=
  View.ld_unit_lit (Val := Elt Ideal) (S := S1x512) (e := .f32) _ x (by decide)

theorem block_eq (x0 : FVec Ideal S2048x64 .f32) (x1 : FVec Ideal S2048x1 .f32) (x2 : FVec Ideal S64x64 .f32) (x3 : FVec Ideal S1x64 .f32) (x4 : FVec Ideal S64x64 .f32) (x5 : FVec Ideal S1x64 .f32) (x6 : FVec Ideal S64x64 .f32) (x7 x8 : FVec Ideal S1x64 .f32) (x9 : FVec Ideal S64x512 .f32) (x10 : FVec Ideal S1x512 .f32) (l : Fin 2048) (n : Fin 512) :
    out0_11 (F := Ideal) x0 x1 x2 x3 x4 x5 x6 x7 x8 x9 x10 (ix2 l n)
      = Ideal.div (if 256 ≤ n.val ∧ l = 0 then 0 else raw x0 x1 x2 x3 x4 x5 x6 x7 x8 x9 x10 (ix2 l n))
        (k0_pay4 (F := Ideal) (k0_pay7 x8 x0 x2 x3 x4 x5 x6 x7 x9) x1 x10 (ix2 0 ⟨n.val % 256, by omega⟩)) := by
  unfold raw
  unfold_out out0_11
  canon_tiles x h
  all_goals
    rw [ld0 x3, ld0 x5, ld0 x7, ld0 x8, ld1, ld2 x2, ld2 x4, ld2 x6, ld3, ld4, ld5]
    obtain ⟨l', c, rfl⟩ : ∃ (l' : Fin 2048) (c : Fin 256), x = ix2 l' c := ⟨x 0, x 1, by idx_vars x⟩
    generalize k0_pay7 (F := Ideal) x8 x0 x2 x3 x4 x5 x6 x7 x9 = v
    obtain rfl : l' = l := Fin.ext h0.symm
  · have hn : n.val = 256 + c.val := h1
    have e : (⟨n.val % 256, by omega⟩ : Fin 256) = c := Fin.ext (by dsimp only; omega)
    have e' : n = ⟨256 + c.val, by omega⟩ := Fin.ext hn
    rw [e, e', pay6_at, pay3_at]
    simp
  · have hn : n.val = c.val := h1
    have e : (⟨n.val % 256, by omega⟩ : Fin 256) = c := Fin.ext (by dsimp only; omega)
    have e' : n = ⟨c.val, by omega⟩ := Fin.ext hn
    rw [e, e', pay5_at, pay2_at, if_neg (by dsimp only; omega)]

end Cert.Kernel15Ideal.Filters
-- ==== Proof.FiltersReference.lean ====
module
public import proofs.«01_k».proof.Proof.Gen.Reference15Ideal.Run
public import Idealize.ShloMosaic.Lib.Pointwise

/-! The long filters, written as plain sums, and the reference's result read as them. -/

@[expose] public section
set_option maxRecDepth 16384
noncomputable section
open Idealize.ShloMosaic Idealize.ShloMosaic.TcCoe Idealize.SL.Sem

namespace Cert.Filters

abbrev Mat (a b : ℕ) := FVec Ideal (⟨2, ![a, b]⟩ : Shape) .f32
abbrev Row (a : ℕ) := FVec Ideal (⟨1, ![a]⟩ : Shape) .f32

/-- One layer of the filter network: an affine map, each unit scaled by its own frequency, then the sine. -/
def layer {n : ℕ} (H : Fin 2048 → Fin n → EReal) (W : Mat n 64) (B F : Row 64) (l : Fin 2048) (k : Fin 64) : EReal :=
  FloatOps.sin (F := Ideal) (φ := .f32) (F (ix1 k) * ((∑ d : Fin n, H l d * W (ix2 d k)) + B (ix1 k)))

/-- The filters before normalization: the network's last linear map under the exponential window. -/
def windowed (Z : Mat 2048 33) (T : Mat 2048 1) (W1 : Mat 33 64) (B1 : Row 64) (W2 : Mat 64 64) (B2 : Row 64) (W3 : Mat 64 64) (B3 F : Row 64)
    (W4 : Mat 64 1024) (D : Mat 1 1024) (l : Fin 2048) (n : Fin 1024) : EReal :=
  (∑ d : Fin 64, layer (layer (layer (fun l d => Z (ix2 l d)) W1 B1 F) W2 B2 F) W3 B3 F l d * W4 (ix2 d n))
    * (Ideal.exp (-T (ix2 l 0) * D (ix2 0 n)) + Ideal.ofBits .f32 0x3D4CCCCD#32)

/-- Column `n`'s filter at lag `l`: a backward filter says nothing about lag 0. -/
def kept (G : Fin 2048 → Fin 1024 → EReal) (l : Fin 2048) (n : Fin 1024) : EReal :=
  if 256 ≤ n.val % 512 ∧ l = 0 then 0 else G l n

/-- The summed magnitude of the forward and backward filters of order `o` and channel `c`. -/
def size (G : Fin 2048 → Fin 1024 → EReal) (o : Fin 2) (c : Fin 256) : EReal :=
  (∑ l : Fin 2048, FloatOps.absf (F := Ideal) (φ := .f32) (kept G l ⟨o.val * 512 + c, by omega⟩))
    + ∑ l : Fin 2048, FloatOps.absf (F := Ideal) (φ := .f32) (kept G l ⟨o.val * 512 + (256 + c), by omega⟩)

/-- The filters: each order's and channel's pair divided by its summed magnitude. -/
def filters (Z : Mat 2048 33) (T : Mat 2048 1) (W1 : Mat 33 64) (B1 : Row 64) (W2 : Mat 64 64) (B2 : Row 64) (W3 : Mat 64 64) (B3 F : Row 64)
    (W4 : Mat 64 1024) (D : Mat 1 1024) : Mat 2048 1024 := fun j =>
  Ideal.div (kept (windowed Z T W1 B1 W2 B2 W3 B3 F W4 D) (j 0) (j 1))
    (size (windowed Z T W1 B1 W2 B2 W3 B3 F W4 D) ⟨(j 1).val / 512, by have := (j 1).isLt; simp at this; omega⟩ ⟨(j 1).val % 256, by omega⟩)

end Cert.Filters

namespace Cert.Reference15Ideal.Filters
open Cert.Reference15Ideal Cert.Reference15Ideal.Gen Cert.Filters

/-- A row of 64 repeated down 2048 rows. -/
def rows (B : FVec Ideal S64 .f32) : FVec Ideal S2048x64 .f32 :=
  broadcastInDim S2048x64 ![0, 1] bcast_S1x64_S2048x64_0_1 (broadcastInDim S1x64 ![1] bcast_S64_S1x64_1 B)

theorem rows_at (B : FVec Ideal S64 .f32) (l : Fin 2048) (k : Fin 64) : rows B (ix2 l k) = B (ix1 k) := by
  pointwise [rows]

def first (Z : FVec Ideal S2048x33 .f32) (W : FVec Ideal S33x64 .f32) (B F : FVec Ideal S64 .f32) : FVec Ideal S2048x64 .f32 :=
  Host.sin (mulf (rows F) (addf (Host.dotGeneral dot_S2048x33_S33x64_S2048x64_1_0_0_1_n_n none Z W) (rows B)))

theorem first_at (Z : FVec Ideal S2048x33 .f32) (W : FVec Ideal S33x64 .f32) (B F : FVec Ideal S64 .f32) (l : Fin 2048) (k : Fin 64) :
    first Z W B F (ix2 l k) = layer (fun l d => Z (ix2 l d)) W B F l k := by
  pointwise [first, rows_at]
  rfl

def next (H : FVec Ideal S2048x64 .f32) (W : FVec Ideal S64x64 .f32) (B F : FVec Ideal S64 .f32) : FVec Ideal S2048x64 .f32 :=
  Host.sin (mulf (rows F) (addf (Host.dotGeneral dot_S2048x64_S64x64_S2048x64_1_0_0_1_n_n none H W) (rows B)))

theorem next_at (H : FVec Ideal S2048x64 .f32) (W : FVec Ideal S64x64 .f32) (B F : FVec Ideal S64 .f32) (l : Fin 2048) (k : Fin 64) :
    next H W B F (ix2 l k) = layer (fun l d => H (ix2 l d)) W B F l k := by
  pointwise [next, rows_at]
  rfl

def under (H : FVec Ideal S2048x64 .f32) (W4 : FVec Ideal S64x1024 .f32) (T : FVec Ideal S2048x1 .f32) (D : FVec Ideal S1x1024 .f32) : FVec Ideal S2048x1024 .f32 :=
  mulf (Host.dotGeneral dot_S2048x64_S64x1024_S2048x1024_1_0_0_1_n_n none H W4) (addf (Host.exp (mulf (broadcastInDim S2048x1024 ![0, 1] bcast_S2048x1_S2048x1024_0_1 (Host.negf T)) (broadcastInDim S2048x1024 ![0, 1] bcast_S1x1024_S2048x1024_0_1 D))) (broadcastInDim S2048x1024 ![] bcast_S_S2048x1024 (constant S_ .f32 0x3D4CCCCD#32)))

theorem under_at (H : FVec Ideal S2048x64 .f32) (W4 : FVec Ideal S64x1024 .f32) (T : FVec Ideal S2048x1 .f32) (D : FVec Ideal S1x1024 .f32) (l : Fin 2048) (n : Fin 1024) :
    under H W4 T D (ix2 l n) = (∑ d : Fin 64, H (ix2 l d) * W4 (ix2 d n)) * (Ideal.exp (-T (ix2 l 0) * D (ix2 0 n)) + Ideal.ofBits .f32 0x3D4CCCCD#32) := by
  pointwise [under]

def ahead (U : FVec Ideal S2048x1024 .f32) : FVec Ideal S2048x2x256 .f32 :=
  shapeCast S2048x2x256 (extractStridedSlice S2048x2x1x256 ![0, 0, 0, 0] (shapeCast S2048x2x2x256 U shapeCasts_S2048x1024_S2048x2x2x256) slices_S2048x2x2x256_S2048x2x1x256_0_0_0_0) shapeCasts_S2048x2x1x256_S2048x2x256

theorem ahead_at (U : FVec Ideal S2048x1024 .f32) (l : Fin 2048) (o : Fin 2) (c : Fin 256) :
    ahead U (ix3 l o c) = U (ix2 l ⟨o.val * 512 + c, by omega⟩) := by
  pointwise [ahead]

def later (U : FVec Ideal S2048x1024 .f32) : FVec Ideal S2047x2x256 .f32 :=
  shapeCast S2047x2x256 (extractStridedSlice S2047x2x1x256 ![1, 0, 1, 0] (shapeCast S2048x2x2x256 U shapeCasts_S2048x1024_S2048x2x2x256) slices_S2048x2x2x256_S2047x2x1x256_1_0_1_0) shapeCasts_S2047x2x1x256_S2047x2x256

theorem later_at (U : FVec Ideal S2048x1024 .f32) (l : Fin 2047) (o : Fin 2) (c : Fin 256) :
    later U (ix3 l o c) = U (ix2 ⟨1 + l.val, by omega⟩ ⟨o.val * 512 + (256 + c), by omega⟩) := by
  pointwise [later]
  simp only [Nat.add_assoc]

def behind (L : FVec Ideal S2047x2x256 .f32) : FVec Ideal S2048x2x256 .f32 :=
  concatenate S2048x2x256 0 [⟨S1x2x256, broadcastInDim S1x2x256 ![] bcast_S_S1x2x256 (constant S_ .f32 0x00000000#32)⟩, ⟨S2047x2x256, L⟩] concatenates_S1x2x256_S2047x2x256_S2048x2x256_d0

theorem behind_zero (L : FVec Ideal S2047x2x256 .f32) (o : Fin 2) (c : Fin 256) : behind L (ix3 0 o c) = 0 := by
  pointwise [behind]

theorem behind_succ (L : FVec Ideal S2047x2x256 .f32) (l : Fin 2048) (h : l ≠ 0) (o : Fin 2) (c : Fin 256) :
    behind L (ix3 l o c) = L (ix3 ⟨l.val - 1, by omega⟩ o c) := by
  have hl : l.val ≠ 0 := fun e => h (Fin.ext e)
  pointwise [behind]
  exact dif_neg (by omega)

def total (A B : FVec Ideal S2048x2x256 .f32) : FVec Ideal S1x2x256 .f32 :=
  addf (broadcastInDim S1x2x256 ![1, 2] bcast_S2x256_S1x2x256_1_2 (Host.reduceAdd (Host.absf A) (constant S_ .f32 0x00000000#32) reducesTo_S2048x2x256_S2x256_d0 h_S_))
    (broadcastInDim S1x2x256 ![1, 2] bcast_S2x256_S1x2x256_1_2 (Host.reduceAdd (Host.absf B) (constant S_ .f32 0x00000000#32) reducesTo_S2048x2x256_S2x256_d0 h_S_))

theorem total_at (A B : FVec Ideal S2048x2x256 .f32) (o : Fin 2) (c : Fin 256) :
    total A B (ix3 0 o c) = (∑ l : Fin 2048, FloatOps.absf (F := Ideal) (φ := .f32) (A (ix3 l o c))) + ∑ l : Fin 2048, FloatOps.absf (F := Ideal) (φ := .f32) (B (ix3 l o c)) := by
  pointwise [total]

def shared (A : FVec Ideal S2048x2x256 .f32) (N : FVec Ideal S1x2x256 .f32) : FVec Ideal S2048x2x1x256 .f32 :=
  broadcastInDim S2048x2x1x256 ![0, 1, 3] bcast_S2048x2x256_S2048x2x1x256_0_1_3 (Host.divf A (broadcastInDim S2048x2x256 ![0, 1, 2] bcast_S1x2x256_S2048x2x256_0_1_2 N))

theorem shared_at (A : FVec Ideal S2048x2x256 .f32) (N : FVec Ideal S1x2x256 .f32) (l : Fin 2048) (o : Fin 2) (c : Fin 256) :
    shared A N (ix4 l o 0 c) = Ideal.div (A (ix3 l o c)) (N (ix3 0 o c)) := by
  pointwise [shared]

def paired (P Q : FVec Ideal S2048x2x1x256 .f32) : FVec Ideal S2048x1024 .f32 :=
  shapeCast S2048x1024 (concatenate S2048x2x2x256 2 [⟨S2048x2x1x256, P⟩, ⟨S2048x2x1x256, Q⟩] concatenates_S2048x2x1x256_S2048x2x1x256_S2048x2x2x256_d2) shapeCasts_S2048x2x2x256_S2048x1024

theorem paired_low (P Q : FVec Ideal S2048x2x1x256 .f32) (l : Fin 2048) (o : Fin 2) (c : Fin 256) :
    paired P Q (ix2 l ⟨o.val * 512 + c, by omega⟩) = P (ix4 l o 0 c) := by
  pointwise [paired]
  rw [dif_pos (by omega)]
  congr 2
  exact Subsingleton.elim _ _

theorem paired_high (P Q : FVec Ideal S2048x2x1x256 .f32) (l : Fin 2048) (o : Fin 2) (c : Fin 256) :
    paired P Q (ix2 l ⟨o.val * 512 + (256 + c), by omega⟩) = Q (ix4 l o 0 c) := by
  pointwise [paired]
  rw [dif_neg (by omega)]
  congr 2
  exact Fin.ext (by simp only [Fin.val_zero]; omega)

def whole (Z : FVec Ideal S2048x33 .f32) (T : FVec Ideal S2048x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32) : FVec Ideal S2048x1024 .f32 :=
  let U := under (next (next (first Z W1 B1 F) W2 B2 F) W3 B3 F) W4 T D
  paired (shared (ahead U) (total (ahead U) (behind (later U)))) (shared (behind (later U)) (total (ahead U) (behind (later U))))

/-- The reference's filters before normalization are the windowed ones. -/
theorem under_eq (Z : FVec Ideal S2048x33 .f32) (T : FVec Ideal S2048x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32) (l : Fin 2048) (n : Fin 1024) :
    under (next (next (first Z W1 B1 F) W2 B2 F) W3 B3 F) W4 T D (ix2 l n) = windowed Z T W1 B1 W2 B2 W3 B3 F W4 D l n := by
  rw [under_at]
  unfold windowed
  simp only [next_at, first_at]

theorem ahead_kept (U : FVec Ideal S2048x1024 .f32) (l : Fin 2048) (o : Fin 2) (c : Fin 256) :
    ahead U (ix3 l o c) = kept (fun l n => U (ix2 l n)) l ⟨o.val * 512 + c, by omega⟩ := by
  rw [ahead_at, kept, if_neg (by dsimp only; omega)]

theorem behind_kept (U : FVec Ideal S2048x1024 .f32) (l : Fin 2048) (o : Fin 2) (c : Fin 256) :
    behind (later U) (ix3 l o c) = kept (fun l n => U (ix2 l n)) l ⟨o.val * 512 + (256 + c), by omega⟩ := by
  have hc : 256 ≤ (o.val * 512 + (256 + c.val)) % 512 := by omega
  by_cases h : l = 0
  · subst h
    rw [behind_zero, kept, if_pos ⟨hc, rfl⟩]
  · have hl : l.val ≠ 0 := fun e => h (Fin.ext e)
    rw [behind_succ _ _ h, later_at, kept, if_neg (fun e => h e.2)]
    have e : (⟨1 + (l.val - 1), by omega⟩ : Fin 2048) = l := Fin.ext (by dsimp only; omega)
    simp only [e]

/-- The reference's result is the filters. -/
theorem whole_eq (Z : FVec Ideal S2048x33 .f32) (T : FVec Ideal S2048x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32) :
    whole Z T W1 B1 W2 B2 W3 B3 F W4 D = filters Z T W1 B1 W2 B2 W3 B3 F W4 D := by
  funext j
  obtain ⟨l, n, rfl⟩ : ∃ (l : Fin 2048) (n : Fin 1024), j = ix2 l n := ⟨j 0, j 1, by idx_vars j⟩
  have hU : (fun l n => under (next (next (first Z W1 B1 F) W2 B2 F) W3 B3 F) W4 T D (ix2 l n)) = windowed Z T W1 B1 W2 B2 W3 B3 F W4 D :=
    funext fun l => funext fun n => under_eq Z T W1 B1 W2 B2 W3 B3 F W4 D l n
  unfold whole
  generalize under (next (next (first Z W1 B1 F) W2 B2 F) W3 B3 F) W4 T D = U at hU ⊢
  have hN : ∀ (o : Fin 2) (c : Fin 256), total (ahead U) (behind (later U)) (ix3 0 o c) = size (fun l n => U (ix2 l n)) o c := fun o c => by
    rw [total_at]
    simp only [ahead_kept, behind_kept]
    rfl
  have e : ∀ (o : Fin 2) (s : Fin 2) (c : Fin 256), n.val = o.val * 512 + (s.val * 256 + c.val) →
      (⟨n.val / 512, by omega⟩ : Fin 2) = o ∧ (⟨n.val % 256, by omega⟩ : Fin 256) = c := fun o s c h =>
    ⟨Fin.ext (by dsimp only; omega), Fin.ext (by dsimp only; omega)⟩
  change _ = Ideal.div (kept (windowed Z T W1 B1 W2 B2 W3 B3 F W4 D) l n) (size (windowed Z T W1 B1 W2 B2 W3 B3 F W4 D) ⟨n.val / 512, by omega⟩ ⟨n.val % 256, by omega⟩)
  rw [← hU]
  by_cases h : n.val % 512 < 256
  · obtain ⟨o, c, ho⟩ : ∃ (o : Fin 2) (c : Fin 256), n = ⟨o.val * 512 + c.val, by omega⟩ := ⟨⟨n.val / 512, by omega⟩, ⟨n.val % 512, h⟩, Fin.ext (by dsimp only; omega)⟩
    obtain ⟨e1, e2⟩ := e o 0 c (by rw [ho]; simp)
    rw [e1, e2, ho, paired_low, shared_at, ahead_kept, hN]
  · obtain ⟨o, c, ho⟩ : ∃ (o : Fin 2) (c : Fin 256), n = ⟨o.val * 512 + (256 + c.val), by omega⟩ := ⟨⟨n.val / 512, by omega⟩, ⟨n.val % 512 - 256, by omega⟩, Fin.ext (by dsimp only; omega)⟩
    obtain ⟨e1, e2⟩ := e o 1 c (by rw [ho]; simp)
    rw [e1, e2, ho, paired_high, shared_at, behind_kept, hN]

end Cert.Reference15Ideal.Filters
-- ==== Proof.FiltersArray.lean ====
module
public import proofs.«01_k».proof.Proof.FiltersKernel
public import proofs.«01_k».proof.Proof.FiltersReference

/-! The filter kernel's result as a function of its arguments: the padded inputs read back, and the two blocks put together. -/

@[expose] public section
set_option maxRecDepth 16384
noncomputable section
open Idealize.ShloMosaic Idealize.ShloMosaic.TcCoe Idealize.SL.Sem
open Idealize.ShloMosaic.Pipeline (Dat)
namespace Cert.Kernel15Ideal.Filters
open Cert.Kernel15Ideal Cert.Kernel15Ideal.Gen Cert.Filters

theorem zero_word : (FloatOps.sitofp (F := Ideal) .f32 0#32 : EReal) = 0 := by
  simp [FloatOps.sitofp]

/-- The position features, padded to 64 columns. -/
def wideZ (Z : FVec Ideal S2048x33 .f32) : FVec Ideal S2048x64 .f32 :=
  pad S2048x64 ![0, 0] ![0, 31] ![0, 0] Z (sitofp .f32 (constantI S_ 32 0#32)) pads_S2048x33_S2048x64_000_0310 h_S_

theorem wideZ_low (Z : FVec Ideal S2048x33 .f32) (l : Fin 2048) (d : Fin 64) (h : d.val < 33) : wideZ Z (ix2 l d) = Z (ix2 l ⟨d, h⟩) := by
  pointwise [wideZ]
  rw [dif_pos (by omega)]

theorem wideZ_high (Z : FVec Ideal S2048x33 .f32) (l : Fin 2048) (d : Fin 64) (h : 33 ≤ d.val) : wideZ Z (ix2 l d) = 0 := by
  pointwise [wideZ]
  rw [dif_neg (by omega)]
  exact zero_word

/-- The first layer's weight, padded to 64 rows. -/
def wideW (W : FVec Ideal S33x64 .f32) : FVec Ideal S64x64 .f32 :=
  pad S64x64 ![0, 0] ![31, 0] ![0, 0] W (sitofp .f32 (constantI S_ 32 0#32)) pads_S33x64_S64x64_0310_000 h_S_

theorem wideW_low (W : FVec Ideal S33x64 .f32) (d k : Fin 64) (h : d.val < 33) : wideW W (ix2 d k) = W (ix2 ⟨d, h⟩ k) := by
  pointwise [wideW]
  rw [dif_pos (by omega)]

/-- The padding adds nothing to the first layer's sums. -/
theorem wide_sum (Z : FVec Ideal S2048x33 .f32) (W : FVec Ideal S33x64 .f32) (l : Fin 2048) (k : Fin 64) :
    ∑ d : Fin 64, wideZ Z (ix2 l d) * wideW W (ix2 d k) = ∑ d : Fin 33, Z (ix2 l d) * W (ix2 d k) := by
  refine (Fin.sum_univ_add (a := 33) (b := 31) fun d => wideZ Z (ix2 l d) * wideW W (ix2 d k)).trans ?_
  rw [Finset.sum_congr rfl fun d _ => by rw [wideZ_low Z l (Fin.castAdd 31 d) d.isLt, wideW_low W (Fin.castAdd 31 d) k d.isLt],
    Finset.sum_eq_zero (s := (Finset.univ : Finset (Fin 31))) fun d _ => by rw [wideZ_high Z l (Fin.natAdd 33 d) (by simp), zero_mul], add_zero]
  rfl

def asRow (B : FVec Ideal S64 .f32) : FVec Ideal S1x64 .f32 := broadcastInDim S1x64 ![1] bcast_S64_S1x64_1 B

theorem asRow_at (B : FVec Ideal S64 .f32) (k : Fin 64) : asRow B (ix2 0 k) = B (ix1 k) := by
  pointwise [asRow]

variable (m : (ℓ : Loc nD τ sig) → Buf (Elt Ideal) ℓ)

theorem v_z (c : Dev nD) : V m c main_v0 = wideZ (m ((c : Thread nD τ).loc main_arg0)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_w (c : Dev nD) : V m c main_v1 = wideW (m ((c : Thread nD τ).loc main_arg2)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_b1 (c : Dev nD) : V m c main_v2 = asRow (m ((c : Thread nD τ).loc main_arg3)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_b2 (c : Dev nD) : V m c main_v3 = asRow (m ((c : Thread nD τ).loc main_arg5)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_b3 (c : Dev nD) : V m c main_v4 = asRow (m ((c : Thread nD τ).loc main_arg7)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_fr (c : Dev nD) : V m c main_v5 = asRow (m ((c : Thread nD τ).loc main_arg8)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, t.val] ∧ win0_10.index t = ![0, t.val] ∧ win0_11.index t = ![0, t.val] ∧ t.val < 2 :=
  (by decide +kernel : ∀ t : Fin grid0.N, _)

theorem tile0 (c : Dev nD) (A : Buf (Elt Ideal) ((c : Thread nD τ).loc (Pipeline.arrRef spec0 0))) (t : Fin cfg0.N) :
    (((cfg0.win 0).blk t).view.read (Elt Ideal) A : Vec Ideal S2048x64 .f32) = (A : Vec Ideal S2048x64 .f32) := by
  funext y
  obtain ⟨a, b, rfl⟩ : ∃ (a : Fin 2048) (b : Fin 64), y = ix2 a b := ⟨y 0, y 1, by idx_vars y⟩
  blk_point [idx t]

theorem z_at (c : Dev nD) (t : Fin cfg0.N) : (iblk m c 0 t : Vec Ideal S2048x64 .f32) = wideZ (m ((c : Thread nD τ).loc main_arg0)) :=
  (tile0 c (V m c main_v0) t).trans (v_z m c)

theorem tile1 (c : Dev nD) (A : Buf (Elt Ideal) ((c : Thread nD τ).loc (Pipeline.arrRef spec0 1))) (t : Fin cfg0.N) :
    (((cfg0.win 1).blk t).view.read (Elt Ideal) A : Vec Ideal S2048x1 .f32) = (A : Vec Ideal S2048x1 .f32) := by
  funext y
  obtain ⟨a, b, rfl⟩ : ∃ (a : Fin 2048) (b : Fin 1), y = ix2 a b := ⟨y 0, y 1, by idx_vars y⟩
  blk_point [idx t]

theorem t_at (c : Dev nD) (t : Fin cfg0.N) : (iblk m c 1 t : Vec Ideal S2048x1 .f32) = m ((c : Thread nD τ).loc main_arg1) :=
  (tile1 c (V m c main_arg1) t).trans (V_main_arg1 m c)

theorem tile2 (c : Dev nD) (A : Buf (Elt Ideal) ((c : Thread nD τ).loc (Pipeline.arrRef spec0 2))) (t : Fin cfg0.N) :
    (((cfg0.win 2).blk t).view.read (Elt Ideal) A : Vec Ideal S64x64 .f32) = (A : Vec Ideal S64x64 .f32) := by
  funext y
  obtain ⟨a, b, rfl⟩ : ∃ (a : Fin 64) (b : Fin 64), y = ix2 a b := ⟨y 0, y 1, by idx_vars y⟩
  blk_point [idx t]

theorem w1_at (c : Dev nD) (t : Fin cfg0.N) : (iblk m c 2 t : Vec Ideal S64x64 .f32) = wideW (m ((c : Thread nD τ).loc main_arg2)) :=
  (tile2 c (V m c main_v1) t).trans (v_w m c)

theorem tile3 (c : Dev nD) (A : Buf (Elt Ideal) ((c : Thread nD τ).loc (Pipeline.arrRef spec0 3))) (t : Fin cfg0.N) :
    (((cfg0.win 3).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem b1_at (c : Dev nD) (t : Fin cfg0.N) : (iblk m c 3 t : Vec Ideal S1x64 .f32) = asRow (m ((c : Thread nD τ).loc main_arg3)) :=
  (tile3 c (V m c main_v2) t).trans (v_b1 m c)

theorem tile4 (c : Dev nD) (A : Buf (Elt Ideal) ((c : Thread nD τ).loc (Pipeline.arrRef spec0 4))) (t : Fin cfg0.N) :
    (((cfg0.win 4).blk t).view.read (Elt Ideal) A : Vec Ideal S64x64 .f32) = (A : Vec Ideal S64x64 .f32) := by
  funext y
  obtain ⟨a, b, rfl⟩ : ∃ (a : Fin 64) (b : Fin 64), y = ix2 a b := ⟨y 0, y 1, by idx_vars y⟩
  blk_point [idx t]

theorem w2_at (c : Dev nD) (t : Fin cfg0.N) : (iblk m c 4 t : Vec Ideal S64x64 .f32) = m ((c : Thread nD τ).loc main_arg4) :=
  (tile4 c (V m c main_arg4) t).trans (V_main_arg4 m c)

theorem tile5 (c : Dev nD) (A : Buf (Elt Ideal) ((c : Thread nD τ).loc (Pipeline.arrRef spec0 5))) (t : Fin cfg0.N) :
    (((cfg0.win 5).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem b2_at (c : Dev nD) (t : Fin cfg0.N) : (iblk m c 5 t : Vec Ideal S1x64 .f32) = asRow (m ((c : Thread nD τ).loc main_arg5)) :=
  (tile5 c (V m c main_v3) t).trans (v_b2 m c)

theorem tile6 (c : Dev nD) (A : Buf (Elt Ideal) ((c : Thread nD τ).loc (Pipeline.arrRef spec0 6))) (t : Fin cfg0.N) :
    (((cfg0.win 6).blk t).view.read (Elt Ideal) A : Vec Ideal S64x64 .f32) = (A : Vec Ideal S64x64 .f32) := by
  funext y
  obtain ⟨a, b, rfl⟩ : ∃ (a : Fin 64) (b : Fin 64), y = ix2 a b := ⟨y 0, y 1, by idx_vars y⟩
  blk_point [idx t]

theorem w3_at (c : Dev nD) (t : Fin cfg0.N) : (iblk m c 6 t : Vec Ideal S64x64 .f32) = m ((c : Thread nD τ).loc main_arg6) :=
  (tile6 c (V m c main_arg6) t).trans (V_main_arg6 m c)

theorem tile7 (c : Dev nD) (A : Buf (Elt Ideal) ((c : Thread nD τ).loc (Pipeline.arrRef spec0 7))) (t : Fin cfg0.N) :
    (((cfg0.win 7).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem b3_at (c : Dev nD) (t : Fin cfg0.N) : (iblk m c 7 t : Vec Ideal S1x64 .f32) = asRow (m ((c : Thread nD τ).loc main_arg7)) :=
  (tile7 c (V m c main_v4) t).trans (v_b3 m c)

theorem tile8 (c : Dev nD) (A : Buf (Elt Ideal) ((c : Thread nD τ).loc (Pipeline.arrRef spec0 8))) (t : Fin cfg0.N) :
    (((cfg0.win 8).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem fr_at (c : Dev nD) (t : Fin cfg0.N) : (iblk m c 8 t : Vec Ideal S1x64 .f32) = asRow (m ((c : Thread nD τ).loc main_arg8)) :=
  (tile8 c (V m c main_v5) t).trans (v_fr m c)

theorem tile9 (c : Dev nD) (A : Buf (Elt Ideal) ((c : Thread nD τ).loc (Pipeline.arrRef spec0 9))) (t : Fin cfg0.N) (d : Fin 64) (n : Fin 512) (k : Fin 1024) (hk : (k : ℕ) = t.val * 512 + n) :
    (((cfg0.win 9).blk t).view.read (Elt Ideal) A : Vec Ideal S64x512 .f32) (ix2 d n) = (A : Vec Ideal S64x1024 .f32) (ix2 d k) := by
  blk_point [idx t]

theorem w4_at (c : Dev nD) (t : Fin cfg0.N) (d : Fin 64) (n : Fin 512) (k : Fin 1024) (hk : (k : ℕ) = t.val * 512 + n) :
    (iblk m c 9 t : Vec Ideal S64x512 .f32) (ix2 d n) = m ((c : Thread nD τ).loc main_arg9) (ix2 d k) := by
  refine (tile9 c (V m c main_arg9) t d n k hk).trans ?_
  rw [V_main_arg9]

theorem tile10 (c : Dev nD) (A : Buf (Elt Ideal) ((c : Thread nD τ).loc (Pipeline.arrRef spec0 10))) (t : Fin cfg0.N) (d : Fin 1) (n : Fin 512) (k : Fin 1024) (hk : (k : ℕ) = t.val * 512 + n) :
    (((cfg0.win 10).blk t).view.read (Elt Ideal) A : Vec Ideal S1x512 .f32) (ix2 d n) = (A : Vec Ideal S1x1024 .f32) (ix2 d k) := by
  blk_point [idx t]

theorem dl_at (c : Dev nD) (t : Fin cfg0.N) (d : Fin 1) (n : Fin 512) (k : Fin 1024) (hk : (k : ℕ) = t.val * 512 + n) :
    (iblk m c 10 t : Vec Ideal S1x512 .f32) (ix2 d n) = m ((c : Thread nD τ).loc main_arg10) (ix2 d k) := by
  refine (tile10 c (V m c main_arg10) t d n k hk).trans ?_
  rw [V_main_arg10]

theorem hidden_layer (H : FVec Ideal S2048x64 .f32) (W : FVec Ideal S64x64 .f32) (B F : FVec Ideal S64 .f32) (l : Fin 2048) (k : Fin 64) :
    hidden H W (asRow B) (asRow F) (ix2 l k) = layer (fun l d => H (ix2 l d)) W B F l k := by
  rw [hidden_at, asRow_at, asRow_at]
  rfl

theorem hidden_first (Z : FVec Ideal S2048x33 .f32) (W : FVec Ideal S33x64 .f32) (B F : FVec Ideal S64 .f32) (l : Fin 2048) (k : Fin 64) :
    hidden (wideZ Z) (wideW W) (asRow B) (asRow F) (ix2 l k) = layer (fun l d => Z (ix2 l d)) W B F l k := by
  rw [hidden_at, asRow_at, asRow_at, wide_sum]
  rfl

theorem raw_eq (Z : FVec Ideal S2048x33 .f32) (T : FVec Ideal S2048x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32)
    (x9 : FVec Ideal S64x512 .f32) (x10 : FVec Ideal S1x512 .f32) (l : Fin 2048) (n : Fin 512) (k : Fin 1024) (h9 : ∀ d, x9 (ix2 d n) = W4 (ix2 d k)) (h10 : x10 (ix2 0 n) = D (ix2 0 k)) :
    raw (wideZ Z) T (wideW W1) (asRow B1) W2 (asRow B2) W3 (asRow B3) (asRow F) x9 x10 (ix2 l n) = windowed Z T W1 B1 W2 B2 W3 B3 F W4 D l k := by
  have e1 : (fun l d => hidden (wideZ Z) (wideW W1) (asRow B1) (asRow F) (ix2 l d)) = layer (fun l d => Z (ix2 l d)) W1 B1 F :=
    funext fun l => funext fun d => hidden_first Z W1 B1 F l d
  have e2 : (fun l d => hidden (hidden (wideZ Z) (wideW W1) (asRow B1) (asRow F)) W2 (asRow B2) (asRow F) (ix2 l d))
      = layer (layer (fun l d => Z (ix2 l d)) W1 B1 F) W2 B2 F := funext fun l => funext fun d => by
    rw [hidden_layer, e1]
  have e3 : ∀ d, hidden (hidden (hidden (wideZ Z) (wideW W1) (asRow B1) (asRow F)) W2 (asRow B2) (asRow F)) W3 (asRow B3) (asRow F) (ix2 l d)
      = layer (layer (layer (fun l d => Z (ix2 l d)) W1 B1 F) W2 B2 F) W3 B3 F l d := fun d => by
    rw [hidden_layer, e2]
  rw [raw, pay1_at, pay7_eq, h10]
  unfold windowed
  simp only [e3, h9]

/-- A block's value, given which columns of the windowed filters its unnormalized ones are. -/
theorem block_value (x0 : FVec Ideal S2048x64 .f32) (x1 : FVec Ideal S2048x1 .f32) (x2 : FVec Ideal S64x64 .f32) (x3 : FVec Ideal S1x64 .f32) (x4 : FVec Ideal S64x64 .f32) (x5 : FVec Ideal S1x64 .f32) (x6 : FVec Ideal S64x64 .f32) (x7 x8 : FVec Ideal S1x64 .f32) (x9 : FVec Ideal S64x512 .f32) (x10 : FVec Ideal S1x512 .f32)
    (G : Fin 2048 → Fin 1024 → EReal) (o : Fin 2) (hG : ∀ (l : Fin 2048) (n : Fin 512), raw x0 x1 x2 x3 x4 x5 x6 x7 x8 x9 x10 (ix2 l n) = G l ⟨o.val * 512 + n.val, by omega⟩)
    (l : Fin 2048) (n : Fin 512) :
    out0_11 (F := Ideal) x0 x1 x2 x3 x4 x5 x6 x7 x8 x9 x10 (ix2 l n)
      = Ideal.div (kept G l ⟨o.val * 512 + n.val, by omega⟩) (size G o ⟨n.val % 256, by omega⟩) := by
  rw [block_eq, pay4_at]
  generalize (⟨n.val % 256, _⟩ : Fin 256) = c
  unfold raw at hG ⊢
  simp only [pay2_at, pay3_at, hG]
  have e : (256 ≤ n.val ∧ l = 0) = (256 ≤ (o.val * 512 + n.val) % 512 ∧ l = 0) := by
    rw [show (o.val * 512 + n.val) % 512 = n.val by omega]
  have e0 : ∀ (l : Fin 2048) (c : Fin 256), kept G l ⟨o.val * 512 + c.val, by omega⟩ = G l ⟨o.val * 512 + c.val, by omega⟩ := fun l c => by
    rw [kept, if_neg (by dsimp only; omega)]
  have e1 : ∀ (l : Fin 2048) (c : Fin 256), kept G l ⟨o.val * 512 + (256 + c.val), by omega⟩ = if l = 0 then 0 else G l ⟨o.val * 512 + (256 + c.val), by omega⟩ := fun l c => by
    have : 256 ≤ (o.val * 512 + (256 + c.val)) % 512 := by omega
    by_cases h : l = 0
    · rw [kept, if_pos ⟨this, h⟩, if_pos h]
    · rw [kept, if_neg fun e => h e.2, if_neg h]
  unfold size
  simp only [e0, e1]
  congr 1
  unfold kept
  simp only [e]

theorem final (c : Dev nD) : (dats m 0 c).arrAt 11 (cfgs 0).N
    = filters (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have hN := (idx t).2.2.2.2.2.2.2.2.2.2.2.2
  blk_simp
  rw [after0_11]
  obtain ⟨l, n, rfl⟩ : ∃ (l : Fin 2048) (n : Fin 512), y = (ix2 l n : S2048x512.Idx) := ⟨y 0, y 1, by idx_vars y⟩
  have hG : ∀ (l : Fin 2048) (n : Fin 512), raw (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 l n)
      = windowed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) l ⟨(⟨t.val, hN⟩ : Fin 2).val * 512 + n.val, by dsimp only; omega⟩ := fun l n => by
    rw [z_at, t_at, w1_at, b1_at, w2_at, b2_at, w3_at, b3_at, fr_at]
    exact raw_eq _ _ _ _ _ _ _ _ _ _ _ _ _ l n _ (fun d => w4_at m c t d n _ rfl) (dl_at m c t 0 n _ rfl)
  refine (block_value _ _ _ _ _ _ _ _ _ _ _ _ ⟨t.val, hN⟩ hG l n).trans (Eq.trans (b := filters (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 l ⟨t.val * 512 + n.val, by omega⟩)) ?_ ?_)
  · have e1 : (⟨(t.val * 512 + n.val) / 512, by omega⟩ : Fin 2) = ⟨t.val, hN⟩ := Fin.ext (by dsimp only; omega)
    have e2 : (⟨(t.val * 512 + n.val) % 256, by omega⟩ : Fin 256) = ⟨n.val % 256, by omega⟩ := Fin.ext (by dsimp only; omega)
    change _ = Ideal.div (kept (windowed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) l ⟨t.val * 512 + n.val, by omega⟩) (size (windowed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) ⟨(t.val * 512 + n.val) / 512, by omega⟩ ⟨(t.val * 512 + n.val) % 256, by omega⟩)
    rw [e1, e2]
  · congr 1
    blk_ext [idx t]

end Cert.Kernel15Ideal.Filters
-- ==== Proof.Filters.lean ====
module
public import proofs.«01_k».proof.Defs
public import proofs.«01_k».proof.Proof.FiltersArray
public import proofs.«01_k».proof.Proof.FiltersReference

/-! The long filters' value claim: from equal arguments both programs end with the same result. -/

@[expose] public section
noncomputable section
open Idealize.ShloMosaic Idealize.ShloMosaic.TcCoe Idealize.SL.Sem
namespace Cert.Filters

/-- What the reference's program ends with. -/
theorem reference_ends (m' : (ℓ : Loc Cert.Reference15Ideal.nD Cert.Reference15Ideal.τ Cert.Reference15Ideal.sig) → Buf (Elt Ideal) ℓ) (g' : Dev Cert.Reference15Ideal.nD → PrngReg) :
    θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
        r.2.mem ((c.tc : Thread Cert.Reference15Ideal.nD Cert.Reference15Ideal.τ).loc Cert.Reference15Ideal.main_v54) = filters (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) (m' ((c.tc : Thread Cert.Reference15Ideal.nD Cert.Reference15Ideal.τ).loc Cert.Reference15Ideal.main_arg3)) (m' ((c.tc : Thread Cert.Reference15Ideal.nD Cert.Reference15Ideal.τ).loc Cert.Reference15Ideal.main_arg4)) (m' ((c.tc : Thread Cert.Reference15Ideal.nD Cert.Reference15Ideal.τ).loc Cert.Reference15Ideal.main_arg5)) (m' ((c.tc : Thread Cert.Reference15Ideal.nD Cert.Reference15Ideal.τ).loc Cert.Reference15Ideal.main_arg6)) (m' ((c.tc : Thread Cert.Reference15Ideal.nD Cert.Reference15Ideal.τ).loc Cert.Reference15Ideal.main_arg7)) (m' ((c.tc : Thread Cert.Reference15Ideal.nD Cert.Reference15Ideal.τ).loc Cert.Reference15Ideal.main_arg8)) (m' ((c.tc : Thread Cert.Reference15Ideal.nD Cert.Reference15Ideal.τ).loc Cert.Reference15Ideal.main_arg9)) (m' ((c.tc : Thread Cert.Reference15Ideal.nD Cert.Reference15Ideal.τ).loc Cert.Reference15Ideal.main_arg10))
        ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
        ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
        ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
        ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
        ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
        ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
        ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
        ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
        ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
        ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
        ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)) :=
  θ_run_mono (Cert.Reference15Ideal.Value.run m' g') fun r h c =>
    ⟨(h c).1.trans (Cert.Reference15Ideal.Filters.whole_eq _ _ _ _ _ _ _ _ _ _ _), (h c).2⟩

/-- What the kernel's program ends with. -/
theorem kernel_ends (m : (ℓ : Loc Cert.Kernel15Ideal.nD Cert.Kernel15Ideal.τ Cert.Kernel15Ideal.sig) → Buf (Elt Ideal) ℓ) (g : Dev Cert.Kernel15Ideal.nD → PrngReg) :
    θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
        r.2.mem ((c.tc : Thread Cert.Kernel15Ideal.nD Cert.Kernel15Ideal.τ).loc Cert.Kernel15Ideal.main_v6) = filters (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9)) (m ((c.tc : Thread Cert.Kernel15Ideal.nD Cert.Kernel15Ideal.τ).loc Cert.Kernel15Ideal.main_arg10))
        ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
        ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
        ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
        ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
        ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
        ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
        ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
        ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
        ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
        ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
        ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)) :=
  θ_run_mono (θ_run_and (Cert.Kernel15Ideal.Gen.unchanged m g) (Cert.Kernel15Ideal.Gen.run_main m g)) fun r h c =>
    ⟨((h.2 c).1 11).trans (Cert.Kernel15Ideal.Filters.final m c), h.1 c⟩

theorem algebraic : Cert.algebraic_Kernel15Ideal_Reference15Ideal := by
  intro m g m' g' _ hagree
  refine ⟨_, kernel_ends m g, θ_run_mono (reference_ends m' g') fun r h c => ?_⟩
  obtain ⟨e0, e1, e2, e3, e4, e5, e6, e7, e8, e9, e10⟩ := hagree c
  obtain ⟨h1, h2⟩ := h c
  rw [e0, e1, e2, e3, e4, e5, e6, e7, e8, e9, e10] at h1
  exact ⟨h1, h2⟩

end Cert.Filters
-- ==== Proof.FiltersContextKernel.lean ====
module
public import proofs.«01_k».proof.Proof.Gen.Kernel16Ideal.Frame
public import Idealize.ShloMosaic.Lib.Pipeline.ValueKit
public import Idealize.ShloMosaic.Lib.Pointwise

/-! What the filter kernel leaves in its block of 512 columns at the 256 lags of the context. -/

@[expose] public section
set_option maxRecDepth 16384
noncomputable section
open Idealize.ShloMosaic Idealize.ShloMosaic.TcCoe Idealize.SL.Sem
open Idealize.ShloMosaic.Pipeline (Dat)

namespace Cert.Kernel16Ideal.FiltersContext
open Cert.Kernel16Ideal Cert.Kernel16Ideal.Gen

/-- One layer of the small network. -/
def hidden (H : FVec Ideal S256x64 .f32) (W : FVec Ideal S64x64 .f32) (B F : FVec Ideal S1x64 .f32) : FVec Ideal S256x64 .f32 :=
  sin (mulf (broadcastTo S256x64 F broadcasts_S1x64_S256x64) (addf (matmul dot_S256x64_S64x64_S256x64_1_0_0_1_n_n (some .fp32) H W (constant S256x64 .f32 0x00000000#32)) (broadcastTo S256x64 B broadcasts_S1x64_S256x64)))

theorem hidden_at (H : FVec Ideal S256x64 .f32) (W : FVec Ideal S64x64 .f32) (B F : FVec Ideal S1x64 .f32) (l : Fin 256) (k : Fin 64) :
    hidden H W B F (ix2 l k) = FloatOps.sin (F := Ideal) (φ := .f32) (F (ix2 0 k) * ((∑ d : Fin 64, H (ix2 l d) * W (ix2 d k)) + B (ix2 0 k))) := by
  pointwise [hidden]

theorem pay1_at (v : FVec Ideal S256x512 .f32) (T : FVec Ideal S256x1 .f32) (D : FVec Ideal S1x512 .f32) (l : Fin 256) (n : Fin 512) :
    k0_pay1 (F := Ideal) v T D (ix2 l n) = v (ix2 l n) * (Ideal.exp (-T (ix2 l 0) * D (ix2 0 n)) + Ideal.ofBits .f32 0x3D4CCCCD#32) := by
  pointwise [k0_pay1]
  rw [zero_sub]

theorem pay2_at (v : FVec Ideal S256x512 .f32) (T : FVec Ideal S256x1 .f32) (D : FVec Ideal S1x512 .f32) (l : Fin 256) (n : Fin 256) :
    k0_pay2 (F := Ideal) v T D (ix2 l n) = k0_pay1 (F := Ideal) v T D (ix2 l ⟨n.val, by omega⟩) := by
  pointwise [k0_pay2]

theorem pay3_at (v : FVec Ideal S256x512 .f32) (T : FVec Ideal S256x1 .f32) (D : FVec Ideal S1x512 .f32) (l : Fin 256) (n : Fin 256) :
    k0_pay3 (F := Ideal) v T D (ix2 l n) = if l = 0 then 0 else k0_pay1 (F := Ideal) v T D (ix2 l ⟨256 + n.val, by omega⟩) := by
  pointwise [k0_pay3]
  by_cases h : l = 0
  · subst h
    rfl
  · have hl : l.val ≠ 0 := fun e => h (Fin.ext e)
    have hb : BitVec.ofNat 32 l.val ≠ 0#32 := fun e => hl (by
      have := congrArg BitVec.toNat e
      simp only [BitVec.toNat_ofNat] at this
      omega)
    rw [if_neg h]
    have hz : IntOp.cmpi .eq (BitVec.ofNat 32 l.val) 0#32 = 0#1 := by
      simp only [IntOp.cmpi]
      rw [beq_eq_false_iff_ne.2 hb]
      rfl
    rw [hz]
    rfl

theorem pay4_at (v : FVec Ideal S256x512 .f32) (T : FVec Ideal S256x1 .f32) (D : FVec Ideal S1x512 .f32) (n : Fin 256) :
    k0_pay4 (F := Ideal) v T D (ix2 0 n) = (∑ l : Fin 256, FloatOps.absf (F := Ideal) (φ := .f32) (k0_pay2 (F := Ideal) v T D (ix2 l n)))
      + ∑ l : Fin 256, FloatOps.absf (F := Ideal) (φ := .f32) (k0_pay3 (F := Ideal) v T D (ix2 l n)) := by
  pointwise [k0_pay4]

theorem pay7_eq (F : FVec Ideal S1x64 .f32) (Z : FVec Ideal S256x64 .f32) (W1 : FVec Ideal S64x64 .f32) (B1 : FVec Ideal S1x64 .f32) (W2 : FVec Ideal S64x64 .f32) (B2 : FVec Ideal S1x64 .f32) (W3 : FVec Ideal S64x64 .f32) (B3 : FVec Ideal S1x64 .f32) (W4 : FVec Ideal S64x512 .f32) (l : Fin 256) (n : Fin 512) :
    k0_pay7 (F := Ideal) F Z W1 B1 W2 B2 W3 B3 W4 (ix2 l n) = ∑ d : Fin 64, hidden (hidden (hidden Z W1 B1 F) W2 B2 F) W3 B3 F (ix2 l d) * W4 (ix2 d n) := by
  have e : k0_pay7 (F := Ideal) F Z W1 B1 W2 B2 W3 B3 W4 = matmul dot_S256x64_S64x512_S256x512_1_0_0_1_n_n (some .fp32) (hidden (hidden (hidden Z W1 B1 F) W2 B2 F) W3 B3 F) W4 (constant S256x512 .f32 0x00000000#32) := by
    unfold k0_pay7 hidden
    simp only [shapeCast_self]
  rw [e]
  generalize hidden (hidden (hidden Z W1 B1 F) W2 B2 F) W3 B3 F = H
  pointwise []

/-- The unnormalized filter of one block, its column `n` at lag `l`. -/
def raw (x0 : FVec Ideal S256x64 .f32) (x1 : FVec Ideal S256x1 .f32) (x2 : FVec Ideal S64x64 .f32) (x3 : FVec Ideal S1x64 .f32) (x4 : FVec Ideal S64x64 .f32) (x5 : FVec Ideal S1x64 .f32) (x6 : FVec Ideal S64x64 .f32) (x7 x8 : FVec Ideal S1x64 .f32) (x9 : FVec Ideal S64x512 .f32) (x10 : FVec Ideal S1x512 .f32) : FVec Ideal S256x512 .f32 :=
  k0_pay1 (k0_pay7 x8 x0 x2 x3 x4 x5 x6 x7 x9) x1 x10

theorem pay5_at (v : FVec Ideal S256x512 .f32) (T : FVec Ideal S256x1 .f32) (D : FVec Ideal S1x512 .f32) (l : Fin 256) (n : Fin 256) :
    k0_pay5 (F := Ideal) v T D (ix2 l n) = Ideal.div (k0_pay2 (F := Ideal) v T D (ix2 l n)) (k0_pay4 (F := Ideal) v T D (ix2 0 n)) := by
  pointwise [k0_pay5]

theorem pay6_at (v : FVec Ideal S256x512 .f32) (T : FVec Ideal S256x1 .f32) (D : FVec Ideal S1x512 .f32) (l : Fin 256) (n : Fin 256) :
    k0_pay6 (F := Ideal) v T D (ix2 l n) = Ideal.div (k0_pay3 (F := Ideal) v T D (ix2 l n)) (k0_pay4 (F := Ideal) v T D (ix2 0 n)) := by
  pointwise [k0_pay6]

theorem ld0 (x : FVec Ideal S1x64 .f32) : View.ld (Val := Elt Ideal) (e' := .f32) x r0_0 = x :=
  View.ld_unit_lit (Val := Elt Ideal) (S := S1x64) (e := .f32) _ x (by decide)

theorem ld1 (x : FVec Ideal S256x64 .f32) : View.ld (Val := Elt Ideal) (e' := .f32) x r0_1 = x :=
  View.ld_unit_lit (Val := Elt Ideal) (S := S256x64) (e := .f32) _ x (by decide)

theorem ld2 (x : FVec Ideal S64x64 .f32) : View.ld (Val := Elt Ideal) (e' := .f32) x r0_2 = x :=
  View.ld_unit_lit (Val := Elt Ideal) (S := S64x64) (e := .f32) _ x (by decide)

theorem ld3 (x : FVec Ideal S64x512 .f32) : View.ld (Val := Elt Ideal) (e' := .f32) x r0_3 = x :=
  View.ld_unit_lit (Val := Elt Ideal) (S := S64x512) (e := .f32) _ x (by decide)

theorem ld4 (x : FVec Ideal S256x1 .f32) : View.ld (Val := Elt Ideal) (e' := .f32) x r0_4 = x :=
  View.ld_unit_lit (Val := Elt Ideal) (S := S256x1) (e := .f32) _ x (by decide)

theorem ld5 (x : FVec Ideal S1x512 .f32) : View.ld (Val := Elt Ideal) (e' := .f32) x r0_5 = x :=
  View.ld_unit_lit (Val := Elt Ideal) (S := S1x512) (e := .f32) _ x (by decide)

theorem block_eq (x0 : FVec Ideal S256x64 .f32) (x1 : FVec Ideal S256x1 .f32) (x2 : FVec Ideal S64x64 .f32) (x3 : FVec Ideal S1x64 .f32) (x4 : FVec Ideal S64x64 .f32) (x5 : FVec Ideal S1x64 .f32) (x6 : FVec Ideal S64x64 .f32) (x7 x8 : FVec Ideal S1x64 .f32) (x9 : FVec Ideal S64x512 .f32) (x10 : FVec Ideal S1x512 .f32) (l : Fin 256) (n : Fin 512) :
    out0_11 (F := Ideal) x0 x1 x2 x3 x4 x5 x6 x7 x8 x9 x10 (ix2 l n)
      = Ideal.div (if 256 ≤ n.val ∧ l = 0 then 0 else raw x0 x1 x2 x3 x4 x5 x6 x7 x8 x9 x10 (ix2 l n))
        (k0_pay4 (F := Ideal) (k0_pay7 x8 x0 x2 x3 x4 x5 x6 x7 x9) x1 x10 (ix2 0 ⟨n.val % 256, by omega⟩)) := by
  unfold raw
  unfold_out out0_11
  canon_tiles x h
  all_goals
    rw [ld0 x3, ld0 x5, ld0 x7, ld0 x8, ld1, ld2 x2, ld2 x4, ld2 x6, ld3, ld4, ld5]
    obtain ⟨l', c, rfl⟩ : ∃ (l' : Fin 256) (c : Fin 256), x = ix2 l' c := ⟨x 0, x 1, by idx_vars x⟩
    generalize k0_pay7 (F := Ideal) x8 x0 x2 x3 x4 x5 x6 x7 x9 = v
    obtain rfl : l' = l := Fin.ext h0.symm
  · have hn : n.val = 256 + c.val := h1
    have e : (⟨n.val % 256, by omega⟩ : Fin 256) = c := Fin.ext (by dsimp only; omega)
    have e' : n = ⟨256 + c.val, by omega⟩ := Fin.ext hn
    rw [e, e', pay6_at, pay3_at]
    simp
  · have hn : n.val = c.val := h1
    have e : (⟨n.val % 256, by omega⟩ : Fin 256) = c := Fin.ext (by dsimp only; omega)
    have e' : n = ⟨c.val, by omega⟩ := Fin.ext hn
    rw [e, e', pay5_at, pay2_at, if_neg (by dsimp only; omega)]

end Cert.Kernel16Ideal.FiltersContext
-- ==== Proof.FiltersContextReference.lean ====
module
public import proofs.«01_k».proof.Proof.Gen.Reference16Ideal.Run
public import Idealize.ShloMosaic.Lib.Pointwise

/-! The context's long filters, written as plain sums, and the reference's result read as them. -/

@[expose] public section
set_option maxRecDepth 16384
noncomputable section
open Idealize.ShloMosaic Idealize.ShloMosaic.TcCoe Idealize.SL.Sem

namespace Cert.FiltersContext

abbrev Mat (a b : ℕ) := FVec Ideal (⟨2, ![a, b]⟩ : Shape) .f32
abbrev Row (a : ℕ) := FVec Ideal (⟨1, ![a]⟩ : Shape) .f32

/-- One layer of the filter network: an affine map, each unit scaled by its own frequency, then the sine. -/
def layer {n : ℕ} (H : Fin 256 → Fin n → EReal) (W : Mat n 64) (B F : Row 64) (l : Fin 256) (k : Fin 64) : EReal :=
  FloatOps.sin (F := Ideal) (φ := .f32) (F (ix1 k) * ((∑ d : Fin n, H l d * W (ix2 d k)) + B (ix1 k)))

/-- The filters before normalization: the network's last linear map under the exponential window. -/
def windowed (Z : Mat 256 33) (T : Mat 256 1) (W1 : Mat 33 64) (B1 : Row 64) (W2 : Mat 64 64) (B2 : Row 64) (W3 : Mat 64 64) (B3 F : Row 64)
    (W4 : Mat 64 1024) (D : Mat 1 1024) (l : Fin 256) (n : Fin 1024) : EReal :=
  (∑ d : Fin 64, layer (layer (layer (fun l d => Z (ix2 l d)) W1 B1 F) W2 B2 F) W3 B3 F l d * W4 (ix2 d n))
    * (Ideal.exp (-T (ix2 l 0) * D (ix2 0 n)) + Ideal.ofBits .f32 0x3D4CCCCD#32)

/-- Column `n`'s filter at lag `l`: a backward filter says nothing about lag 0. -/
def kept (G : Fin 256 → Fin 1024 → EReal) (l : Fin 256) (n : Fin 1024) : EReal :=
  if 256 ≤ n.val % 512 ∧ l = 0 then 0 else G l n

/-- The summed magnitude of the forward and backward filters of order `o` and channel `c`. -/
def size (G : Fin 256 → Fin 1024 → EReal) (o : Fin 2) (c : Fin 256) : EReal :=
  (∑ l : Fin 256, FloatOps.absf (F := Ideal) (φ := .f32) (kept G l ⟨o.val * 512 + c, by omega⟩))
    + ∑ l : Fin 256, FloatOps.absf (F := Ideal) (φ := .f32) (kept G l ⟨o.val * 512 + (256 + c), by omega⟩)

/-- The filters: each order's and channel's pair divided by its summed magnitude. -/
def filters (Z : Mat 256 33) (T : Mat 256 1) (W1 : Mat 33 64) (B1 : Row 64) (W2 : Mat 64 64) (B2 : Row 64) (W3 : Mat 64 64) (B3 F : Row 64)
    (W4 : Mat 64 1024) (D : Mat 1 1024) : Mat 256 1024 := fun j =>
  Ideal.div (kept (windowed Z T W1 B1 W2 B2 W3 B3 F W4 D) (j 0) (j 1))
    (size (windowed Z T W1 B1 W2 B2 W3 B3 F W4 D) ⟨(j 1).val / 512, by have := (j 1).isLt; simp at this; omega⟩ ⟨(j 1).val % 256, by omega⟩)

end Cert.FiltersContext

namespace Cert.Reference16Ideal.FiltersContext
open Cert.Reference16Ideal Cert.Reference16Ideal.Gen Cert.FiltersContext

/-- A row of 64 repeated down 256 rows. -/
def rows (B : FVec Ideal S64 .f32) : FVec Ideal S256x64 .f32 :=
  broadcastInDim S256x64 ![0, 1] bcast_S1x64_S256x64_0_1 (broadcastInDim S1x64 ![1] bcast_S64_S1x64_1 B)

theorem rows_at (B : FVec Ideal S64 .f32) (l : Fin 256) (k : Fin 64) : rows B (ix2 l k) = B (ix1 k) := by
  pointwise [rows]

def first (Z : FVec Ideal S256x33 .f32) (W : FVec Ideal S33x64 .f32) (B F : FVec Ideal S64 .f32) : FVec Ideal S256x64 .f32 :=
  Host.sin (mulf (rows F) (addf (Host.dotGeneral dot_S256x33_S33x64_S256x64_1_0_0_1_n_n none Z W) (rows B)))

theorem first_at (Z : FVec Ideal S256x33 .f32) (W : FVec Ideal S33x64 .f32) (B F : FVec Ideal S64 .f32) (l : Fin 256) (k : Fin 64) :
    first Z W B F (ix2 l k) = layer (fun l d => Z (ix2 l d)) W B F l k := by
  pointwise [first, rows_at]
  rfl

def next (H : FVec Ideal S256x64 .f32) (W : FVec Ideal S64x64 .f32) (B F : FVec Ideal S64 .f32) : FVec Ideal S256x64 .f32 :=
  Host.sin (mulf (rows F) (addf (Host.dotGeneral dot_S256x64_S64x64_S256x64_1_0_0_1_n_n none H W) (rows B)))

theorem next_at (H : FVec Ideal S256x64 .f32) (W : FVec Ideal S64x64 .f32) (B F : FVec Ideal S64 .f32) (l : Fin 256) (k : Fin 64) :
    next H W B F (ix2 l k) = layer (fun l d => H (ix2 l d)) W B F l k := by
  pointwise [next, rows_at]
  rfl

def under (H : FVec Ideal S256x64 .f32) (W4 : FVec Ideal S64x1024 .f32) (T : FVec Ideal S256x1 .f32) (D : FVec Ideal S1x1024 .f32) : FVec Ideal S256x1024 .f32 :=
  mulf (Host.dotGeneral dot_S256x64_S64x1024_S256x1024_1_0_0_1_n_n none H W4) (addf (Host.exp (mulf (broadcastInDim S256x1024 ![0, 1] bcast_S256x1_S256x1024_0_1 (Host.negf T)) (broadcastInDim S256x1024 ![0, 1] bcast_S1x1024_S256x1024_0_1 D))) (broadcastInDim S256x1024 ![] bcast_S_S256x1024 (constant S_ .f32 0x3D4CCCCD#32)))

theorem under_at (H : FVec Ideal S256x64 .f32) (W4 : FVec Ideal S64x1024 .f32) (T : FVec Ideal S256x1 .f32) (D : FVec Ideal S1x1024 .f32) (l : Fin 256) (n : Fin 1024) :
    under H W4 T D (ix2 l n) = (∑ d : Fin 64, H (ix2 l d) * W4 (ix2 d n)) * (Ideal.exp (-T (ix2 l 0) * D (ix2 0 n)) + Ideal.ofBits .f32 0x3D4CCCCD#32) := by
  pointwise [under]

def ahead (U : FVec Ideal S256x1024 .f32) : FVec Ideal S256x2x256 .f32 :=
  shapeCast S256x2x256 (extractStridedSlice S256x2x1x256 ![0, 0, 0, 0] (shapeCast S256x2x2x256 U shapeCasts_S256x1024_S256x2x2x256) slices_S256x2x2x256_S256x2x1x256_0_0_0_0) shapeCasts_S256x2x1x256_S256x2x256

theorem ahead_at (U : FVec Ideal S256x1024 .f32) (l : Fin 256) (o : Fin 2) (c : Fin 256) :
    ahead U (ix3 l o c) = U (ix2 l ⟨o.val * 512 + c, by omega⟩) := by
  pointwise [ahead]

def later (U : FVec Ideal S256x1024 .f32) : FVec Ideal S255x2x256 .f32 :=
  shapeCast S255x2x256 (extractStridedSlice S255x2x1x256 ![1, 0, 1, 0] (shapeCast S256x2x2x256 U shapeCasts_S256x1024_S256x2x2x256) slices_S256x2x2x256_S255x2x1x256_1_0_1_0) shapeCasts_S255x2x1x256_S255x2x256

theorem later_at (U : FVec Ideal S256x1024 .f32) (l : Fin 255) (o : Fin 2) (c : Fin 256) :
    later U (ix3 l o c) = U (ix2 ⟨1 + l.val, by omega⟩ ⟨o.val * 512 + (256 + c), by omega⟩) := by
  pointwise [later]
  simp only [Nat.add_assoc]

def behind (L : FVec Ideal S255x2x256 .f32) : FVec Ideal S256x2x256 .f32 :=
  concatenate S256x2x256 0 [⟨S1x2x256, broadcastInDim S1x2x256 ![] bcast_S_S1x2x256 (constant S_ .f32 0x00000000#32)⟩, ⟨S255x2x256, L⟩] concatenates_S1x2x256_S255x2x256_S256x2x256_d0

theorem behind_zero (L : FVec Ideal S255x2x256 .f32) (o : Fin 2) (c : Fin 256) : behind L (ix3 0 o c) = 0 := by
  pointwise [behind]

theorem behind_succ (L : FVec Ideal S255x2x256 .f32) (l : Fin 256) (h : l ≠ 0) (o : Fin 2) (c : Fin 256) :
    behind L (ix3 l o c) = L (ix3 ⟨l.val - 1, by omega⟩ o c) := by
  have hl : l.val ≠ 0 := fun e => h (Fin.ext e)
  pointwise [behind]
  exact dif_neg (by omega)

def total (A B : FVec Ideal S256x2x256 .f32) : FVec Ideal S1x2x256 .f32 :=
  addf (broadcastInDim S1x2x256 ![1, 2] bcast_S2x256_S1x2x256_1_2 (Host.reduceAdd (Host.absf A) (constant S_ .f32 0x00000000#32) reducesTo_S256x2x256_S2x256_d0 h_S_))
    (broadcastInDim S1x2x256 ![1, 2] bcast_S2x256_S1x2x256_1_2 (Host.reduceAdd (Host.absf B) (constant S_ .f32 0x00000000#32) reducesTo_S256x2x256_S2x256_d0 h_S_))

theorem total_at (A B : FVec Ideal S256x2x256 .f32) (o : Fin 2) (c : Fin 256) :
    total A B (ix3 0 o c) = (∑ l : Fin 256, FloatOps.absf (F := Ideal) (φ := .f32) (A (ix3 l o c))) + ∑ l : Fin 256, FloatOps.absf (F := Ideal) (φ := .f32) (B (ix3 l o c)) := by
  pointwise [total]

def shared (A : FVec Ideal S256x2x256 .f32) (N : FVec Ideal S1x2x256 .f32) : FVec Ideal S256x2x1x256 .f32 :=
  broadcastInDim S256x2x1x256 ![0, 1, 3] bcast_S256x2x256_S256x2x1x256_0_1_3 (Host.divf A (broadcastInDim S256x2x256 ![0, 1, 2] bcast_S1x2x256_S256x2x256_0_1_2 N))

theorem shared_at (A : FVec Ideal S256x2x256 .f32) (N : FVec Ideal S1x2x256 .f32) (l : Fin 256) (o : Fin 2) (c : Fin 256) :
    shared A N (ix4 l o 0 c) = Ideal.div (A (ix3 l o c)) (N (ix3 0 o c)) := by
  pointwise [shared]

def paired (P Q : FVec Ideal S256x2x1x256 .f32) : FVec Ideal S256x1024 .f32 :=
  shapeCast S256x1024 (concatenate S256x2x2x256 2 [⟨S256x2x1x256, P⟩, ⟨S256x2x1x256, Q⟩] concatenates_S256x2x1x256_S256x2x1x256_S256x2x2x256_d2) shapeCasts_S256x2x2x256_S256x1024

theorem paired_low (P Q : FVec Ideal S256x2x1x256 .f32) (l : Fin 256) (o : Fin 2) (c : Fin 256) :
    paired P Q (ix2 l ⟨o.val * 512 + c, by omega⟩) = P (ix4 l o 0 c) := by
  pointwise [paired]
  rw [dif_pos (by omega)]
  congr 2
  exact Subsingleton.elim _ _

theorem paired_high (P Q : FVec Ideal S256x2x1x256 .f32) (l : Fin 256) (o : Fin 2) (c : Fin 256) :
    paired P Q (ix2 l ⟨o.val * 512 + (256 + c), by omega⟩) = Q (ix4 l o 0 c) := by
  pointwise [paired]
  rw [dif_neg (by omega)]
  congr 2
  exact Fin.ext (by simp only [Fin.val_zero]; omega)

def whole (Z : FVec Ideal S256x33 .f32) (T : FVec Ideal S256x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32) : FVec Ideal S256x1024 .f32 :=
  let U := under (next (next (first Z W1 B1 F) W2 B2 F) W3 B3 F) W4 T D
  paired (shared (ahead U) (total (ahead U) (behind (later U)))) (shared (behind (later U)) (total (ahead U) (behind (later U))))

/-- The reference's filters before normalization are the windowed ones. -/
theorem under_eq (Z : FVec Ideal S256x33 .f32) (T : FVec Ideal S256x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32) (l : Fin 256) (n : Fin 1024) :
    under (next (next (first Z W1 B1 F) W2 B2 F) W3 B3 F) W4 T D (ix2 l n) = windowed Z T W1 B1 W2 B2 W3 B3 F W4 D l n := by
  rw [under_at]
  unfold windowed
  simp only [next_at, first_at]

theorem ahead_kept (U : FVec Ideal S256x1024 .f32) (l : Fin 256) (o : Fin 2) (c : Fin 256) :
    ahead U (ix3 l o c) = kept (fun l n => U (ix2 l n)) l ⟨o.val * 512 + c, by omega⟩ := by
  rw [ahead_at, kept, if_neg (by dsimp only; omega)]

theorem behind_kept (U : FVec Ideal S256x1024 .f32) (l : Fin 256) (o : Fin 2) (c : Fin 256) :
    behind (later U) (ix3 l o c) = kept (fun l n => U (ix2 l n)) l ⟨o.val * 512 + (256 + c), by omega⟩ := by
  have hc : 256 ≤ (o.val * 512 + (256 + c.val)) % 512 := by omega
  by_cases h : l = 0
  · subst h
    rw [behind_zero, kept, if_pos ⟨hc, rfl⟩]
  · have hl : l.val ≠ 0 := fun e => h (Fin.ext e)
    rw [behind_succ _ _ h, later_at, kept, if_neg (fun e => h e.2)]
    have e : (⟨1 + (l.val - 1), by omega⟩ : Fin 256) = l := Fin.ext (by dsimp only; omega)
    simp only [e]

/-- The reference's result is the filters. -/
theorem whole_eq (Z : FVec Ideal S256x33 .f32) (T : FVec Ideal S256x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32) :
    whole Z T W1 B1 W2 B2 W3 B3 F W4 D = filters Z T W1 B1 W2 B2 W3 B3 F W4 D := by
  funext j
  obtain ⟨l, n, rfl⟩ : ∃ (l : Fin 256) (n : Fin 1024), j = ix2 l n := ⟨j 0, j 1, by idx_vars j⟩
  have hU : (fun l n => under (next (next (first Z W1 B1 F) W2 B2 F) W3 B3 F) W4 T D (ix2 l n)) = windowed Z T W1 B1 W2 B2 W3 B3 F W4 D :=
    funext fun l => funext fun n => under_eq Z T W1 B1 W2 B2 W3 B3 F W4 D l n
  unfold whole
  generalize under (next (next (first Z W1 B1 F) W2 B2 F) W3 B3 F) W4 T D = U at hU ⊢
  have hN : ∀ (o : Fin 2) (c : Fin 256), total (ahead U) (behind (later U)) (ix3 0 o c) = size (fun l n => U (ix2 l n)) o c := fun o c => by
    rw [total_at]
    simp only [ahead_kept, behind_kept]
    rfl
  have e : ∀ (o : Fin 2) (s : Fin 2) (c : Fin 256), n.val = o.val * 512 + (s.val * 256 + c.val) →
      (⟨n.val / 512, by omega⟩ : Fin 2) = o ∧ (⟨n.val % 256, by omega⟩ : Fin 256) = c := fun o s c h =>
    ⟨Fin.ext (by dsimp only; omega), Fin.ext (by dsimp only; omega)⟩
  change _ = Ideal.div (kept (windowed Z T W1 B1 W2 B2 W3 B3 F W4 D) l n) (size (windowed Z T W1 B1 W2 B2 W3 B3 F W4 D) ⟨n.val / 512, by omega⟩ ⟨n.val % 256, by omega⟩)
  rw [← hU]
  by_cases h : n.val % 512 < 256
  · obtain ⟨o, c, ho⟩ : ∃ (o : Fin 2) (c : Fin 256), n = ⟨o.val * 512 + c.val, by omega⟩ := ⟨⟨n.val / 512, by omega⟩, ⟨n.val % 512, h⟩, Fin.ext (by dsimp only; omega)⟩
    obtain ⟨e1, e2⟩ := e o 0 c (by rw [ho]; simp)
    rw [e1, e2, ho, paired_low, shared_at, ahead_kept, hN]
  · obtain ⟨o, c, ho⟩ : ∃ (o : Fin 2) (c : Fin 256), n = ⟨o.val * 512 + (256 + c.val), by omega⟩ := ⟨⟨n.val / 512, by omega⟩, ⟨n.val % 512 - 256, by omega⟩, Fin.ext (by dsimp only; omega)⟩
    obtain ⟨e1, e2⟩ := e o 1 c (by rw [ho]; simp)
    rw [e1, e2, ho, paired_high, shared_at, behind_kept, hN]

end Cert.Reference16Ideal.FiltersContext
-- ==== Proof.FiltersContextArray.lean ====
module
public import proofs.«01_k».proof.Proof.FiltersContextKernel
public import proofs.«01_k».proof.Proof.FiltersContextReference

/-! The context's filter kernel's result as a function of its arguments: the padded inputs read back, and the two blocks put together. -/

@[expose] public section
set_option maxRecDepth 16384
noncomputable section
open Idealize.ShloMosaic Idealize.ShloMosaic.TcCoe Idealize.SL.Sem
open Idealize.ShloMosaic.Pipeline (Dat)
namespace Cert.Kernel16Ideal.FiltersContext
open Cert.Kernel16Ideal Cert.Kernel16Ideal.Gen Cert.FiltersContext

theorem zero_word : (FloatOps.sitofp (F := Ideal) .f32 0#32 : EReal) = 0 := by
  simp [FloatOps.sitofp]

/-- The position features, padded to 64 columns. -/
def wideZ (Z : FVec Ideal S256x33 .f32) : FVec Ideal S256x64 .f32 :=
  pad S256x64 ![0, 0] ![0, 31] ![0, 0] Z (sitofp .f32 (constantI S_ 32 0#32)) pads_S256x33_S256x64_000_0310 h_S_

theorem wideZ_low (Z : FVec Ideal S256x33 .f32) (l : Fin 256) (d : Fin 64) (h : d.val < 33) : wideZ Z (ix2 l d) = Z (ix2 l ⟨d, h⟩) := by
  pointwise [wideZ]
  rw [dif_pos (by omega)]

theorem wideZ_high (Z : FVec Ideal S256x33 .f32) (l : Fin 256) (d : Fin 64) (h : 33 ≤ d.val) : wideZ Z (ix2 l d) = 0 := by
  pointwise [wideZ]
  rw [dif_neg (by omega)]
  exact zero_word

/-- The first layer's weight, padded to 64 rows. -/
def wideW (W : FVec Ideal S33x64 .f32) : FVec Ideal S64x64 .f32 :=
  pad S64x64 ![0, 0] ![31, 0] ![0, 0] W (sitofp .f32 (constantI S_ 32 0#32)) pads_S33x64_S64x64_0310_000 h_S_

theorem wideW_low (W : FVec Ideal S33x64 .f32) (d k : Fin 64) (h : d.val < 33) : wideW W (ix2 d k) = W (ix2 ⟨d, h⟩ k) := by
  pointwise [wideW]
  rw [dif_pos (by omega)]

/-- The padding adds nothing to the first layer's sums. -/
theorem wide_sum (Z : FVec Ideal S256x33 .f32) (W : FVec Ideal S33x64 .f32) (l : Fin 256) (k : Fin 64) :
    ∑ d : Fin 64, wideZ Z (ix2 l d) * wideW W (ix2 d k) = ∑ d : Fin 33, Z (ix2 l d) * W (ix2 d k) := by
  refine (Fin.sum_univ_add (a := 33) (b := 31) fun d => wideZ Z (ix2 l d) * wideW W (ix2 d k)).trans ?_
  rw [Finset.sum_congr rfl fun d _ => by rw [wideZ_low Z l (Fin.castAdd 31 d) d.isLt, wideW_low W (Fin.castAdd 31 d) k d.isLt],
    Finset.sum_eq_zero (s := (Finset.univ : Finset (Fin 31))) fun d _ => by rw [wideZ_high Z l (Fin.natAdd 33 d) (by simp), zero_mul], add_zero]
  rfl

def asRow (B : FVec Ideal S64 .f32) : FVec Ideal S1x64 .f32 := broadcastInDim S1x64 ![1] bcast_S64_S1x64_1 B

theorem asRow_at (B : FVec Ideal S64 .f32) (k : Fin 64) : asRow B (ix2 0 k) = B (ix1 k) := by
  pointwise [asRow]

variable (m : (ℓ : Loc nD τ sig) → Buf (Elt Ideal) ℓ)

theorem v_z (c : Dev nD) : V m c main_v0 = wideZ (m ((c : Thread nD τ).loc main_arg0)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_w (c : Dev nD) : V m c main_v1 = wideW (m ((c : Thread nD τ).loc main_arg2)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_b1 (c : Dev nD) : V m c main_v2 = asRow (m ((c : Thread nD τ).loc main_arg3)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_b2 (c : Dev nD) : V m c main_v3 = asRow (m ((c : Thread nD τ).loc main_arg5)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_b3 (c : Dev nD) : V m c main_v4 = asRow (m ((c : Thread nD τ).loc main_arg7)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl
theorem v_fr (c : Dev nD) : V m c main_v5 = asRow (m ((c : Thread nD τ).loc main_arg8)) := by
  simp only [V, hostOps0, hostOps0_1, hostOps0_2, hostOps0_3, hostOps0_4, List.flatten_cons, List.flatten_nil, List.append_nil,
    List.cons_append, List.nil_append, StableHlo.TRef.binary, StableHlo.TRef.unary, StableHlo.TRef.toBuf, StableHlo.TRef.ofBuf, cast_eq]
  after_results_simp
  rfl

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, t.val] ∧ win0_10.index t = ![0, t.val] ∧ win0_11.index t = ![0, t.val] ∧ t.val < 2 :=
  (by decide +kernel : ∀ t : Fin grid0.N, _)

theorem tile0 (c : Dev nD) (A : Buf (Elt Ideal) ((c : Thread nD τ).loc (Pipeline.arrRef spec0 0))) (t : Fin cfg0.N) :
    (((cfg0.win 0).blk t).view.read (Elt Ideal) A : Vec Ideal S256x64 .f32) = (A : Vec Ideal S256x64 .f32) := by
  funext y
  obtain ⟨a, b, rfl⟩ : ∃ (a : Fin 256) (b : Fin 64), y = ix2 a b := ⟨y 0, y 1, by idx_vars y⟩
  blk_point [idx t]

theorem z_at (c : Dev nD) (t : Fin cfg0.N) : (iblk m c 0 t : Vec Ideal S256x64 .f32) = wideZ (m ((c : Thread nD τ).loc main_arg0)) :=
  (tile0 c (V m c main_v0) t).trans (v_z m c)

theorem tile1 (c : Dev nD) (A : Buf (Elt Ideal) ((c : Thread nD τ).loc (Pipeline.arrRef spec0 1))) (t : Fin cfg0.N) :
    (((cfg0.win 1).blk t).view.read (Elt Ideal) A : Vec Ideal S256x1 .f32) = (A : Vec Ideal S256x1 .f32) := by
  funext y
  obtain ⟨a, b, rfl⟩ : ∃ (a : Fin 256) (b : Fin 1), y = ix2 a b := ⟨y 0, y 1, by idx_vars y⟩
  blk_point [idx t]

theorem t_at (c : Dev nD) (t : Fin cfg0.N) : (iblk m c 1 t : Vec Ideal S256x1 .f32) = m ((c : Thread nD τ).loc main_arg1) :=
  (tile1 c (V m c main_arg1) t).trans (V_main_arg1 m c)

theorem tile2 (c : Dev nD) (A : Buf (Elt Ideal) ((c : Thread nD τ).loc (Pipeline.arrRef spec0 2))) (t : Fin cfg0.N) :
    (((cfg0.win 2).blk t).view.read (Elt Ideal) A : Vec Ideal S64x64 .f32) = (A : Vec Ideal S64x64 .f32) := by
  funext y
  obtain ⟨a, b, rfl⟩ : ∃ (a : Fin 64) (b : Fin 64), y = ix2 a b := ⟨y 0, y 1, by idx_vars y⟩
  blk_point [idx t]

theorem w1_at (c : Dev nD) (t : Fin cfg0.N) : (iblk m c 2 t : Vec Ideal S64x64 .f32) = wideW (m ((c : Thread nD τ).loc main_arg2)) :=
  (tile2 c (V m c main_v1) t).trans (v_w m c)

theorem tile3 (c : Dev nD) (A : Buf (Elt Ideal) ((c : Thread nD τ).loc (Pipeline.arrRef spec0 3))) (t : Fin cfg0.N) :
    (((cfg0.win 3).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem b1_at (c : Dev nD) (t : Fin cfg0.N) : (iblk m c 3 t : Vec Ideal S1x64 .f32) = asRow (m ((c : Thread nD τ).loc main_arg3)) :=
  (tile3 c (V m c main_v2) t).trans (v_b1 m c)

theorem tile4 (c : Dev nD) (A : Buf (Elt Ideal) ((c : Thread nD τ).loc (Pipeline.arrRef spec0 4))) (t : Fin cfg0.N) :
    (((cfg0.win 4).blk t).view.read (Elt Ideal) A : Vec Ideal S64x64 .f32) = (A : Vec Ideal S64x64 .f32) := by
  funext y
  obtain ⟨a, b, rfl⟩ : ∃ (a : Fin 64) (b : Fin 64), y = ix2 a b := ⟨y 0, y 1, by idx_vars y⟩
  blk_point [idx t]

theorem w2_at (c : Dev nD) (t : Fin cfg0.N) : (iblk m c 4 t : Vec Ideal S64x64 .f32) = m ((c : Thread nD τ).loc main_arg4) :=
  (tile4 c (V m c main_arg4) t).trans (V_main_arg4 m c)

theorem tile5 (c : Dev nD) (A : Buf (Elt Ideal) ((c : Thread nD τ).loc (Pipeline.arrRef spec0 5))) (t : Fin cfg0.N) :
    (((cfg0.win 5).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem b2_at (c : Dev nD) (t : Fin cfg0.N) : (iblk m c 5 t : Vec Ideal S1x64 .f32) = asRow (m ((c : Thread nD τ).loc main_arg5)) :=
  (tile5 c (V m c main_v3) t).trans (v_b2 m c)

theorem tile6 (c : Dev nD) (A : Buf (Elt Ideal) ((c : Thread nD τ).loc (Pipeline.arrRef spec0 6))) (t : Fin cfg0.N) :
    (((cfg0.win 6).blk t).view.read (Elt Ideal) A : Vec Ideal S64x64 .f32) = (A : Vec Ideal S64x64 .f32) := by
  funext y
  obtain ⟨a, b, rfl⟩ : ∃ (a : Fin 64) (b : Fin 64), y = ix2 a b := ⟨y 0, y 1, by idx_vars y⟩
  blk_point [idx t]

theorem w3_at (c : Dev nD) (t : Fin cfg0.N) : (iblk m c 6 t : Vec Ideal S64x64 .f32) = m ((c : Thread nD τ).loc main_arg6) :=
  (tile6 c (V m c main_arg6) t).trans (V_main_arg6 m c)

theorem tile7 (c : Dev nD) (A : Buf (Elt Ideal) ((c : Thread nD τ).loc (Pipeline.arrRef spec0 7))) (t : Fin cfg0.N) :
    (((cfg0.win 7).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem b3_at (c : Dev nD) (t : Fin cfg0.N) : (iblk m c 7 t : Vec Ideal S1x64 .f32) = asRow (m ((c : Thread nD τ).loc main_arg7)) :=
  (tile7 c (V m c main_v4) t).trans (v_b3 m c)

theorem tile8 (c : Dev nD) (A : Buf (Elt Ideal) ((c : Thread nD τ).loc (Pipeline.arrRef spec0 8))) (t : Fin cfg0.N) :
    (((cfg0.win 8).blk t).view.read (Elt Ideal) A : Vec Ideal S1x64 .f32) = (A : Vec Ideal S1x64 .f32) := by
  funext y
  obtain ⟨a, b, rfl⟩ : ∃ (a : Fin 1) (b : Fin 64), y = ix2 a b := ⟨y 0, y 1, by idx_vars y⟩
  blk_point [idx t]

theorem fr_at (c : Dev nD) (t : Fin cfg0.N) : (iblk m c 8 t : Vec Ideal S1x64 .f32) = asRow (m ((c : Thread nD τ).loc main_arg8)) :=
  (tile8 c (V m c main_v5) t).trans (v_fr m c)

theorem tile9 (c : Dev nD) (A : Buf (Elt Ideal) ((c : Thread nD τ).loc (Pipeline.arrRef spec0 9))) (t : Fin cfg0.N) (d : Fin 64) (n : Fin 512) (k : Fin 1024) (hk : (k : ℕ) = t.val * 512 + n) :
    (((cfg0.win 9).blk t).view.read (Elt Ideal) A : Vec Ideal S64x512 .f32) (ix2 d n) = (A : Vec Ideal S64x1024 .f32) (ix2 d k) := by
  blk_point [idx t]

theorem w4_at (c : Dev nD) (t : Fin cfg0.N) (d : Fin 64) (n : Fin 512) (k : Fin 1024) (hk : (k : ℕ) = t.val * 512 + n) :
    (iblk m c 9 t : Vec Ideal S64x512 .f32) (ix2 d n) = m ((c : Thread nD τ).loc main_arg9) (ix2 d k) := by
  refine (tile9 c (V m c main_arg9) t d n k hk).trans ?_
  rw [V_main_arg9]

theorem tile10 (c : Dev nD) (A : Buf (Elt Ideal) ((c : Thread nD τ).loc (Pipeline.arrRef spec0 10))) (t : Fin cfg0.N) (d : Fin 1) (n : Fin 512) (k : Fin 1024) (hk : (k : ℕ) = t.val * 512 + n) :
    (((cfg0.win 10).blk t).view.read (Elt Ideal) A : Vec Ideal S1x512 .f32) (ix2 d n) = (A : Vec Ideal S1x1024 .f32) (ix2 d k) := by
  blk_point [idx t]

theorem dl_at (c : Dev nD) (t : Fin cfg0.N) (d : Fin 1) (n : Fin 512) (k : Fin 1024) (hk : (k : ℕ) = t.val * 512 + n) :
    (iblk m c 10 t : Vec Ideal S1x512 .f32) (ix2 d n) = m ((c : Thread nD τ).loc main_arg10) (ix2 d k) := by
  refine (tile10 c (V m c main_arg10) t d n k hk).trans ?_
  rw [V_main_arg10]

theorem hidden_layer (H : FVec Ideal S256x64 .f32) (W : FVec Ideal S64x64 .f32) (B F : FVec Ideal S64 .f32) (l : Fin 256) (k : Fin 64) :
    hidden H W (asRow B) (asRow F) (ix2 l k) = layer (fun l d => H (ix2 l d)) W B F l k := by
  rw [hidden_at, asRow_at, asRow_at]
  rfl

theorem hidden_first (Z : FVec Ideal S256x33 .f32) (W : FVec Ideal S33x64 .f32) (B F : FVec Ideal S64 .f32) (l : Fin 256) (k : Fin 64) :
    hidden (wideZ Z) (wideW W) (asRow B) (asRow F) (ix2 l k) = layer (fun l d => Z (ix2 l d)) W B F l k := by
  rw [hidden_at, asRow_at, asRow_at, wide_sum]
  rfl

theorem raw_eq (Z : FVec Ideal S256x33 .f32) (T : FVec Ideal S256x1 .f32) (W1 : FVec Ideal S33x64 .f32) (B1 : FVec Ideal S64 .f32) (W2 : FVec Ideal S64x64 .f32) (B2 : FVec Ideal S64 .f32) (W3 : FVec Ideal S64x64 .f32) (B3 F : FVec Ideal S64 .f32) (W4 : FVec Ideal S64x1024 .f32) (D : FVec Ideal S1x1024 .f32)
    (x9 : FVec Ideal S64x512 .f32) (x10 : FVec Ideal S1x512 .f32) (l : Fin 256) (n : Fin 512) (k : Fin 1024) (h9 : ∀ d, x9 (ix2 d n) = W4 (ix2 d k)) (h10 : x10 (ix2 0 n) = D (ix2 0 k)) :
    raw (wideZ Z) T (wideW W1) (asRow B1) W2 (asRow B2) W3 (asRow B3) (asRow F) x9 x10 (ix2 l n) = windowed Z T W1 B1 W2 B2 W3 B3 F W4 D l k := by
  have e1 : (fun l d => hidden (wideZ Z) (wideW W1) (asRow B1) (asRow F) (ix2 l d)) = layer (fun l d => Z (ix2 l d)) W1 B1 F :=
    funext fun l => funext fun d => hidden_first Z W1 B1 F l d
  have e2 : (fun l d => hidden (hidden (wideZ Z) (wideW W1) (asRow B1) (asRow F)) W2 (asRow B2) (asRow F) (ix2 l d))
      = layer (layer (fun l d => Z (ix2 l d)) W1 B1 F) W2 B2 F := funext fun l => funext fun d => by
    rw [hidden_layer, e1]
  have e3 : ∀ d, hidden (hidden (hidden (wideZ Z) (wideW W1) (asRow B1) (asRow F)) W2 (asRow B2) (asRow F)) W3 (asRow B3) (asRow F) (ix2 l d)
      = layer (layer (layer (fun l d => Z (ix2 l d)) W1 B1 F) W2 B2 F) W3 B3 F l d := fun d => by
    rw [hidden_layer, e2]
  rw [raw, pay1_at, pay7_eq, h10]
  unfold windowed
  simp only [e3, h9]

/-- A block's value, given which columns of the windowed filters its unnormalized ones are. -/
theorem block_value (x0 : FVec Ideal S256x64 .f32) (x1 : FVec Ideal S256x1 .f32) (x2 : FVec Ideal S64x64 .f32) (x3 : FVec Ideal S1x64 .f32) (x4 : FVec Ideal S64x64 .f32) (x5 : FVec Ideal S1x64 .f32) (x6 : FVec Ideal S64x64 .f32) (x7 x8 : FVec Ideal S1x64 .f32) (x9 : FVec Ideal S64x512 .f32) (x10 : FVec Ideal S1x512 .f32)
    (G : Fin 256 → Fin 1024 → EReal) (o : Fin 2) (hG : ∀ (l : Fin 256) (n : Fin 512), raw x0 x1 x2 x3 x4 x5 x6 x7 x8 x9 x10 (ix2 l n) = G l ⟨o.val * 512 + n.val, by omega⟩)
    (l : Fin 256) (n : Fin 512) :
    out0_11 (F := Ideal) x0 x1 x2 x3 x4 x5 x6 x7 x8 x9 x10 (ix2 l n)
      = Ideal.div (kept G l ⟨o.val * 512 + n.val, by omega⟩) (size G o ⟨n.val % 256, by omega⟩) := by
  rw [block_eq, pay4_at]
  generalize (⟨n.val % 256, _⟩ : Fin 256) = c
  unfold raw at hG ⊢
  simp only [pay2_at, pay3_at, hG]
  have e : (256 ≤ n.val ∧ l = 0) = (256 ≤ (o.val * 512 + n.val) % 512 ∧ l = 0) := by
    rw [show (o.val * 512 + n.val) % 512 = n.val by omega]
  have e0 : ∀ (l : Fin 256) (c : Fin 256), kept G l ⟨o.val * 512 + c.val, by omega⟩ = G l ⟨o.val * 512 + c.val, by omega⟩ := fun l c => by
    rw [kept, if_neg (by dsimp only; omega)]
  have e1 : ∀ (l : Fin 256) (c : Fin 256), kept G l ⟨o.val * 512 + (256 + c.val), by omega⟩ = if l = 0 then 0 else G l ⟨o.val * 512 + (256 + c.val), by omega⟩ := fun l c => by
    have : 256 ≤ (o.val * 512 + (256 + c.val)) % 512 := by omega
    by_cases h : l = 0
    · rw [kept, if_pos ⟨this, h⟩, if_pos h]
    · rw [kept, if_neg fun e => h e.2, if_neg h]
  unfold size
  simp only [e0, e1]
  congr 1
  unfold kept
  simp only [e]

theorem final (c : Dev nD) : (dats m 0 c).arrAt 11 (cfgs 0).N
    = filters (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have hN := (idx t).2.2.2.2.2.2.2.2.2.2.2.2
  blk_simp
  rw [after0_11]
  obtain ⟨l, n, rfl⟩ : ∃ (l : Fin 256) (n : Fin 512), y = (ix2 l n : S256x512.Idx) := ⟨y 0, y 1, by idx_vars y⟩
  have hG : ∀ (l : Fin 256) (n : Fin 512), raw (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 l n)
      = windowed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) l ⟨(⟨t.val, hN⟩ : Fin 2).val * 512 + n.val, by dsimp only; omega⟩ := fun l n => by
    rw [z_at, t_at, w1_at, b1_at, w2_at, b2_at, w3_at, b3_at, fr_at]
    exact raw_eq _ _ _ _ _ _ _ _ _ _ _ _ _ l n _ (fun d => w4_at m c t d n _ rfl) (dl_at m c t 0 n _ rfl)
  refine (block_value _ _ _ _ _ _ _ _ _ _ _ _ ⟨t.val, hN⟩ hG l n).trans (Eq.trans (b := filters (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 l ⟨t.val * 512 + n.val, by omega⟩)) ?_ ?_)
  · have e1 : (⟨(t.val * 512 + n.val) / 512, by omega⟩ : Fin 2) = ⟨t.val, hN⟩ := Fin.ext (by dsimp only; omega)
    have e2 : (⟨(t.val * 512 + n.val) % 256, by omega⟩ : Fin 256) = ⟨n.val % 256, by omega⟩ := Fin.ext (by dsimp only; omega)
    change _ = Ideal.div (kept (windowed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) l ⟨t.val * 512 + n.val, by omega⟩) (size (windowed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) ⟨(t.val * 512 + n.val) / 512, by omega⟩ ⟨(t.val * 512 + n.val) % 256, by omega⟩)
    rw [e1, e2]
  · congr 1
    blk_ext [idx t]

end Cert.Kernel16Ideal.FiltersContext
-- ==== Proof.FiltersContext.lean ====
module
public import proofs.«01_k».proof.Defs
public import proofs.«01_k».proof.Proof.FiltersContextArray
public import proofs.«01_k».proof.Proof.FiltersContextReference

/-! The context's long filters' value claim: from equal arguments both programs end with the same result. -/

@[expose] public section
noncomputable section
open Idealize.ShloMosaic Idealize.ShloMosaic.TcCoe Idealize.SL.Sem
namespace Cert.FiltersContext

/-- What the reference's program ends with. -/
theorem reference_ends (m' : (ℓ : Loc Cert.Reference16Ideal.nD Cert.Reference16Ideal.τ Cert.Reference16Ideal.sig) → Buf (Elt Ideal) ℓ) (g' : Dev Cert.Reference16Ideal.nD → PrngReg) :
    θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
        r.2.mem ((c.tc : Thread Cert.Reference16Ideal.nD Cert.Reference16Ideal.τ).loc Cert.Reference16Ideal.main_v54) = filters (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) (m' ((c.tc : Thread Cert.Reference16Ideal.nD Cert.Reference16Ideal.τ).loc Cert.Reference16Ideal.main_arg6)) (m' ((c.tc : Thread Cert.Reference16Ideal.nD Cert.Reference16Ideal.τ).loc Cert.Reference16Ideal.main_arg7)) (m' ((c.tc : Thread Cert.Reference16Ideal.nD Cert.Reference16Ideal.τ).loc Cert.Reference16Ideal.main_arg8)) (m' ((c.tc : Thread Cert.Reference16Ideal.nD Cert.Reference16Ideal.τ).loc Cert.Reference16Ideal.main_arg9)) (m' ((c.tc : Thread Cert.Reference16Ideal.nD Cert.Reference16Ideal.τ).loc Cert.Reference16Ideal.main_arg10))
        ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
        ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
        ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
        ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
        ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
        ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
        ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
        ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
        ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
        ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
        ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)) :=
  θ_run_mono (Cert.Reference16Ideal.Value.run m' g') fun r h c =>
    ⟨(h c).1.trans (Cert.Reference16Ideal.FiltersContext.whole_eq _ _ _ _ _ _ _ _ _ _ _), (h c).2⟩

/-- What the kernel's program ends with. -/
theorem kernel_ends (m : (ℓ : Loc Cert.Kernel16Ideal.nD Cert.Kernel16Ideal.τ Cert.Kernel16Ideal.sig) → Buf (Elt Ideal) ℓ) (g : Dev Cert.Kernel16Ideal.nD → PrngReg) :
    θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
        r.2.mem ((c.tc : Thread Cert.Kernel16Ideal.nD Cert.Kernel16Ideal.τ).loc Cert.Kernel16Ideal.main_v6) = filters (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (m ((c.tc : Thread Cert.Kernel16Ideal.nD Cert.Kernel16Ideal.τ).loc Cert.Kernel16Ideal.main_arg5)) (m ((c.tc : Thread Cert.Kernel16Ideal.nD Cert.Kernel16Ideal.τ).loc Cert.Kernel16Ideal.main_arg6)) (m ((c.tc : Thread Cert.Kernel16Ideal.nD Cert.Kernel16Ideal.τ).loc Cert.Kernel16Ideal.main_arg7)) (m ((c.tc : Thread Cert.Kernel16Ideal.nD Cert.Kernel16Ideal.τ).loc Cert.Kernel16Ideal.main_arg8)) (m ((c.tc : Thread Cert.Kernel16Ideal.nD Cert.Kernel16Ideal.τ).loc Cert.Kernel16Ideal.main_arg9)) (m ((c.tc : Thread Cert.Kernel16Ideal.nD Cert.Kernel16Ideal.τ).loc Cert.Kernel16Ideal.main_arg10))
        ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
        ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
        ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
        ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
        ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
        ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
        ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
        ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
        ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
        ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
        ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)) :=
  θ_run_mono (θ_run_and (Cert.Kernel16Ideal.Gen.unchanged m g) (Cert.Kernel16Ideal.Gen.run_main m g)) fun r h c =>
    ⟨((h.2 c).1 11).trans (Cert.Kernel16Ideal.FiltersContext.final m c), h.1 c⟩

theorem algebraic : Cert.algebraic_Kernel16Ideal_Reference16Ideal := by
  intro m g m' g' _ hagree
  refine ⟨_, kernel_ends m g, θ_run_mono (reference_ends m' g') fun r h c => ?_⟩
  obtain ⟨e0, e1, e2, e3, e4, e5, e6, e7, e8, e9, e10⟩ := hagree c
  obtain ⟨h1, h2⟩ := h c
  rw [e0, e1, e2, e3, e4, e5, e6, e7, e8, e9, e10] at h1
  exact ⟨h1, h2⟩

end Cert.FiltersContext
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_qk
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Pre_finite_qk12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Pre_finite_qk13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Pre_finite_qk4
public import proofs.«01_k».proof.Proof.Attn
public import proofs.«01_k».proof.Proof.Ffn
public import proofs.«01_k».proof.Proof.Proj
public import proofs.«01_k».proof.Proof.Gqa
public import proofs.«01_k».proof.Proof.Merge
public import proofs.«01_k».proof.Proof.FfnPlain
public import proofs.«01_k».proof.Proof.FfnContext
public import proofs.«01_k».proof.Proof.ProjContext
public import proofs.«01_k».proof.Proof.MergeContext
public import proofs.«01_k».proof.Proof.Mla
public import proofs.«01_k».proof.Proof.MlaContext
public import proofs.«01_k».proof.Proof.AttnContext
public import proofs.«01_k».proof.Proof.GqaContext
public import proofs.«01_k».proof.Proof.Modulation
public import proofs.«01_k».proof.Proof.Filters
public import proofs.«01_k».proof.Proof.FiltersContext
public import Idealize.ShloMosaic.Adequacy
public import Idealize.ShloMosaic.Init

/-! The proof of `Cert.Claim`: the frames of the programs and the value claims of the latent attention, the
feed-forward, the input projection, the grouped-query attention and the merge, and of the feed-forward without the final
norm, the context's feed-forward, input projection, merge and attentions, and of the modulation vectors and the long filters. -/

@[expose] public section

noncomputable section

namespace Cert.Proof

open Idealize.ShloMosaic Idealize.SL.Sem

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem frame_reference2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := by
  intro m ρ _
  exact (θ_run Cert.Reference3Ideal.defs _ _).mono (fun r h => ⟨fun c => (h c).2.2.2.2.2, sem_eq_zero_of_no_sems (by decide) r.2⟩)
    (Cert.Reference3Ideal.Value.run (F := Ideal) m ρ)

theorem frame_reference4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run (F := Ideal) m ρ)

theorem frame_reference8 : Cert.quiescent_Reference8Ideal := by
  intro m ρ _
  exact (θ_run Cert.Reference8Ideal.defs _ _).mono (fun r h => ⟨fun c => (h c).2.2.2.2.2, sem_eq_zero_of_no_sems (by decide) r.2⟩)
    (Cert.Reference8Ideal.Value.run (F := Ideal) m ρ)

theorem frame_reference9 : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run (F := Ideal) m ρ)

theorem frame_reference10 : Cert.quiescent_Reference10Ideal := by
  intro m ρ _
  exact (θ_run Cert.Reference10Ideal.defs _ _).mono (fun r h => ⟨fun c => (h c).2.2.2, sem_eq_zero_of_no_sems (by decide) r.2⟩)
    (Cert.Reference10Ideal.Value.run (F := Ideal) m ρ)

theorem frame_reference11 : Cert.quiescent_Reference11Ideal := by
  intro m ρ _
  exact (θ_run Cert.Reference11Ideal.defs _ _).mono (fun r h => ⟨fun c => (h c).2.2.2, sem_eq_zero_of_no_sems (by decide) r.2⟩)
    (Cert.Reference11Ideal.Value.run (F := Ideal) m ρ)

theorem frame_reference12 : Cert.quiescent_Reference12Ideal := by
  intro m ρ _
  exact (θ_run Cert.Reference12Ideal.defs _ _).mono (fun r h => ⟨fun c => (h c).2, sem_eq_zero_of_no_sems (by decide) r.2⟩)
    (Cert.Reference12Ideal.Value.run (F := Ideal) m ρ)

theorem frame_reference13 : Cert.quiescent_Reference13Ideal := by
  intro m ρ _
  exact (θ_run Cert.Reference13Ideal.defs _ _).mono (fun r h => ⟨fun c => (h c).2, sem_eq_zero_of_no_sems (by decide) r.2⟩)
    (Cert.Reference13Ideal.Value.run (F := Ideal) m ρ)

theorem frame_reference14 : Cert.quiescent_Reference14Ideal := by
  intro m ρ _
  exact (θ_run Cert.Reference14Ideal.defs _ _).mono (fun r h => ⟨fun c => (h c).2, sem_eq_zero_of_no_sems (by decide) r.2⟩)
    (Cert.Reference14Ideal.Value.run (F := Ideal) m ρ)

theorem frame_reference15 : Cert.quiescent_Reference15Ideal := by
  intro m ρ _
  exact (θ_run Cert.Reference15Ideal.defs _ _).mono (fun r h => ⟨fun c => (h c).2, sem_eq_zero_of_no_sems (by decide) r.2⟩)
    (Cert.Reference15Ideal.Value.run (F := Ideal) m ρ)

theorem frame_reference16 : Cert.quiescent_Reference16Ideal := by
  intro m ρ _
  exact (θ_run Cert.Reference16Ideal.defs _ _).mono (fun r h => ⟨fun c => (h c).2, sem_eq_zero_of_no_sems (by decide) r.2⟩)
    (Cert.Reference16Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Pre_finite_qk.Gen.facts,
    Cert.Pre_finite_qk4.Gen.facts,
    Cert.Pre_finite_qk12.Gen.facts,
    Cert.Pre_finite_qk13.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    fun m ρ _ => Cert.Kernel4Ideal.Gen.frame m ρ,
    frame_reference4,
    fun m ρ _ => frame_reference4 m ρ trivial,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    fun m ρ _ => Cert.Kernel12.Gen.frame m ρ,
    fun m ρ _ => Cert.Kernel12Ideal.Gen.frame m ρ,
    fun m ρ _ => Cert.Kernel12Ideal.Gen.frame m ρ,
    frame_reference12,
    fun m ρ _ => frame_reference12 m ρ trivial,
    fun m ρ _ => Cert.Kernel13.Gen.frame m ρ,
    fun m ρ _ => Cert.Kernel13Ideal.Gen.frame m ρ,
    fun m ρ _ => Cert.Kernel13Ideal.Gen.frame m ρ,
    frame_reference13,
    fun m ρ _ => frame_reference13 m ρ trivial,
    fun m ρ _ => Cert.Kernel14.Gen.frame m ρ,
    fun m ρ _ => Cert.Kernel14Ideal.Gen.frame m ρ,
    frame_reference14,
    fun m ρ _ => Cert.Kernel15.Gen.frame m ρ,
    fun m ρ _ => Cert.Kernel15Ideal.Gen.frame m ρ,
    frame_reference15,
    fun m ρ _ => Cert.Kernel16.Gen.frame m ρ,
    fun m ρ _ => Cert.Kernel16Ideal.Gen.frame m ρ,
    frame_reference16,
    trivial,
    Cert.Attn.algebraic,
    trivial,
    Cert.Ffn.algebraic,
    trivial,
    Cert.Proj.algebraic,
    trivial,
    Cert.Gqa.algebraic,
    trivial,
    Cert.Merge.algebraic,
    trivial,
    Cert.FfnPlain.algebraic,
    trivial,
    Cert.FfnContext.algebraic,
    trivial,
    Cert.ProjContext.algebraic,
    trivial,
    Cert.MergeContext.algebraic,
    trivial,
    Cert.Mla.algebraic,
    trivial,
    Cert.MlaContext.algebraic,
    trivial,
    Cert.AttnContext.algebraic,
    trivial,
    Cert.GqaContext.algebraic,
    trivial,
    Cert.Modulation.algebraic,
    trivial,
    Cert.Filters.algebraic,
    trivial,
    Cert.FiltersContext.algebraic⟩

end Cert.Proof

end
